-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S68x256 : Shape := ⟨2, ![68, 256]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S68x256 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 68#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S68x256 : Shape := ⟨2, ![68, 256]⟩
abbrev S32x200x128 : Shape := ⟨3, ![32, 200, 128]⟩
abbrev S17408 : Shape := ⟨1, ![17408]⟩
abbrev S819200x256 : Shape := ⟨2, ![819200, 256]⟩
abbrev S200x128 : Shape := ⟨2, ![200, 128]⟩
abbrev S2x128x256 : Shape := ⟨3, ![2, 128, 256]⟩
abbrev S_ : Shape := ⟨0, ![]⟩
abbrev S1x200x128 : Shape := ⟨3, ![1, 200, 128]⟩
abbrev S16 : Shape := ⟨1, ![16]⟩
abbrev S1x128x256 : Shape := ⟨3, ![1, 128, 256]⟩
abbrev S128x256 : Shape := ⟨2, ![128, 256]⟩
abbrev S1x16 : Shape := ⟨2, ![1, 16]⟩
abbrev S1 : Shape := ⟨1, ![1]⟩
abbrev S1x1x16 : Shape := ⟨3, ![1, 1, 16]⟩
abbrev S4096x200x256 : Shape := ⟨3, ![4096, 200, 256]⟩

abbrev nBuf : Table → Nat
  | .hbm => 6
  | .local .scVector .vmem => 3
  | _ => 0

abbrev bufTy : (tb : Table) → Fin (nBuf tb) → BufTy
  | .hbm, ⟨0, _⟩ => ⟨S4096x200, .i32⟩
  | .hbm, ⟨1, _⟩ => ⟨S68x256, .f32⟩
  | .hbm, ⟨2, _⟩ => ⟨S32x200x128, .i32⟩
  | .hbm, ⟨3, _⟩ => ⟨S17408, .f32⟩
  | .hbm, ⟨4, _⟩ => ⟨S819200x256, .f32⟩
  | .hbm, ⟨5, _⟩ => ⟨S4096x200x256, .f32⟩
  | .local .scVector .vmem, ⟨0, _⟩ => ⟨S17408, .f32⟩
  | .local .scVector .vmem, ⟨1, _⟩ => ⟨S200x128, .i32⟩
  | .local .scVector .vmem, ⟨2, _⟩ => ⟨S2x128x256, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r1 : BitVec 32 := 0#32
  let c0_i32_21_r1 : BitVec 32 := 0#32
  ![v1.toNat, 0, 0]
@[reducible] def k0_t1_loop : Scf.Loop 32 :=
  let c0_i32_0 : BitVec 32 := 0#32
  let c68_i32 : BitVec 32 := 68#32
  let v3 : BitVec 32 := Scalar.addi c0_i32_0 c68_i32
  let c1_i32 : BitVec 32 := 1#32
  ⟨c0_i32_0, v3, c1_i32⟩
def k0_off2 (k0_t1 : Fin k0_t1_loop.trips) (c0_i32_20 : BitVec 32) : Fin 1 → Nat :=
  let c0_i32_0 : BitVec 32 := 0#32
  let c1_i32 : BitVec 32 := 1#32
  let arg10 : BitVec 32 := Scf.iv c0_i32_0 c1_i32 k0_t1
  let c256_i32 : BitVec 32 := 256#32
  let v19 : BitVec 32 := Scalar.muli arg10 c256_i32
  let v20 : BitVec 32 := Scalar.addi v19 c0_i32_20
  let v21 : Index := Scalar.indexCast v20
  ![v21.toNat]
@[reducible] def k0_t2_loop : Scf.Loop 32 :=
  let c0_i32_3 : BitVec 32 := 0#32
  let c100_i32 : BitVec 32 := 100#32
  let v4 : BitVec 32 := Scalar.addi c0_i32_3 c100_i32
  let c1_i32_4 : BitVec 32 := 1#32
  ⟨c0_i32_3, v4, c1_i32_4⟩
def k0_cond1 (k0_t2 : Fin k0_t2_loop.trips) : BitVec 1 :=
  let c0_i32_3 : BitVec 32 := 0#32
  let c1_i32_4 : BitVec 32 := 1#32
  let arg10 : BitVec 32 := Scf.iv c0_i32_3 c1_i32_4 k0_t2
  let c0_i32_22 : BitVec 32 := 0#32
  let v21 : BitVec 1 := Scalar.cmpi .sgt arg10 c0_i32_22
  let v22 : BitVec 32 := Scalar.extui v21
  let c0_i32_23 : BitVec 32 := 0#32
  let v23 : BitVec 1 := Scalar.cmpi .ne v22 c0_i32_23
  v23

def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let c2_i32_50 : BitVec 32 := 2#32
  let v45 : BitVec 32 := Scalar.subi v19 c2_i32_50
  let c128_i32_51 : BitVec 32 := 128#32
  let v46 : BitVec 32 := Scalar.muli v45 c128_i32_51
  let v47 : BitVec 32 := Scalar.addi v2 v46
  let c0_i32_55 : BitVec 32 := 0#32
  ![v47.toNat, 0]
@[reducible] def k0_t3_loop : Scf.Loop 32 :=
  let c0_i32_25 : BitVec 32 := 0#32
  let c4_i32 : BitVec 32 := 4#32
  let v24 : BitVec 32 := Scalar.addi c0_i32_25 c4_i32
  let c1_i32_26 : BitVec 32 := 1#32
  ⟨c0_i32_25, v24, c1_i32_26⟩
def k0_off4 (k0_t2 : Fin k0_t2_loop.trips) (k0_t3 : Fin k0_t3_loop.trips) : Fin 2 → Nat :=
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let v48 : Index := Scalar.indexCast v19
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32 : BitVec 32 := 16#32
  let v47 : BitVec 32 := Scalar.muli v46 c16_i32
  let v49 : Index := Scalar.indexCast v47
  ![v48.toNat, v49.toNat]
def k0_off5 (v55 : BitVec 32) (c0_i32_52 : BitVec 32) : Fin 1 → Nat :=
  let v56 : BitVec 32 := Scalar.addi v55 c0_i32_52
  let v57 : Index := Scalar.indexCast v56
  ![v57.toNat]

def k0_chk1 (v55 : BitVec 32) : Prop :=
  (∀ (r : Fin 16), ∀ a, (k0_off5 v55 (BitVec.ofNat 32 (16 * r.val))) a + S16.size a ≤ S17408.size a)
theorem k0_off5_inb : ∀ (v55 : BitVec 32) (k0_hw1 : k0_chk1 v55), ∀ (r : Fin 16), ∀ a, (k0_off5 v55 (BitVec.ofNat 32 (16 * r.val))) a + S16.size a ≤ S17408.size a := fun v55 k0_hw1 r => k0_hw1 r

def k0_off6 (k0_t3 : Fin k0_t3_loop.trips) : Fin 3 → Nat :=
  let c0_i32_57 : BitVec 32 := 0#32
  let v124 : Index := Scalar.indexCast c0_i32_57
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v125 : Index := Scalar.indexCast v121
  let c0 : Index := 0#32
  ![0, v125.toNat, 0]
def k0_off7 (v123 : BitVec 32) (c0_i32_58 : BitVec 32) : Fin 1 → Nat :=
  let v129 : BitVec 32 := Scalar.addi v123 c0_i32_58
  let v130 : Index := Scalar.indexCast v129
  ![v130.toNat]

def k0_chk2 (v123 : BitVec 32) : Prop :=
  (∀ (r : Fin 16), ∀ a, (k0_off7 v123 (BitVec.ofNat 32 (16 * r.val))) a + S16.size a ≤ S17408.size a)
theorem k0_off7_inb : ∀ (v123 : BitVec 32) (k0_hw2 : k0_chk2 v123), ∀ (r : Fin 16), ∀ a, (k0_off7 v123 (BitVec.ofNat 32 (16 * r.val))) a + S16.size a ≤ S17408.size a := fun v123 k0_hw2 r => k0_hw2 r

def k0_off8 (k0_t3 : Fin k0_t3_loop.trips) : Fin 3 → Nat :=
  let c0_i32_59 : BitVec 32 := 0#32
  let v133 : Index := Scalar.indexCast c0_i32_59
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v134 : Index := Scalar.indexCast v121
  let c16 : Index := 16#32
  ![0, v134.toNat, 16]
def k0_off9 (k0_t3 : Fin k0_t3_loop.trips) : Fin 3 → Nat :=
  let c0_i32_61 : BitVec 32 := 0#32
  let v142 : Index := Scalar.indexCast c0_i32_61
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v143 : Index := Scalar.indexCast v121
  let c32 : Index := 32#32
  ![0, v143.toNat, 32]
def k0_off10 (k0_t3 : Fin k0_t3_loop.trips) : Fin 3 → Nat :=
  let c0_i32_63 : BitVec 32 := 0#32
  let v151 : Index := Scalar.indexCast c0_i32_63
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v152 : Index := Scalar.indexCast v121
  let c48 : Index := 48#32
  ![0, v152.toNat, 48]
def k0_off11 (k0_t3 : Fin k0_t3_loop.trips) : Fin 3 → Nat :=
  let c0_i32_65 : BitVec 32 := 0#32
  let v160 : Index := Scalar.indexCast c0_i32_65
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v161 : Index := Scalar.indexCast v121
  let c64 : Index := 64#32
  ![0, v161.toNat, 64]
def k0_off12 (k0_t3 : Fin k0_t3_loop.trips) : Fin 3 → Nat :=
  let c0_i32_67 : BitVec 32 := 0#32
  let v169 : Index := Scalar.indexCast c0_i32_67
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v170 : Index := Scalar.indexCast v121
  let c80 : Index := 80#32
  ![0, v170.toNat, 80]
def k0_off13 (k0_t3 : Fin k0_t3_loop.trips) : Fin 3 → Nat :=
  let c0_i32_69 : BitVec 32 := 0#32
  let v178 : Index := Scalar.indexCast c0_i32_69
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v179 : Index := Scalar.indexCast v121
  let c96 : Index := 96#32
  ![0, v179.toNat, 96]
def k0_off14 (k0_t3 : Fin k0_t3_loop.trips) : Fin 3 → Nat :=
  let c0_i32_71 : BitVec 32 := 0#32
  let v187 : Index := Scalar.indexCast c0_i32_71
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v188 : Index := Scalar.indexCast v121
  let c112 : Index := 112#32
  ![0, v188.toNat, 112]
def k0_off15 (k0_t3 : Fin k0_t3_loop.trips) : Fin 3 → Nat :=
  let c0_i32_73 : BitVec 32 := 0#32
  let v196 : Index := Scalar.indexCast c0_i32_73
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v197 : Index := Scalar.indexCast v121
  let c128 : Index := 128#32
  ![0, v197.toNat, 128]
def k0_off16 (k0_t3 : Fin k0_t3_loop.trips) : Fin 3 → Nat :=
  let c0_i32_75 : BitVec 32 := 0#32
  let v205 : Index := Scalar.indexCast c0_i32_75
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v206 : Index := Scalar.indexCast v121
  let c144 : Index := 144#32
  ![0, v206.toNat, 144]
def k0_off17 (k0_t3 : Fin k0_t3_loop.trips) : Fin 3 → Nat :=
  let c0_i32_77 : BitVec 32 := 0#32
  let v214 : Index := Scalar.indexCast c0_i32_77
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v215 : Index := Scalar.indexCast v121
  let c160 : Index := 160#32
  ![0, v215.toNat, 160]
def k0_off18 (k0_t3 : Fin k0_t3_loop.trips) : Fin 3 → Nat :=
  let c0_i32_79 : BitVec 32 := 0#32
  let v223 : Index := Scalar.indexCast c0_i32_79
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v224 : Index := Scalar.indexCast v121
  let c176 : Index := 176#32
  ![0, v224.toNat, 176]
def k0_off19 (k0_t3 : Fin k0_t3_loop.trips) : Fin 3 → Nat :=
  let c0_i32_81 : BitVec 32 := 0#32
  let v232 : Index := Scalar.indexCast c0_i32_81
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v233 : Index := Scalar.indexCast v121
  let c192 : Index := 192#32
  ![0, v233.toNat, 192]
def k0_off20 (k0_t3 : Fin k0_t3_loop.trips) : Fin 3 → Nat :=
  let c0_i32_83 : BitVec 32 := 0#32
  let v241 : Index := Scalar.indexCast c0_i32_83
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v242 : Index := Scalar.indexCast v121
  let c208 : Index := 208#32
  ![0, v242.toNat, 208]
def k0_off21 (k0_t3 : Fin k0_t3_loop.trips) : Fin 3 → Nat :=
  let c0_i32_85 : BitVec 32 := 0#32
  let v250 : Index := Scalar.indexCast c0_i32_85
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v251 : Index := Scalar.indexCast v121
  let c224 : Index := 224#32
  ![0, v251.toNat, 224]
def k0_off22 (k0_t3 : Fin k0_t3_loop.trips) : Fin 3 → Nat :=
  let c0_i32_87 : BitVec 32 := 0#32
  let v259 : Index := Scalar.indexCast c0_i32_87
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v260 : Index := Scalar.indexCast v121
  let c240 : Index := 240#32
  ![0, v260.toNat, 240]
def k0_off23 (k0_t3 : Fin k0_t3_loop.trips) : Fin 3 → Nat :=
  let c0_i32_91 : BitVec 32 := 0#32
  let v272 : Index := Scalar.indexCast c0_i32_91
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v273 : Index := Scalar.indexCast v269
  let c0_92 : Index := 0#32
  ![0, v273.toNat, 0]
def k0_off24 (v271 : BitVec 32) (c0_i32_93 : BitVec 32) : Fin 1 → Nat :=
  let v277 : BitVec 32 := Scalar.addi v271 c0_i32_93
  let v278 : Index := Scalar.indexCast v277
  ![v278.toNat]

def k0_chk3 (v271 : BitVec 32) : Prop :=
  (∀ (r : Fin 16), ∀ a, (k0_off24 v271 (BitVec.ofNat 32 (16 * r.val))) a + S16.size a ≤ S17408.size a)
theorem k0_off24_inb : ∀ (v271 : BitVec 32) (k0_hw3 : k0_chk3 v271), ∀ (r : Fin 16), ∀ a, (k0_off24 v271 (BitVec.ofNat 32 (16 * r.val))) a + S16.size a ≤ S17408.size a := fun v271 k0_hw3 r => k0_hw3 r

def k0_off25 (k0_t3 : Fin k0_t3_loop.trips) : Fin 3 → Nat :=
  let c0_i32_94 : BitVec 32 := 0#32
  let v281 : Index := Scalar.indexCast c0_i32_94
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v282 : Index := Scalar.indexCast v269
  let c16_95 : Index := 16#32
  ![0, v282.toNat, 16]
def k0_off26 (k0_t3 : Fin k0_t3_loop.trips) : Fin 3 → Nat :=
  let c0_i32_97 : BitVec 32 := 0#32
  let v290 : Index := Scalar.indexCast c0_i32_97
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v291 : Index := Scalar.indexCast v269
  let c32_98 : Index := 32#32
  ![0, v291.toNat, 32]
def k0_off27 (k0_t3 : Fin k0_t3_loop.trips) : Fin 3 → Nat :=
  let c0_i32_100 : BitVec 32 := 0#32
  let v299 : Index := Scalar.indexCast c0_i32_100
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v300 : Index := Scalar.indexCast v269
  let c48_101 : Index := 48#32
  ![0, v300.toNat, 48]
def k0_off28 (k0_t3 : Fin k0_t3_loop.trips) : Fin 3 → Nat :=
  let c0_i32_103 : BitVec 32 := 0#32
  let v308 : Index := Scalar.indexCast c0_i32_103
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v309 : Index := Scalar.indexCast v269
  let c64_104 : Index := 64#32
  ![0, v309.toNat, 64]
def k0_off29 (k0_t3 : Fin k0_t3_loop.trips) : Fin 3 → Nat :=
  let c0_i32_106 : BitVec 32 := 0#32
  let v317 : Index := Scalar.indexCast c0_i32_106
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v318 : Index := Scalar.indexCast v269
  let c80_107 : Index := 80#32
  ![0, v318.toNat, 80]
def k0_off30 (k0_t3 : Fin k0_t3_loop.trips) : Fin 3 → Nat :=
  let c0_i32_109 : BitVec 32 := 0#32
  let v326 : Index := Scalar.indexCast c0_i32_109
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v327 : Index := Scalar.indexCast v269
  let c96_110 : Index := 96#32
  ![0, v327.toNat, 96]
def k0_off31 (k0_t3 : Fin k0_t3_loop.trips) : Fin 3 → Nat :=
  let c0_i32_112 : BitVec 32 := 0#32
  let v335 : Index := Scalar.indexCast c0_i32_112
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v336 : Index := Scalar.indexCast v269
  let c112_113 : Index := 112#32
  ![0, v336.toNat, 112]
def k0_off32 (k0_t3 : Fin k0_t3_loop.trips) : Fin 3 → Nat :=
  let c0_i32_115 : BitVec 32 := 0#32
  let v344 : Index := Scalar.indexCast c0_i32_115
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v345 : Index := Scalar.indexCast v269
  let c128_116 : Index := 128#32
  ![0, v345.toNat, 128]
def k0_off33 (k0_t3 : Fin k0_t3_loop.trips) : Fin 3 → Nat :=
  let c0_i32_118 : BitVec 32 := 0#32
  let v353 : Index := Scalar.indexCast c0_i32_118
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v354 : Index := Scalar.indexCast v269
  let c144_119 : Index := 144#32
  ![0, v354.toNat, 144]
def k0_off34 (k0_t3 : Fin k0_t3_loop.trips) : Fin 3 → Nat :=
  let c0_i32_121 : BitVec 32 := 0#32
  let v362 : Index := Scalar.indexCast c0_i32_121
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v363 : Index := Scalar.indexCast v269
  let c160_122 : Index := 160#32
  ![0, v363.toNat, 160]
def k0_off35 (k0_t3 : Fin k0_t3_loop.trips) : Fin 3 → Nat :=
  let c0_i32_124 : BitVec 32 := 0#32
  let v371 : Index := Scalar.indexCast c0_i32_124
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v372 : Index := Scalar.indexCast v269
  let c176_125 : Index := 176#32
  ![0, v372.toNat, 176]
def k0_off36 (k0_t3 : Fin k0_t3_loop.trips) : Fin 3 → Nat :=
  let c0_i32_127 : BitVec 32 := 0#32
  let v380 : Index := Scalar.indexCast c0_i32_127
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v381 : Index := Scalar.indexCast v269
  let c192_128 : Index := 192#32
  ![0, v381.toNat, 192]
def k0_off37 (k0_t3 : Fin k0_t3_loop.trips) : Fin 3 → Nat :=
  let c0_i32_130 : BitVec 32 := 0#32
  let v389 : Index := Scalar.indexCast c0_i32_130
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v390 : Index := Scalar.indexCast v269
  let c208_131 : Index := 208#32
  ![0, v390.toNat, 208]
def k0_off38 (k0_t3 : Fin k0_t3_loop.trips) : Fin 3 → Nat :=
  let c0_i32_133 : BitVec 32 := 0#32
  let v398 : Index := Scalar.indexCast c0_i32_133
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v399 : Index := Scalar.indexCast v269
  let c224_134 : Index := 224#32
  ![0, v399.toNat, 224]
def k0_off39 (k0_t3 : Fin k0_t3_loop.trips) : Fin 3 → Nat :=
  let c0_i32_136 : BitVec 32 := 0#32
  let v407 : Index := Scalar.indexCast c0_i32_136
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v408 : Index := Scalar.indexCast v269
  let c240_137 : Index := 240#32
  ![0, v408.toNat, 240]
def k0_off40 (k0_t3 : Fin k0_t3_loop.trips) : Fin 3 → Nat :=
  let c0_i32_141 : BitVec 32 := 0#32
  let v420 : Index := Scalar.indexCast c0_i32_141
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v421 : Index := Scalar.indexCast v417
  let c0_142 : Index := 0#32
  ![0, v421.toNat, 0]
def k0_off41 (v419 : BitVec 32) (c0_i32_143 : BitVec 32) : Fin 1 → Nat :=
  let v425 : BitVec 32 := Scalar.addi v419 c0_i32_143
  let v426 : Index := Scalar.indexCast v425
  ![v426.toNat]

def k0_chk4 (v419 : BitVec 32) : Prop :=
  (∀ (r : Fin 16), ∀ a, (k0_off41 v419 (BitVec.ofNat 32 (16 * r.val))) a + S16.size a ≤ S17408.size a)
theorem k0_off41_inb : ∀ (v419 : BitVec 32) (k0_hw4 : k0_chk4 v419), ∀ (r : Fin 16), ∀ a, (k0_off41 v419 (BitVec.ofNat 32 (16 * r.val))) a + S16.size a ≤ S17408.size a := fun v419 k0_hw4 r => k0_hw4 r

def k0_off42 (k0_t3 : Fin k0_t3_loop.trips) : Fin 3 → Nat :=
  let c0_i32_144 : BitVec 32 := 0#32
  let v429 : Index := Scalar.indexCast c0_i32_144
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v430 : Index := Scalar.indexCast v417
  let c16_145 : Index := 16#32
  ![0, v430.toNat, 16]
def k0_off43 (k0_t3 : Fin k0_t3_loop.trips) : Fin 3 → Nat :=
  let c0_i32_147 : BitVec 32 := 0#32
  let v438 : Index := Scalar.indexCast c0_i32_147
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v439 : Index := Scalar.indexCast v417
  let c32_148 : Index := 32#32
  ![0, v439.toNat, 32]
def k0_off44 (k0_t3 : Fin k0_t3_loop.trips) : Fin 3 → Nat :=
  let c0_i32_150 : BitVec 32 := 0#32
  let v447 : Index := Scalar.indexCast c0_i32_150
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v448 : Index := Scalar.indexCast v417
  let c48_151 : Index := 48#32
  ![0, v448.toNat, 48]
def k0_off45 (k0_t3 : Fin k0_t3_loop.trips) : Fin 3 → Nat :=
  let c0_i32_153 : BitVec 32 := 0#32
  let v456 : Index := Scalar.indexCast c0_i32_153
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v457 : Index := Scalar.indexCast v417
  let c64_154 : Index := 64#32
  ![0, v457.toNat, 64]
def k0_off46 (k0_t3 : Fin k0_t3_loop.trips) : Fin 3 → Nat :=
  let c0_i32_156 : BitVec 32 := 0#32
  let v465 : Index := Scalar.indexCast c0_i32_156
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v466 : Index := Scalar.indexCast v417
  let c80_157 : Index := 80#32
  ![0, v466.toNat, 80]
def k0_off47 (k0_t3 : Fin k0_t3_loop.trips) : Fin 3 → Nat :=
  let c0_i32_159 : BitVec 32 := 0#32
  let v474 : Index := Scalar.indexCast c0_i32_159
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v475 : Index := Scalar.indexCast v417
  let c96_160 : Index := 96#32
  ![0, v475.toNat, 96]
def k0_off48 (k0_t3 : Fin k0_t3_loop.trips) : Fin 3 → Nat :=
  let c0_i32_162 : BitVec 32 := 0#32
  let v483 : Index := Scalar.indexCast c0_i32_162
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v484 : Index := Scalar.indexCast v417
  let c112_163 : Index := 112#32
  ![0, v484.toNat, 112]
def k0_off49 (k0_t3 : Fin k0_t3_loop.trips) : Fin 3 → Nat :=
  let c0_i32_165 : BitVec 32 := 0#32
  let v492 : Index := Scalar.indexCast c0_i32_165
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v493 : Index := Scalar.indexCast v417
  let c128_166 : Index := 128#32
  ![0, v493.toNat, 128]
def k0_off50 (k0_t3 : Fin k0_t3_loop.trips) : Fin 3 → Nat :=
  let c0_i32_168 : BitVec 32 := 0#32
  let v501 : Index := Scalar.indexCast c0_i32_168
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v502 : Index := Scalar.indexCast v417
  let c144_169 : Index := 144#32
  ![0, v502.toNat, 144]
def k0_off51 (k0_t3 : Fin k0_t3_loop.trips) : Fin 3 → Nat :=
  let c0_i32_171 : BitVec 32 := 0#32
  let v510 : Index := Scalar.indexCast c0_i32_171
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v511 : Index := Scalar.indexCast v417
  let c160_172 : Index := 160#32
  ![0, v511.toNat, 160]
def k0_off52 (k0_t3 : Fin k0_t3_loop.trips) : Fin 3 → Nat :=
  let c0_i32_174 : BitVec 32 := 0#32
  let v519 : Index := Scalar.indexCast c0_i32_174
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v520 : Index := Scalar.indexCast v417
  let c176_175 : Index := 176#32
  ![0, v520.toNat, 176]
def k0_off53 (k0_t3 : Fin k0_t3_loop.trips) : Fin 3 → Nat :=
  let c0_i32_177 : BitVec 32 := 0#32
  let v528 : Index := Scalar.indexCast c0_i32_177
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v529 : Index := Scalar.indexCast v417
  let c192_178 : Index := 192#32
  ![0, v529.toNat, 192]
def k0_off54 (k0_t3 : Fin k0_t3_loop.trips) : Fin 3 → Nat :=
  let c0_i32_180 : BitVec 32 := 0#32
  let v537 : Index := Scalar.indexCast c0_i32_180
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v538 : Index := Scalar.indexCast v417
  let c208_181 : Index := 208#32
  ![0, v538.toNat, 208]
def k0_off55 (k0_t3 : Fin k0_t3_loop.trips) : Fin 3 → Nat :=
  let c0_i32_183 : BitVec 32 := 0#32
  let v546 : Index := Scalar.indexCast c0_i32_183
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v547 : Index := Scalar.indexCast v417
  let c224_184 : Index := 224#32
  ![0, v547.toNat, 224]
def k0_off56 (k0_t3 : Fin k0_t3_loop.trips) : Fin 3 → Nat :=
  let c0_i32_186 : BitVec 32 := 0#32
  let v555 : Index := Scalar.indexCast c0_i32_186
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v556 : Index := Scalar.indexCast v417
  let c240_187 : Index := 240#32
  ![0, v556.toNat, 240]
def k0_off57 (k0_t3 : Fin k0_t3_loop.trips) : Fin 3 → Nat :=
  let c0_i32_190 : BitVec 32 := 0#32
  let v568 : Index := Scalar.indexCast c0_i32_190
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v569 : Index := Scalar.indexCast v565
  let c0_191 : Index := 0#32
  ![0, v569.toNat, 0]
def k0_off58 (v567 : BitVec 32) (c0_i32_192 : BitVec 32) : Fin 1 → Nat :=
  let v573 : BitVec 32 := Scalar.addi v567 c0_i32_192
  let v574 : Index := Scalar.indexCast v573
  ![v574.toNat]

def k0_chk5 (v567 : BitVec 32) : Prop :=
  (∀ (r : Fin 16), ∀ a, (k0_off58 v567 (BitVec.ofNat 32 (16 * r.val))) a + S16.size a ≤ S17408.size a)
theorem k0_off58_inb : ∀ (v567 : BitVec 32) (k0_hw5 : k0_chk5 v567), ∀ (r : Fin 16), ∀ a, (k0_off58 v567 (BitVec.ofNat 32 (16 * r.val))) a + S16.size a ≤ S17408.size a := fun v567 k0_hw5 r => k0_hw5 r

def k0_off59 (k0_t3 : Fin k0_t3_loop.trips) : Fin 3 → Nat :=
  let c0_i32_193 : BitVec 32 := 0#32
  let v577 : Index := Scalar.indexCast c0_i32_193
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v578 : Index := Scalar.indexCast v565
  let c16_194 : Index := 16#32
  ![0, v578.toNat, 16]
def k0_off60 (k0_t3 : Fin k0_t3_loop.trips) : Fin 3 → Nat :=
  let c0_i32_196 : BitVec 32 := 0#32
  let v586 : Index := Scalar.indexCast c0_i32_196
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v587 : Index := Scalar.indexCast v565
  let c32_197 : Index := 32#32
  ![0, v587.toNat, 32]
def k0_off61 (k0_t3 : Fin k0_t3_loop.trips) : Fin 3 → Nat :=
  let c0_i32_199 : BitVec 32 := 0#32
  let v595 : Index := Scalar.indexCast c0_i32_199
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v596 : Index := Scalar.indexCast v565
  let c48_200 : Index := 48#32
  ![0, v596.toNat, 48]
def k0_off62 (k0_t3 : Fin k0_t3_loop.trips) : Fin 3 → Nat :=
  let c0_i32_202 : BitVec 32 := 0#32
  let v604 : Index := Scalar.indexCast c0_i32_202
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v605 : Index := Scalar.indexCast v565
  let c64_203 : Index := 64#32
  ![0, v605.toNat, 64]
def k0_off63 (k0_t3 : Fin k0_t3_loop.trips) : Fin 3 → Nat :=
  let c0_i32_205 : BitVec 32 := 0#32
  let v613 : Index := Scalar.indexCast c0_i32_205
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v614 : Index := Scalar.indexCast v565
  let c80_206 : Index := 80#32
  ![0, v614.toNat, 80]
def k0_off64 (k0_t3 : Fin k0_t3_loop.trips) : Fin 3 → Nat :=
  let c0_i32_208 : BitVec 32 := 0#32
  let v622 : Index := Scalar.indexCast c0_i32_208
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v623 : Index := Scalar.indexCast v565
  let c96_209 : Index := 96#32
  ![0, v623.toNat, 96]
def k0_off65 (k0_t3 : Fin k0_t3_loop.trips) : Fin 3 → Nat :=
  let c0_i32_211 : BitVec 32 := 0#32
  let v631 : Index := Scalar.indexCast c0_i32_211
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v632 : Index := Scalar.indexCast v565
  let c112_212 : Index := 112#32
  ![0, v632.toNat, 112]
def k0_off66 (k0_t3 : Fin k0_t3_loop.trips) : Fin 3 → Nat :=
  let c0_i32_214 : BitVec 32 := 0#32
  let v640 : Index := Scalar.indexCast c0_i32_214
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v641 : Index := Scalar.indexCast v565
  let c128_215 : Index := 128#32
  ![0, v641.toNat, 128]
def k0_off67 (k0_t3 : Fin k0_t3_loop.trips) : Fin 3 → Nat :=
  let c0_i32_217 : BitVec 32 := 0#32
  let v649 : Index := Scalar.indexCast c0_i32_217
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v650 : Index := Scalar.indexCast v565
  let c144_218 : Index := 144#32
  ![0, v650.toNat, 144]
def k0_off68 (k0_t3 : Fin k0_t3_loop.trips) : Fin 3 → Nat :=
  let c0_i32_220 : BitVec 32 := 0#32
  let v658 : Index := Scalar.indexCast c0_i32_220
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v659 : Index := Scalar.indexCast v565
  let c160_221 : Index := 160#32
  ![0, v659.toNat, 160]
def k0_off69 (k0_t3 : Fin k0_t3_loop.trips) : Fin 3 → Nat :=
  let c0_i32_223 : BitVec 32 := 0#32
  let v667 : Index := Scalar.indexCast c0_i32_223
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v668 : Index := Scalar.indexCast v565
  let c176_224 : Index := 176#32
  ![0, v668.toNat, 176]
def k0_off70 (k0_t3 : Fin k0_t3_loop.trips) : Fin 3 → Nat :=
  let c0_i32_226 : BitVec 32 := 0#32
  let v676 : Index := Scalar.indexCast c0_i32_226
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v677 : Index := Scalar.indexCast v565
  let c192_227 : Index := 192#32
  ![0, v677.toNat, 192]
def k0_off71 (k0_t3 : Fin k0_t3_loop.trips) : Fin 3 → Nat :=
  let c0_i32_229 : BitVec 32 := 0#32
  let v685 : Index := Scalar.indexCast c0_i32_229
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v686 : Index := Scalar.indexCast v565
  let c208_230 : Index := 208#32
  ![0, v686.toNat, 208]
def k0_off72 (k0_t3 : Fin k0_t3_loop.trips) : Fin 3 → Nat :=
  let c0_i32_232 : BitVec 32 := 0#32
  let v694 : Index := Scalar.indexCast c0_i32_232
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v695 : Index := Scalar.indexCast v565
  let c224_233 : Index := 224#32
  ![0, v695.toNat, 224]
def k0_off73 (k0_t3 : Fin k0_t3_loop.trips) : Fin 3 → Nat :=
  let c0_i32_235 : BitVec 32 := 0#32
  let v703 : Index := Scalar.indexCast c0_i32_235
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v704 : Index := Scalar.indexCast v565
  let c240_236 : Index := 240#32
  ![0, v704.toNat, 240]
def k0_off74 (k0_t3 : Fin k0_t3_loop.trips) : Fin 3 → Nat :=
  let c0_i32_240 : BitVec 32 := 0#32
  let v716 : Index := Scalar.indexCast c0_i32_240
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v717 : Index := Scalar.indexCast v713
  let c0_241 : Index := 0#32
  ![0, v717.toNat, 0]
def k0_off75 (v715 : BitVec 32) (c0_i32_242 : BitVec 32) : Fin 1 → Nat :=
  let v721 : BitVec 32 := Scalar.addi v715 c0_i32_242
  let v722 : Index := Scalar.indexCast v721
  ![v722.toNat]

def k0_chk6 (v715 : BitVec 32) : Prop :=
  (∀ (r : Fin 16), ∀ a, (k0_off75 v715 (BitVec.ofNat 32 (16 * r.val))) a + S16.size a ≤ S17408.size a)
theorem k0_off75_inb : ∀ (v715 : BitVec 32) (k0_hw6 : k0_chk6 v715), ∀ (r : Fin 16), ∀ a, (k0_off75 v715 (BitVec.ofNat 32 (16 * r.val))) a + S16.size a ≤ S17408.size a := fun v715 k0_hw6 r => k0_hw6 r

def k0_off76 (k0_t3 : Fin k0_t3_loop.trips) : Fin 3 → Nat :=
  let c0_i32_243 : BitVec 32 := 0#32
  let v725 : Index := Scalar.indexCast c0_i32_243
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v726 : Index := Scalar.indexCast v713
  let c16_244 : Index := 16#32
  ![0, v726.toNat, 16]
def k0_off77 (k0_t3 : Fin k0_t3_loop.trips) : Fin 3 → Nat :=
  let c0_i32_246 : BitVec 32 := 0#32
  let v734 : Index := Scalar.indexCast c0_i32_246
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v735 : Index := Scalar.indexCast v713
  let c32_247 : Index := 32#32
  ![0, v735.toNat, 32]
def k0_off78 (k0_t3 : Fin k0_t3_loop.trips) : Fin 3 → Nat :=
  let c0_i32_249 : BitVec 32 := 0#32
  let v743 : Index := Scalar.indexCast c0_i32_249
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v744 : Index := Scalar.indexCast v713
  let c48_250 : Index := 48#32
  ![0, v744.toNat, 48]
def k0_off79 (k0_t3 : Fin k0_t3_loop.trips) : Fin 3 → Nat :=
  let c0_i32_252 : BitVec 32 := 0#32
  let v752 : Index := Scalar.indexCast c0_i32_252
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v753 : Index := Scalar.indexCast v713
  let c64_253 : Index := 64#32
  ![0, v753.toNat, 64]
def k0_off80 (k0_t3 : Fin k0_t3_loop.trips) : Fin 3 → Nat :=
  let c0_i32_255 : BitVec 32 := 0#32
  let v761 : Index := Scalar.indexCast c0_i32_255
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v762 : Index := Scalar.indexCast v713
  let c80_256 : Index := 80#32
  ![0, v762.toNat, 80]
def k0_off81 (k0_t3 : Fin k0_t3_loop.trips) : Fin 3 → Nat :=
  let c0_i32_258 : BitVec 32 := 0#32
  let v770 : Index := Scalar.indexCast c0_i32_258
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v771 : Index := Scalar.indexCast v713
  let c96_259 : Index := 96#32
  ![0, v771.toNat, 96]
def k0_off82 (k0_t3 : Fin k0_t3_loop.trips) : Fin 3 → Nat :=
  let c0_i32_261 : BitVec 32 := 0#32
  let v779 : Index := Scalar.indexCast c0_i32_261
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v780 : Index := Scalar.indexCast v713
  let c112_262 : Index := 112#32
  ![0, v780.toNat, 112]
def k0_off83 (k0_t3 : Fin k0_t3_loop.trips) : Fin 3 → Nat :=
  let c0_i32_264 : BitVec 32 := 0#32
  let v788 : Index := Scalar.indexCast c0_i32_264
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v789 : Index := Scalar.indexCast v713
  let c128_265 : Index := 128#32
  ![0, v789.toNat, 128]
def k0_off84 (k0_t3 : Fin k0_t3_loop.trips) : Fin 3 → Nat :=
  let c0_i32_267 : BitVec 32 := 0#32
  let v797 : Index := Scalar.indexCast c0_i32_267
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v798 : Index := Scalar.indexCast v713
  let c144_268 : Index := 144#32
  ![0, v798.toNat, 144]
def k0_off85 (k0_t3 : Fin k0_t3_loop.trips) : Fin 3 → Nat :=
  let c0_i32_270 : BitVec 32 := 0#32
  let v806 : Index := Scalar.indexCast c0_i32_270
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v807 : Index := Scalar.indexCast v713
  let c160_271 : Index := 160#32
  ![0, v807.toNat, 160]
def k0_off86 (k0_t3 : Fin k0_t3_loop.trips) : Fin 3 → Nat :=
  let c0_i32_273 : BitVec 32 := 0#32
  let v815 : Index := Scalar.indexCast c0_i32_273
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v816 : Index := Scalar.indexCast v713
  let c176_274 : Index := 176#32
  ![0, v816.toNat, 176]
def k0_off87 (k0_t3 : Fin k0_t3_loop.trips) : Fin 3 → Nat :=
  let c0_i32_276 : BitVec 32 := 0#32
  let v824 : Index := Scalar.indexCast c0_i32_276
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v825 : Index := Scalar.indexCast v713
  let c192_277 : Index := 192#32
  ![0, v825.toNat, 192]
def k0_off88 (k0_t3 : Fin k0_t3_loop.trips) : Fin 3 → Nat :=
  let c0_i32_279 : BitVec 32 := 0#32
  let v833 : Index := Scalar.indexCast c0_i32_279
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v834 : Index := Scalar.indexCast v713
  let c208_280 : Index := 208#32
  ![0, v834.toNat, 208]
def k0_off89 (k0_t3 : Fin k0_t3_loop.trips) : Fin 3 → Nat :=
  let c0_i32_282 : BitVec 32 := 0#32
  let v842 : Index := Scalar.indexCast c0_i32_282
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v843 : Index := Scalar.indexCast v713
  let c224_283 : Index := 224#32
  ![0, v843.toNat, 224]
def k0_off90 (k0_t3 : Fin k0_t3_loop.trips) : Fin 3 → Nat :=
  let c0_i32_285 : BitVec 32 := 0#32
  let v851 : Index := Scalar.indexCast c0_i32_285
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v852 : Index := Scalar.indexCast v713
  let c240_286 : Index := 240#32
  ![0, v852.toNat, 240]
def k0_off91 (k0_t3 : Fin k0_t3_loop.trips) : Fin 3 → Nat :=
  let c0_i32_289 : BitVec 32 := 0#32
  let v864 : Index := Scalar.indexCast c0_i32_289
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v865 : Index := Scalar.indexCast v861
  let c0_290 : Index := 0#32
  ![0, v865.toNat, 0]
def k0_off92 (v863 : BitVec 32) (c0_i32_291 : BitVec 32) : Fin 1 → Nat :=
  let v869 : BitVec 32 := Scalar.addi v863 c0_i32_291
  let v870 : Index := Scalar.indexCast v869
  ![v870.toNat]

def k0_chk7 (v863 : BitVec 32) : Prop :=
  (∀ (r : Fin 16), ∀ a, (k0_off92 v863 (BitVec.ofNat 32 (16 * r.val))) a + S16.size a ≤ S17408.size a)
theorem k0_off92_inb : ∀ (v863 : BitVec 32) (k0_hw7 : k0_chk7 v863), ∀ (r : Fin 16), ∀ a, (k0_off92 v863 (BitVec.ofNat 32 (16 * r.val))) a + S16.size a ≤ S17408.size a := fun v863 k0_hw7 r => k0_hw7 r

def k0_off93 (k0_t3 : Fin k0_t3_loop.trips) : Fin 3 → Nat :=
  let c0_i32_292 : BitVec 32 := 0#32
  let v873 : Index := Scalar.indexCast c0_i32_292
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v874 : Index := Scalar.indexCast v861
  let c16_293 : Index := 16#32
  ![0, v874.toNat, 16]
def k0_off94 (k0_t3 : Fin k0_t3_loop.trips) : Fin 3 → Nat :=
  let c0_i32_295 : BitVec 32 := 0#32
  let v882 : Index := Scalar.indexCast c0_i32_295
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v883 : Index := Scalar.indexCast v861
  let c32_296 : Index := 32#32
  ![0, v883.toNat, 32]
def k0_off95 (k0_t3 : Fin k0_t3_loop.trips) : Fin 3 → Nat :=
  let c0_i32_298 : BitVec 32 := 0#32
  let v891 : Index := Scalar.indexCast c0_i32_298
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v892 : Index := Scalar.indexCast v861
  let c48_299 : Index := 48#32
  ![0, v892.toNat, 48]
def k0_off96 (k0_t3 : Fin k0_t3_loop.trips) : Fin 3 → Nat :=
  let c0_i32_301 : BitVec 32 := 0#32
  let v900 : Index := Scalar.indexCast c0_i32_301
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v901 : Index := Scalar.indexCast v861
  let c64_302 : Index := 64#32
  ![0, v901.toNat, 64]
def k0_off97 (k0_t3 : Fin k0_t3_loop.trips) : Fin 3 → Nat :=
  let c0_i32_304 : BitVec 32 := 0#32
  let v909 : Index := Scalar.indexCast c0_i32_304
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v910 : Index := Scalar.indexCast v861
  let c80_305 : Index := 80#32
  ![0, v910.toNat, 80]
def k0_off98 (k0_t3 : Fin k0_t3_loop.trips) : Fin 3 → Nat :=
  let c0_i32_307 : BitVec 32 := 0#32
  let v918 : Index := Scalar.indexCast c0_i32_307
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v919 : Index := Scalar.indexCast v861
  let c96_308 : Index := 96#32
  ![0, v919.toNat, 96]
def k0_off99 (k0_t3 : Fin k0_t3_loop.trips) : Fin 3 → Nat :=
  let c0_i32_310 : BitVec 32 := 0#32
  let v927 : Index := Scalar.indexCast c0_i32_310
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v928 : Index := Scalar.indexCast v861
  let c112_311 : Index := 112#32
  ![0, v928.toNat, 112]
def k0_off100 (k0_t3 : Fin k0_t3_loop.trips) : Fin 3 → Nat :=
  let c0_i32_313 : BitVec 32 := 0#32
  let v936 : Index := Scalar.indexCast c0_i32_313
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v937 : Index := Scalar.indexCast v861
  let c128_314 : Index := 128#32
  ![0, v937.toNat, 128]
def k0_off101 (k0_t3 : Fin k0_t3_loop.trips) : Fin 3 → Nat :=
  let c0_i32_316 : BitVec 32 := 0#32
  let v945 : Index := Scalar.indexCast c0_i32_316
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v946 : Index := Scalar.indexCast v861
  let c144_317 : Index := 144#32
  ![0, v946.toNat, 144]
def k0_off102 (k0_t3 : Fin k0_t3_loop.trips) : Fin 3 → Nat :=
  let c0_i32_319 : BitVec 32 := 0#32
  let v954 : Index := Scalar.indexCast c0_i32_319
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v955 : Index := Scalar.indexCast v861
  let c160_320 : Index := 160#32
  ![0, v955.toNat, 160]
def k0_off103 (k0_t3 : Fin k0_t3_loop.trips) : Fin 3 → Nat :=
  let c0_i32_322 : BitVec 32 := 0#32
  let v963 : Index := Scalar.indexCast c0_i32_322
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v964 : Index := Scalar.indexCast v861
  let c176_323 : Index := 176#32
  ![0, v964.toNat, 176]
def k0_off104 (k0_t3 : Fin k0_t3_loop.trips) : Fin 3 → Nat :=
  let c0_i32_325 : BitVec 32 := 0#32
  let v972 : Index := Scalar.indexCast c0_i32_325
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v973 : Index := Scalar.indexCast v861
  let c192_326 : Index := 192#32
  ![0, v973.toNat, 192]
def k0_off105 (k0_t3 : Fin k0_t3_loop.trips) : Fin 3 → Nat :=
  let c0_i32_328 : BitVec 32 := 0#32
  let v981 : Index := Scalar.indexCast c0_i32_328
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v982 : Index := Scalar.indexCast v861
  let c208_329 : Index := 208#32
  ![0, v982.toNat, 208]
def k0_off106 (k0_t3 : Fin k0_t3_loop.trips) : Fin 3 → Nat :=
  let c0_i32_331 : BitVec 32 := 0#32
  let v990 : Index := Scalar.indexCast c0_i32_331
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v991 : Index := Scalar.indexCast v861
  let c224_332 : Index := 224#32
  ![0, v991.toNat, 224]
def k0_off107 (k0_t3 : Fin k0_t3_loop.trips) : Fin 3 → Nat :=
  let c0_i32_334 : BitVec 32 := 0#32
  let v999 : Index := Scalar.indexCast c0_i32_334
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v1000 : Index := Scalar.indexCast v861
  let c240_335 : Index := 240#32
  ![0, v1000.toNat, 240]
def k0_off108 (k0_t3 : Fin k0_t3_loop.trips) : Fin 3 → Nat :=
  let c0_i32_338 : BitVec 32 := 0#32
  let v1012 : Index := Scalar.indexCast c0_i32_338
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1013 : Index := Scalar.indexCast v1009
  let c0_339 : Index := 0#32
  ![0, v1013.toNat, 0]
def k0_off109 (v1011 : BitVec 32) (c0_i32_340 : BitVec 32) : Fin 1 → Nat :=
  let v1017 : BitVec 32 := Scalar.addi v1011 c0_i32_340
  let v1018 : Index := Scalar.indexCast v1017
  ![v1018.toNat]

def k0_chk8 (v1011 : BitVec 32) : Prop :=
  (∀ (r : Fin 16), ∀ a, (k0_off109 v1011 (BitVec.ofNat 32 (16 * r.val))) a + S16.size a ≤ S17408.size a)
theorem k0_off109_inb : ∀ (v1011 : BitVec 32) (k0_hw8 : k0_chk8 v1011), ∀ (r : Fin 16), ∀ a, (k0_off109 v1011 (BitVec.ofNat 32 (16 * r.val))) a + S16.size a ≤ S17408.size a := fun v1011 k0_hw8 r => k0_hw8 r

def k0_off110 (k0_t3 : Fin k0_t3_loop.trips) : Fin 3 → Nat :=
  let c0_i32_341 : BitVec 32 := 0#32
  let v1021 : Index := Scalar.indexCast c0_i32_341
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1022 : Index := Scalar.indexCast v1009
  let c16_342 : Index := 16#32
  ![0, v1022.toNat, 16]
def k0_off111 (k0_t3 : Fin k0_t3_loop.trips) : Fin 3 → Nat :=
  let c0_i32_344 : BitVec 32 := 0#32
  let v1030 : Index := Scalar.indexCast c0_i32_344
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1031 : Index := Scalar.indexCast v1009
  let c32_345 : Index := 32#32
  ![0, v1031.toNat, 32]
def k0_off112 (k0_t3 : Fin k0_t3_loop.trips) : Fin 3 → Nat :=
  let c0_i32_347 : BitVec 32 := 0#32
  let v1039 : Index := Scalar.indexCast c0_i32_347
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1040 : Index := Scalar.indexCast v1009
  let c48_348 : Index := 48#32
  ![0, v1040.toNat, 48]
def k0_off113 (k0_t3 : Fin k0_t3_loop.trips) : Fin 3 → Nat :=
  let c0_i32_350 : BitVec 32 := 0#32
  let v1048 : Index := Scalar.indexCast c0_i32_350
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1049 : Index := Scalar.indexCast v1009
  let c64_351 : Index := 64#32
  ![0, v1049.toNat, 64]
def k0_off114 (k0_t3 : Fin k0_t3_loop.trips) : Fin 3 → Nat :=
  let c0_i32_353 : BitVec 32 := 0#32
  let v1057 : Index := Scalar.indexCast c0_i32_353
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1058 : Index := Scalar.indexCast v1009
  let c80_354 : Index := 80#32
  ![0, v1058.toNat, 80]
def k0_off115 (k0_t3 : Fin k0_t3_loop.trips) : Fin 3 → Nat :=
  let c0_i32_356 : BitVec 32 := 0#32
  let v1066 : Index := Scalar.indexCast c0_i32_356
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1067 : Index := Scalar.indexCast v1009
  let c96_357 : Index := 96#32
  ![0, v1067.toNat, 96]
def k0_off116 (k0_t3 : Fin k0_t3_loop.trips) : Fin 3 → Nat :=
  let c0_i32_359 : BitVec 32 := 0#32
  let v1075 : Index := Scalar.indexCast c0_i32_359
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1076 : Index := Scalar.indexCast v1009
  let c112_360 : Index := 112#32
  ![0, v1076.toNat, 112]
def k0_off117 (k0_t3 : Fin k0_t3_loop.trips) : Fin 3 → Nat :=
  let c0_i32_362 : BitVec 32 := 0#32
  let v1084 : Index := Scalar.indexCast c0_i32_362
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1085 : Index := Scalar.indexCast v1009
  let c128_363 : Index := 128#32
  ![0, v1085.toNat, 128]
def k0_off118 (k0_t3 : Fin k0_t3_loop.trips) : Fin 3 → Nat :=
  let c0_i32_365 : BitVec 32 := 0#32
  let v1093 : Index := Scalar.indexCast c0_i32_365
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1094 : Index := Scalar.indexCast v1009
  let c144_366 : Index := 144#32
  ![0, v1094.toNat, 144]
def k0_off119 (k0_t3 : Fin k0_t3_loop.trips) : Fin 3 → Nat :=
  let c0_i32_368 : BitVec 32 := 0#32
  let v1102 : Index := Scalar.indexCast c0_i32_368
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1103 : Index := Scalar.indexCast v1009
  let c160_369 : Index := 160#32
  ![0, v1103.toNat, 160]
def k0_off120 (k0_t3 : Fin k0_t3_loop.trips) : Fin 3 → Nat :=
  let c0_i32_371 : BitVec 32 := 0#32
  let v1111 : Index := Scalar.indexCast c0_i32_371
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1112 : Index := Scalar.indexCast v1009
  let c176_372 : Index := 176#32
  ![0, v1112.toNat, 176]
def k0_off121 (k0_t3 : Fin k0_t3_loop.trips) : Fin 3 → Nat :=
  let c0_i32_374 : BitVec 32 := 0#32
  let v1120 : Index := Scalar.indexCast c0_i32_374
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1121 : Index := Scalar.indexCast v1009
  let c192_375 : Index := 192#32
  ![0, v1121.toNat, 192]
def k0_off122 (k0_t3 : Fin k0_t3_loop.trips) : Fin 3 → Nat :=
  let c0_i32_377 : BitVec 32 := 0#32
  let v1129 : Index := Scalar.indexCast c0_i32_377
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1130 : Index := Scalar.indexCast v1009
  let c208_378 : Index := 208#32
  ![0, v1130.toNat, 208]
def k0_off123 (k0_t3 : Fin k0_t3_loop.trips) : Fin 3 → Nat :=
  let c0_i32_380 : BitVec 32 := 0#32
  let v1138 : Index := Scalar.indexCast c0_i32_380
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1139 : Index := Scalar.indexCast v1009
  let c224_381 : Index := 224#32
  ![0, v1139.toNat, 224]
def k0_off124 (k0_t3 : Fin k0_t3_loop.trips) : Fin 3 → Nat :=
  let c0_i32_383 : BitVec 32 := 0#32
  let v1147 : Index := Scalar.indexCast c0_i32_383
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1148 : Index := Scalar.indexCast v1009
  let c240_384 : Index := 240#32
  ![0, v1148.toNat, 240]
def k0_off125 (k0_t3 : Fin k0_t3_loop.trips) : Fin 3 → Nat :=
  let c0_i32_387 : BitVec 32 := 0#32
  let v1160 : Index := Scalar.indexCast c0_i32_387
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1161 : Index := Scalar.indexCast v1157
  let c0_388 : Index := 0#32
  ![0, v1161.toNat, 0]
def k0_off126 (v1159 : BitVec 32) (c0_i32_389 : BitVec 32) : Fin 1 → Nat :=
  let v1165 : BitVec 32 := Scalar.addi v1159 c0_i32_389
  let v1166 : Index := Scalar.indexCast v1165
  ![v1166.toNat]

def k0_chk9 (v1159 : BitVec 32) : Prop :=
  (∀ (r : Fin 16), ∀ a, (k0_off126 v1159 (BitVec.ofNat 32 (16 * r.val))) a + S16.size a ≤ S17408.size a)
theorem k0_off126_inb : ∀ (v1159 : BitVec 32) (k0_hw9 : k0_chk9 v1159), ∀ (r : Fin 16), ∀ a, (k0_off126 v1159 (BitVec.ofNat 32 (16 * r.val))) a + S16.size a ≤ S17408.size a := fun v1159 k0_hw9 r => k0_hw9 r

def k0_off127 (k0_t3 : Fin k0_t3_loop.trips) : Fin 3 → Nat :=
  let c0_i32_390 : BitVec 32 := 0#32
  let v1169 : Index := Scalar.indexCast c0_i32_390
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1170 : Index := Scalar.indexCast v1157
  let c16_391 : Index := 16#32
  ![0, v1170.toNat, 16]
def k0_off128 (k0_t3 : Fin k0_t3_loop.trips) : Fin 3 → Nat :=
  let c0_i32_393 : BitVec 32 := 0#32
  let v1178 : Index := Scalar.indexCast c0_i32_393
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1179 : Index := Scalar.indexCast v1157
  let c32_394 : Index := 32#32
  ![0, v1179.toNat, 32]
def k0_off129 (k0_t3 : Fin k0_t3_loop.trips) : Fin 3 → Nat :=
  let c0_i32_396 : BitVec 32 := 0#32
  let v1187 : Index := Scalar.indexCast c0_i32_396
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1188 : Index := Scalar.indexCast v1157
  let c48_397 : Index := 48#32
  ![0, v1188.toNat, 48]
def k0_off130 (k0_t3 : Fin k0_t3_loop.trips) : Fin 3 → Nat :=
  let c0_i32_399 : BitVec 32 := 0#32
  let v1196 : Index := Scalar.indexCast c0_i32_399
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1197 : Index := Scalar.indexCast v1157
  let c64_400 : Index := 64#32
  ![0, v1197.toNat, 64]
def k0_off131 (k0_t3 : Fin k0_t3_loop.trips) : Fin 3 → Nat :=
  let c0_i32_402 : BitVec 32 := 0#32
  let v1205 : Index := Scalar.indexCast c0_i32_402
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1206 : Index := Scalar.indexCast v1157
  let c80_403 : Index := 80#32
  ![0, v1206.toNat, 80]
def k0_off132 (k0_t3 : Fin k0_t3_loop.trips) : Fin 3 → Nat :=
  let c0_i32_405 : BitVec 32 := 0#32
  let v1214 : Index := Scalar.indexCast c0_i32_405
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1215 : Index := Scalar.indexCast v1157
  let c96_406 : Index := 96#32
  ![0, v1215.toNat, 96]
def k0_off133 (k0_t3 : Fin k0_t3_loop.trips) : Fin 3 → Nat :=
  let c0_i32_408 : BitVec 32 := 0#32
  let v1223 : Index := Scalar.indexCast c0_i32_408
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1224 : Index := Scalar.indexCast v1157
  let c112_409 : Index := 112#32
  ![0, v1224.toNat, 112]
def k0_off134 (k0_t3 : Fin k0_t3_loop.trips) : Fin 3 → Nat :=
  let c0_i32_411 : BitVec 32 := 0#32
  let v1232 : Index := Scalar.indexCast c0_i32_411
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1233 : Index := Scalar.indexCast v1157
  let c128_412 : Index := 128#32
  ![0, v1233.toNat, 128]
def k0_off135 (k0_t3 : Fin k0_t3_loop.trips) : Fin 3 → Nat :=
  let c0_i32_414 : BitVec 32 := 0#32
  let v1241 : Index := Scalar.indexCast c0_i32_414
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1242 : Index := Scalar.indexCast v1157
  let c144_415 : Index := 144#32
  ![0, v1242.toNat, 144]
def k0_off136 (k0_t3 : Fin k0_t3_loop.trips) : Fin 3 → Nat :=
  let c0_i32_417 : BitVec 32 := 0#32
  let v1250 : Index := Scalar.indexCast c0_i32_417
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1251 : Index := Scalar.indexCast v1157
  let c160_418 : Index := 160#32
  ![0, v1251.toNat, 160]
def k0_off137 (k0_t3 : Fin k0_t3_loop.trips) : Fin 3 → Nat :=
  let c0_i32_420 : BitVec 32 := 0#32
  let v1259 : Index := Scalar.indexCast c0_i32_420
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1260 : Index := Scalar.indexCast v1157
  let c176_421 : Index := 176#32
  ![0, v1260.toNat, 176]
def k0_off138 (k0_t3 : Fin k0_t3_loop.trips) : Fin 3 → Nat :=
  let c0_i32_423 : BitVec 32 := 0#32
  let v1268 : Index := Scalar.indexCast c0_i32_423
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1269 : Index := Scalar.indexCast v1157
  let c192_424 : Index := 192#32
  ![0, v1269.toNat, 192]
def k0_off139 (k0_t3 : Fin k0_t3_loop.trips) : Fin 3 → Nat :=
  let c0_i32_426 : BitVec 32 := 0#32
  let v1277 : Index := Scalar.indexCast c0_i32_426
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1278 : Index := Scalar.indexCast v1157
  let c208_427 : Index := 208#32
  ![0, v1278.toNat, 208]
def k0_off140 (k0_t3 : Fin k0_t3_loop.trips) : Fin 3 → Nat :=
  let c0_i32_429 : BitVec 32 := 0#32
  let v1286 : Index := Scalar.indexCast c0_i32_429
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1287 : Index := Scalar.indexCast v1157
  let c224_430 : Index := 224#32
  ![0, v1287.toNat, 224]
def k0_off141 (k0_t3 : Fin k0_t3_loop.trips) : Fin 3 → Nat :=
  let c0_i32_432 : BitVec 32 := 0#32
  let v1295 : Index := Scalar.indexCast c0_i32_432
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1296 : Index := Scalar.indexCast v1157
  let c240_433 : Index := 240#32
  ![0, v1296.toNat, 240]
def k0_off142 (k0_t3 : Fin k0_t3_loop.trips) : Fin 3 → Nat :=
  let c0_i32_436 : BitVec 32 := 0#32
  let v1308 : Index := Scalar.indexCast c0_i32_436
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1309 : Index := Scalar.indexCast v1305
  let c0_437 : Index := 0#32
  ![0, v1309.toNat, 0]
def k0_off143 (v1307 : BitVec 32) (c0_i32_438 : BitVec 32) : Fin 1 → Nat :=
  let v1313 : BitVec 32 := Scalar.addi v1307 c0_i32_438
  let v1314 : Index := Scalar.indexCast v1313
  ![v1314.toNat]

def k0_chk10 (v1307 : BitVec 32) : Prop :=
  (∀ (r : Fin 16), ∀ a, (k0_off143 v1307 (BitVec.ofNat 32 (16 * r.val))) a + S16.size a ≤ S17408.size a)
theorem k0_off143_inb : ∀ (v1307 : BitVec 32) (k0_hw10 : k0_chk10 v1307), ∀ (r : Fin 16), ∀ a, (k0_off143 v1307 (BitVec.ofNat 32 (16 * r.val))) a + S16.size a ≤ S17408.size a := fun v1307 k0_hw10 r => k0_hw10 r

def k0_off144 (k0_t3 : Fin k0_t3_loop.trips) : Fin 3 → Nat :=
  let c0_i32_439 : BitVec 32 := 0#32
  let v1317 : Index := Scalar.indexCast c0_i32_439
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1318 : Index := Scalar.indexCast v1305
  let c16_440 : Index := 16#32
  ![0, v1318.toNat, 16]
def k0_off145 (k0_t3 : Fin k0_t3_loop.trips) : Fin 3 → Nat :=
  let c0_i32_442 : BitVec 32 := 0#32
  let v1326 : Index := Scalar.indexCast c0_i32_442
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1327 : Index := Scalar.indexCast v1305
  let c32_443 : Index := 32#32
  ![0, v1327.toNat, 32]
def k0_off146 (k0_t3 : Fin k0_t3_loop.trips) : Fin 3 → Nat :=
  let c0_i32_445 : BitVec 32 := 0#32
  let v1335 : Index := Scalar.indexCast c0_i32_445
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1336 : Index := Scalar.indexCast v1305
  let c48_446 : Index := 48#32
  ![0, v1336.toNat, 48]
def k0_off147 (k0_t3 : Fin k0_t3_loop.trips) : Fin 3 → Nat :=
  let c0_i32_448 : BitVec 32 := 0#32
  let v1344 : Index := Scalar.indexCast c0_i32_448
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1345 : Index := Scalar.indexCast v1305
  let c64_449 : Index := 64#32
  ![0, v1345.toNat, 64]
def k0_off148 (k0_t3 : Fin k0_t3_loop.trips) : Fin 3 → Nat :=
  let c0_i32_451 : BitVec 32 := 0#32
  let v1353 : Index := Scalar.indexCast c0_i32_451
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1354 : Index := Scalar.indexCast v1305
  let c80_452 : Index := 80#32
  ![0, v1354.toNat, 80]
def k0_off149 (k0_t3 : Fin k0_t3_loop.trips) : Fin 3 → Nat :=
  let c0_i32_454 : BitVec 32 := 0#32
  let v1362 : Index := Scalar.indexCast c0_i32_454
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1363 : Index := Scalar.indexCast v1305
  let c96_455 : Index := 96#32
  ![0, v1363.toNat, 96]
def k0_off150 (k0_t3 : Fin k0_t3_loop.trips) : Fin 3 → Nat :=
  let c0_i32_457 : BitVec 32 := 0#32
  let v1371 : Index := Scalar.indexCast c0_i32_457
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1372 : Index := Scalar.indexCast v1305
  let c112_458 : Index := 112#32
  ![0, v1372.toNat, 112]
def k0_off151 (k0_t3 : Fin k0_t3_loop.trips) : Fin 3 → Nat :=
  let c0_i32_460 : BitVec 32 := 0#32
  let v1380 : Index := Scalar.indexCast c0_i32_460
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1381 : Index := Scalar.indexCast v1305
  let c128_461 : Index := 128#32
  ![0, v1381.toNat, 128]
def k0_off152 (k0_t3 : Fin k0_t3_loop.trips) : Fin 3 → Nat :=
  let c0_i32_463 : BitVec 32 := 0#32
  let v1389 : Index := Scalar.indexCast c0_i32_463
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1390 : Index := Scalar.indexCast v1305
  let c144_464 : Index := 144#32
  ![0, v1390.toNat, 144]
def k0_off153 (k0_t3 : Fin k0_t3_loop.trips) : Fin 3 → Nat :=
  let c0_i32_466 : BitVec 32 := 0#32
  let v1398 : Index := Scalar.indexCast c0_i32_466
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1399 : Index := Scalar.indexCast v1305
  let c160_467 : Index := 160#32
  ![0, v1399.toNat, 160]
def k0_off154 (k0_t3 : Fin k0_t3_loop.trips) : Fin 3 → Nat :=
  let c0_i32_469 : BitVec 32 := 0#32
  let v1407 : Index := Scalar.indexCast c0_i32_469
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1408 : Index := Scalar.indexCast v1305
  let c176_470 : Index := 176#32
  ![0, v1408.toNat, 176]
def k0_off155 (k0_t3 : Fin k0_t3_loop.trips) : Fin 3 → Nat :=
  let c0_i32_472 : BitVec 32 := 0#32
  let v1416 : Index := Scalar.indexCast c0_i32_472
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1417 : Index := Scalar.indexCast v1305
  let c192_473 : Index := 192#32
  ![0, v1417.toNat, 192]
def k0_off156 (k0_t3 : Fin k0_t3_loop.trips) : Fin 3 → Nat :=
  let c0_i32_475 : BitVec 32 := 0#32
  let v1425 : Index := Scalar.indexCast c0_i32_475
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1426 : Index := Scalar.indexCast v1305
  let c208_476 : Index := 208#32
  ![0, v1426.toNat, 208]
def k0_off157 (k0_t3 : Fin k0_t3_loop.trips) : Fin 3 → Nat :=
  let c0_i32_478 : BitVec 32 := 0#32
  let v1434 : Index := Scalar.indexCast c0_i32_478
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1435 : Index := Scalar.indexCast v1305
  let c224_479 : Index := 224#32
  ![0, v1435.toNat, 224]
def k0_off158 (k0_t3 : Fin k0_t3_loop.trips) : Fin 3 → Nat :=
  let c0_i32_481 : BitVec 32 := 0#32
  let v1443 : Index := Scalar.indexCast c0_i32_481
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1444 : Index := Scalar.indexCast v1305
  let c240_482 : Index := 240#32
  ![0, v1444.toNat, 240]
def k0_off159 (k0_t3 : Fin k0_t3_loop.trips) : Fin 3 → Nat :=
  let c0_i32_485 : BitVec 32 := 0#32
  let v1456 : Index := Scalar.indexCast c0_i32_485
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1457 : Index := Scalar.indexCast v1453
  let c0_486 : Index := 0#32
  ![0, v1457.toNat, 0]
def k0_off160 (v1455 : BitVec 32) (c0_i32_487 : BitVec 32) : Fin 1 → Nat :=
  let v1461 : BitVec 32 := Scalar.addi v1455 c0_i32_487
  let v1462 : Index := Scalar.indexCast v1461
  ![v1462.toNat]

def k0_chk11 (v1455 : BitVec 32) : Prop :=
  (∀ (r : Fin 16), ∀ a, (k0_off160 v1455 (BitVec.ofNat 32 (16 * r.val))) a + S16.size a ≤ S17408.size a)
theorem k0_off160_inb : ∀ (v1455 : BitVec 32) (k0_hw11 : k0_chk11 v1455), ∀ (r : Fin 16), ∀ a, (k0_off160 v1455 (BitVec.ofNat 32 (16 * r.val))) a + S16.size a ≤ S17408.size a := fun v1455 k0_hw11 r => k0_hw11 r

def k0_off161 (k0_t3 : Fin k0_t3_loop.trips) : Fin 3 → Nat :=
  let c0_i32_488 : BitVec 32 := 0#32
  let v1465 : Index := Scalar.indexCast c0_i32_488
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1466 : Index := Scalar.indexCast v1453
  let c16_489 : Index := 16#32
  ![0, v1466.toNat, 16]
def k0_off162 (k0_t3 : Fin k0_t3_loop.trips) : Fin 3 → Nat :=
  let c0_i32_491 : BitVec 32 := 0#32
  let v1474 : Index := Scalar.indexCast c0_i32_491
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1475 : Index := Scalar.indexCast v1453
  let c32_492 : Index := 32#32
  ![0, v1475.toNat, 32]
def k0_off163 (k0_t3 : Fin k0_t3_loop.trips) : Fin 3 → Nat :=
  let c0_i32_494 : BitVec 32 := 0#32
  let v1483 : Index := Scalar.indexCast c0_i32_494
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1484 : Index := Scalar.indexCast v1453
  let c48_495 : Index := 48#32
  ![0, v1484.toNat, 48]
def k0_off164 (k0_t3 : Fin k0_t3_loop.trips) : Fin 3 → Nat :=
  let c0_i32_497 : BitVec 32 := 0#32
  let v1492 : Index := Scalar.indexCast c0_i32_497
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1493 : Index := Scalar.indexCast v1453
  let c64_498 : Index := 64#32
  ![0, v1493.toNat, 64]
def k0_off165 (k0_t3 : Fin k0_t3_loop.trips) : Fin 3 → Nat :=
  let c0_i32_500 : BitVec 32 := 0#32
  let v1501 : Index := Scalar.indexCast c0_i32_500
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1502 : Index := Scalar.indexCast v1453
  let c80_501 : Index := 80#32
  ![0, v1502.toNat, 80]
def k0_off166 (k0_t3 : Fin k0_t3_loop.trips) : Fin 3 → Nat :=
  let c0_i32_503 : BitVec 32 := 0#32
  let v1510 : Index := Scalar.indexCast c0_i32_503
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1511 : Index := Scalar.indexCast v1453
  let c96_504 : Index := 96#32
  ![0, v1511.toNat, 96]
def k0_off167 (k0_t3 : Fin k0_t3_loop.trips) : Fin 3 → Nat :=
  let c0_i32_506 : BitVec 32 := 0#32
  let v1519 : Index := Scalar.indexCast c0_i32_506
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1520 : Index := Scalar.indexCast v1453
  let c112_507 : Index := 112#32
  ![0, v1520.toNat, 112]
def k0_off168 (k0_t3 : Fin k0_t3_loop.trips) : Fin 3 → Nat :=
  let c0_i32_509 : BitVec 32 := 0#32
  let v1528 : Index := Scalar.indexCast c0_i32_509
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1529 : Index := Scalar.indexCast v1453
  let c128_510 : Index := 128#32
  ![0, v1529.toNat, 128]
def k0_off169 (k0_t3 : Fin k0_t3_loop.trips) : Fin 3 → Nat :=
  let c0_i32_512 : BitVec 32 := 0#32
  let v1537 : Index := Scalar.indexCast c0_i32_512
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1538 : Index := Scalar.indexCast v1453
  let c144_513 : Index := 144#32
  ![0, v1538.toNat, 144]
def k0_off170 (k0_t3 : Fin k0_t3_loop.trips) : Fin 3 → Nat :=
  let c0_i32_515 : BitVec 32 := 0#32
  let v1546 : Index := Scalar.indexCast c0_i32_515
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1547 : Index := Scalar.indexCast v1453
  let c160_516 : Index := 160#32
  ![0, v1547.toNat, 160]
def k0_off171 (k0_t3 : Fin k0_t3_loop.trips) : Fin 3 → Nat :=
  let c0_i32_518 : BitVec 32 := 0#32
  let v1555 : Index := Scalar.indexCast c0_i32_518
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1556 : Index := Scalar.indexCast v1453
  let c176_519 : Index := 176#32
  ![0, v1556.toNat, 176]
def k0_off172 (k0_t3 : Fin k0_t3_loop.trips) : Fin 3 → Nat :=
  let c0_i32_521 : BitVec 32 := 0#32
  let v1564 : Index := Scalar.indexCast c0_i32_521
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1565 : Index := Scalar.indexCast v1453
  let c192_522 : Index := 192#32
  ![0, v1565.toNat, 192]
def k0_off173 (k0_t3 : Fin k0_t3_loop.trips) : Fin 3 → Nat :=
  let c0_i32_524 : BitVec 32 := 0#32
  let v1573 : Index := Scalar.indexCast c0_i32_524
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1574 : Index := Scalar.indexCast v1453
  let c208_525 : Index := 208#32
  ![0, v1574.toNat, 208]
def k0_off174 (k0_t3 : Fin k0_t3_loop.trips) : Fin 3 → Nat :=
  let c0_i32_527 : BitVec 32 := 0#32
  let v1582 : Index := Scalar.indexCast c0_i32_527
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1583 : Index := Scalar.indexCast v1453
  let c224_528 : Index := 224#32
  ![0, v1583.toNat, 224]
def k0_off175 (k0_t3 : Fin k0_t3_loop.trips) : Fin 3 → Nat :=
  let c0_i32_530 : BitVec 32 := 0#32
  let v1591 : Index := Scalar.indexCast c0_i32_530
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1592 : Index := Scalar.indexCast v1453
  let c240_531 : Index := 240#32
  ![0, v1592.toNat, 240]
def k0_off176 (k0_t3 : Fin k0_t3_loop.trips) : Fin 3 → Nat :=
  let c0_i32_534 : BitVec 32 := 0#32
  let v1604 : Index := Scalar.indexCast c0_i32_534
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1605 : Index := Scalar.indexCast v1601
  let c0_535 : Index := 0#32
  ![0, v1605.toNat, 0]
def k0_off177 (v1603 : BitVec 32) (c0_i32_536 : BitVec 32) : Fin 1 → Nat :=
  let v1609 : BitVec 32 := Scalar.addi v1603 c0_i32_536
  let v1610 : Index := Scalar.indexCast v1609
  ![v1610.toNat]

def k0_chk12 (v1603 : BitVec 32) : Prop :=
  (∀ (r : Fin 16), ∀ a, (k0_off177 v1603 (BitVec.ofNat 32 (16 * r.val))) a + S16.size a ≤ S17408.size a)
theorem k0_off177_inb : ∀ (v1603 : BitVec 32) (k0_hw12 : k0_chk12 v1603), ∀ (r : Fin 16), ∀ a, (k0_off177 v1603 (BitVec.ofNat 32 (16 * r.val))) a + S16.size a ≤ S17408.size a := fun v1603 k0_hw12 r => k0_hw12 r

def k0_off178 (k0_t3 : Fin k0_t3_loop.trips) : Fin 3 → Nat :=
  let c0_i32_537 : BitVec 32 := 0#32
  let v1613 : Index := Scalar.indexCast c0_i32_537
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1614 : Index := Scalar.indexCast v1601
  let c16_538 : Index := 16#32
  ![0, v1614.toNat, 16]
def k0_off179 (k0_t3 : Fin k0_t3_loop.trips) : Fin 3 → Nat :=
  let c0_i32_540 : BitVec 32 := 0#32
  let v1622 : Index := Scalar.indexCast c0_i32_540
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1623 : Index := Scalar.indexCast v1601
  let c32_541 : Index := 32#32
  ![0, v1623.toNat, 32]
def k0_off180 (k0_t3 : Fin k0_t3_loop.trips) : Fin 3 → Nat :=
  let c0_i32_543 : BitVec 32 := 0#32
  let v1631 : Index := Scalar.indexCast c0_i32_543
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1632 : Index := Scalar.indexCast v1601
  let c48_544 : Index := 48#32
  ![0, v1632.toNat, 48]
def k0_off181 (k0_t3 : Fin k0_t3_loop.trips) : Fin 3 → Nat :=
  let c0_i32_546 : BitVec 32 := 0#32
  let v1640 : Index := Scalar.indexCast c0_i32_546
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1641 : Index := Scalar.indexCast v1601
  let c64_547 : Index := 64#32
  ![0, v1641.toNat, 64]
def k0_off182 (k0_t3 : Fin k0_t3_loop.trips) : Fin 3 → Nat :=
  let c0_i32_549 : BitVec 32 := 0#32
  let v1649 : Index := Scalar.indexCast c0_i32_549
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1650 : Index := Scalar.indexCast v1601
  let c80_550 : Index := 80#32
  ![0, v1650.toNat, 80]
def k0_off183 (k0_t3 : Fin k0_t3_loop.trips) : Fin 3 → Nat :=
  let c0_i32_552 : BitVec 32 := 0#32
  let v1658 : Index := Scalar.indexCast c0_i32_552
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1659 : Index := Scalar.indexCast v1601
  let c96_553 : Index := 96#32
  ![0, v1659.toNat, 96]
def k0_off184 (k0_t3 : Fin k0_t3_loop.trips) : Fin 3 → Nat :=
  let c0_i32_555 : BitVec 32 := 0#32
  let v1667 : Index := Scalar.indexCast c0_i32_555
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1668 : Index := Scalar.indexCast v1601
  let c112_556 : Index := 112#32
  ![0, v1668.toNat, 112]
def k0_off185 (k0_t3 : Fin k0_t3_loop.trips) : Fin 3 → Nat :=
  let c0_i32_558 : BitVec 32 := 0#32
  let v1676 : Index := Scalar.indexCast c0_i32_558
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1677 : Index := Scalar.indexCast v1601
  let c128_559 : Index := 128#32
  ![0, v1677.toNat, 128]
def k0_off186 (k0_t3 : Fin k0_t3_loop.trips) : Fin 3 → Nat :=
  let c0_i32_561 : BitVec 32 := 0#32
  let v1685 : Index := Scalar.indexCast c0_i32_561
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1686 : Index := Scalar.indexCast v1601
  let c144_562 : Index := 144#32
  ![0, v1686.toNat, 144]
def k0_off187 (k0_t3 : Fin k0_t3_loop.trips) : Fin 3 → Nat :=
  let c0_i32_564 : BitVec 32 := 0#32
  let v1694 : Index := Scalar.indexCast c0_i32_564
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1695 : Index := Scalar.indexCast v1601
  let c160_565 : Index := 160#32
  ![0, v1695.toNat, 160]
def k0_off188 (k0_t3 : Fin k0_t3_loop.trips) : Fin 3 → Nat :=
  let c0_i32_567 : BitVec 32 := 0#32
  let v1703 : Index := Scalar.indexCast c0_i32_567
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1704 : Index := Scalar.indexCast v1601
  let c176_568 : Index := 176#32
  ![0, v1704.toNat, 176]
def k0_off189 (k0_t3 : Fin k0_t3_loop.trips) : Fin 3 → Nat :=
  let c0_i32_570 : BitVec 32 := 0#32
  let v1712 : Index := Scalar.indexCast c0_i32_570
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1713 : Index := Scalar.indexCast v1601
  let c192_571 : Index := 192#32
  ![0, v1713.toNat, 192]
def k0_off190 (k0_t3 : Fin k0_t3_loop.trips) : Fin 3 → Nat :=
  let c0_i32_573 : BitVec 32 := 0#32
  let v1721 : Index := Scalar.indexCast c0_i32_573
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1722 : Index := Scalar.indexCast v1601
  let c208_574 : Index := 208#32
  ![0, v1722.toNat, 208]
def k0_off191 (k0_t3 : Fin k0_t3_loop.trips) : Fin 3 → Nat :=
  let c0_i32_576 : BitVec 32 := 0#32
  let v1730 : Index := Scalar.indexCast c0_i32_576
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1731 : Index := Scalar.indexCast v1601
  let c224_577 : Index := 224#32
  ![0, v1731.toNat, 224]
def k0_off192 (k0_t3 : Fin k0_t3_loop.trips) : Fin 3 → Nat :=
  let c0_i32_579 : BitVec 32 := 0#32
  let v1739 : Index := Scalar.indexCast c0_i32_579
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1740 : Index := Scalar.indexCast v1601
  let c240_580 : Index := 240#32
  ![0, v1740.toNat, 240]
def k0_off193 (k0_t3 : Fin k0_t3_loop.trips) : Fin 3 → Nat :=
  let c0_i32_583 : BitVec 32 := 0#32
  let v1752 : Index := Scalar.indexCast c0_i32_583
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1753 : Index := Scalar.indexCast v1749
  let c0_584 : Index := 0#32
  ![0, v1753.toNat, 0]
def k0_off194 (v1751 : BitVec 32) (c0_i32_585 : BitVec 32) : Fin 1 → Nat :=
  let v1757 : BitVec 32 := Scalar.addi v1751 c0_i32_585
  let v1758 : Index := Scalar.indexCast v1757
  ![v1758.toNat]

def k0_chk13 (v1751 : BitVec 32) : Prop :=
  (∀ (r : Fin 16), ∀ a, (k0_off194 v1751 (BitVec.ofNat 32 (16 * r.val))) a + S16.size a ≤ S17408.size a)
theorem k0_off194_inb : ∀ (v1751 : BitVec 32) (k0_hw13 : k0_chk13 v1751), ∀ (r : Fin 16), ∀ a, (k0_off194 v1751 (BitVec.ofNat 32 (16 * r.val))) a + S16.size a ≤ S17408.size a := fun v1751 k0_hw13 r => k0_hw13 r

def k0_off195 (k0_t3 : Fin k0_t3_loop.trips) : Fin 3 → Nat :=
  let c0_i32_586 : BitVec 32 := 0#32
  let v1761 : Index := Scalar.indexCast c0_i32_586
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1762 : Index := Scalar.indexCast v1749
  let c16_587 : Index := 16#32
  ![0, v1762.toNat, 16]
def k0_off196 (k0_t3 : Fin k0_t3_loop.trips) : Fin 3 → Nat :=
  let c0_i32_589 : BitVec 32 := 0#32
  let v1770 : Index := Scalar.indexCast c0_i32_589
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1771 : Index := Scalar.indexCast v1749
  let c32_590 : Index := 32#32
  ![0, v1771.toNat, 32]
def k0_off197 (k0_t3 : Fin k0_t3_loop.trips) : Fin 3 → Nat :=
  let c0_i32_592 : BitVec 32 := 0#32
  let v1779 : Index := Scalar.indexCast c0_i32_592
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1780 : Index := Scalar.indexCast v1749
  let c48_593 : Index := 48#32
  ![0, v1780.toNat, 48]
def k0_off198 (k0_t3 : Fin k0_t3_loop.trips) : Fin 3 → Nat :=
  let c0_i32_595 : BitVec 32 := 0#32
  let v1788 : Index := Scalar.indexCast c0_i32_595
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1789 : Index := Scalar.indexCast v1749
  let c64_596 : Index := 64#32
  ![0, v1789.toNat, 64]
def k0_off199 (k0_t3 : Fin k0_t3_loop.trips) : Fin 3 → Nat :=
  let c0_i32_598 : BitVec 32 := 0#32
  let v1797 : Index := Scalar.indexCast c0_i32_598
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1798 : Index := Scalar.indexCast v1749
  let c80_599 : Index := 80#32
  ![0, v1798.toNat, 80]
def k0_off200 (k0_t3 : Fin k0_t3_loop.trips) : Fin 3 → Nat :=
  let c0_i32_601 : BitVec 32 := 0#32
  let v1806 : Index := Scalar.indexCast c0_i32_601
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1807 : Index := Scalar.indexCast v1749
  let c96_602 : Index := 96#32
  ![0, v1807.toNat, 96]
def k0_off201 (k0_t3 : Fin k0_t3_loop.trips) : Fin 3 → Nat :=
  let c0_i32_604 : BitVec 32 := 0#32
  let v1815 : Index := Scalar.indexCast c0_i32_604
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1816 : Index := Scalar.indexCast v1749
  let c112_605 : Index := 112#32
  ![0, v1816.toNat, 112]
def k0_off202 (k0_t3 : Fin k0_t3_loop.trips) : Fin 3 → Nat :=
  let c0_i32_607 : BitVec 32 := 0#32
  let v1824 : Index := Scalar.indexCast c0_i32_607
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1825 : Index := Scalar.indexCast v1749
  let c128_608 : Index := 128#32
  ![0, v1825.toNat, 128]
def k0_off203 (k0_t3 : Fin k0_t3_loop.trips) : Fin 3 → Nat :=
  let c0_i32_610 : BitVec 32 := 0#32
  let v1833 : Index := Scalar.indexCast c0_i32_610
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1834 : Index := Scalar.indexCast v1749
  let c144_611 : Index := 144#32
  ![0, v1834.toNat, 144]
def k0_off204 (k0_t3 : Fin k0_t3_loop.trips) : Fin 3 → Nat :=
  let c0_i32_613 : BitVec 32 := 0#32
  let v1842 : Index := Scalar.indexCast c0_i32_613
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1843 : Index := Scalar.indexCast v1749
  let c160_614 : Index := 160#32
  ![0, v1843.toNat, 160]
def k0_off205 (k0_t3 : Fin k0_t3_loop.trips) : Fin 3 → Nat :=
  let c0_i32_616 : BitVec 32 := 0#32
  let v1851 : Index := Scalar.indexCast c0_i32_616
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1852 : Index := Scalar.indexCast v1749
  let c176_617 : Index := 176#32
  ![0, v1852.toNat, 176]
def k0_off206 (k0_t3 : Fin k0_t3_loop.trips) : Fin 3 → Nat :=
  let c0_i32_619 : BitVec 32 := 0#32
  let v1860 : Index := Scalar.indexCast c0_i32_619
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1861 : Index := Scalar.indexCast v1749
  let c192_620 : Index := 192#32
  ![0, v1861.toNat, 192]
def k0_off207 (k0_t3 : Fin k0_t3_loop.trips) : Fin 3 → Nat :=
  let c0_i32_622 : BitVec 32 := 0#32
  let v1869 : Index := Scalar.indexCast c0_i32_622
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1870 : Index := Scalar.indexCast v1749
  let c208_623 : Index := 208#32
  ![0, v1870.toNat, 208]
def k0_off208 (k0_t3 : Fin k0_t3_loop.trips) : Fin 3 → Nat :=
  let c0_i32_625 : BitVec 32 := 0#32
  let v1878 : Index := Scalar.indexCast c0_i32_625
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1879 : Index := Scalar.indexCast v1749
  let c224_626 : Index := 224#32
  ![0, v1879.toNat, 224]
def k0_off209 (k0_t3 : Fin k0_t3_loop.trips) : Fin 3 → Nat :=
  let c0_i32_628 : BitVec 32 := 0#32
  let v1887 : Index := Scalar.indexCast c0_i32_628
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1888 : Index := Scalar.indexCast v1749
  let c240_629 : Index := 240#32
  ![0, v1888.toNat, 240]
def k0_off210 (k0_t3 : Fin k0_t3_loop.trips) : Fin 3 → Nat :=
  let c0_i32_632 : BitVec 32 := 0#32
  let v1900 : Index := Scalar.indexCast c0_i32_632
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1901 : Index := Scalar.indexCast v1897
  let c0_633 : Index := 0#32
  ![0, v1901.toNat, 0]
def k0_off211 (v1899 : BitVec 32) (c0_i32_634 : BitVec 32) : Fin 1 → Nat :=
  let v1905 : BitVec 32 := Scalar.addi v1899 c0_i32_634
  let v1906 : Index := Scalar.indexCast v1905
  ![v1906.toNat]

def k0_chk14 (v1899 : BitVec 32) : Prop :=
  (∀ (r : Fin 16), ∀ a, (k0_off211 v1899 (BitVec.ofNat 32 (16 * r.val))) a + S16.size a ≤ S17408.size a)
theorem k0_off211_inb : ∀ (v1899 : BitVec 32) (k0_hw14 : k0_chk14 v1899), ∀ (r : Fin 16), ∀ a, (k0_off211 v1899 (BitVec.ofNat 32 (16 * r.val))) a + S16.size a ≤ S17408.size a := fun v1899 k0_hw14 r => k0_hw14 r

def k0_off212 (k0_t3 : Fin k0_t3_loop.trips) : Fin 3 → Nat :=
  let c0_i32_635 : BitVec 32 := 0#32
  let v1909 : Index := Scalar.indexCast c0_i32_635
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1910 : Index := Scalar.indexCast v1897
  let c16_636 : Index := 16#32
  ![0, v1910.toNat, 16]
def k0_off213 (k0_t3 : Fin k0_t3_loop.trips) : Fin 3 → Nat :=
  let c0_i32_638 : BitVec 32 := 0#32
  let v1918 : Index := Scalar.indexCast c0_i32_638
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1919 : Index := Scalar.indexCast v1897
  let c32_639 : Index := 32#32
  ![0, v1919.toNat, 32]
def k0_off214 (k0_t3 : Fin k0_t3_loop.trips) : Fin 3 → Nat :=
  let c0_i32_641 : BitVec 32 := 0#32
  let v1927 : Index := Scalar.indexCast c0_i32_641
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1928 : Index := Scalar.indexCast v1897
  let c48_642 : Index := 48#32
  ![0, v1928.toNat, 48]
def k0_off215 (k0_t3 : Fin k0_t3_loop.trips) : Fin 3 → Nat :=
  let c0_i32_644 : BitVec 32 := 0#32
  let v1936 : Index := Scalar.indexCast c0_i32_644
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1937 : Index := Scalar.indexCast v1897
  let c64_645 : Index := 64#32
  ![0, v1937.toNat, 64]
def k0_off216 (k0_t3 : Fin k0_t3_loop.trips) : Fin 3 → Nat :=
  let c0_i32_647 : BitVec 32 := 0#32
  let v1945 : Index := Scalar.indexCast c0_i32_647
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1946 : Index := Scalar.indexCast v1897
  let c80_648 : Index := 80#32
  ![0, v1946.toNat, 80]
def k0_off217 (k0_t3 : Fin k0_t3_loop.trips) : Fin 3 → Nat :=
  let c0_i32_650 : BitVec 32 := 0#32
  let v1954 : Index := Scalar.indexCast c0_i32_650
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1955 : Index := Scalar.indexCast v1897
  let c96_651 : Index := 96#32
  ![0, v1955.toNat, 96]
def k0_off218 (k0_t3 : Fin k0_t3_loop.trips) : Fin 3 → Nat :=
  let c0_i32_653 : BitVec 32 := 0#32
  let v1963 : Index := Scalar.indexCast c0_i32_653
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1964 : Index := Scalar.indexCast v1897
  let c112_654 : Index := 112#32
  ![0, v1964.toNat, 112]
def k0_off219 (k0_t3 : Fin k0_t3_loop.trips) : Fin 3 → Nat :=
  let c0_i32_656 : BitVec 32 := 0#32
  let v1972 : Index := Scalar.indexCast c0_i32_656
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1973 : Index := Scalar.indexCast v1897
  let c128_657 : Index := 128#32
  ![0, v1973.toNat, 128]
def k0_off220 (k0_t3 : Fin k0_t3_loop.trips) : Fin 3 → Nat :=
  let c0_i32_659 : BitVec 32 := 0#32
  let v1981 : Index := Scalar.indexCast c0_i32_659
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1982 : Index := Scalar.indexCast v1897
  let c144_660 : Index := 144#32
  ![0, v1982.toNat, 144]
def k0_off221 (k0_t3 : Fin k0_t3_loop.trips) : Fin 3 → Nat :=
  let c0_i32_662 : BitVec 32 := 0#32
  let v1990 : Index := Scalar.indexCast c0_i32_662
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1991 : Index := Scalar.indexCast v1897
  let c160_663 : Index := 160#32
  ![0, v1991.toNat, 160]
def k0_off222 (k0_t3 : Fin k0_t3_loop.trips) : Fin 3 → Nat :=
  let c0_i32_665 : BitVec 32 := 0#32
  let v1999 : Index := Scalar.indexCast c0_i32_665
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2000 : Index := Scalar.indexCast v1897
  let c176_666 : Index := 176#32
  ![0, v2000.toNat, 176]
def k0_off223 (k0_t3 : Fin k0_t3_loop.trips) : Fin 3 → Nat :=
  let c0_i32_668 : BitVec 32 := 0#32
  let v2008 : Index := Scalar.indexCast c0_i32_668
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2009 : Index := Scalar.indexCast v1897
  let c192_669 : Index := 192#32
  ![0, v2009.toNat, 192]
def k0_off224 (k0_t3 : Fin k0_t3_loop.trips) : Fin 3 → Nat :=
  let c0_i32_671 : BitVec 32 := 0#32
  let v2017 : Index := Scalar.indexCast c0_i32_671
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2018 : Index := Scalar.indexCast v1897
  let c208_672 : Index := 208#32
  ![0, v2018.toNat, 208]
def k0_off225 (k0_t3 : Fin k0_t3_loop.trips) : Fin 3 → Nat :=
  let c0_i32_674 : BitVec 32 := 0#32
  let v2026 : Index := Scalar.indexCast c0_i32_674
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2027 : Index := Scalar.indexCast v1897
  let c224_675 : Index := 224#32
  ![0, v2027.toNat, 224]
def k0_off226 (k0_t3 : Fin k0_t3_loop.trips) : Fin 3 → Nat :=
  let c0_i32_677 : BitVec 32 := 0#32
  let v2035 : Index := Scalar.indexCast c0_i32_677
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2036 : Index := Scalar.indexCast v1897
  let c240_678 : Index := 240#32
  ![0, v2036.toNat, 240]
def k0_off227 (k0_t3 : Fin k0_t3_loop.trips) : Fin 3 → Nat :=
  let c0_i32_681 : BitVec 32 := 0#32
  let v2048 : Index := Scalar.indexCast c0_i32_681
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2049 : Index := Scalar.indexCast v2045
  let c0_682 : Index := 0#32
  ![0, v2049.toNat, 0]
def k0_off228 (v2047 : BitVec 32) (c0_i32_683 : BitVec 32) : Fin 1 → Nat :=
  let v2053 : BitVec 32 := Scalar.addi v2047 c0_i32_683
  let v2054 : Index := Scalar.indexCast v2053
  ![v2054.toNat]

def k0_chk15 (v2047 : BitVec 32) : Prop :=
  (∀ (r : Fin 16), ∀ a, (k0_off228 v2047 (BitVec.ofNat 32 (16 * r.val))) a + S16.size a ≤ S17408.size a)
theorem k0_off228_inb : ∀ (v2047 : BitVec 32) (k0_hw15 : k0_chk15 v2047), ∀ (r : Fin 16), ∀ a, (k0_off228 v2047 (BitVec.ofNat 32 (16 * r.val))) a + S16.size a ≤ S17408.size a := fun v2047 k0_hw15 r => k0_hw15 r

def k0_off229 (k0_t3 : Fin k0_t3_loop.trips) : Fin 3 → Nat :=
  let c0_i32_684 : BitVec 32 := 0#32
  let v2057 : Index := Scalar.indexCast c0_i32_684
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2058 : Index := Scalar.indexCast v2045
  let c16_685 : Index := 16#32
  ![0, v2058.toNat, 16]
def k0_off230 (k0_t3 : Fin k0_t3_loop.trips) : Fin 3 → Nat :=
  let c0_i32_687 : BitVec 32 := 0#32
  let v2066 : Index := Scalar.indexCast c0_i32_687
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2067 : Index := Scalar.indexCast v2045
  let c32_688 : Index := 32#32
  ![0, v2067.toNat, 32]
def k0_off231 (k0_t3 : Fin k0_t3_loop.trips) : Fin 3 → Nat :=
  let c0_i32_690 : BitVec 32 := 0#32
  let v2075 : Index := Scalar.indexCast c0_i32_690
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2076 : Index := Scalar.indexCast v2045
  let c48_691 : Index := 48#32
  ![0, v2076.toNat, 48]
def k0_off232 (k0_t3 : Fin k0_t3_loop.trips) : Fin 3 → Nat :=
  let c0_i32_693 : BitVec 32 := 0#32
  let v2084 : Index := Scalar.indexCast c0_i32_693
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2085 : Index := Scalar.indexCast v2045
  let c64_694 : Index := 64#32
  ![0, v2085.toNat, 64]
def k0_off233 (k0_t3 : Fin k0_t3_loop.trips) : Fin 3 → Nat :=
  let c0_i32_696 : BitVec 32 := 0#32
  let v2093 : Index := Scalar.indexCast c0_i32_696
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2094 : Index := Scalar.indexCast v2045
  let c80_697 : Index := 80#32
  ![0, v2094.toNat, 80]
def k0_off234 (k0_t3 : Fin k0_t3_loop.trips) : Fin 3 → Nat :=
  let c0_i32_699 : BitVec 32 := 0#32
  let v2102 : Index := Scalar.indexCast c0_i32_699
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2103 : Index := Scalar.indexCast v2045
  let c96_700 : Index := 96#32
  ![0, v2103.toNat, 96]
def k0_off235 (k0_t3 : Fin k0_t3_loop.trips) : Fin 3 → Nat :=
  let c0_i32_702 : BitVec 32 := 0#32
  let v2111 : Index := Scalar.indexCast c0_i32_702
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2112 : Index := Scalar.indexCast v2045
  let c112_703 : Index := 112#32
  ![0, v2112.toNat, 112]
def k0_off236 (k0_t3 : Fin k0_t3_loop.trips) : Fin 3 → Nat :=
  let c0_i32_705 : BitVec 32 := 0#32
  let v2120 : Index := Scalar.indexCast c0_i32_705
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2121 : Index := Scalar.indexCast v2045
  let c128_706 : Index := 128#32
  ![0, v2121.toNat, 128]
def k0_off237 (k0_t3 : Fin k0_t3_loop.trips) : Fin 3 → Nat :=
  let c0_i32_708 : BitVec 32 := 0#32
  let v2129 : Index := Scalar.indexCast c0_i32_708
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2130 : Index := Scalar.indexCast v2045
  let c144_709 : Index := 144#32
  ![0, v2130.toNat, 144]
def k0_off238 (k0_t3 : Fin k0_t3_loop.trips) : Fin 3 → Nat :=
  let c0_i32_711 : BitVec 32 := 0#32
  let v2138 : Index := Scalar.indexCast c0_i32_711
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2139 : Index := Scalar.indexCast v2045
  let c160_712 : Index := 160#32
  ![0, v2139.toNat, 160]
def k0_off239 (k0_t3 : Fin k0_t3_loop.trips) : Fin 3 → Nat :=
  let c0_i32_714 : BitVec 32 := 0#32
  let v2147 : Index := Scalar.indexCast c0_i32_714
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2148 : Index := Scalar.indexCast v2045
  let c176_715 : Index := 176#32
  ![0, v2148.toNat, 176]
def k0_off240 (k0_t3 : Fin k0_t3_loop.trips) : Fin 3 → Nat :=
  let c0_i32_717 : BitVec 32 := 0#32
  let v2156 : Index := Scalar.indexCast c0_i32_717
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2157 : Index := Scalar.indexCast v2045
  let c192_718 : Index := 192#32
  ![0, v2157.toNat, 192]
def k0_off241 (k0_t3 : Fin k0_t3_loop.trips) : Fin 3 → Nat :=
  let c0_i32_720 : BitVec 32 := 0#32
  let v2165 : Index := Scalar.indexCast c0_i32_720
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2166 : Index := Scalar.indexCast v2045
  let c208_721 : Index := 208#32
  ![0, v2166.toNat, 208]
def k0_off242 (k0_t3 : Fin k0_t3_loop.trips) : Fin 3 → Nat :=
  let c0_i32_723 : BitVec 32 := 0#32
  let v2174 : Index := Scalar.indexCast c0_i32_723
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2175 : Index := Scalar.indexCast v2045
  let c224_724 : Index := 224#32
  ![0, v2175.toNat, 224]
def k0_off243 (k0_t3 : Fin k0_t3_loop.trips) : Fin 3 → Nat :=
  let c0_i32_726 : BitVec 32 := 0#32
  let v2183 : Index := Scalar.indexCast c0_i32_726
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2184 : Index := Scalar.indexCast v2045
  let c240_727 : Index := 240#32
  ![0, v2184.toNat, 240]
def k0_off244 (k0_t3 : Fin k0_t3_loop.trips) : Fin 3 → Nat :=
  let c0_i32_730 : BitVec 32 := 0#32
  let v2196 : Index := Scalar.indexCast c0_i32_730
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2197 : Index := Scalar.indexCast v2193
  let c0_731 : Index := 0#32
  ![0, v2197.toNat, 0]
def k0_off245 (v2195 : BitVec 32) (c0_i32_732 : BitVec 32) : Fin 1 → Nat :=
  let v2201 : BitVec 32 := Scalar.addi v2195 c0_i32_732
  let v2202 : Index := Scalar.indexCast v2201
  ![v2202.toNat]

def k0_chk16 (v2195 : BitVec 32) : Prop :=
  (∀ (r : Fin 16), ∀ a, (k0_off245 v2195 (BitVec.ofNat 32 (16 * r.val))) a + S16.size a ≤ S17408.size a)
theorem k0_off245_inb : ∀ (v2195 : BitVec 32) (k0_hw16 : k0_chk16 v2195), ∀ (r : Fin 16), ∀ a, (k0_off245 v2195 (BitVec.ofNat 32 (16 * r.val))) a + S16.size a ≤ S17408.size a := fun v2195 k0_hw16 r => k0_hw16 r

def k0_off246 (k0_t3 : Fin k0_t3_loop.trips) : Fin 3 → Nat :=
  let c0_i32_733 : BitVec 32 := 0#32
  let v2205 : Index := Scalar.indexCast c0_i32_733
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2206 : Index := Scalar.indexCast v2193
  let c16_734 : Index := 16#32
  ![0, v2206.toNat, 16]
def k0_off247 (k0_t3 : Fin k0_t3_loop.trips) : Fin 3 → Nat :=
  let c0_i32_736 : BitVec 32 := 0#32
  let v2214 : Index := Scalar.indexCast c0_i32_736
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2215 : Index := Scalar.indexCast v2193
  let c32_737 : Index := 32#32
  ![0, v2215.toNat, 32]
def k0_off248 (k0_t3 : Fin k0_t3_loop.trips) : Fin 3 → Nat :=
  let c0_i32_739 : BitVec 32 := 0#32
  let v2223 : Index := Scalar.indexCast c0_i32_739
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2224 : Index := Scalar.indexCast v2193
  let c48_740 : Index := 48#32
  ![0, v2224.toNat, 48]
def k0_off249 (k0_t3 : Fin k0_t3_loop.trips) : Fin 3 → Nat :=
  let c0_i32_742 : BitVec 32 := 0#32
  let v2232 : Index := Scalar.indexCast c0_i32_742
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2233 : Index := Scalar.indexCast v2193
  let c64_743 : Index := 64#32
  ![0, v2233.toNat, 64]
def k0_off250 (k0_t3 : Fin k0_t3_loop.trips) : Fin 3 → Nat :=
  let c0_i32_745 : BitVec 32 := 0#32
  let v2241 : Index := Scalar.indexCast c0_i32_745
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2242 : Index := Scalar.indexCast v2193
  let c80_746 : Index := 80#32
  ![0, v2242.toNat, 80]
def k0_off251 (k0_t3 : Fin k0_t3_loop.trips) : Fin 3 → Nat :=
  let c0_i32_748 : BitVec 32 := 0#32
  let v2250 : Index := Scalar.indexCast c0_i32_748
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2251 : Index := Scalar.indexCast v2193
  let c96_749 : Index := 96#32
  ![0, v2251.toNat, 96]
def k0_off252 (k0_t3 : Fin k0_t3_loop.trips) : Fin 3 → Nat :=
  let c0_i32_751 : BitVec 32 := 0#32
  let v2259 : Index := Scalar.indexCast c0_i32_751
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2260 : Index := Scalar.indexCast v2193
  let c112_752 : Index := 112#32
  ![0, v2260.toNat, 112]
def k0_off253 (k0_t3 : Fin k0_t3_loop.trips) : Fin 3 → Nat :=
  let c0_i32_754 : BitVec 32 := 0#32
  let v2268 : Index := Scalar.indexCast c0_i32_754
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2269 : Index := Scalar.indexCast v2193
  let c128_755 : Index := 128#32
  ![0, v2269.toNat, 128]
def k0_off254 (k0_t3 : Fin k0_t3_loop.trips) : Fin 3 → Nat :=
  let c0_i32_757 : BitVec 32 := 0#32
  let v2277 : Index := Scalar.indexCast c0_i32_757
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2278 : Index := Scalar.indexCast v2193
  let c144_758 : Index := 144#32
  ![0, v2278.toNat, 144]
def k0_off255 (k0_t3 : Fin k0_t3_loop.trips) : Fin 3 → Nat :=
  let c0_i32_760 : BitVec 32 := 0#32
  let v2286 : Index := Scalar.indexCast c0_i32_760
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2287 : Index := Scalar.indexCast v2193
  let c160_761 : Index := 160#32
  ![0, v2287.toNat, 160]
def k0_off256 (k0_t3 : Fin k0_t3_loop.trips) : Fin 3 → Nat :=
  let c0_i32_763 : BitVec 32 := 0#32
  let v2295 : Index := Scalar.indexCast c0_i32_763
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2296 : Index := Scalar.indexCast v2193
  let c176_764 : Index := 176#32
  ![0, v2296.toNat, 176]
def k0_off257 (k0_t3 : Fin k0_t3_loop.trips) : Fin 3 → Nat :=
  let c0_i32_766 : BitVec 32 := 0#32
  let v2304 : Index := Scalar.indexCast c0_i32_766
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2305 : Index := Scalar.indexCast v2193
  let c192_767 : Index := 192#32
  ![0, v2305.toNat, 192]
def k0_off258 (k0_t3 : Fin k0_t3_loop.trips) : Fin 3 → Nat :=
  let c0_i32_769 : BitVec 32 := 0#32
  let v2313 : Index := Scalar.indexCast c0_i32_769
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2314 : Index := Scalar.indexCast v2193
  let c208_770 : Index := 208#32
  ![0, v2314.toNat, 208]
def k0_off259 (k0_t3 : Fin k0_t3_loop.trips) : Fin 3 → Nat :=
  let c0_i32_772 : BitVec 32 := 0#32
  let v2322 : Index := Scalar.indexCast c0_i32_772
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2323 : Index := Scalar.indexCast v2193
  let c224_773 : Index := 224#32
  ![0, v2323.toNat, 224]
def k0_off260 (k0_t3 : Fin k0_t3_loop.trips) : Fin 3 → Nat :=
  let c0_i32_775 : BitVec 32 := 0#32
  let v2331 : Index := Scalar.indexCast c0_i32_775
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2332 : Index := Scalar.indexCast v2193
  let c240_776 : Index := 240#32
  ![0, v2332.toNat, 240]
def k0_off261 (k0_t2 : Fin k0_t2_loop.trips) (k0_t3 : Fin k0_t3_loop.trips) : Fin 2 → Nat :=
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let v2345 : Index := Scalar.indexCast v19
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_781 : BitVec 32 := 16#32
  let v2344 : BitVec 32 := Scalar.muli v2343 c16_i32_781
  let v2346 : Index := Scalar.indexCast v2344
  ![v2345.toNat, v2346.toNat]
def k0_off262 (k0_t3 : Fin k0_t3_loop.trips) : Fin 3 → Nat :=
  let c0_i32_783 : BitVec 32 := 0#32
  let v2353 : Index := Scalar.indexCast c0_i32_783
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2354 : Index := Scalar.indexCast v2341
  let c0_784 : Index := 0#32
  ![0, v2354.toNat, 0]
def k0_off263 (v2352 : BitVec 32) (c0_i32_785 : BitVec 32) : Fin 1 → Nat :=
  let v2358 : BitVec 32 := Scalar.addi v2352 c0_i32_785
  let v2359 : Index := Scalar.indexCast v2358
  ![v2359.toNat]

def k0_chk17 (v2352 : BitVec 32) : Prop :=
  (∀ (r : Fin 16), ∀ a, (k0_off263 v2352 (BitVec.ofNat 32 (16 * r.val))) a + S16.size a ≤ S17408.size a)
theorem k0_off263_inb : ∀ (v2352 : BitVec 32) (k0_hw17 : k0_chk17 v2352), ∀ (r : Fin 16), ∀ a, (k0_off263 v2352 (BitVec.ofNat 32 (16 * r.val))) a + S16.size a ≤ S17408.size a := fun v2352 k0_hw17 r => k0_hw17 r

def k0_off264 (k0_t3 : Fin k0_t3_loop.trips) : Fin 3 → Nat :=
  let c0_i32_786 : BitVec 32 := 0#32
  let v2362 : Index := Scalar.indexCast c0_i32_786
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2363 : Index := Scalar.indexCast v2341
  let c16_787 : Index := 16#32
  ![0, v2363.toNat, 16]
def k0_off265 (k0_t3 : Fin k0_t3_loop.trips) : Fin 3 → Nat :=
  let c0_i32_789 : BitVec 32 := 0#32
  let v2371 : Index := Scalar.indexCast c0_i32_789
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2372 : Index := Scalar.indexCast v2341
  let c32_790 : Index := 32#32
  ![0, v2372.toNat, 32]
def k0_off266 (k0_t3 : Fin k0_t3_loop.trips) : Fin 3 → Nat :=
  let c0_i32_792 : BitVec 32 := 0#32
  let v2380 : Index := Scalar.indexCast c0_i32_792
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2381 : Index := Scalar.indexCast v2341
  let c48_793 : Index := 48#32
  ![0, v2381.toNat, 48]
def k0_off267 (k0_t3 : Fin k0_t3_loop.trips) : Fin 3 → Nat :=
  let c0_i32_795 : BitVec 32 := 0#32
  let v2389 : Index := Scalar.indexCast c0_i32_795
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2390 : Index := Scalar.indexCast v2341
  let c64_796 : Index := 64#32
  ![0, v2390.toNat, 64]
def k0_off268 (k0_t3 : Fin k0_t3_loop.trips) : Fin 3 → Nat :=
  let c0_i32_798 : BitVec 32 := 0#32
  let v2398 : Index := Scalar.indexCast c0_i32_798
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2399 : Index := Scalar.indexCast v2341
  let c80_799 : Index := 80#32
  ![0, v2399.toNat, 80]
def k0_off269 (k0_t3 : Fin k0_t3_loop.trips) : Fin 3 → Nat :=
  let c0_i32_801 : BitVec 32 := 0#32
  let v2407 : Index := Scalar.indexCast c0_i32_801
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2408 : Index := Scalar.indexCast v2341
  let c96_802 : Index := 96#32
  ![0, v2408.toNat, 96]
def k0_off270 (k0_t3 : Fin k0_t3_loop.trips) : Fin 3 → Nat :=
  let c0_i32_804 : BitVec 32 := 0#32
  let v2416 : Index := Scalar.indexCast c0_i32_804
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2417 : Index := Scalar.indexCast v2341
  let c112_805 : Index := 112#32
  ![0, v2417.toNat, 112]
def k0_off271 (k0_t3 : Fin k0_t3_loop.trips) : Fin 3 → Nat :=
  let c0_i32_807 : BitVec 32 := 0#32
  let v2425 : Index := Scalar.indexCast c0_i32_807
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2426 : Index := Scalar.indexCast v2341
  let c128_808 : Index := 128#32
  ![0, v2426.toNat, 128]
def k0_off272 (k0_t3 : Fin k0_t3_loop.trips) : Fin 3 → Nat :=
  let c0_i32_810 : BitVec 32 := 0#32
  let v2434 : Index := Scalar.indexCast c0_i32_810
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2435 : Index := Scalar.indexCast v2341
  let c144_811 : Index := 144#32
  ![0, v2435.toNat, 144]
def k0_off273 (k0_t3 : Fin k0_t3_loop.trips) : Fin 3 → Nat :=
  let c0_i32_813 : BitVec 32 := 0#32
  let v2443 : Index := Scalar.indexCast c0_i32_813
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2444 : Index := Scalar.indexCast v2341
  let c160_814 : Index := 160#32
  ![0, v2444.toNat, 160]
def k0_off274 (k0_t3 : Fin k0_t3_loop.trips) : Fin 3 → Nat :=
  let c0_i32_816 : BitVec 32 := 0#32
  let v2452 : Index := Scalar.indexCast c0_i32_816
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2453 : Index := Scalar.indexCast v2341
  let c176_817 : Index := 176#32
  ![0, v2453.toNat, 176]
def k0_off275 (k0_t3 : Fin k0_t3_loop.trips) : Fin 3 → Nat :=
  let c0_i32_819 : BitVec 32 := 0#32
  let v2461 : Index := Scalar.indexCast c0_i32_819
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2462 : Index := Scalar.indexCast v2341
  let c192_820 : Index := 192#32
  ![0, v2462.toNat, 192]
def k0_off276 (k0_t3 : Fin k0_t3_loop.trips) : Fin 3 → Nat :=
  let c0_i32_822 : BitVec 32 := 0#32
  let v2470 : Index := Scalar.indexCast c0_i32_822
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2471 : Index := Scalar.indexCast v2341
  let c208_823 : Index := 208#32
  ![0, v2471.toNat, 208]
def k0_off277 (k0_t3 : Fin k0_t3_loop.trips) : Fin 3 → Nat :=
  let c0_i32_825 : BitVec 32 := 0#32
  let v2479 : Index := Scalar.indexCast c0_i32_825
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2480 : Index := Scalar.indexCast v2341
  let c224_826 : Index := 224#32
  ![0, v2480.toNat, 224]
def k0_off278 (k0_t3 : Fin k0_t3_loop.trips) : Fin 3 → Nat :=
  let c0_i32_828 : BitVec 32 := 0#32
  let v2488 : Index := Scalar.indexCast c0_i32_828
  let c0_i32_25 : BitVec 32 := 0#32
  let c1_i32_26 : BitVec 32 := 1#32
  let arg11 : BitVec 32 := Scf.iv c0_i32_25 c1_i32_26 k0_t3
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2489 : Index := Scalar.indexCast v2341
  let c240_829 : Index := 240#32
  ![0, v2489.toNat, 240]
def k0_off279 (k0_t3 : Fin k0_t3_loop.trips) : Fin 3 → Nat :=
  let c0_i32_833 : BitVec 32 := 0#32
  let v2501 : Index := Scalar.indexCast c0_i32_833
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2502 : Index := Scalar.indexCast v2498
  let c0_834 : Index := 0#32
  ![0, v2502.toNat, 0]
def k0_off280 (v2500 : BitVec 32) (c0_i32_835 : BitVec 32) : Fin 1 → Nat :=
  let v2506 : BitVec 32 := Scalar.addi v2500 c0_i32_835
  let v2507 : Index := Scalar.indexCast v2506
  ![v2507.toNat]

def k0_chk18 (v2500 : BitVec 32) : Prop :=
  (∀ (r : Fin 16), ∀ a, (k0_off280 v2500 (BitVec.ofNat 32 (16 * r.val))) a + S16.size a ≤ S17408.size a)
theorem k0_off280_inb : ∀ (v2500 : BitVec 32) (k0_hw18 : k0_chk18 v2500), ∀ (r : Fin 16), ∀ a, (k0_off280 v2500 (BitVec.ofNat 32 (16 * r.val))) a + S16.size a ≤ S17408.size a := fun v2500 k0_hw18 r => k0_hw18 r

def k0_off281 (k0_t3 : Fin k0_t3_loop.trips) : Fin 3 → Nat :=
  let c0_i32_836 : BitVec 32 := 0#32
  let v2510 : Index := Scalar.indexCast c0_i32_836
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2511 : Index := Scalar.indexCast v2498
  let c16_837 : Index := 16#32
  ![0, v2511.toNat, 16]
def k0_off282 (k0_t3 : Fin k0_t3_loop.trips) : Fin 3 → Nat :=
  let c0_i32_839 : BitVec 32 := 0#32
  let v2519 : Index := Scalar.indexCast c0_i32_839
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2520 : Index := Scalar.indexCast v2498
  let c32_840 : Index := 32#32
  ![0, v2520.toNat, 32]
def k0_off283 (k0_t3 : Fin k0_t3_loop.trips) : Fin 3 → Nat :=
  let c0_i32_842 : BitVec 32 := 0#32
  let v2528 : Index := Scalar.indexCast c0_i32_842
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2529 : Index := Scalar.indexCast v2498
  let c48_843 : Index := 48#32
  ![0, v2529.toNat, 48]
def k0_off284 (k0_t3 : Fin k0_t3_loop.trips) : Fin 3 → Nat :=
  let c0_i32_845 : BitVec 32 := 0#32
  let v2537 : Index := Scalar.indexCast c0_i32_845
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2538 : Index := Scalar.indexCast v2498
  let c64_846 : Index := 64#32
  ![0, v2538.toNat, 64]
def k0_off285 (k0_t3 : Fin k0_t3_loop.trips) : Fin 3 → Nat :=
  let c0_i32_848 : BitVec 32 := 0#32
  let v2546 : Index := Scalar.indexCast c0_i32_848
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2547 : Index := Scalar.indexCast v2498
  let c80_849 : Index := 80#32
  ![0, v2547.toNat, 80]
def k0_off286 (k0_t3 : Fin k0_t3_loop.trips) : Fin 3 → Nat :=
  let c0_i32_851 : BitVec 32 := 0#32
  let v2555 : Index := Scalar.indexCast c0_i32_851
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2556 : Index := Scalar.indexCast v2498
  let c96_852 : Index := 96#32
  ![0, v2556.toNat, 96]
def k0_off287 (k0_t3 : Fin k0_t3_loop.trips) : Fin 3 → Nat :=
  let c0_i32_854 : BitVec 32 := 0#32
  let v2564 : Index := Scalar.indexCast c0_i32_854
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2565 : Index := Scalar.indexCast v2498
  let c112_855 : Index := 112#32
  ![0, v2565.toNat, 112]
def k0_off288 (k0_t3 : Fin k0_t3_loop.trips) : Fin 3 → Nat :=
  let c0_i32_857 : BitVec 32 := 0#32
  let v2573 : Index := Scalar.indexCast c0_i32_857
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2574 : Index := Scalar.indexCast v2498
  let c128_858 : Index := 128#32
  ![0, v2574.toNat, 128]
def k0_off289 (k0_t3 : Fin k0_t3_loop.trips) : Fin 3 → Nat :=
  let c0_i32_860 : BitVec 32 := 0#32
  let v2582 : Index := Scalar.indexCast c0_i32_860
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2583 : Index := Scalar.indexCast v2498
  let c144_861 : Index := 144#32
  ![0, v2583.toNat, 144]
def k0_off290 (k0_t3 : Fin k0_t3_loop.trips) : Fin 3 → Nat :=
  let c0_i32_863 : BitVec 32 := 0#32
  let v2591 : Index := Scalar.indexCast c0_i32_863
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2592 : Index := Scalar.indexCast v2498
  let c160_864 : Index := 160#32
  ![0, v2592.toNat, 160]
def k0_off291 (k0_t3 : Fin k0_t3_loop.trips) : Fin 3 → Nat :=
  let c0_i32_866 : BitVec 32 := 0#32
  let v2600 : Index := Scalar.indexCast c0_i32_866
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2601 : Index := Scalar.indexCast v2498
  let c176_867 : Index := 176#32
  ![0, v2601.toNat, 176]
def k0_off292 (k0_t3 : Fin k0_t3_loop.trips) : Fin 3 → Nat :=
  let c0_i32_869 : BitVec 32 := 0#32
  let v2609 : Index := Scalar.indexCast c0_i32_869
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2610 : Index := Scalar.indexCast v2498
  let c192_870 : Index := 192#32
  ![0, v2610.toNat, 192]
def k0_off293 (k0_t3 : Fin k0_t3_loop.trips) : Fin 3 → Nat :=
  let c0_i32_872 : BitVec 32 := 0#32
  let v2618 : Index := Scalar.indexCast c0_i32_872
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2619 : Index := Scalar.indexCast v2498
  let c208_873 : Index := 208#32
  ![0, v2619.toNat, 208]
def k0_off294 (k0_t3 : Fin k0_t3_loop.trips) : Fin 3 → Nat :=
  let c0_i32_875 : BitVec 32 := 0#32
  let v2627 : Index := Scalar.indexCast c0_i32_875
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2628 : Index := Scalar.indexCast v2498
  let c224_876 : Index := 224#32
  ![0, v2628.toNat, 224]
def k0_off295 (k0_t3 : Fin k0_t3_loop.trips) : Fin 3 → Nat :=
  let c0_i32_878 : BitVec 32 := 0#32
  let v2636 : Index := Scalar.indexCast c0_i32_878
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2637 : Index := Scalar.indexCast v2498
  let c240_879 : Index := 240#32
  ![0, v2637.toNat, 240]
def k0_off296 (k0_t3 : Fin k0_t3_loop.trips) : Fin 3 → Nat :=
  let c0_i32_883 : BitVec 32 := 0#32
  let v2649 : Index := Scalar.indexCast c0_i32_883
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2650 : Index := Scalar.indexCast v2646
  let c0_884 : Index := 0#32
  ![0, v2650.toNat, 0]
def k0_off297 (v2648 : BitVec 32) (c0_i32_885 : BitVec 32) : Fin 1 → Nat :=
  let v2654 : BitVec 32 := Scalar.addi v2648 c0_i32_885
  let v2655 : Index := Scalar.indexCast v2654
  ![v2655.toNat]

def k0_chk19 (v2648 : BitVec 32) : Prop :=
  (∀ (r : Fin 16), ∀ a, (k0_off297 v2648 (BitVec.ofNat 32 (16 * r.val))) a + S16.size a ≤ S17408.size a)
theorem k0_off297_inb : ∀ (v2648 : BitVec 32) (k0_hw19 : k0_chk19 v2648), ∀ (r : Fin 16), ∀ a, (k0_off297 v2648 (BitVec.ofNat 32 (16 * r.val))) a + S16.size a ≤ S17408.size a := fun v2648 k0_hw19 r => k0_hw19 r

def k0_off298 (k0_t3 : Fin k0_t3_loop.trips) : Fin 3 → Nat :=
  let c0_i32_886 : BitVec 32 := 0#32
  let v2658 : Index := Scalar.indexCast c0_i32_886
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2659 : Index := Scalar.indexCast v2646
  let c16_887 : Index := 16#32
  ![0, v2659.toNat, 16]
def k0_off299 (k0_t3 : Fin k0_t3_loop.trips) : Fin 3 → Nat :=
  let c0_i32_889 : BitVec 32 := 0#32
  let v2667 : Index := Scalar.indexCast c0_i32_889
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2668 : Index := Scalar.indexCast v2646
  let c32_890 : Index := 32#32
  ![0, v2668.toNat, 32]
def k0_off300 (k0_t3 : Fin k0_t3_loop.trips) : Fin 3 → Nat :=
  let c0_i32_892 : BitVec 32 := 0#32
  let v2676 : Index := Scalar.indexCast c0_i32_892
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2677 : Index := Scalar.indexCast v2646
  let c48_893 : Index := 48#32
  ![0, v2677.toNat, 48]
def k0_off301 (k0_t3 : Fin k0_t3_loop.trips) : Fin 3 → Nat :=
  let c0_i32_895 : BitVec 32 := 0#32
  let v2685 : Index := Scalar.indexCast c0_i32_895
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2686 : Index := Scalar.indexCast v2646
  let c64_896 : Index := 64#32
  ![0, v2686.toNat, 64]
def k0_off302 (k0_t3 : Fin k0_t3_loop.trips) : Fin 3 → Nat :=
  let c0_i32_898 : BitVec 32 := 0#32
  let v2694 : Index := Scalar.indexCast c0_i32_898
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2695 : Index := Scalar.indexCast v2646
  let c80_899 : Index := 80#32
  ![0, v2695.toNat, 80]
def k0_off303 (k0_t3 : Fin k0_t3_loop.trips) : Fin 3 → Nat :=
  let c0_i32_901 : BitVec 32 := 0#32
  let v2703 : Index := Scalar.indexCast c0_i32_901
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2704 : Index := Scalar.indexCast v2646
  let c96_902 : Index := 96#32
  ![0, v2704.toNat, 96]
def k0_off304 (k0_t3 : Fin k0_t3_loop.trips) : Fin 3 → Nat :=
  let c0_i32_904 : BitVec 32 := 0#32
  let v2712 : Index := Scalar.indexCast c0_i32_904
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2713 : Index := Scalar.indexCast v2646
  let c112_905 : Index := 112#32
  ![0, v2713.toNat, 112]
def k0_off305 (k0_t3 : Fin k0_t3_loop.trips) : Fin 3 → Nat :=
  let c0_i32_907 : BitVec 32 := 0#32
  let v2721 : Index := Scalar.indexCast c0_i32_907
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2722 : Index := Scalar.indexCast v2646
  let c128_908 : Index := 128#32
  ![0, v2722.toNat, 128]
def k0_off306 (k0_t3 : Fin k0_t3_loop.trips) : Fin 3 → Nat :=
  let c0_i32_910 : BitVec 32 := 0#32
  let v2730 : Index := Scalar.indexCast c0_i32_910
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2731 : Index := Scalar.indexCast v2646
  let c144_911 : Index := 144#32
  ![0, v2731.toNat, 144]
def k0_off307 (k0_t3 : Fin k0_t3_loop.trips) : Fin 3 → Nat :=
  let c0_i32_913 : BitVec 32 := 0#32
  let v2739 : Index := Scalar.indexCast c0_i32_913
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2740 : Index := Scalar.indexCast v2646
  let c160_914 : Index := 160#32
  ![0, v2740.toNat, 160]
def k0_off308 (k0_t3 : Fin k0_t3_loop.trips) : Fin 3 → Nat :=
  let c0_i32_916 : BitVec 32 := 0#32
  let v2748 : Index := Scalar.indexCast c0_i32_916
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2749 : Index := Scalar.indexCast v2646
  let c176_917 : Index := 176#32
  ![0, v2749.toNat, 176]
def k0_off309 (k0_t3 : Fin k0_t3_loop.trips) : Fin 3 → Nat :=
  let c0_i32_919 : BitVec 32 := 0#32
  let v2757 : Index := Scalar.indexCast c0_i32_919
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2758 : Index := Scalar.indexCast v2646
  let c192_920 : Index := 192#32
  ![0, v2758.toNat, 192]
def k0_off310 (k0_t3 : Fin k0_t3_loop.trips) : Fin 3 → Nat :=
  let c0_i32_922 : BitVec 32 := 0#32
  let v2766 : Index := Scalar.indexCast c0_i32_922
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2767 : Index := Scalar.indexCast v2646
  let c208_923 : Index := 208#32
  ![0, v2767.toNat, 208]
def k0_off311 (k0_t3 : Fin k0_t3_loop.trips) : Fin 3 → Nat :=
  let c0_i32_925 : BitVec 32 := 0#32
  let v2775 : Index := Scalar.indexCast c0_i32_925
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2776 : Index := Scalar.indexCast v2646
  let c224_926 : Index := 224#32
  ![0, v2776.toNat, 224]
def k0_off312 (k0_t3 : Fin k0_t3_loop.trips) : Fin 3 → Nat :=
  let c0_i32_928 : BitVec 32 := 0#32
  let v2784 : Index := Scalar.indexCast c0_i32_928
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2785 : Index := Scalar.indexCast v2646
  let c240_929 : Index := 240#32
  ![0, v2785.toNat, 240]
def k0_off313 (k0_t3 : Fin k0_t3_loop.trips) : Fin 3 → Nat :=
  let c0_i32_933 : BitVec 32 := 0#32
  let v2797 : Index := Scalar.indexCast c0_i32_933
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2798 : Index := Scalar.indexCast v2794
  let c0_934 : Index := 0#32
  ![0, v2798.toNat, 0]
def k0_off314 (v2796 : BitVec 32) (c0_i32_935 : BitVec 32) : Fin 1 → Nat :=
  let v2802 : BitVec 32 := Scalar.addi v2796 c0_i32_935
  let v2803 : Index := Scalar.indexCast v2802
  ![v2803.toNat]

def k0_chk20 (v2796 : BitVec 32) : Prop :=
  (∀ (r : Fin 16), ∀ a, (k0_off314 v2796 (BitVec.ofNat 32 (16 * r.val))) a + S16.size a ≤ S17408.size a)
theorem k0_off314_inb : ∀ (v2796 : BitVec 32) (k0_hw20 : k0_chk20 v2796), ∀ (r : Fin 16), ∀ a, (k0_off314 v2796 (BitVec.ofNat 32 (16 * r.val))) a + S16.size a ≤ S17408.size a := fun v2796 k0_hw20 r => k0_hw20 r

def k0_off315 (k0_t3 : Fin k0_t3_loop.trips) : Fin 3 → Nat :=
  let c0_i32_936 : BitVec 32 := 0#32
  let v2806 : Index := Scalar.indexCast c0_i32_936
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2807 : Index := Scalar.indexCast v2794
  let c16_937 : Index := 16#32
  ![0, v2807.toNat, 16]
def k0_off316 (k0_t3 : Fin k0_t3_loop.trips) : Fin 3 → Nat :=
  let c0_i32_939 : BitVec 32 := 0#32
  let v2815 : Index := Scalar.indexCast c0_i32_939
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2816 : Index := Scalar.indexCast v2794
  let c32_940 : Index := 32#32
  ![0, v2816.toNat, 32]
def k0_off317 (k0_t3 : Fin k0_t3_loop.trips) : Fin 3 → Nat :=
  let c0_i32_942 : BitVec 32 := 0#32
  let v2824 : Index := Scalar.indexCast c0_i32_942
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2825 : Index := Scalar.indexCast v2794
  let c48_943 : Index := 48#32
  ![0, v2825.toNat, 48]
def k0_off318 (k0_t3 : Fin k0_t3_loop.trips) : Fin 3 → Nat :=
  let c0_i32_945 : BitVec 32 := 0#32
  let v2833 : Index := Scalar.indexCast c0_i32_945
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2834 : Index := Scalar.indexCast v2794
  let c64_946 : Index := 64#32
  ![0, v2834.toNat, 64]
def k0_off319 (k0_t3 : Fin k0_t3_loop.trips) : Fin 3 → Nat :=
  let c0_i32_948 : BitVec 32 := 0#32
  let v2842 : Index := Scalar.indexCast c0_i32_948
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2843 : Index := Scalar.indexCast v2794
  let c80_949 : Index := 80#32
  ![0, v2843.toNat, 80]
def k0_off320 (k0_t3 : Fin k0_t3_loop.trips) : Fin 3 → Nat :=
  let c0_i32_951 : BitVec 32 := 0#32
  let v2851 : Index := Scalar.indexCast c0_i32_951
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2852 : Index := Scalar.indexCast v2794
  let c96_952 : Index := 96#32
  ![0, v2852.toNat, 96]
def k0_off321 (k0_t3 : Fin k0_t3_loop.trips) : Fin 3 → Nat :=
  let c0_i32_954 : BitVec 32 := 0#32
  let v2860 : Index := Scalar.indexCast c0_i32_954
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2861 : Index := Scalar.indexCast v2794
  let c112_955 : Index := 112#32
  ![0, v2861.toNat, 112]
def k0_off322 (k0_t3 : Fin k0_t3_loop.trips) : Fin 3 → Nat :=
  let c0_i32_957 : BitVec 32 := 0#32
  let v2869 : Index := Scalar.indexCast c0_i32_957
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2870 : Index := Scalar.indexCast v2794
  let c128_958 : Index := 128#32
  ![0, v2870.toNat, 128]
def k0_off323 (k0_t3 : Fin k0_t3_loop.trips) : Fin 3 → Nat :=
  let c0_i32_960 : BitVec 32 := 0#32
  let v2878 : Index := Scalar.indexCast c0_i32_960
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2879 : Index := Scalar.indexCast v2794
  let c144_961 : Index := 144#32
  ![0, v2879.toNat, 144]
def k0_off324 (k0_t3 : Fin k0_t3_loop.trips) : Fin 3 → Nat :=
  let c0_i32_963 : BitVec 32 := 0#32
  let v2887 : Index := Scalar.indexCast c0_i32_963
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2888 : Index := Scalar.indexCast v2794
  let c160_964 : Index := 160#32
  ![0, v2888.toNat, 160]
def k0_off325 (k0_t3 : Fin k0_t3_loop.trips) : Fin 3 → Nat :=
  let c0_i32_966 : BitVec 32 := 0#32
  let v2896 : Index := Scalar.indexCast c0_i32_966
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2897 : Index := Scalar.indexCast v2794
  let c176_967 : Index := 176#32
  ![0, v2897.toNat, 176]
def k0_off326 (k0_t3 : Fin k0_t3_loop.trips) : Fin 3 → Nat :=
  let c0_i32_969 : BitVec 32 := 0#32
  let v2905 : Index := Scalar.indexCast c0_i32_969
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2906 : Index := Scalar.indexCast v2794
  let c192_970 : Index := 192#32
  ![0, v2906.toNat, 192]
def k0_off327 (k0_t3 : Fin k0_t3_loop.trips) : Fin 3 → Nat :=
  let c0_i32_972 : BitVec 32 := 0#32
  let v2914 : Index := Scalar.indexCast c0_i32_972
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2915 : Index := Scalar.indexCast v2794
  let c208_973 : Index := 208#32
  ![0, v2915.toNat, 208]
def k0_off328 (k0_t3 : Fin k0_t3_loop.trips) : Fin 3 → Nat :=
  let c0_i32_975 : BitVec 32 := 0#32
  let v2923 : Index := Scalar.indexCast c0_i32_975
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2924 : Index := Scalar.indexCast v2794
  let c224_976 : Index := 224#32
  ![0, v2924.toNat, 224]
def k0_off329 (k0_t3 : Fin k0_t3_loop.trips) : Fin 3 → Nat :=
  let c0_i32_978 : BitVec 32 := 0#32
  let v2932 : Index := Scalar.indexCast c0_i32_978
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2933 : Index := Scalar.indexCast v2794
  let c240_979 : Index := 240#32
  ![0, v2933.toNat, 240]
def k0_off330 (k0_t3 : Fin k0_t3_loop.trips) : Fin 3 → Nat :=
  let c0_i32_983 : BitVec 32 := 0#32
  let v2945 : Index := Scalar.indexCast c0_i32_983
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2946 : Index := Scalar.indexCast v2942
  let c0_984 : Index := 0#32
  ![0, v2946.toNat, 0]
def k0_off331 (v2944 : BitVec 32) (c0_i32_985 : BitVec 32) : Fin 1 → Nat :=
  let v2950 : BitVec 32 := Scalar.addi v2944 c0_i32_985
  let v2951 : Index := Scalar.indexCast v2950
  ![v2951.toNat]

def k0_chk21 (v2944 : BitVec 32) : Prop :=
  (∀ (r : Fin 16), ∀ a, (k0_off331 v2944 (BitVec.ofNat 32 (16 * r.val))) a + S16.size a ≤ S17408.size a)
theorem k0_off331_inb : ∀ (v2944 : BitVec 32) (k0_hw21 : k0_chk21 v2944), ∀ (r : Fin 16), ∀ a, (k0_off331 v2944 (BitVec.ofNat 32 (16 * r.val))) a + S16.size a ≤ S17408.size a := fun v2944 k0_hw21 r => k0_hw21 r

def k0_off332 (k0_t3 : Fin k0_t3_loop.trips) : Fin 3 → Nat :=
  let c0_i32_986 : BitVec 32 := 0#32
  let v2954 : Index := Scalar.indexCast c0_i32_986
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2955 : Index := Scalar.indexCast v2942
  let c16_987 : Index := 16#32
  ![0, v2955.toNat, 16]
def k0_off333 (k0_t3 : Fin k0_t3_loop.trips) : Fin 3 → Nat :=
  let c0_i32_989 : BitVec 32 := 0#32
  let v2963 : Index := Scalar.indexCast c0_i32_989
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2964 : Index := Scalar.indexCast v2942
  let c32_990 : Index := 32#32
  ![0, v2964.toNat, 32]
def k0_off334 (k0_t3 : Fin k0_t3_loop.trips) : Fin 3 → Nat :=
  let c0_i32_992 : BitVec 32 := 0#32
  let v2972 : Index := Scalar.indexCast c0_i32_992
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2973 : Index := Scalar.indexCast v2942
  let c48_993 : Index := 48#32
  ![0, v2973.toNat, 48]
def k0_off335 (k0_t3 : Fin k0_t3_loop.trips) : Fin 3 → Nat :=
  let c0_i32_995 : BitVec 32 := 0#32
  let v2981 : Index := Scalar.indexCast c0_i32_995
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2982 : Index := Scalar.indexCast v2942
  let c64_996 : Index := 64#32
  ![0, v2982.toNat, 64]
def k0_off336 (k0_t3 : Fin k0_t3_loop.trips) : Fin 3 → Nat :=
  let c0_i32_998 : BitVec 32 := 0#32
  let v2990 : Index := Scalar.indexCast c0_i32_998
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2991 : Index := Scalar.indexCast v2942
  let c80_999 : Index := 80#32
  ![0, v2991.toNat, 80]
def k0_off337 (k0_t3 : Fin k0_t3_loop.trips) : Fin 3 → Nat :=
  let c0_i32_1001 : BitVec 32 := 0#32
  let v2999 : Index := Scalar.indexCast c0_i32_1001
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3000 : Index := Scalar.indexCast v2942
  let c96_1002 : Index := 96#32
  ![0, v3000.toNat, 96]
def k0_off338 (k0_t3 : Fin k0_t3_loop.trips) : Fin 3 → Nat :=
  let c0_i32_1004 : BitVec 32 := 0#32
  let v3008 : Index := Scalar.indexCast c0_i32_1004
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3009 : Index := Scalar.indexCast v2942
  let c112_1005 : Index := 112#32
  ![0, v3009.toNat, 112]
def k0_off339 (k0_t3 : Fin k0_t3_loop.trips) : Fin 3 → Nat :=
  let c0_i32_1007 : BitVec 32 := 0#32
  let v3017 : Index := Scalar.indexCast c0_i32_1007
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3018 : Index := Scalar.indexCast v2942
  let c128_1008 : Index := 128#32
  ![0, v3018.toNat, 128]
def k0_off340 (k0_t3 : Fin k0_t3_loop.trips) : Fin 3 → Nat :=
  let c0_i32_1010 : BitVec 32 := 0#32
  let v3026 : Index := Scalar.indexCast c0_i32_1010
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3027 : Index := Scalar.indexCast v2942
  let c144_1011 : Index := 144#32
  ![0, v3027.toNat, 144]
def k0_off341 (k0_t3 : Fin k0_t3_loop.trips) : Fin 3 → Nat :=
  let c0_i32_1013 : BitVec 32 := 0#32
  let v3035 : Index := Scalar.indexCast c0_i32_1013
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3036 : Index := Scalar.indexCast v2942
  let c160_1014 : Index := 160#32
  ![0, v3036.toNat, 160]
def k0_off342 (k0_t3 : Fin k0_t3_loop.trips) : Fin 3 → Nat :=
  let c0_i32_1016 : BitVec 32 := 0#32
  let v3044 : Index := Scalar.indexCast c0_i32_1016
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3045 : Index := Scalar.indexCast v2942
  let c176_1017 : Index := 176#32
  ![0, v3045.toNat, 176]
def k0_off343 (k0_t3 : Fin k0_t3_loop.trips) : Fin 3 → Nat :=
  let c0_i32_1019 : BitVec 32 := 0#32
  let v3053 : Index := Scalar.indexCast c0_i32_1019
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3054 : Index := Scalar.indexCast v2942
  let c192_1020 : Index := 192#32
  ![0, v3054.toNat, 192]
def k0_off344 (k0_t3 : Fin k0_t3_loop.trips) : Fin 3 → Nat :=
  let c0_i32_1022 : BitVec 32 := 0#32
  let v3062 : Index := Scalar.indexCast c0_i32_1022
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3063 : Index := Scalar.indexCast v2942
  let c208_1023 : Index := 208#32
  ![0, v3063.toNat, 208]
def k0_off345 (k0_t3 : Fin k0_t3_loop.trips) : Fin 3 → Nat :=
  let c0_i32_1025 : BitVec 32 := 0#32
  let v3071 : Index := Scalar.indexCast c0_i32_1025
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3072 : Index := Scalar.indexCast v2942
  let c224_1026 : Index := 224#32
  ![0, v3072.toNat, 224]
def k0_off346 (k0_t3 : Fin k0_t3_loop.trips) : Fin 3 → Nat :=
  let c0_i32_1028 : BitVec 32 := 0#32
  let v3080 : Index := Scalar.indexCast c0_i32_1028
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3081 : Index := Scalar.indexCast v2942
  let c240_1029 : Index := 240#32
  ![0, v3081.toNat, 240]
def k0_off347 (k0_t3 : Fin k0_t3_loop.trips) : Fin 3 → Nat :=
  let c0_i32_1033 : BitVec 32 := 0#32
  let v3093 : Index := Scalar.indexCast c0_i32_1033
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3094 : Index := Scalar.indexCast v3090
  let c0_1034 : Index := 0#32
  ![0, v3094.toNat, 0]
def k0_off348 (v3092 : BitVec 32) (c0_i32_1035 : BitVec 32) : Fin 1 → Nat :=
  let v3098 : BitVec 32 := Scalar.addi v3092 c0_i32_1035
  let v3099 : Index := Scalar.indexCast v3098
  ![v3099.toNat]

def k0_chk22 (v3092 : BitVec 32) : Prop :=
  (∀ (r : Fin 16), ∀ a, (k0_off348 v3092 (BitVec.ofNat 32 (16 * r.val))) a + S16.size a ≤ S17408.size a)
theorem k0_off348_inb : ∀ (v3092 : BitVec 32) (k0_hw22 : k0_chk22 v3092), ∀ (r : Fin 16), ∀ a, (k0_off348 v3092 (BitVec.ofNat 32 (16 * r.val))) a + S16.size a ≤ S17408.size a := fun v3092 k0_hw22 r => k0_hw22 r

def k0_off349 (k0_t3 : Fin k0_t3_loop.trips) : Fin 3 → Nat :=
  let c0_i32_1036 : BitVec 32 := 0#32
  let v3102 : Index := Scalar.indexCast c0_i32_1036
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3103 : Index := Scalar.indexCast v3090
  let c16_1037 : Index := 16#32
  ![0, v3103.toNat, 16]
def k0_off350 (k0_t3 : Fin k0_t3_loop.trips) : Fin 3 → Nat :=
  let c0_i32_1039 : BitVec 32 := 0#32
  let v3111 : Index := Scalar.indexCast c0_i32_1039
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3112 : Index := Scalar.indexCast v3090
  let c32_1040 : Index := 32#32
  ![0, v3112.toNat, 32]
def k0_off351 (k0_t3 : Fin k0_t3_loop.trips) : Fin 3 → Nat :=
  let c0_i32_1042 : BitVec 32 := 0#32
  let v3120 : Index := Scalar.indexCast c0_i32_1042
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3121 : Index := Scalar.indexCast v3090
  let c48_1043 : Index := 48#32
  ![0, v3121.toNat, 48]
def k0_off352 (k0_t3 : Fin k0_t3_loop.trips) : Fin 3 → Nat :=
  let c0_i32_1045 : BitVec 32 := 0#32
  let v3129 : Index := Scalar.indexCast c0_i32_1045
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3130 : Index := Scalar.indexCast v3090
  let c64_1046 : Index := 64#32
  ![0, v3130.toNat, 64]
def k0_off353 (k0_t3 : Fin k0_t3_loop.trips) : Fin 3 → Nat :=
  let c0_i32_1048 : BitVec 32 := 0#32
  let v3138 : Index := Scalar.indexCast c0_i32_1048
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3139 : Index := Scalar.indexCast v3090
  let c80_1049 : Index := 80#32
  ![0, v3139.toNat, 80]
def k0_off354 (k0_t3 : Fin k0_t3_loop.trips) : Fin 3 → Nat :=
  let c0_i32_1051 : BitVec 32 := 0#32
  let v3147 : Index := Scalar.indexCast c0_i32_1051
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3148 : Index := Scalar.indexCast v3090
  let c96_1052 : Index := 96#32
  ![0, v3148.toNat, 96]
def k0_off355 (k0_t3 : Fin k0_t3_loop.trips) : Fin 3 → Nat :=
  let c0_i32_1054 : BitVec 32 := 0#32
  let v3156 : Index := Scalar.indexCast c0_i32_1054
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3157 : Index := Scalar.indexCast v3090
  let c112_1055 : Index := 112#32
  ![0, v3157.toNat, 112]
def k0_off356 (k0_t3 : Fin k0_t3_loop.trips) : Fin 3 → Nat :=
  let c0_i32_1057 : BitVec 32 := 0#32
  let v3165 : Index := Scalar.indexCast c0_i32_1057
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3166 : Index := Scalar.indexCast v3090
  let c128_1058 : Index := 128#32
  ![0, v3166.toNat, 128]
def k0_off357 (k0_t3 : Fin k0_t3_loop.trips) : Fin 3 → Nat :=
  let c0_i32_1060 : BitVec 32 := 0#32
  let v3174 : Index := Scalar.indexCast c0_i32_1060
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3175 : Index := Scalar.indexCast v3090
  let c144_1061 : Index := 144#32
  ![0, v3175.toNat, 144]
def k0_off358 (k0_t3 : Fin k0_t3_loop.trips) : Fin 3 → Nat :=
  let c0_i32_1063 : BitVec 32 := 0#32
  let v3183 : Index := Scalar.indexCast c0_i32_1063
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3184 : Index := Scalar.indexCast v3090
  let c160_1064 : Index := 160#32
  ![0, v3184.toNat, 160]
def k0_off359 (k0_t3 : Fin k0_t3_loop.trips) : Fin 3 → Nat :=
  let c0_i32_1066 : BitVec 32 := 0#32
  let v3192 : Index := Scalar.indexCast c0_i32_1066
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3193 : Index := Scalar.indexCast v3090
  let c176_1067 : Index := 176#32
  ![0, v3193.toNat, 176]
def k0_off360 (k0_t3 : Fin k0_t3_loop.trips) : Fin 3 → Nat :=
  let c0_i32_1069 : BitVec 32 := 0#32
  let v3201 : Index := Scalar.indexCast c0_i32_1069
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3202 : Index := Scalar.indexCast v3090
  let c192_1070 : Index := 192#32
  ![0, v3202.toNat, 192]
def k0_off361 (k0_t3 : Fin k0_t3_loop.trips) : Fin 3 → Nat :=
  let c0_i32_1072 : BitVec 32 := 0#32
  let v3210 : Index := Scalar.indexCast c0_i32_1072
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3211 : Index := Scalar.indexCast v3090
  let c208_1073 : Index := 208#32
  ![0, v3211.toNat, 208]
def k0_off362 (k0_t3 : Fin k0_t3_loop.trips) : Fin 3 → Nat :=
  let c0_i32_1075 : BitVec 32 := 0#32
  let v3219 : Index := Scalar.indexCast c0_i32_1075
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3220 : Index := Scalar.indexCast v3090
  let c224_1076 : Index := 224#32
  ![0, v3220.toNat, 224]
def k0_off363 (k0_t3 : Fin k0_t3_loop.trips) : Fin 3 → Nat :=
  let c0_i32_1078 : BitVec 32 := 0#32
  let v3228 : Index := Scalar.indexCast c0_i32_1078
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3229 : Index := Scalar.indexCast v3090
  let c240_1079 : Index := 240#32
  ![0, v3229.toNat, 240]
def k0_off364 (k0_t3 : Fin k0_t3_loop.trips) : Fin 3 → Nat :=
  let c0_i32_1083 : BitVec 32 := 0#32
  let v3241 : Index := Scalar.indexCast c0_i32_1083
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3242 : Index := Scalar.indexCast v3238
  let c0_1084 : Index := 0#32
  ![0, v3242.toNat, 0]
def k0_off365 (v3240 : BitVec 32) (c0_i32_1085 : BitVec 32) : Fin 1 → Nat :=
  let v3246 : BitVec 32 := Scalar.addi v3240 c0_i32_1085
  let v3247 : Index := Scalar.indexCast v3246
  ![v3247.toNat]

def k0_chk23 (v3240 : BitVec 32) : Prop :=
  (∀ (r : Fin 16), ∀ a, (k0_off365 v3240 (BitVec.ofNat 32 (16 * r.val))) a + S16.size a ≤ S17408.size a)
theorem k0_off365_inb : ∀ (v3240 : BitVec 32) (k0_hw23 : k0_chk23 v3240), ∀ (r : Fin 16), ∀ a, (k0_off365 v3240 (BitVec.ofNat 32 (16 * r.val))) a + S16.size a ≤ S17408.size a := fun v3240 k0_hw23 r => k0_hw23 r

def k0_off366 (k0_t3 : Fin k0_t3_loop.trips) : Fin 3 → Nat :=
  let c0_i32_1086 : BitVec 32 := 0#32
  let v3250 : Index := Scalar.indexCast c0_i32_1086
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3251 : Index := Scalar.indexCast v3238
  let c16_1087 : Index := 16#32
  ![0, v3251.toNat, 16]
def k0_off367 (k0_t3 : Fin k0_t3_loop.trips) : Fin 3 → Nat :=
  let c0_i32_1089 : BitVec 32 := 0#32
  let v3259 : Index := Scalar.indexCast c0_i32_1089
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3260 : Index := Scalar.indexCast v3238
  let c32_1090 : Index := 32#32
  ![0, v3260.toNat, 32]
def k0_off368 (k0_t3 : Fin k0_t3_loop.trips) : Fin 3 → Nat :=
  let c0_i32_1092 : BitVec 32 := 0#32
  let v3268 : Index := Scalar.indexCast c0_i32_1092
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3269 : Index := Scalar.indexCast v3238
  let c48_1093 : Index := 48#32
  ![0, v3269.toNat, 48]
def k0_off369 (k0_t3 : Fin k0_t3_loop.trips) : Fin 3 → Nat :=
  let c0_i32_1095 : BitVec 32 := 0#32
  let v3277 : Index := Scalar.indexCast c0_i32_1095
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3278 : Index := Scalar.indexCast v3238
  let c64_1096 : Index := 64#32
  ![0, v3278.toNat, 64]
def k0_off370 (k0_t3 : Fin k0_t3_loop.trips) : Fin 3 → Nat :=
  let c0_i32_1098 : BitVec 32 := 0#32
  let v3286 : Index := Scalar.indexCast c0_i32_1098
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3287 : Index := Scalar.indexCast v3238
  let c80_1099 : Index := 80#32
  ![0, v3287.toNat, 80]
def k0_off371 (k0_t3 : Fin k0_t3_loop.trips) : Fin 3 → Nat :=
  let c0_i32_1101 : BitVec 32 := 0#32
  let v3295 : Index := Scalar.indexCast c0_i32_1101
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3296 : Index := Scalar.indexCast v3238
  let c96_1102 : Index := 96#32
  ![0, v3296.toNat, 96]
def k0_off372 (k0_t3 : Fin k0_t3_loop.trips) : Fin 3 → Nat :=
  let c0_i32_1104 : BitVec 32 := 0#32
  let v3304 : Index := Scalar.indexCast c0_i32_1104
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3305 : Index := Scalar.indexCast v3238
  let c112_1105 : Index := 112#32
  ![0, v3305.toNat, 112]
def k0_off373 (k0_t3 : Fin k0_t3_loop.trips) : Fin 3 → Nat :=
  let c0_i32_1107 : BitVec 32 := 0#32
  let v3313 : Index := Scalar.indexCast c0_i32_1107
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3314 : Index := Scalar.indexCast v3238
  let c128_1108 : Index := 128#32
  ![0, v3314.toNat, 128]
def k0_off374 (k0_t3 : Fin k0_t3_loop.trips) : Fin 3 → Nat :=
  let c0_i32_1110 : BitVec 32 := 0#32
  let v3322 : Index := Scalar.indexCast c0_i32_1110
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3323 : Index := Scalar.indexCast v3238
  let c144_1111 : Index := 144#32
  ![0, v3323.toNat, 144]
def k0_off375 (k0_t3 : Fin k0_t3_loop.trips) : Fin 3 → Nat :=
  let c0_i32_1113 : BitVec 32 := 0#32
  let v3331 : Index := Scalar.indexCast c0_i32_1113
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3332 : Index := Scalar.indexCast v3238
  let c160_1114 : Index := 160#32
  ![0, v3332.toNat, 160]
def k0_off376 (k0_t3 : Fin k0_t3_loop.trips) : Fin 3 → Nat :=
  let c0_i32_1116 : BitVec 32 := 0#32
  let v3340 : Index := Scalar.indexCast c0_i32_1116
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3341 : Index := Scalar.indexCast v3238
  let c176_1117 : Index := 176#32
  ![0, v3341.toNat, 176]
def k0_off377 (k0_t3 : Fin k0_t3_loop.trips) : Fin 3 → Nat :=
  let c0_i32_1119 : BitVec 32 := 0#32
  let v3349 : Index := Scalar.indexCast c0_i32_1119
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3350 : Index := Scalar.indexCast v3238
  let c192_1120 : Index := 192#32
  ![0, v3350.toNat, 192]
def k0_off378 (k0_t3 : Fin k0_t3_loop.trips) : Fin 3 → Nat :=
  let c0_i32_1122 : BitVec 32 := 0#32
  let v3358 : Index := Scalar.indexCast c0_i32_1122
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3359 : Index := Scalar.indexCast v3238
  let c208_1123 : Index := 208#32
  ![0, v3359.toNat, 208]
def k0_off379 (k0_t3 : Fin k0_t3_loop.trips) : Fin 3 → Nat :=
  let c0_i32_1125 : BitVec 32 := 0#32
  let v3367 : Index := Scalar.indexCast c0_i32_1125
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3368 : Index := Scalar.indexCast v3238
  let c224_1126 : Index := 224#32
  ![0, v3368.toNat, 224]
def k0_off380 (k0_t3 : Fin k0_t3_loop.trips) : Fin 3 → Nat :=
  let c0_i32_1128 : BitVec 32 := 0#32
  let v3376 : Index := Scalar.indexCast c0_i32_1128
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3377 : Index := Scalar.indexCast v3238
  let c240_1129 : Index := 240#32
  ![0, v3377.toNat, 240]
def k0_off381 (k0_t3 : Fin k0_t3_loop.trips) : Fin 3 → Nat :=
  let c0_i32_1133 : BitVec 32 := 0#32
  let v3389 : Index := Scalar.indexCast c0_i32_1133
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3390 : Index := Scalar.indexCast v3386
  let c0_1134 : Index := 0#32
  ![0, v3390.toNat, 0]
def k0_off382 (v3388 : BitVec 32) (c0_i32_1135 : BitVec 32) : Fin 1 → Nat :=
  let v3394 : BitVec 32 := Scalar.addi v3388 c0_i32_1135
  let v3395 : Index := Scalar.indexCast v3394
  ![v3395.toNat]

def k0_chk24 (v3388 : BitVec 32) : Prop :=
  (∀ (r : Fin 16), ∀ a, (k0_off382 v3388 (BitVec.ofNat 32 (16 * r.val))) a + S16.size a ≤ S17408.size a)
theorem k0_off382_inb : ∀ (v3388 : BitVec 32) (k0_hw24 : k0_chk24 v3388), ∀ (r : Fin 16), ∀ a, (k0_off382 v3388 (BitVec.ofNat 32 (16 * r.val))) a + S16.size a ≤ S17408.size a := fun v3388 k0_hw24 r => k0_hw24 r

def k0_off383 (k0_t3 : Fin k0_t3_loop.trips) : Fin 3 → Nat :=
  let c0_i32_1136 : BitVec 32 := 0#32
  let v3398 : Index := Scalar.indexCast c0_i32_1136
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3399 : Index := Scalar.indexCast v3386
  let c16_1137 : Index := 16#32
  ![0, v3399.toNat, 16]
def k0_off384 (k0_t3 : Fin k0_t3_loop.trips) : Fin 3 → Nat :=
  let c0_i32_1139 : BitVec 32 := 0#32
  let v3407 : Index := Scalar.indexCast c0_i32_1139
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3408 : Index := Scalar.indexCast v3386
  let c32_1140 : Index := 32#32
  ![0, v3408.toNat, 32]
def k0_off385 (k0_t3 : Fin k0_t3_loop.trips) : Fin 3 → Nat :=
  let c0_i32_1142 : BitVec 32 := 0#32
  let v3416 : Index := Scalar.indexCast c0_i32_1142
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3417 : Index := Scalar.indexCast v3386
  let c48_1143 : Index := 48#32
  ![0, v3417.toNat, 48]
def k0_off386 (k0_t3 : Fin k0_t3_loop.trips) : Fin 3 → Nat :=
  let c0_i32_1145 : BitVec 32 := 0#32
  let v3425 : Index := Scalar.indexCast c0_i32_1145
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3426 : Index := Scalar.indexCast v3386
  let c64_1146 : Index := 64#32
  ![0, v3426.toNat, 64]
def k0_off387 (k0_t3 : Fin k0_t3_loop.trips) : Fin 3 → Nat :=
  let c0_i32_1148 : BitVec 32 := 0#32
  let v3434 : Index := Scalar.indexCast c0_i32_1148
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3435 : Index := Scalar.indexCast v3386
  let c80_1149 : Index := 80#32
  ![0, v3435.toNat, 80]
def k0_off388 (k0_t3 : Fin k0_t3_loop.trips) : Fin 3 → Nat :=
  let c0_i32_1151 : BitVec 32 := 0#32
  let v3443 : Index := Scalar.indexCast c0_i32_1151
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3444 : Index := Scalar.indexCast v3386
  let c96_1152 : Index := 96#32
  ![0, v3444.toNat, 96]
def k0_off389 (k0_t3 : Fin k0_t3_loop.trips) : Fin 3 → Nat :=
  let c0_i32_1154 : BitVec 32 := 0#32
  let v3452 : Index := Scalar.indexCast c0_i32_1154
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3453 : Index := Scalar.indexCast v3386
  let c112_1155 : Index := 112#32
  ![0, v3453.toNat, 112]
def k0_off390 (k0_t3 : Fin k0_t3_loop.trips) : Fin 3 → Nat :=
  let c0_i32_1157 : BitVec 32 := 0#32
  let v3461 : Index := Scalar.indexCast c0_i32_1157
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3462 : Index := Scalar.indexCast v3386
  let c128_1158 : Index := 128#32
  ![0, v3462.toNat, 128]
def k0_off391 (k0_t3 : Fin k0_t3_loop.trips) : Fin 3 → Nat :=
  let c0_i32_1160 : BitVec 32 := 0#32
  let v3470 : Index := Scalar.indexCast c0_i32_1160
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3471 : Index := Scalar.indexCast v3386
  let c144_1161 : Index := 144#32
  ![0, v3471.toNat, 144]
def k0_off392 (k0_t3 : Fin k0_t3_loop.trips) : Fin 3 → Nat :=
  let c0_i32_1163 : BitVec 32 := 0#32
  let v3479 : Index := Scalar.indexCast c0_i32_1163
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3480 : Index := Scalar.indexCast v3386
  let c160_1164 : Index := 160#32
  ![0, v3480.toNat, 160]
def k0_off393 (k0_t3 : Fin k0_t3_loop.trips) : Fin 3 → Nat :=
  let c0_i32_1166 : BitVec 32 := 0#32
  let v3488 : Index := Scalar.indexCast c0_i32_1166
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3489 : Index := Scalar.indexCast v3386
  let c176_1167 : Index := 176#32
  ![0, v3489.toNat, 176]
def k0_off394 (k0_t3 : Fin k0_t3_loop.trips) : Fin 3 → Nat :=
  let c0_i32_1169 : BitVec 32 := 0#32
  let v3497 : Index := Scalar.indexCast c0_i32_1169
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3498 : Index := Scalar.indexCast v3386
  let c192_1170 : Index := 192#32
  ![0, v3498.toNat, 192]
def k0_off395 (k0_t3 : Fin k0_t3_loop.trips) : Fin 3 → Nat :=
  let c0_i32_1172 : BitVec 32 := 0#32
  let v3506 : Index := Scalar.indexCast c0_i32_1172
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3507 : Index := Scalar.indexCast v3386
  let c208_1173 : Index := 208#32
  ![0, v3507.toNat, 208]
def k0_off396 (k0_t3 : Fin k0_t3_loop.trips) : Fin 3 → Nat :=
  let c0_i32_1175 : BitVec 32 := 0#32
  let v3515 : Index := Scalar.indexCast c0_i32_1175
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3516 : Index := Scalar.indexCast v3386
  let c224_1176 : Index := 224#32
  ![0, v3516.toNat, 224]
def k0_off397 (k0_t3 : Fin k0_t3_loop.trips) : Fin 3 → Nat :=
  let c0_i32_1178 : BitVec 32 := 0#32
  let v3524 : Index := Scalar.indexCast c0_i32_1178
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3525 : Index := Scalar.indexCast v3386
  let c240_1179 : Index := 240#32
  ![0, v3525.toNat, 240]
def k0_off398 (k0_t3 : Fin k0_t3_loop.trips) : Fin 3 → Nat :=
  let c0_i32_1183 : BitVec 32 := 0#32
  let v3537 : Index := Scalar.indexCast c0_i32_1183
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3538 : Index := Scalar.indexCast v3534
  let c0_1184 : Index := 0#32
  ![0, v3538.toNat, 0]
def k0_off399 (v3536 : BitVec 32) (c0_i32_1185 : BitVec 32) : Fin 1 → Nat :=
  let v3542 : BitVec 32 := Scalar.addi v3536 c0_i32_1185
  let v3543 : Index := Scalar.indexCast v3542
  ![v3543.toNat]

def k0_chk25 (v3536 : BitVec 32) : Prop :=
  (∀ (r : Fin 16), ∀ a, (k0_off399 v3536 (BitVec.ofNat 32 (16 * r.val))) a + S16.size a ≤ S17408.size a)
theorem k0_off399_inb : ∀ (v3536 : BitVec 32) (k0_hw25 : k0_chk25 v3536), ∀ (r : Fin 16), ∀ a, (k0_off399 v3536 (BitVec.ofNat 32 (16 * r.val))) a + S16.size a ≤ S17408.size a := fun v3536 k0_hw25 r => k0_hw25 r

def k0_off400 (k0_t3 : Fin k0_t3_loop.trips) : Fin 3 → Nat :=
  let c0_i32_1186 : BitVec 32 := 0#32
  let v3546 : Index := Scalar.indexCast c0_i32_1186
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3547 : Index := Scalar.indexCast v3534
  let c16_1187 : Index := 16#32
  ![0, v3547.toNat, 16]
def k0_off401 (k0_t3 : Fin k0_t3_loop.trips) : Fin 3 → Nat :=
  let c0_i32_1189 : BitVec 32 := 0#32
  let v3555 : Index := Scalar.indexCast c0_i32_1189
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3556 : Index := Scalar.indexCast v3534
  let c32_1190 : Index := 32#32
  ![0, v3556.toNat, 32]
def k0_off402 (k0_t3 : Fin k0_t3_loop.trips) : Fin 3 → Nat :=
  let c0_i32_1192 : BitVec 32 := 0#32
  let v3564 : Index := Scalar.indexCast c0_i32_1192
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3565 : Index := Scalar.indexCast v3534
  let c48_1193 : Index := 48#32
  ![0, v3565.toNat, 48]
def k0_off403 (k0_t3 : Fin k0_t3_loop.trips) : Fin 3 → Nat :=
  let c0_i32_1195 : BitVec 32 := 0#32
  let v3573 : Index := Scalar.indexCast c0_i32_1195
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3574 : Index := Scalar.indexCast v3534
  let c64_1196 : Index := 64#32
  ![0, v3574.toNat, 64]
def k0_off404 (k0_t3 : Fin k0_t3_loop.trips) : Fin 3 → Nat :=
  let c0_i32_1198 : BitVec 32 := 0#32
  let v3582 : Index := Scalar.indexCast c0_i32_1198
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3583 : Index := Scalar.indexCast v3534
  let c80_1199 : Index := 80#32
  ![0, v3583.toNat, 80]
def k0_off405 (k0_t3 : Fin k0_t3_loop.trips) : Fin 3 → Nat :=
  let c0_i32_1201 : BitVec 32 := 0#32
  let v3591 : Index := Scalar.indexCast c0_i32_1201
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3592 : Index := Scalar.indexCast v3534
  let c96_1202 : Index := 96#32
  ![0, v3592.toNat, 96]
def k0_off406 (k0_t3 : Fin k0_t3_loop.trips) : Fin 3 → Nat :=
  let c0_i32_1204 : BitVec 32 := 0#32
  let v3600 : Index := Scalar.indexCast c0_i32_1204
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3601 : Index := Scalar.indexCast v3534
  let c112_1205 : Index := 112#32
  ![0, v3601.toNat, 112]
def k0_off407 (k0_t3 : Fin k0_t3_loop.trips) : Fin 3 → Nat :=
  let c0_i32_1207 : BitVec 32 := 0#32
  let v3609 : Index := Scalar.indexCast c0_i32_1207
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3610 : Index := Scalar.indexCast v3534
  let c128_1208 : Index := 128#32
  ![0, v3610.toNat, 128]
def k0_off408 (k0_t3 : Fin k0_t3_loop.trips) : Fin 3 → Nat :=
  let c0_i32_1210 : BitVec 32 := 0#32
  let v3618 : Index := Scalar.indexCast c0_i32_1210
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3619 : Index := Scalar.indexCast v3534
  let c144_1211 : Index := 144#32
  ![0, v3619.toNat, 144]
def k0_off409 (k0_t3 : Fin k0_t3_loop.trips) : Fin 3 → Nat :=
  let c0_i32_1213 : BitVec 32 := 0#32
  let v3627 : Index := Scalar.indexCast c0_i32_1213
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3628 : Index := Scalar.indexCast v3534
  let c160_1214 : Index := 160#32
  ![0, v3628.toNat, 160]
def k0_off410 (k0_t3 : Fin k0_t3_loop.trips) : Fin 3 → Nat :=
  let c0_i32_1216 : BitVec 32 := 0#32
  let v3636 : Index := Scalar.indexCast c0_i32_1216
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3637 : Index := Scalar.indexCast v3534
  let c176_1217 : Index := 176#32
  ![0, v3637.toNat, 176]
def k0_off411 (k0_t3 : Fin k0_t3_loop.trips) : Fin 3 → Nat :=
  let c0_i32_1219 : BitVec 32 := 0#32
  let v3645 : Index := Scalar.indexCast c0_i32_1219
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3646 : Index := Scalar.indexCast v3534
  let c192_1220 : Index := 192#32
  ![0, v3646.toNat, 192]
def k0_off412 (k0_t3 : Fin k0_t3_loop.trips) : Fin 3 → Nat :=
  let c0_i32_1222 : BitVec 32 := 0#32
  let v3654 : Index := Scalar.indexCast c0_i32_1222
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3655 : Index := Scalar.indexCast v3534
  let c208_1223 : Index := 208#32
  ![0, v3655.toNat, 208]
def k0_off413 (k0_t3 : Fin k0_t3_loop.trips) : Fin 3 → Nat :=
  let c0_i32_1225 : BitVec 32 := 0#32
  let v3663 : Index := Scalar.indexCast c0_i32_1225
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3664 : Index := Scalar.indexCast v3534
  let c224_1226 : Index := 224#32
  ![0, v3664.toNat, 224]
def k0_off414 (k0_t3 : Fin k0_t3_loop.trips) : Fin 3 → Nat :=
  let c0_i32_1228 : BitVec 32 := 0#32
  let v3672 : Index := Scalar.indexCast c0_i32_1228
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3673 : Index := Scalar.indexCast v3534
  let c240_1229 : Index := 240#32
  ![0, v3673.toNat, 240]
def k0_off415 (k0_t3 : Fin k0_t3_loop.trips) : Fin 3 → Nat :=
  let c0_i32_1233 : BitVec 32 := 0#32
  let v3685 : Index := Scalar.indexCast c0_i32_1233
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3686 : Index := Scalar.indexCast v3682
  let c0_1234 : Index := 0#32
  ![0, v3686.toNat, 0]
def k0_off416 (v3684 : BitVec 32) (c0_i32_1235 : BitVec 32) : Fin 1 → Nat :=
  let v3690 : BitVec 32 := Scalar.addi v3684 c0_i32_1235
  let v3691 : Index := Scalar.indexCast v3690
  ![v3691.toNat]

def k0_chk26 (v3684 : BitVec 32) : Prop :=
  (∀ (r : Fin 16), ∀ a, (k0_off416 v3684 (BitVec.ofNat 32 (16 * r.val))) a + S16.size a ≤ S17408.size a)
theorem k0_off416_inb : ∀ (v3684 : BitVec 32) (k0_hw26 : k0_chk26 v3684), ∀ (r : Fin 16), ∀ a, (k0_off416 v3684 (BitVec.ofNat 32 (16 * r.val))) a + S16.size a ≤ S17408.size a := fun v3684 k0_hw26 r => k0_hw26 r

def k0_off417 (k0_t3 : Fin k0_t3_loop.trips) : Fin 3 → Nat :=
  let c0_i32_1236 : BitVec 32 := 0#32
  let v3694 : Index := Scalar.indexCast c0_i32_1236
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3695 : Index := Scalar.indexCast v3682
  let c16_1237 : Index := 16#32
  ![0, v3695.toNat, 16]
def k0_off418 (k0_t3 : Fin k0_t3_loop.trips) : Fin 3 → Nat :=
  let c0_i32_1239 : BitVec 32 := 0#32
  let v3703 : Index := Scalar.indexCast c0_i32_1239
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3704 : Index := Scalar.indexCast v3682
  let c32_1240 : Index := 32#32
  ![0, v3704.toNat, 32]
def k0_off419 (k0_t3 : Fin k0_t3_loop.trips) : Fin 3 → Nat :=
  let c0_i32_1242 : BitVec 32 := 0#32
  let v3712 : Index := Scalar.indexCast c0_i32_1242
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3713 : Index := Scalar.indexCast v3682
  let c48_1243 : Index := 48#32
  ![0, v3713.toNat, 48]
def k0_off420 (k0_t3 : Fin k0_t3_loop.trips) : Fin 3 → Nat :=
  let c0_i32_1245 : BitVec 32 := 0#32
  let v3721 : Index := Scalar.indexCast c0_i32_1245
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3722 : Index := Scalar.indexCast v3682
  let c64_1246 : Index := 64#32
  ![0, v3722.toNat, 64]
def k0_off421 (k0_t3 : Fin k0_t3_loop.trips) : Fin 3 → Nat :=
  let c0_i32_1248 : BitVec 32 := 0#32
  let v3730 : Index := Scalar.indexCast c0_i32_1248
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3731 : Index := Scalar.indexCast v3682
  let c80_1249 : Index := 80#32
  ![0, v3731.toNat, 80]
def k0_off422 (k0_t3 : Fin k0_t3_loop.trips) : Fin 3 → Nat :=
  let c0_i32_1251 : BitVec 32 := 0#32
  let v3739 : Index := Scalar.indexCast c0_i32_1251
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3740 : Index := Scalar.indexCast v3682
  let c96_1252 : Index := 96#32
  ![0, v3740.toNat, 96]
def k0_off423 (k0_t3 : Fin k0_t3_loop.trips) : Fin 3 → Nat :=
  let c0_i32_1254 : BitVec 32 := 0#32
  let v3748 : Index := Scalar.indexCast c0_i32_1254
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3749 : Index := Scalar.indexCast v3682
  let c112_1255 : Index := 112#32
  ![0, v3749.toNat, 112]
def k0_off424 (k0_t3 : Fin k0_t3_loop.trips) : Fin 3 → Nat :=
  let c0_i32_1257 : BitVec 32 := 0#32
  let v3757 : Index := Scalar.indexCast c0_i32_1257
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3758 : Index := Scalar.indexCast v3682
  let c128_1258 : Index := 128#32
  ![0, v3758.toNat, 128]
def k0_off425 (k0_t3 : Fin k0_t3_loop.trips) : Fin 3 → Nat :=
  let c0_i32_1260 : BitVec 32 := 0#32
  let v3766 : Index := Scalar.indexCast c0_i32_1260
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3767 : Index := Scalar.indexCast v3682
  let c144_1261 : Index := 144#32
  ![0, v3767.toNat, 144]
def k0_off426 (k0_t3 : Fin k0_t3_loop.trips) : Fin 3 → Nat :=
  let c0_i32_1263 : BitVec 32 := 0#32
  let v3775 : Index := Scalar.indexCast c0_i32_1263
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3776 : Index := Scalar.indexCast v3682
  let c160_1264 : Index := 160#32
  ![0, v3776.toNat, 160]
def k0_off427 (k0_t3 : Fin k0_t3_loop.trips) : Fin 3 → Nat :=
  let c0_i32_1266 : BitVec 32 := 0#32
  let v3784 : Index := Scalar.indexCast c0_i32_1266
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3785 : Index := Scalar.indexCast v3682
  let c176_1267 : Index := 176#32
  ![0, v3785.toNat, 176]
def k0_off428 (k0_t3 : Fin k0_t3_loop.trips) : Fin 3 → Nat :=
  let c0_i32_1269 : BitVec 32 := 0#32
  let v3793 : Index := Scalar.indexCast c0_i32_1269
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3794 : Index := Scalar.indexCast v3682
  let c192_1270 : Index := 192#32
  ![0, v3794.toNat, 192]
def k0_off429 (k0_t3 : Fin k0_t3_loop.trips) : Fin 3 → Nat :=
  let c0_i32_1272 : BitVec 32 := 0#32
  let v3802 : Index := Scalar.indexCast c0_i32_1272
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3803 : Index := Scalar.indexCast v3682
  let c208_1273 : Index := 208#32
  ![0, v3803.toNat, 208]
def k0_off430 (k0_t3 : Fin k0_t3_loop.trips) : Fin 3 → Nat :=
  let c0_i32_1275 : BitVec 32 := 0#32
  let v3811 : Index := Scalar.indexCast c0_i32_1275
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3812 : Index := Scalar.indexCast v3682
  let c224_1276 : Index := 224#32
  ![0, v3812.toNat, 224]
def k0_off431 (k0_t3 : Fin k0_t3_loop.trips) : Fin 3 → Nat :=
  let c0_i32_1278 : BitVec 32 := 0#32
  let v3820 : Index := Scalar.indexCast c0_i32_1278
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3821 : Index := Scalar.indexCast v3682
  let c240_1279 : Index := 240#32
  ![0, v3821.toNat, 240]
def k0_off432 (k0_t3 : Fin k0_t3_loop.trips) : Fin 3 → Nat :=
  let c0_i32_1283 : BitVec 32 := 0#32
  let v3833 : Index := Scalar.indexCast c0_i32_1283
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3834 : Index := Scalar.indexCast v3830
  let c0_1284 : Index := 0#32
  ![0, v3834.toNat, 0]
def k0_off433 (v3832 : BitVec 32) (c0_i32_1285 : BitVec 32) : Fin 1 → Nat :=
  let v3838 : BitVec 32 := Scalar.addi v3832 c0_i32_1285
  let v3839 : Index := Scalar.indexCast v3838
  ![v3839.toNat]

def k0_chk27 (v3832 : BitVec 32) : Prop :=
  (∀ (r : Fin 16), ∀ a, (k0_off433 v3832 (BitVec.ofNat 32 (16 * r.val))) a + S16.size a ≤ S17408.size a)
theorem k0_off433_inb : ∀ (v3832 : BitVec 32) (k0_hw27 : k0_chk27 v3832), ∀ (r : Fin 16), ∀ a, (k0_off433 v3832 (BitVec.ofNat 32 (16 * r.val))) a + S16.size a ≤ S17408.size a := fun v3832 k0_hw27 r => k0_hw27 r

def k0_off434 (k0_t3 : Fin k0_t3_loop.trips) : Fin 3 → Nat :=
  let c0_i32_1286 : BitVec 32 := 0#32
  let v3842 : Index := Scalar.indexCast c0_i32_1286
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3843 : Index := Scalar.indexCast v3830
  let c16_1287 : Index := 16#32
  ![0, v3843.toNat, 16]
def k0_off435 (k0_t3 : Fin k0_t3_loop.trips) : Fin 3 → Nat :=
  let c0_i32_1289 : BitVec 32 := 0#32
  let v3851 : Index := Scalar.indexCast c0_i32_1289
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3852 : Index := Scalar.indexCast v3830
  let c32_1290 : Index := 32#32
  ![0, v3852.toNat, 32]
def k0_off436 (k0_t3 : Fin k0_t3_loop.trips) : Fin 3 → Nat :=
  let c0_i32_1292 : BitVec 32 := 0#32
  let v3860 : Index := Scalar.indexCast c0_i32_1292
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3861 : Index := Scalar.indexCast v3830
  let c48_1293 : Index := 48#32
  ![0, v3861.toNat, 48]
def k0_off437 (k0_t3 : Fin k0_t3_loop.trips) : Fin 3 → Nat :=
  let c0_i32_1295 : BitVec 32 := 0#32
  let v3869 : Index := Scalar.indexCast c0_i32_1295
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3870 : Index := Scalar.indexCast v3830
  let c64_1296 : Index := 64#32
  ![0, v3870.toNat, 64]
def k0_off438 (k0_t3 : Fin k0_t3_loop.trips) : Fin 3 → Nat :=
  let c0_i32_1298 : BitVec 32 := 0#32
  let v3878 : Index := Scalar.indexCast c0_i32_1298
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3879 : Index := Scalar.indexCast v3830
  let c80_1299 : Index := 80#32
  ![0, v3879.toNat, 80]
def k0_off439 (k0_t3 : Fin k0_t3_loop.trips) : Fin 3 → Nat :=
  let c0_i32_1301 : BitVec 32 := 0#32
  let v3887 : Index := Scalar.indexCast c0_i32_1301
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3888 : Index := Scalar.indexCast v3830
  let c96_1302 : Index := 96#32
  ![0, v3888.toNat, 96]
def k0_off440 (k0_t3 : Fin k0_t3_loop.trips) : Fin 3 → Nat :=
  let c0_i32_1304 : BitVec 32 := 0#32
  let v3896 : Index := Scalar.indexCast c0_i32_1304
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3897 : Index := Scalar.indexCast v3830
  let c112_1305 : Index := 112#32
  ![0, v3897.toNat, 112]
def k0_off441 (k0_t3 : Fin k0_t3_loop.trips) : Fin 3 → Nat :=
  let c0_i32_1307 : BitVec 32 := 0#32
  let v3905 : Index := Scalar.indexCast c0_i32_1307
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3906 : Index := Scalar.indexCast v3830
  let c128_1308 : Index := 128#32
  ![0, v3906.toNat, 128]
def k0_off442 (k0_t3 : Fin k0_t3_loop.trips) : Fin 3 → Nat :=
  let c0_i32_1310 : BitVec 32 := 0#32
  let v3914 : Index := Scalar.indexCast c0_i32_1310
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3915 : Index := Scalar.indexCast v3830
  let c144_1311 : Index := 144#32
  ![0, v3915.toNat, 144]
def k0_off443 (k0_t3 : Fin k0_t3_loop.trips) : Fin 3 → Nat :=
  let c0_i32_1313 : BitVec 32 := 0#32
  let v3923 : Index := Scalar.indexCast c0_i32_1313
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3924 : Index := Scalar.indexCast v3830
  let c160_1314 : Index := 160#32
  ![0, v3924.toNat, 160]
def k0_off444 (k0_t3 : Fin k0_t3_loop.trips) : Fin 3 → Nat :=
  let c0_i32_1316 : BitVec 32 := 0#32
  let v3932 : Index := Scalar.indexCast c0_i32_1316
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3933 : Index := Scalar.indexCast v3830
  let c176_1317 : Index := 176#32
  ![0, v3933.toNat, 176]
def k0_off445 (k0_t3 : Fin k0_t3_loop.trips) : Fin 3 → Nat :=
  let c0_i32_1319 : BitVec 32 := 0#32
  let v3941 : Index := Scalar.indexCast c0_i32_1319
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3942 : Index := Scalar.indexCast v3830
  let c192_1320 : Index := 192#32
  ![0, v3942.toNat, 192]
def k0_off446 (k0_t3 : Fin k0_t3_loop.trips) : Fin 3 → Nat :=
  let c0_i32_1322 : BitVec 32 := 0#32
  let v3950 : Index := Scalar.indexCast c0_i32_1322
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3951 : Index := Scalar.indexCast v3830
  let c208_1323 : Index := 208#32
  ![0, v3951.toNat, 208]
def k0_off447 (k0_t3 : Fin k0_t3_loop.trips) : Fin 3 → Nat :=
  let c0_i32_1325 : BitVec 32 := 0#32
  let v3959 : Index := Scalar.indexCast c0_i32_1325
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3960 : Index := Scalar.indexCast v3830
  let c224_1326 : Index := 224#32
  ![0, v3960.toNat, 224]
def k0_off448 (k0_t3 : Fin k0_t3_loop.trips) : Fin 3 → Nat :=
  let c0_i32_1328 : BitVec 32 := 0#32
  let v3968 : Index := Scalar.indexCast c0_i32_1328
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3969 : Index := Scalar.indexCast v3830
  let c240_1329 : Index := 240#32
  ![0, v3969.toNat, 240]
def k0_off449 (k0_t3 : Fin k0_t3_loop.trips) : Fin 3 → Nat :=
  let c0_i32_1333 : BitVec 32 := 0#32
  let v3981 : Index := Scalar.indexCast c0_i32_1333
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v3982 : Index := Scalar.indexCast v3978
  let c0_1334 : Index := 0#32
  ![0, v3982.toNat, 0]
def k0_off450 (v3980 : BitVec 32) (c0_i32_1335 : BitVec 32) : Fin 1 → Nat :=
  let v3986 : BitVec 32 := Scalar.addi v3980 c0_i32_1335
  let v3987 : Index := Scalar.indexCast v3986
  ![v3987.toNat]

def k0_chk28 (v3980 : BitVec 32) : Prop :=
  (∀ (r : Fin 16), ∀ a, (k0_off450 v3980 (BitVec.ofNat 32 (16 * r.val))) a + S16.size a ≤ S17408.size a)
theorem k0_off450_inb : ∀ (v3980 : BitVec 32) (k0_hw28 : k0_chk28 v3980), ∀ (r : Fin 16), ∀ a, (k0_off450 v3980 (BitVec.ofNat 32 (16 * r.val))) a + S16.size a ≤ S17408.size a := fun v3980 k0_hw28 r => k0_hw28 r

def k0_off451 (k0_t3 : Fin k0_t3_loop.trips) : Fin 3 → Nat :=
  let c0_i32_1336 : BitVec 32 := 0#32
  let v3990 : Index := Scalar.indexCast c0_i32_1336
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v3991 : Index := Scalar.indexCast v3978
  let c16_1337 : Index := 16#32
  ![0, v3991.toNat, 16]
def k0_off452 (k0_t3 : Fin k0_t3_loop.trips) : Fin 3 → Nat :=
  let c0_i32_1339 : BitVec 32 := 0#32
  let v3999 : Index := Scalar.indexCast c0_i32_1339
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4000 : Index := Scalar.indexCast v3978
  let c32_1340 : Index := 32#32
  ![0, v4000.toNat, 32]
def k0_off453 (k0_t3 : Fin k0_t3_loop.trips) : Fin 3 → Nat :=
  let c0_i32_1342 : BitVec 32 := 0#32
  let v4008 : Index := Scalar.indexCast c0_i32_1342
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4009 : Index := Scalar.indexCast v3978
  let c48_1343 : Index := 48#32
  ![0, v4009.toNat, 48]
def k0_off454 (k0_t3 : Fin k0_t3_loop.trips) : Fin 3 → Nat :=
  let c0_i32_1345 : BitVec 32 := 0#32
  let v4017 : Index := Scalar.indexCast c0_i32_1345
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4018 : Index := Scalar.indexCast v3978
  let c64_1346 : Index := 64#32
  ![0, v4018.toNat, 64]
def k0_off455 (k0_t3 : Fin k0_t3_loop.trips) : Fin 3 → Nat :=
  let c0_i32_1348 : BitVec 32 := 0#32
  let v4026 : Index := Scalar.indexCast c0_i32_1348
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4027 : Index := Scalar.indexCast v3978
  let c80_1349 : Index := 80#32
  ![0, v4027.toNat, 80]
def k0_off456 (k0_t3 : Fin k0_t3_loop.trips) : Fin 3 → Nat :=
  let c0_i32_1351 : BitVec 32 := 0#32
  let v4035 : Index := Scalar.indexCast c0_i32_1351
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4036 : Index := Scalar.indexCast v3978
  let c96_1352 : Index := 96#32
  ![0, v4036.toNat, 96]
def k0_off457 (k0_t3 : Fin k0_t3_loop.trips) : Fin 3 → Nat :=
  let c0_i32_1354 : BitVec 32 := 0#32
  let v4044 : Index := Scalar.indexCast c0_i32_1354
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4045 : Index := Scalar.indexCast v3978
  let c112_1355 : Index := 112#32
  ![0, v4045.toNat, 112]
def k0_off458 (k0_t3 : Fin k0_t3_loop.trips) : Fin 3 → Nat :=
  let c0_i32_1357 : BitVec 32 := 0#32
  let v4053 : Index := Scalar.indexCast c0_i32_1357
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4054 : Index := Scalar.indexCast v3978
  let c128_1358 : Index := 128#32
  ![0, v4054.toNat, 128]
def k0_off459 (k0_t3 : Fin k0_t3_loop.trips) : Fin 3 → Nat :=
  let c0_i32_1360 : BitVec 32 := 0#32
  let v4062 : Index := Scalar.indexCast c0_i32_1360
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4063 : Index := Scalar.indexCast v3978
  let c144_1361 : Index := 144#32
  ![0, v4063.toNat, 144]
def k0_off460 (k0_t3 : Fin k0_t3_loop.trips) : Fin 3 → Nat :=
  let c0_i32_1363 : BitVec 32 := 0#32
  let v4071 : Index := Scalar.indexCast c0_i32_1363
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4072 : Index := Scalar.indexCast v3978
  let c160_1364 : Index := 160#32
  ![0, v4072.toNat, 160]
def k0_off461 (k0_t3 : Fin k0_t3_loop.trips) : Fin 3 → Nat :=
  let c0_i32_1366 : BitVec 32 := 0#32
  let v4080 : Index := Scalar.indexCast c0_i32_1366
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4081 : Index := Scalar.indexCast v3978
  let c176_1367 : Index := 176#32
  ![0, v4081.toNat, 176]
def k0_off462 (k0_t3 : Fin k0_t3_loop.trips) : Fin 3 → Nat :=
  let c0_i32_1369 : BitVec 32 := 0#32
  let v4089 : Index := Scalar.indexCast c0_i32_1369
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4090 : Index := Scalar.indexCast v3978
  let c192_1370 : Index := 192#32
  ![0, v4090.toNat, 192]
def k0_off463 (k0_t3 : Fin k0_t3_loop.trips) : Fin 3 → Nat :=
  let c0_i32_1372 : BitVec 32 := 0#32
  let v4098 : Index := Scalar.indexCast c0_i32_1372
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4099 : Index := Scalar.indexCast v3978
  let c208_1373 : Index := 208#32
  ![0, v4099.toNat, 208]
def k0_off464 (k0_t3 : Fin k0_t3_loop.trips) : Fin 3 → Nat :=
  let c0_i32_1375 : BitVec 32 := 0#32
  let v4107 : Index := Scalar.indexCast c0_i32_1375
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4108 : Index := Scalar.indexCast v3978
  let c224_1376 : Index := 224#32
  ![0, v4108.toNat, 224]
def k0_off465 (k0_t3 : Fin k0_t3_loop.trips) : Fin 3 → Nat :=
  let c0_i32_1378 : BitVec 32 := 0#32
  let v4116 : Index := Scalar.indexCast c0_i32_1378
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4117 : Index := Scalar.indexCast v3978
  let c240_1379 : Index := 240#32
  ![0, v4117.toNat, 240]
def k0_off466 (k0_t3 : Fin k0_t3_loop.trips) : Fin 3 → Nat :=
  let c0_i32_1383 : BitVec 32 := 0#32
  let v4129 : Index := Scalar.indexCast c0_i32_1383
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4130 : Index := Scalar.indexCast v4126
  let c0_1384 : Index := 0#32
  ![0, v4130.toNat, 0]
def k0_off467 (v4128 : BitVec 32) (c0_i32_1385 : BitVec 32) : Fin 1 → Nat :=
  let v4134 : BitVec 32 := Scalar.addi v4128 c0_i32_1385
  let v4135 : Index := Scalar.indexCast v4134
  ![v4135.toNat]

def k0_chk29 (v4128 : BitVec 32) : Prop :=
  (∀ (r : Fin 16), ∀ a, (k0_off467 v4128 (BitVec.ofNat 32 (16 * r.val))) a + S16.size a ≤ S17408.size a)
theorem k0_off467_inb : ∀ (v4128 : BitVec 32) (k0_hw29 : k0_chk29 v4128), ∀ (r : Fin 16), ∀ a, (k0_off467 v4128 (BitVec.ofNat 32 (16 * r.val))) a + S16.size a ≤ S17408.size a := fun v4128 k0_hw29 r => k0_hw29 r

def k0_off468 (k0_t3 : Fin k0_t3_loop.trips) : Fin 3 → Nat :=
  let c0_i32_1386 : BitVec 32 := 0#32
  let v4138 : Index := Scalar.indexCast c0_i32_1386
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4139 : Index := Scalar.indexCast v4126
  let c16_1387 : Index := 16#32
  ![0, v4139.toNat, 16]
def k0_off469 (k0_t3 : Fin k0_t3_loop.trips) : Fin 3 → Nat :=
  let c0_i32_1389 : BitVec 32 := 0#32
  let v4147 : Index := Scalar.indexCast c0_i32_1389
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4148 : Index := Scalar.indexCast v4126
  let c32_1390 : Index := 32#32
  ![0, v4148.toNat, 32]
def k0_off470 (k0_t3 : Fin k0_t3_loop.trips) : Fin 3 → Nat :=
  let c0_i32_1392 : BitVec 32 := 0#32
  let v4156 : Index := Scalar.indexCast c0_i32_1392
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4157 : Index := Scalar.indexCast v4126
  let c48_1393 : Index := 48#32
  ![0, v4157.toNat, 48]
def k0_off471 (k0_t3 : Fin k0_t3_loop.trips) : Fin 3 → Nat :=
  let c0_i32_1395 : BitVec 32 := 0#32
  let v4165 : Index := Scalar.indexCast c0_i32_1395
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4166 : Index := Scalar.indexCast v4126
  let c64_1396 : Index := 64#32
  ![0, v4166.toNat, 64]
def k0_off472 (k0_t3 : Fin k0_t3_loop.trips) : Fin 3 → Nat :=
  let c0_i32_1398 : BitVec 32 := 0#32
  let v4174 : Index := Scalar.indexCast c0_i32_1398
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4175 : Index := Scalar.indexCast v4126
  let c80_1399 : Index := 80#32
  ![0, v4175.toNat, 80]
def k0_off473 (k0_t3 : Fin k0_t3_loop.trips) : Fin 3 → Nat :=
  let c0_i32_1401 : BitVec 32 := 0#32
  let v4183 : Index := Scalar.indexCast c0_i32_1401
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4184 : Index := Scalar.indexCast v4126
  let c96_1402 : Index := 96#32
  ![0, v4184.toNat, 96]
def k0_off474 (k0_t3 : Fin k0_t3_loop.trips) : Fin 3 → Nat :=
  let c0_i32_1404 : BitVec 32 := 0#32
  let v4192 : Index := Scalar.indexCast c0_i32_1404
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4193 : Index := Scalar.indexCast v4126
  let c112_1405 : Index := 112#32
  ![0, v4193.toNat, 112]
def k0_off475 (k0_t3 : Fin k0_t3_loop.trips) : Fin 3 → Nat :=
  let c0_i32_1407 : BitVec 32 := 0#32
  let v4201 : Index := Scalar.indexCast c0_i32_1407
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4202 : Index := Scalar.indexCast v4126
  let c128_1408 : Index := 128#32
  ![0, v4202.toNat, 128]
def k0_off476 (k0_t3 : Fin k0_t3_loop.trips) : Fin 3 → Nat :=
  let c0_i32_1410 : BitVec 32 := 0#32
  let v4210 : Index := Scalar.indexCast c0_i32_1410
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4211 : Index := Scalar.indexCast v4126
  let c144_1411 : Index := 144#32
  ![0, v4211.toNat, 144]
def k0_off477 (k0_t3 : Fin k0_t3_loop.trips) : Fin 3 → Nat :=
  let c0_i32_1413 : BitVec 32 := 0#32
  let v4219 : Index := Scalar.indexCast c0_i32_1413
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4220 : Index := Scalar.indexCast v4126
  let c160_1414 : Index := 160#32
  ![0, v4220.toNat, 160]
def k0_off478 (k0_t3 : Fin k0_t3_loop.trips) : Fin 3 → Nat :=
  let c0_i32_1416 : BitVec 32 := 0#32
  let v4228 : Index := Scalar.indexCast c0_i32_1416
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4229 : Index := Scalar.indexCast v4126
  let c176_1417 : Index := 176#32
  ![0, v4229.toNat, 176]
def k0_off479 (k0_t3 : Fin k0_t3_loop.trips) : Fin 3 → Nat :=
  let c0_i32_1419 : BitVec 32 := 0#32
  let v4237 : Index := Scalar.indexCast c0_i32_1419
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4238 : Index := Scalar.indexCast v4126
  let c192_1420 : Index := 192#32
  ![0, v4238.toNat, 192]
def k0_off480 (k0_t3 : Fin k0_t3_loop.trips) : Fin 3 → Nat :=
  let c0_i32_1422 : BitVec 32 := 0#32
  let v4246 : Index := Scalar.indexCast c0_i32_1422
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4247 : Index := Scalar.indexCast v4126
  let c208_1423 : Index := 208#32
  ![0, v4247.toNat, 208]
def k0_off481 (k0_t3 : Fin k0_t3_loop.trips) : Fin 3 → Nat :=
  let c0_i32_1425 : BitVec 32 := 0#32
  let v4255 : Index := Scalar.indexCast c0_i32_1425
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4256 : Index := Scalar.indexCast v4126
  let c224_1426 : Index := 224#32
  ![0, v4256.toNat, 224]
def k0_off482 (k0_t3 : Fin k0_t3_loop.trips) : Fin 3 → Nat :=
  let c0_i32_1428 : BitVec 32 := 0#32
  let v4264 : Index := Scalar.indexCast c0_i32_1428
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4265 : Index := Scalar.indexCast v4126
  let c240_1429 : Index := 240#32
  ![0, v4265.toNat, 240]
def k0_off483 (k0_t3 : Fin k0_t3_loop.trips) : Fin 3 → Nat :=
  let c0_i32_1433 : BitVec 32 := 0#32
  let v4277 : Index := Scalar.indexCast c0_i32_1433
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4278 : Index := Scalar.indexCast v4274
  let c0_1434 : Index := 0#32
  ![0, v4278.toNat, 0]
def k0_off484 (v4276 : BitVec 32) (c0_i32_1435 : BitVec 32) : Fin 1 → Nat :=
  let v4282 : BitVec 32 := Scalar.addi v4276 c0_i32_1435
  let v4283 : Index := Scalar.indexCast v4282
  ![v4283.toNat]

def k0_chk30 (v4276 : BitVec 32) : Prop :=
  (∀ (r : Fin 16), ∀ a, (k0_off484 v4276 (BitVec.ofNat 32 (16 * r.val))) a + S16.size a ≤ S17408.size a)
theorem k0_off484_inb : ∀ (v4276 : BitVec 32) (k0_hw30 : k0_chk30 v4276), ∀ (r : Fin 16), ∀ a, (k0_off484 v4276 (BitVec.ofNat 32 (16 * r.val))) a + S16.size a ≤ S17408.size a := fun v4276 k0_hw30 r => k0_hw30 r

def k0_off485 (k0_t3 : Fin k0_t3_loop.trips) : Fin 3 → Nat :=
  let c0_i32_1436 : BitVec 32 := 0#32
  let v4286 : Index := Scalar.indexCast c0_i32_1436
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4287 : Index := Scalar.indexCast v4274
  let c16_1437 : Index := 16#32
  ![0, v4287.toNat, 16]
def k0_off486 (k0_t3 : Fin k0_t3_loop.trips) : Fin 3 → Nat :=
  let c0_i32_1439 : BitVec 32 := 0#32
  let v4295 : Index := Scalar.indexCast c0_i32_1439
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4296 : Index := Scalar.indexCast v4274
  let c32_1440 : Index := 32#32
  ![0, v4296.toNat, 32]
def k0_off487 (k0_t3 : Fin k0_t3_loop.trips) : Fin 3 → Nat :=
  let c0_i32_1442 : BitVec 32 := 0#32
  let v4304 : Index := Scalar.indexCast c0_i32_1442
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4305 : Index := Scalar.indexCast v4274
  let c48_1443 : Index := 48#32
  ![0, v4305.toNat, 48]
def k0_off488 (k0_t3 : Fin k0_t3_loop.trips) : Fin 3 → Nat :=
  let c0_i32_1445 : BitVec 32 := 0#32
  let v4313 : Index := Scalar.indexCast c0_i32_1445
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4314 : Index := Scalar.indexCast v4274
  let c64_1446 : Index := 64#32
  ![0, v4314.toNat, 64]
def k0_off489 (k0_t3 : Fin k0_t3_loop.trips) : Fin 3 → Nat :=
  let c0_i32_1448 : BitVec 32 := 0#32
  let v4322 : Index := Scalar.indexCast c0_i32_1448
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4323 : Index := Scalar.indexCast v4274
  let c80_1449 : Index := 80#32
  ![0, v4323.toNat, 80]
def k0_off490 (k0_t3 : Fin k0_t3_loop.trips) : Fin 3 → Nat :=
  let c0_i32_1451 : BitVec 32 := 0#32
  let v4331 : Index := Scalar.indexCast c0_i32_1451
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4332 : Index := Scalar.indexCast v4274
  let c96_1452 : Index := 96#32
  ![0, v4332.toNat, 96]
def k0_off491 (k0_t3 : Fin k0_t3_loop.trips) : Fin 3 → Nat :=
  let c0_i32_1454 : BitVec 32 := 0#32
  let v4340 : Index := Scalar.indexCast c0_i32_1454
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4341 : Index := Scalar.indexCast v4274
  let c112_1455 : Index := 112#32
  ![0, v4341.toNat, 112]
def k0_off492 (k0_t3 : Fin k0_t3_loop.trips) : Fin 3 → Nat :=
  let c0_i32_1457 : BitVec 32 := 0#32
  let v4349 : Index := Scalar.indexCast c0_i32_1457
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4350 : Index := Scalar.indexCast v4274
  let c128_1458 : Index := 128#32
  ![0, v4350.toNat, 128]
def k0_off493 (k0_t3 : Fin k0_t3_loop.trips) : Fin 3 → Nat :=
  let c0_i32_1460 : BitVec 32 := 0#32
  let v4358 : Index := Scalar.indexCast c0_i32_1460
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4359 : Index := Scalar.indexCast v4274
  let c144_1461 : Index := 144#32
  ![0, v4359.toNat, 144]
def k0_off494 (k0_t3 : Fin k0_t3_loop.trips) : Fin 3 → Nat :=
  let c0_i32_1463 : BitVec 32 := 0#32
  let v4367 : Index := Scalar.indexCast c0_i32_1463
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4368 : Index := Scalar.indexCast v4274
  let c160_1464 : Index := 160#32
  ![0, v4368.toNat, 160]
def k0_off495 (k0_t3 : Fin k0_t3_loop.trips) : Fin 3 → Nat :=
  let c0_i32_1466 : BitVec 32 := 0#32
  let v4376 : Index := Scalar.indexCast c0_i32_1466
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4377 : Index := Scalar.indexCast v4274
  let c176_1467 : Index := 176#32
  ![0, v4377.toNat, 176]
def k0_off496 (k0_t3 : Fin k0_t3_loop.trips) : Fin 3 → Nat :=
  let c0_i32_1469 : BitVec 32 := 0#32
  let v4385 : Index := Scalar.indexCast c0_i32_1469
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4386 : Index := Scalar.indexCast v4274
  let c192_1470 : Index := 192#32
  ![0, v4386.toNat, 192]
def k0_off497 (k0_t3 : Fin k0_t3_loop.trips) : Fin 3 → Nat :=
  let c0_i32_1472 : BitVec 32 := 0#32
  let v4394 : Index := Scalar.indexCast c0_i32_1472
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4395 : Index := Scalar.indexCast v4274
  let c208_1473 : Index := 208#32
  ![0, v4395.toNat, 208]
def k0_off498 (k0_t3 : Fin k0_t3_loop.trips) : Fin 3 → Nat :=
  let c0_i32_1475 : BitVec 32 := 0#32
  let v4403 : Index := Scalar.indexCast c0_i32_1475
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4404 : Index := Scalar.indexCast v4274
  let c224_1476 : Index := 224#32
  ![0, v4404.toNat, 224]
def k0_off499 (k0_t3 : Fin k0_t3_loop.trips) : Fin 3 → Nat :=
  let c0_i32_1478 : BitVec 32 := 0#32
  let v4412 : Index := Scalar.indexCast c0_i32_1478
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4413 : Index := Scalar.indexCast v4274
  let c240_1479 : Index := 240#32
  ![0, v4413.toNat, 240]
def k0_off500 (k0_t3 : Fin k0_t3_loop.trips) : Fin 3 → Nat :=
  let c0_i32_1483 : BitVec 32 := 0#32
  let v4425 : Index := Scalar.indexCast c0_i32_1483
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4426 : Index := Scalar.indexCast v4422
  let c0_1484 : Index := 0#32
  ![0, v4426.toNat, 0]
def k0_off501 (v4424 : BitVec 32) (c0_i32_1485 : BitVec 32) : Fin 1 → Nat :=
  let v4430 : BitVec 32 := Scalar.addi v4424 c0_i32_1485
  let v4431 : Index := Scalar.indexCast v4430
  ![v4431.toNat]

def k0_chk31 (v4424 : BitVec 32) : Prop :=
  (∀ (r : Fin 16), ∀ a, (k0_off501 v4424 (BitVec.ofNat 32 (16 * r.val))) a + S16.size a ≤ S17408.size a)
theorem k0_off501_inb : ∀ (v4424 : BitVec 32) (k0_hw31 : k0_chk31 v4424), ∀ (r : Fin 16), ∀ a, (k0_off501 v4424 (BitVec.ofNat 32 (16 * r.val))) a + S16.size a ≤ S17408.size a := fun v4424 k0_hw31 r => k0_hw31 r

def k0_off502 (k0_t3 : Fin k0_t3_loop.trips) : Fin 3 → Nat :=
  let c0_i32_1486 : BitVec 32 := 0#32
  let v4434 : Index := Scalar.indexCast c0_i32_1486
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4435 : Index := Scalar.indexCast v4422
  let c16_1487 : Index := 16#32
  ![0, v4435.toNat, 16]
def k0_off503 (k0_t3 : Fin k0_t3_loop.trips) : Fin 3 → Nat :=
  let c0_i32_1489 : BitVec 32 := 0#32
  let v4443 : Index := Scalar.indexCast c0_i32_1489
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4444 : Index := Scalar.indexCast v4422
  let c32_1490 : Index := 32#32
  ![0, v4444.toNat, 32]
def k0_off504 (k0_t3 : Fin k0_t3_loop.trips) : Fin 3 → Nat :=
  let c0_i32_1492 : BitVec 32 := 0#32
  let v4452 : Index := Scalar.indexCast c0_i32_1492
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4453 : Index := Scalar.indexCast v4422
  let c48_1493 : Index := 48#32
  ![0, v4453.toNat, 48]
def k0_off505 (k0_t3 : Fin k0_t3_loop.trips) : Fin 3 → Nat :=
  let c0_i32_1495 : BitVec 32 := 0#32
  let v4461 : Index := Scalar.indexCast c0_i32_1495
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4462 : Index := Scalar.indexCast v4422
  let c64_1496 : Index := 64#32
  ![0, v4462.toNat, 64]
def k0_off506 (k0_t3 : Fin k0_t3_loop.trips) : Fin 3 → Nat :=
  let c0_i32_1498 : BitVec 32 := 0#32
  let v4470 : Index := Scalar.indexCast c0_i32_1498
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4471 : Index := Scalar.indexCast v4422
  let c80_1499 : Index := 80#32
  ![0, v4471.toNat, 80]
def k0_off507 (k0_t3 : Fin k0_t3_loop.trips) : Fin 3 → Nat :=
  let c0_i32_1501 : BitVec 32 := 0#32
  let v4479 : Index := Scalar.indexCast c0_i32_1501
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4480 : Index := Scalar.indexCast v4422
  let c96_1502 : Index := 96#32
  ![0, v4480.toNat, 96]
def k0_off508 (k0_t3 : Fin k0_t3_loop.trips) : Fin 3 → Nat :=
  let c0_i32_1504 : BitVec 32 := 0#32
  let v4488 : Index := Scalar.indexCast c0_i32_1504
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4489 : Index := Scalar.indexCast v4422
  let c112_1505 : Index := 112#32
  ![0, v4489.toNat, 112]
def k0_off509 (k0_t3 : Fin k0_t3_loop.trips) : Fin 3 → Nat :=
  let c0_i32_1507 : BitVec 32 := 0#32
  let v4497 : Index := Scalar.indexCast c0_i32_1507
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4498 : Index := Scalar.indexCast v4422
  let c128_1508 : Index := 128#32
  ![0, v4498.toNat, 128]
def k0_off510 (k0_t3 : Fin k0_t3_loop.trips) : Fin 3 → Nat :=
  let c0_i32_1510 : BitVec 32 := 0#32
  let v4506 : Index := Scalar.indexCast c0_i32_1510
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4507 : Index := Scalar.indexCast v4422
  let c144_1511 : Index := 144#32
  ![0, v4507.toNat, 144]
def k0_off511 (k0_t3 : Fin k0_t3_loop.trips) : Fin 3 → Nat :=
  let c0_i32_1513 : BitVec 32 := 0#32
  let v4515 : Index := Scalar.indexCast c0_i32_1513
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4516 : Index := Scalar.indexCast v4422
  let c160_1514 : Index := 160#32
  ![0, v4516.toNat, 160]
def k0_off512 (k0_t3 : Fin k0_t3_loop.trips) : Fin 3 → Nat :=
  let c0_i32_1516 : BitVec 32 := 0#32
  let v4524 : Index := Scalar.indexCast c0_i32_1516
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4525 : Index := Scalar.indexCast v4422
  let c176_1517 : Index := 176#32
  ![0, v4525.toNat, 176]
def k0_off513 (k0_t3 : Fin k0_t3_loop.trips) : Fin 3 → Nat :=
  let c0_i32_1519 : BitVec 32 := 0#32
  let v4533 : Index := Scalar.indexCast c0_i32_1519
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4534 : Index := Scalar.indexCast v4422
  let c192_1520 : Index := 192#32
  ![0, v4534.toNat, 192]
def k0_off514 (k0_t3 : Fin k0_t3_loop.trips) : Fin 3 → Nat :=
  let c0_i32_1522 : BitVec 32 := 0#32
  let v4542 : Index := Scalar.indexCast c0_i32_1522
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4543 : Index := Scalar.indexCast v4422
  let c208_1523 : Index := 208#32
  ![0, v4543.toNat, 208]
def k0_off515 (k0_t3 : Fin k0_t3_loop.trips) : Fin 3 → Nat :=
  let c0_i32_1525 : BitVec 32 := 0#32
  let v4551 : Index := Scalar.indexCast c0_i32_1525
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4552 : Index := Scalar.indexCast v4422
  let c224_1526 : Index := 224#32
  ![0, v4552.toNat, 224]
def k0_off516 (k0_t3 : Fin k0_t3_loop.trips) : Fin 3 → Nat :=
  let c0_i32_1528 : BitVec 32 := 0#32
  let v4560 : Index := Scalar.indexCast c0_i32_1528
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4561 : Index := Scalar.indexCast v4422
  let c240_1529 : Index := 240#32
  ![0, v4561.toNat, 240]
def k0_off517 (k0_t3 : Fin k0_t3_loop.trips) : Fin 3 → Nat :=
  let c0_i32_1533 : BitVec 32 := 0#32
  let v4573 : Index := Scalar.indexCast c0_i32_1533
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let c14_i32_1532 : BitVec 32 := 14#32
  let v4570 : BitVec 32 := Scalar.addi v4569 c14_i32_1532
  let v4574 : Index := Scalar.indexCast v4570
  let c0_1534 : Index := 0#32
  ![0, v4574.toNat, 0]
def k0_off518 (v4572 : BitVec 32) (c0_i32_1535 : BitVec 32) : Fin 1 → Nat :=
  let v4578 : BitVec 32 := Scalar.addi v4572 c0_i32_1535
  let v4579 : Index := Scalar.indexCast v4578
  ![v4579.toNat]

def k0_chk32 (v4572 : BitVec 32) : Prop :=
  (∀ (r : Fin 16), ∀ a, (k0_off518 v4572 (BitVec.ofNat 32 (16 * r.val))) a + S16.size a ≤ S17408.size a)
theorem k0_off518_inb : ∀ (v4572 : BitVec 32) (k0_hw32 : k0_chk32 v4572), ∀ (r : Fin 16), ∀ a, (k0_off518 v4572 (BitVec.ofNat 32 (16 * r.val))) a + S16.size a ≤ S17408.size a := fun v4572 k0_hw32 r => k0_hw32 r

def k0_off519 (k0_t3 : Fin k0_t3_loop.trips) (c14_i32_1532 : BitVec 32) : Fin 3 → Nat :=
  let c0_i32_1536 : BitVec 32 := 0#32
  let v4582 : Index := Scalar.indexCast c0_i32_1536
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4583 : Index := Scalar.indexCast v4570
  let c16_1537 : Index := 16#32
  ![0, v4583.toNat, 16]
def k0_off520 (k0_t3 : Fin k0_t3_loop.trips) (c14_i32_1532 : BitVec 32) : Fin 3 → Nat :=
  let c0_i32_1539 : BitVec 32 := 0#32
  let v4591 : Index := Scalar.indexCast c0_i32_1539
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4592 : Index := Scalar.indexCast v4570
  let c32_1540 : Index := 32#32
  ![0, v4592.toNat, 32]
def k0_off521 (k0_t3 : Fin k0_t3_loop.trips) (c14_i32_1532 : BitVec 32) : Fin 3 → Nat :=
  let c0_i32_1542 : BitVec 32 := 0#32
  let v4600 : Index := Scalar.indexCast c0_i32_1542
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4601 : Index := Scalar.indexCast v4570
  let c48_1543 : Index := 48#32
  ![0, v4601.toNat, 48]
def k0_off522 (k0_t3 : Fin k0_t3_loop.trips) (c14_i32_1532 : BitVec 32) : Fin 3 → Nat :=
  let c0_i32_1545 : BitVec 32 := 0#32
  let v4609 : Index := Scalar.indexCast c0_i32_1545
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4610 : Index := Scalar.indexCast v4570
  let c64_1546 : Index := 64#32
  ![0, v4610.toNat, 64]
def k0_off523 (k0_t3 : Fin k0_t3_loop.trips) (c14_i32_1532 : BitVec 32) : Fin 3 → Nat :=
  let c0_i32_1548 : BitVec 32 := 0#32
  let v4618 : Index := Scalar.indexCast c0_i32_1548
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4619 : Index := Scalar.indexCast v4570
  let c80_1549 : Index := 80#32
  ![0, v4619.toNat, 80]
def k0_off524 (k0_t3 : Fin k0_t3_loop.trips) (c14_i32_1532 : BitVec 32) : Fin 3 → Nat :=
  let c0_i32_1551 : BitVec 32 := 0#32
  let v4627 : Index := Scalar.indexCast c0_i32_1551
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4628 : Index := Scalar.indexCast v4570
  let c96_1552 : Index := 96#32
  ![0, v4628.toNat, 96]
def k0_off525 (k0_t3 : Fin k0_t3_loop.trips) (c14_i32_1532 : BitVec 32) : Fin 3 → Nat :=
  let c0_i32_1554 : BitVec 32 := 0#32
  let v4636 : Index := Scalar.indexCast c0_i32_1554
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4637 : Index := Scalar.indexCast v4570
  let c112_1555 : Index := 112#32
  ![0, v4637.toNat, 112]
def k0_off526 (k0_t3 : Fin k0_t3_loop.trips) (c14_i32_1532 : BitVec 32) : Fin 3 → Nat :=
  let c0_i32_1557 : BitVec 32 := 0#32
  let v4645 : Index := Scalar.indexCast c0_i32_1557
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4646 : Index := Scalar.indexCast v4570
  let c128_1558 : Index := 128#32
  ![0, v4646.toNat, 128]
def k0_off527 (k0_t3 : Fin k0_t3_loop.trips) (c14_i32_1532 : BitVec 32) : Fin 3 → Nat :=
  let c0_i32_1560 : BitVec 32 := 0#32
  let v4654 : Index := Scalar.indexCast c0_i32_1560
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4655 : Index := Scalar.indexCast v4570
  let c144_1561 : Index := 144#32
  ![0, v4655.toNat, 144]
def k0_off528 (k0_t3 : Fin k0_t3_loop.trips) (c14_i32_1532 : BitVec 32) : Fin 3 → Nat :=
  let c0_i32_1563 : BitVec 32 := 0#32
  let v4663 : Index := Scalar.indexCast c0_i32_1563
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4664 : Index := Scalar.indexCast v4570
  let c160_1564 : Index := 160#32
  ![0, v4664.toNat, 160]
def k0_off529 (k0_t3 : Fin k0_t3_loop.trips) (c14_i32_1532 : BitVec 32) : Fin 3 → Nat :=
  let c0_i32_1566 : BitVec 32 := 0#32
  let v4672 : Index := Scalar.indexCast c0_i32_1566
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4673 : Index := Scalar.indexCast v4570
  let c176_1567 : Index := 176#32
  ![0, v4673.toNat, 176]
def k0_off530 (k0_t3 : Fin k0_t3_loop.trips) (c14_i32_1532 : BitVec 32) : Fin 3 → Nat :=
  let c0_i32_1569 : BitVec 32 := 0#32
  let v4681 : Index := Scalar.indexCast c0_i32_1569
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4682 : Index := Scalar.indexCast v4570
  let c192_1570 : Index := 192#32
  ![0, v4682.toNat, 192]
def k0_off531 (k0_t3 : Fin k0_t3_loop.trips) (c14_i32_1532 : BitVec 32) : Fin 3 → Nat :=
  let c0_i32_1572 : BitVec 32 := 0#32
  let v4690 : Index := Scalar.indexCast c0_i32_1572
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4691 : Index := Scalar.indexCast v4570
  let c208_1573 : Index := 208#32
  ![0, v4691.toNat, 208]
def k0_off532 (k0_t3 : Fin k0_t3_loop.trips) (c14_i32_1532 : BitVec 32) : Fin 3 → Nat :=
  let c0_i32_1575 : BitVec 32 := 0#32
  let v4699 : Index := Scalar.indexCast c0_i32_1575
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4700 : Index := Scalar.indexCast v4570
  let c224_1576 : Index := 224#32
  ![0, v4700.toNat, 224]
def k0_off533 (k0_t3 : Fin k0_t3_loop.trips) (c14_i32_1532 : BitVec 32) : Fin 3 → Nat :=
  let c0_i32_1578 : BitVec 32 := 0#32
  let v4708 : Index := Scalar.indexCast c0_i32_1578
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4709 : Index := Scalar.indexCast v4570
  let c240_1579 : Index := 240#32
  ![0, v4709.toNat, 240]
def k0_off534 (k0_t3 : Fin k0_t3_loop.trips) : Fin 3 → Nat :=
  let c0_i32_1583 : BitVec 32 := 0#32
  let v4719 : Index := Scalar.indexCast c0_i32_1583
  let c0_i32_25 : BitVec 32 := 0#32
  let c1_i32_26 : BitVec 32 := 1#32
  let arg11 : BitVec 32 := Scf.iv c0_i32_25 c1_i32_26 k0_t3
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1581 : BitVec 32 := 16#32
  let v4717 : BitVec 32 := Scalar.muli v2343 c16_i32_1581
  let c15_i32_1582 : BitVec 32 := 15#32
  let v4718 : BitVec 32 := Scalar.addi v4717 c15_i32_1582
  let v4720 : Index := Scalar.indexCast v4718
  let c0_1584 : Index := 0#32
  ![0, v4720.toNat, 0]
def k0_off535 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let c128_i32 : BitVec 32 := 128#32
  let v25 : BitVec 32 := Scalar.muli v19 c128_i32
  let v26 : BitVec 32 := Scalar.addi v2 v25
  let c0_i32_31 : BitVec 32 := 0#32
  ![v26.toNat, 0]
def k0_cond2 (k0_t2 : Fin k0_t2_loop.trips) : BitVec 1 :=
  let c0_i32_3 : BitVec 32 := 0#32
  let c1_i32_4 : BitVec 32 := 1#32
  let arg10 : BitVec 32 := Scf.iv c0_i32_3 c1_i32_4 k0_t2
  let c0_i32_35 : BitVec 32 := 0#32
  let v33 : BitVec 1 := Scalar.cmpi .sgt arg10 c0_i32_35
  let v34 : BitVec 32 := Scalar.extui v33
  let c0_i32_36 : BitVec 32 := 0#32
  let v35 : BitVec 1 := Scalar.cmpi .ne v34 c0_i32_36
  v35

def k0_off536 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let c1_i32_21 : BitVec 32 := 1#32
  let v20 : BitVec 32 := Scalar.addi v19 c1_i32_21
  let c2_i32_50 : BitVec 32 := 2#32
  let v45 : BitVec 32 := Scalar.subi v20 c2_i32_50
  let c128_i32_51 : BitVec 32 := 128#32
  let v46 : BitVec 32 := Scalar.muli v45 c128_i32_51
  let v47 : BitVec 32 := Scalar.addi v2 v46
  let c0_i32_55 : BitVec 32 := 0#32
  ![v47.toNat, 0]
@[reducible] def k0_t4_loop : Scf.Loop 32 :=
  let c0_i32_38 : BitVec 32 := 0#32
  let c4_i32_39 : BitVec 32 := 4#32
  let v36 : BitVec 32 := Scalar.addi c0_i32_38 c4_i32_39
  let c1_i32_40 : BitVec 32 := 1#32
  ⟨c0_i32_38, v36, c1_i32_40⟩
def k0_off537 (k0_t2 : Fin k0_t2_loop.trips) (k0_t4 : Fin k0_t4_loop.trips) : Fin 2 → Nat :=
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let c1_i32_21 : BitVec 32 := 1#32
  let v20 : BitVec 32 := Scalar.addi v19 c1_i32_21
  let v48 : Index := Scalar.indexCast v20
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32 : BitVec 32 := 16#32
  let v47 : BitVec 32 := Scalar.muli v46 c16_i32
  let v49 : Index := Scalar.indexCast v47
  ![v48.toNat, v49.toNat]
def k0_off538 (v55 : BitVec 32) (c0_i32_52 : BitVec 32) : Fin 1 → Nat :=
  let v56 : BitVec 32 := Scalar.addi v55 c0_i32_52
  let v57 : Index := Scalar.indexCast v56
  ![v57.toNat]

def k0_chk33 (v55 : BitVec 32) : Prop :=
  (∀ (r : Fin 16), ∀ a, (k0_off538 v55 (BitVec.ofNat 32 (16 * r.val))) a + S16.size a ≤ S17408.size a)
theorem k0_off538_inb : ∀ (v55 : BitVec 32) (k0_hw33 : k0_chk33 v55), ∀ (r : Fin 16), ∀ a, (k0_off538 v55 (BitVec.ofNat 32 (16 * r.val))) a + S16.size a ≤ S17408.size a := fun v55 k0_hw33 r => k0_hw33 r

def k0_off539 (k0_t4 : Fin k0_t4_loop.trips) : Fin 3 → Nat :=
  let c1_i32_57 : BitVec 32 := 1#32
  let v124 : Index := Scalar.indexCast c1_i32_57
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v125 : Index := Scalar.indexCast v121
  let c0 : Index := 0#32
  ![1, v125.toNat, 0]
def k0_off540 (v123 : BitVec 32) (c0_i32_58 : BitVec 32) : Fin 1 → Nat :=
  let v129 : BitVec 32 := Scalar.addi v123 c0_i32_58
  let v130 : Index := Scalar.indexCast v129
  ![v130.toNat]

def k0_chk34 (v123 : BitVec 32) : Prop :=
  (∀ (r : Fin 16), ∀ a, (k0_off540 v123 (BitVec.ofNat 32 (16 * r.val))) a + S16.size a ≤ S17408.size a)
theorem k0_off540_inb : ∀ (v123 : BitVec 32) (k0_hw34 : k0_chk34 v123), ∀ (r : Fin 16), ∀ a, (k0_off540 v123 (BitVec.ofNat 32 (16 * r.val))) a + S16.size a ≤ S17408.size a := fun v123 k0_hw34 r => k0_hw34 r

def k0_off541 (k0_t4 : Fin k0_t4_loop.trips) : Fin 3 → Nat :=
  let c1_i32_59 : BitVec 32 := 1#32
  let v133 : Index := Scalar.indexCast c1_i32_59
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v134 : Index := Scalar.indexCast v121
  let c16 : Index := 16#32
  ![1, v134.toNat, 16]
def k0_off542 (k0_t4 : Fin k0_t4_loop.trips) : Fin 3 → Nat :=
  let c1_i32_61 : BitVec 32 := 1#32
  let v142 : Index := Scalar.indexCast c1_i32_61
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v143 : Index := Scalar.indexCast v121
  let c32 : Index := 32#32
  ![1, v143.toNat, 32]
def k0_off543 (k0_t4 : Fin k0_t4_loop.trips) : Fin 3 → Nat :=
  let c1_i32_63 : BitVec 32 := 1#32
  let v151 : Index := Scalar.indexCast c1_i32_63
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v152 : Index := Scalar.indexCast v121
  let c48 : Index := 48#32
  ![1, v152.toNat, 48]
def k0_off544 (k0_t4 : Fin k0_t4_loop.trips) : Fin 3 → Nat :=
  let c1_i32_65 : BitVec 32 := 1#32
  let v160 : Index := Scalar.indexCast c1_i32_65
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v161 : Index := Scalar.indexCast v121
  let c64 : Index := 64#32
  ![1, v161.toNat, 64]
def k0_off545 (k0_t4 : Fin k0_t4_loop.trips) : Fin 3 → Nat :=
  let c1_i32_67 : BitVec 32 := 1#32
  let v169 : Index := Scalar.indexCast c1_i32_67
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v170 : Index := Scalar.indexCast v121
  let c80 : Index := 80#32
  ![1, v170.toNat, 80]
def k0_off546 (k0_t4 : Fin k0_t4_loop.trips) : Fin 3 → Nat :=
  let c1_i32_69 : BitVec 32 := 1#32
  let v178 : Index := Scalar.indexCast c1_i32_69
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v179 : Index := Scalar.indexCast v121
  let c96 : Index := 96#32
  ![1, v179.toNat, 96]
def k0_off547 (k0_t4 : Fin k0_t4_loop.trips) : Fin 3 → Nat :=
  let c1_i32_71 : BitVec 32 := 1#32
  let v187 : Index := Scalar.indexCast c1_i32_71
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v188 : Index := Scalar.indexCast v121
  let c112 : Index := 112#32
  ![1, v188.toNat, 112]
def k0_off548 (k0_t4 : Fin k0_t4_loop.trips) : Fin 3 → Nat :=
  let c1_i32_73 : BitVec 32 := 1#32
  let v196 : Index := Scalar.indexCast c1_i32_73
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v197 : Index := Scalar.indexCast v121
  let c128 : Index := 128#32
  ![1, v197.toNat, 128]
def k0_off549 (k0_t4 : Fin k0_t4_loop.trips) : Fin 3 → Nat :=
  let c1_i32_75 : BitVec 32 := 1#32
  let v205 : Index := Scalar.indexCast c1_i32_75
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v206 : Index := Scalar.indexCast v121
  let c144 : Index := 144#32
  ![1, v206.toNat, 144]
def k0_off550 (k0_t4 : Fin k0_t4_loop.trips) : Fin 3 → Nat :=
  let c1_i32_77 : BitVec 32 := 1#32
  let v214 : Index := Scalar.indexCast c1_i32_77
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v215 : Index := Scalar.indexCast v121
  let c160 : Index := 160#32
  ![1, v215.toNat, 160]
def k0_off551 (k0_t4 : Fin k0_t4_loop.trips) : Fin 3 → Nat :=
  let c1_i32_79 : BitVec 32 := 1#32
  let v223 : Index := Scalar.indexCast c1_i32_79
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v224 : Index := Scalar.indexCast v121
  let c176 : Index := 176#32
  ![1, v224.toNat, 176]
def k0_off552 (k0_t4 : Fin k0_t4_loop.trips) : Fin 3 → Nat :=
  let c1_i32_81 : BitVec 32 := 1#32
  let v232 : Index := Scalar.indexCast c1_i32_81
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v233 : Index := Scalar.indexCast v121
  let c192 : Index := 192#32
  ![1, v233.toNat, 192]
def k0_off553 (k0_t4 : Fin k0_t4_loop.trips) : Fin 3 → Nat :=
  let c1_i32_83 : BitVec 32 := 1#32
  let v241 : Index := Scalar.indexCast c1_i32_83
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v242 : Index := Scalar.indexCast v121
  let c208 : Index := 208#32
  ![1, v242.toNat, 208]
def k0_off554 (k0_t4 : Fin k0_t4_loop.trips) : Fin 3 → Nat :=
  let c1_i32_85 : BitVec 32 := 1#32
  let v250 : Index := Scalar.indexCast c1_i32_85
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v251 : Index := Scalar.indexCast v121
  let c224 : Index := 224#32
  ![1, v251.toNat, 224]
def k0_off555 (k0_t4 : Fin k0_t4_loop.trips) : Fin 3 → Nat :=
  let c1_i32_87 : BitVec 32 := 1#32
  let v259 : Index := Scalar.indexCast c1_i32_87
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_55 : BitVec 32 := 16#32
  let v120 : BitVec 32 := Scalar.muli v46 c16_i32_55
  let c0_i32_56 : BitVec 32 := 0#32
  let v121 : BitVec 32 := Scalar.addi v120 c0_i32_56
  let v260 : Index := Scalar.indexCast v121
  let c240 : Index := 240#32
  ![1, v260.toNat, 240]
def k0_off556 (k0_t4 : Fin k0_t4_loop.trips) : Fin 3 → Nat :=
  let c1_i32_91 : BitVec 32 := 1#32
  let v272 : Index := Scalar.indexCast c1_i32_91
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v273 : Index := Scalar.indexCast v269
  let c0_92 : Index := 0#32
  ![1, v273.toNat, 0]
def k0_off557 (v271 : BitVec 32) (c0_i32_93 : BitVec 32) : Fin 1 → Nat :=
  let v277 : BitVec 32 := Scalar.addi v271 c0_i32_93
  let v278 : Index := Scalar.indexCast v277
  ![v278.toNat]

def k0_chk35 (v271 : BitVec 32) : Prop :=
  (∀ (r : Fin 16), ∀ a, (k0_off557 v271 (BitVec.ofNat 32 (16 * r.val))) a + S16.size a ≤ S17408.size a)
theorem k0_off557_inb : ∀ (v271 : BitVec 32) (k0_hw35 : k0_chk35 v271), ∀ (r : Fin 16), ∀ a, (k0_off557 v271 (BitVec.ofNat 32 (16 * r.val))) a + S16.size a ≤ S17408.size a := fun v271 k0_hw35 r => k0_hw35 r

def k0_off558 (k0_t4 : Fin k0_t4_loop.trips) : Fin 3 → Nat :=
  let c1_i32_94 : BitVec 32 := 1#32
  let v281 : Index := Scalar.indexCast c1_i32_94
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v282 : Index := Scalar.indexCast v269
  let c16_95 : Index := 16#32
  ![1, v282.toNat, 16]
def k0_off559 (k0_t4 : Fin k0_t4_loop.trips) : Fin 3 → Nat :=
  let c1_i32_97 : BitVec 32 := 1#32
  let v290 : Index := Scalar.indexCast c1_i32_97
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v291 : Index := Scalar.indexCast v269
  let c32_98 : Index := 32#32
  ![1, v291.toNat, 32]
def k0_off560 (k0_t4 : Fin k0_t4_loop.trips) : Fin 3 → Nat :=
  let c1_i32_100 : BitVec 32 := 1#32
  let v299 : Index := Scalar.indexCast c1_i32_100
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v300 : Index := Scalar.indexCast v269
  let c48_101 : Index := 48#32
  ![1, v300.toNat, 48]
def k0_off561 (k0_t4 : Fin k0_t4_loop.trips) : Fin 3 → Nat :=
  let c1_i32_103 : BitVec 32 := 1#32
  let v308 : Index := Scalar.indexCast c1_i32_103
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v309 : Index := Scalar.indexCast v269
  let c64_104 : Index := 64#32
  ![1, v309.toNat, 64]
def k0_off562 (k0_t4 : Fin k0_t4_loop.trips) : Fin 3 → Nat :=
  let c1_i32_106 : BitVec 32 := 1#32
  let v317 : Index := Scalar.indexCast c1_i32_106
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v318 : Index := Scalar.indexCast v269
  let c80_107 : Index := 80#32
  ![1, v318.toNat, 80]
def k0_off563 (k0_t4 : Fin k0_t4_loop.trips) : Fin 3 → Nat :=
  let c1_i32_109 : BitVec 32 := 1#32
  let v326 : Index := Scalar.indexCast c1_i32_109
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v327 : Index := Scalar.indexCast v269
  let c96_110 : Index := 96#32
  ![1, v327.toNat, 96]
def k0_off564 (k0_t4 : Fin k0_t4_loop.trips) : Fin 3 → Nat :=
  let c1_i32_112 : BitVec 32 := 1#32
  let v335 : Index := Scalar.indexCast c1_i32_112
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v336 : Index := Scalar.indexCast v269
  let c112_113 : Index := 112#32
  ![1, v336.toNat, 112]
def k0_off565 (k0_t4 : Fin k0_t4_loop.trips) : Fin 3 → Nat :=
  let c1_i32_115 : BitVec 32 := 1#32
  let v344 : Index := Scalar.indexCast c1_i32_115
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v345 : Index := Scalar.indexCast v269
  let c128_116 : Index := 128#32
  ![1, v345.toNat, 128]
def k0_off566 (k0_t4 : Fin k0_t4_loop.trips) : Fin 3 → Nat :=
  let c1_i32_118 : BitVec 32 := 1#32
  let v353 : Index := Scalar.indexCast c1_i32_118
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v354 : Index := Scalar.indexCast v269
  let c144_119 : Index := 144#32
  ![1, v354.toNat, 144]
def k0_off567 (k0_t4 : Fin k0_t4_loop.trips) : Fin 3 → Nat :=
  let c1_i32_121 : BitVec 32 := 1#32
  let v362 : Index := Scalar.indexCast c1_i32_121
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v363 : Index := Scalar.indexCast v269
  let c160_122 : Index := 160#32
  ![1, v363.toNat, 160]
def k0_off568 (k0_t4 : Fin k0_t4_loop.trips) : Fin 3 → Nat :=
  let c1_i32_124 : BitVec 32 := 1#32
  let v371 : Index := Scalar.indexCast c1_i32_124
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v372 : Index := Scalar.indexCast v269
  let c176_125 : Index := 176#32
  ![1, v372.toNat, 176]
def k0_off569 (k0_t4 : Fin k0_t4_loop.trips) : Fin 3 → Nat :=
  let c1_i32_127 : BitVec 32 := 1#32
  let v380 : Index := Scalar.indexCast c1_i32_127
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v381 : Index := Scalar.indexCast v269
  let c192_128 : Index := 192#32
  ![1, v381.toNat, 192]
def k0_off570 (k0_t4 : Fin k0_t4_loop.trips) : Fin 3 → Nat :=
  let c1_i32_130 : BitVec 32 := 1#32
  let v389 : Index := Scalar.indexCast c1_i32_130
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v390 : Index := Scalar.indexCast v269
  let c208_131 : Index := 208#32
  ![1, v390.toNat, 208]
def k0_off571 (k0_t4 : Fin k0_t4_loop.trips) : Fin 3 → Nat :=
  let c1_i32_133 : BitVec 32 := 1#32
  let v398 : Index := Scalar.indexCast c1_i32_133
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v399 : Index := Scalar.indexCast v269
  let c224_134 : Index := 224#32
  ![1, v399.toNat, 224]
def k0_off572 (k0_t4 : Fin k0_t4_loop.trips) : Fin 3 → Nat :=
  let c1_i32_136 : BitVec 32 := 1#32
  let v407 : Index := Scalar.indexCast c1_i32_136
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_89 : BitVec 32 := 16#32
  let v268 : BitVec 32 := Scalar.muli v46 c16_i32_89
  let c1_i32_90 : BitVec 32 := 1#32
  let v269 : BitVec 32 := Scalar.addi v268 c1_i32_90
  let v408 : Index := Scalar.indexCast v269
  let c240_137 : Index := 240#32
  ![1, v408.toNat, 240]
def k0_off573 (k0_t4 : Fin k0_t4_loop.trips) : Fin 3 → Nat :=
  let c1_i32_141 : BitVec 32 := 1#32
  let v420 : Index := Scalar.indexCast c1_i32_141
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v421 : Index := Scalar.indexCast v417
  let c0_142 : Index := 0#32
  ![1, v421.toNat, 0]
def k0_off574 (v419 : BitVec 32) (c0_i32_143 : BitVec 32) : Fin 1 → Nat :=
  let v425 : BitVec 32 := Scalar.addi v419 c0_i32_143
  let v426 : Index := Scalar.indexCast v425
  ![v426.toNat]

def k0_chk36 (v419 : BitVec 32) : Prop :=
  (∀ (r : Fin 16), ∀ a, (k0_off574 v419 (BitVec.ofNat 32 (16 * r.val))) a + S16.size a ≤ S17408.size a)
theorem k0_off574_inb : ∀ (v419 : BitVec 32) (k0_hw36 : k0_chk36 v419), ∀ (r : Fin 16), ∀ a, (k0_off574 v419 (BitVec.ofNat 32 (16 * r.val))) a + S16.size a ≤ S17408.size a := fun v419 k0_hw36 r => k0_hw36 r

def k0_off575 (k0_t4 : Fin k0_t4_loop.trips) : Fin 3 → Nat :=
  let c1_i32_144 : BitVec 32 := 1#32
  let v429 : Index := Scalar.indexCast c1_i32_144
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v430 : Index := Scalar.indexCast v417
  let c16_145 : Index := 16#32
  ![1, v430.toNat, 16]
def k0_off576 (k0_t4 : Fin k0_t4_loop.trips) : Fin 3 → Nat :=
  let c1_i32_147 : BitVec 32 := 1#32
  let v438 : Index := Scalar.indexCast c1_i32_147
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v439 : Index := Scalar.indexCast v417
  let c32_148 : Index := 32#32
  ![1, v439.toNat, 32]
def k0_off577 (k0_t4 : Fin k0_t4_loop.trips) : Fin 3 → Nat :=
  let c1_i32_150 : BitVec 32 := 1#32
  let v447 : Index := Scalar.indexCast c1_i32_150
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v448 : Index := Scalar.indexCast v417
  let c48_151 : Index := 48#32
  ![1, v448.toNat, 48]
def k0_off578 (k0_t4 : Fin k0_t4_loop.trips) : Fin 3 → Nat :=
  let c1_i32_153 : BitVec 32 := 1#32
  let v456 : Index := Scalar.indexCast c1_i32_153
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v457 : Index := Scalar.indexCast v417
  let c64_154 : Index := 64#32
  ![1, v457.toNat, 64]
def k0_off579 (k0_t4 : Fin k0_t4_loop.trips) : Fin 3 → Nat :=
  let c1_i32_156 : BitVec 32 := 1#32
  let v465 : Index := Scalar.indexCast c1_i32_156
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v466 : Index := Scalar.indexCast v417
  let c80_157 : Index := 80#32
  ![1, v466.toNat, 80]
def k0_off580 (k0_t4 : Fin k0_t4_loop.trips) : Fin 3 → Nat :=
  let c1_i32_159 : BitVec 32 := 1#32
  let v474 : Index := Scalar.indexCast c1_i32_159
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v475 : Index := Scalar.indexCast v417
  let c96_160 : Index := 96#32
  ![1, v475.toNat, 96]
def k0_off581 (k0_t4 : Fin k0_t4_loop.trips) : Fin 3 → Nat :=
  let c1_i32_162 : BitVec 32 := 1#32
  let v483 : Index := Scalar.indexCast c1_i32_162
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v484 : Index := Scalar.indexCast v417
  let c112_163 : Index := 112#32
  ![1, v484.toNat, 112]
def k0_off582 (k0_t4 : Fin k0_t4_loop.trips) : Fin 3 → Nat :=
  let c1_i32_165 : BitVec 32 := 1#32
  let v492 : Index := Scalar.indexCast c1_i32_165
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v493 : Index := Scalar.indexCast v417
  let c128_166 : Index := 128#32
  ![1, v493.toNat, 128]
def k0_off583 (k0_t4 : Fin k0_t4_loop.trips) : Fin 3 → Nat :=
  let c1_i32_168 : BitVec 32 := 1#32
  let v501 : Index := Scalar.indexCast c1_i32_168
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v502 : Index := Scalar.indexCast v417
  let c144_169 : Index := 144#32
  ![1, v502.toNat, 144]
def k0_off584 (k0_t4 : Fin k0_t4_loop.trips) : Fin 3 → Nat :=
  let c1_i32_171 : BitVec 32 := 1#32
  let v510 : Index := Scalar.indexCast c1_i32_171
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v511 : Index := Scalar.indexCast v417
  let c160_172 : Index := 160#32
  ![1, v511.toNat, 160]
def k0_off585 (k0_t4 : Fin k0_t4_loop.trips) : Fin 3 → Nat :=
  let c1_i32_174 : BitVec 32 := 1#32
  let v519 : Index := Scalar.indexCast c1_i32_174
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v520 : Index := Scalar.indexCast v417
  let c176_175 : Index := 176#32
  ![1, v520.toNat, 176]
def k0_off586 (k0_t4 : Fin k0_t4_loop.trips) : Fin 3 → Nat :=
  let c1_i32_177 : BitVec 32 := 1#32
  let v528 : Index := Scalar.indexCast c1_i32_177
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v529 : Index := Scalar.indexCast v417
  let c192_178 : Index := 192#32
  ![1, v529.toNat, 192]
def k0_off587 (k0_t4 : Fin k0_t4_loop.trips) : Fin 3 → Nat :=
  let c1_i32_180 : BitVec 32 := 1#32
  let v537 : Index := Scalar.indexCast c1_i32_180
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v538 : Index := Scalar.indexCast v417
  let c208_181 : Index := 208#32
  ![1, v538.toNat, 208]
def k0_off588 (k0_t4 : Fin k0_t4_loop.trips) : Fin 3 → Nat :=
  let c1_i32_183 : BitVec 32 := 1#32
  let v546 : Index := Scalar.indexCast c1_i32_183
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v547 : Index := Scalar.indexCast v417
  let c224_184 : Index := 224#32
  ![1, v547.toNat, 224]
def k0_off589 (k0_t4 : Fin k0_t4_loop.trips) : Fin 3 → Nat :=
  let c1_i32_186 : BitVec 32 := 1#32
  let v555 : Index := Scalar.indexCast c1_i32_186
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_139 : BitVec 32 := 16#32
  let v416 : BitVec 32 := Scalar.muli v46 c16_i32_139
  let c2_i32_140 : BitVec 32 := 2#32
  let v417 : BitVec 32 := Scalar.addi v416 c2_i32_140
  let v556 : Index := Scalar.indexCast v417
  let c240_187 : Index := 240#32
  ![1, v556.toNat, 240]
def k0_off590 (k0_t4 : Fin k0_t4_loop.trips) : Fin 3 → Nat :=
  let c1_i32_190 : BitVec 32 := 1#32
  let v568 : Index := Scalar.indexCast c1_i32_190
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v569 : Index := Scalar.indexCast v565
  let c0_191 : Index := 0#32
  ![1, v569.toNat, 0]
def k0_off591 (v567 : BitVec 32) (c0_i32_192 : BitVec 32) : Fin 1 → Nat :=
  let v573 : BitVec 32 := Scalar.addi v567 c0_i32_192
  let v574 : Index := Scalar.indexCast v573
  ![v574.toNat]

def k0_chk37 (v567 : BitVec 32) : Prop :=
  (∀ (r : Fin 16), ∀ a, (k0_off591 v567 (BitVec.ofNat 32 (16 * r.val))) a + S16.size a ≤ S17408.size a)
theorem k0_off591_inb : ∀ (v567 : BitVec 32) (k0_hw37 : k0_chk37 v567), ∀ (r : Fin 16), ∀ a, (k0_off591 v567 (BitVec.ofNat 32 (16 * r.val))) a + S16.size a ≤ S17408.size a := fun v567 k0_hw37 r => k0_hw37 r

def k0_off592 (k0_t4 : Fin k0_t4_loop.trips) : Fin 3 → Nat :=
  let c1_i32_193 : BitVec 32 := 1#32
  let v577 : Index := Scalar.indexCast c1_i32_193
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v578 : Index := Scalar.indexCast v565
  let c16_194 : Index := 16#32
  ![1, v578.toNat, 16]
def k0_off593 (k0_t4 : Fin k0_t4_loop.trips) : Fin 3 → Nat :=
  let c1_i32_196 : BitVec 32 := 1#32
  let v586 : Index := Scalar.indexCast c1_i32_196
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v587 : Index := Scalar.indexCast v565
  let c32_197 : Index := 32#32
  ![1, v587.toNat, 32]
def k0_off594 (k0_t4 : Fin k0_t4_loop.trips) : Fin 3 → Nat :=
  let c1_i32_199 : BitVec 32 := 1#32
  let v595 : Index := Scalar.indexCast c1_i32_199
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v596 : Index := Scalar.indexCast v565
  let c48_200 : Index := 48#32
  ![1, v596.toNat, 48]
def k0_off595 (k0_t4 : Fin k0_t4_loop.trips) : Fin 3 → Nat :=
  let c1_i32_202 : BitVec 32 := 1#32
  let v604 : Index := Scalar.indexCast c1_i32_202
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v605 : Index := Scalar.indexCast v565
  let c64_203 : Index := 64#32
  ![1, v605.toNat, 64]
def k0_off596 (k0_t4 : Fin k0_t4_loop.trips) : Fin 3 → Nat :=
  let c1_i32_205 : BitVec 32 := 1#32
  let v613 : Index := Scalar.indexCast c1_i32_205
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v614 : Index := Scalar.indexCast v565
  let c80_206 : Index := 80#32
  ![1, v614.toNat, 80]
def k0_off597 (k0_t4 : Fin k0_t4_loop.trips) : Fin 3 → Nat :=
  let c1_i32_208 : BitVec 32 := 1#32
  let v622 : Index := Scalar.indexCast c1_i32_208
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v623 : Index := Scalar.indexCast v565
  let c96_209 : Index := 96#32
  ![1, v623.toNat, 96]
def k0_off598 (k0_t4 : Fin k0_t4_loop.trips) : Fin 3 → Nat :=
  let c1_i32_211 : BitVec 32 := 1#32
  let v631 : Index := Scalar.indexCast c1_i32_211
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v632 : Index := Scalar.indexCast v565
  let c112_212 : Index := 112#32
  ![1, v632.toNat, 112]
def k0_off599 (k0_t4 : Fin k0_t4_loop.trips) : Fin 3 → Nat :=
  let c1_i32_214 : BitVec 32 := 1#32
  let v640 : Index := Scalar.indexCast c1_i32_214
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v641 : Index := Scalar.indexCast v565
  let c128_215 : Index := 128#32
  ![1, v641.toNat, 128]
def k0_off600 (k0_t4 : Fin k0_t4_loop.trips) : Fin 3 → Nat :=
  let c1_i32_217 : BitVec 32 := 1#32
  let v649 : Index := Scalar.indexCast c1_i32_217
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v650 : Index := Scalar.indexCast v565
  let c144_218 : Index := 144#32
  ![1, v650.toNat, 144]
def k0_off601 (k0_t4 : Fin k0_t4_loop.trips) : Fin 3 → Nat :=
  let c1_i32_220 : BitVec 32 := 1#32
  let v658 : Index := Scalar.indexCast c1_i32_220
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v659 : Index := Scalar.indexCast v565
  let c160_221 : Index := 160#32
  ![1, v659.toNat, 160]
def k0_off602 (k0_t4 : Fin k0_t4_loop.trips) : Fin 3 → Nat :=
  let c1_i32_223 : BitVec 32 := 1#32
  let v667 : Index := Scalar.indexCast c1_i32_223
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v668 : Index := Scalar.indexCast v565
  let c176_224 : Index := 176#32
  ![1, v668.toNat, 176]
def k0_off603 (k0_t4 : Fin k0_t4_loop.trips) : Fin 3 → Nat :=
  let c1_i32_226 : BitVec 32 := 1#32
  let v676 : Index := Scalar.indexCast c1_i32_226
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v677 : Index := Scalar.indexCast v565
  let c192_227 : Index := 192#32
  ![1, v677.toNat, 192]
def k0_off604 (k0_t4 : Fin k0_t4_loop.trips) : Fin 3 → Nat :=
  let c1_i32_229 : BitVec 32 := 1#32
  let v685 : Index := Scalar.indexCast c1_i32_229
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v686 : Index := Scalar.indexCast v565
  let c208_230 : Index := 208#32
  ![1, v686.toNat, 208]
def k0_off605 (k0_t4 : Fin k0_t4_loop.trips) : Fin 3 → Nat :=
  let c1_i32_232 : BitVec 32 := 1#32
  let v694 : Index := Scalar.indexCast c1_i32_232
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v695 : Index := Scalar.indexCast v565
  let c224_233 : Index := 224#32
  ![1, v695.toNat, 224]
def k0_off606 (k0_t4 : Fin k0_t4_loop.trips) : Fin 3 → Nat :=
  let c1_i32_235 : BitVec 32 := 1#32
  let v703 : Index := Scalar.indexCast c1_i32_235
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_189 : BitVec 32 := 16#32
  let v564 : BitVec 32 := Scalar.muli v46 c16_i32_189
  let c3_i32 : BitVec 32 := 3#32
  let v565 : BitVec 32 := Scalar.addi v564 c3_i32
  let v704 : Index := Scalar.indexCast v565
  let c240_236 : Index := 240#32
  ![1, v704.toNat, 240]
def k0_off607 (k0_t4 : Fin k0_t4_loop.trips) : Fin 3 → Nat :=
  let c1_i32_240 : BitVec 32 := 1#32
  let v716 : Index := Scalar.indexCast c1_i32_240
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v717 : Index := Scalar.indexCast v713
  let c0_241 : Index := 0#32
  ![1, v717.toNat, 0]
def k0_off608 (v715 : BitVec 32) (c0_i32_242 : BitVec 32) : Fin 1 → Nat :=
  let v721 : BitVec 32 := Scalar.addi v715 c0_i32_242
  let v722 : Index := Scalar.indexCast v721
  ![v722.toNat]

def k0_chk38 (v715 : BitVec 32) : Prop :=
  (∀ (r : Fin 16), ∀ a, (k0_off608 v715 (BitVec.ofNat 32 (16 * r.val))) a + S16.size a ≤ S17408.size a)
theorem k0_off608_inb : ∀ (v715 : BitVec 32) (k0_hw38 : k0_chk38 v715), ∀ (r : Fin 16), ∀ a, (k0_off608 v715 (BitVec.ofNat 32 (16 * r.val))) a + S16.size a ≤ S17408.size a := fun v715 k0_hw38 r => k0_hw38 r

def k0_off609 (k0_t4 : Fin k0_t4_loop.trips) : Fin 3 → Nat :=
  let c1_i32_243 : BitVec 32 := 1#32
  let v725 : Index := Scalar.indexCast c1_i32_243
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v726 : Index := Scalar.indexCast v713
  let c16_244 : Index := 16#32
  ![1, v726.toNat, 16]
def k0_off610 (k0_t4 : Fin k0_t4_loop.trips) : Fin 3 → Nat :=
  let c1_i32_246 : BitVec 32 := 1#32
  let v734 : Index := Scalar.indexCast c1_i32_246
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v735 : Index := Scalar.indexCast v713
  let c32_247 : Index := 32#32
  ![1, v735.toNat, 32]
def k0_off611 (k0_t4 : Fin k0_t4_loop.trips) : Fin 3 → Nat :=
  let c1_i32_249 : BitVec 32 := 1#32
  let v743 : Index := Scalar.indexCast c1_i32_249
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v744 : Index := Scalar.indexCast v713
  let c48_250 : Index := 48#32
  ![1, v744.toNat, 48]
def k0_off612 (k0_t4 : Fin k0_t4_loop.trips) : Fin 3 → Nat :=
  let c1_i32_252 : BitVec 32 := 1#32
  let v752 : Index := Scalar.indexCast c1_i32_252
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v753 : Index := Scalar.indexCast v713
  let c64_253 : Index := 64#32
  ![1, v753.toNat, 64]
def k0_off613 (k0_t4 : Fin k0_t4_loop.trips) : Fin 3 → Nat :=
  let c1_i32_255 : BitVec 32 := 1#32
  let v761 : Index := Scalar.indexCast c1_i32_255
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v762 : Index := Scalar.indexCast v713
  let c80_256 : Index := 80#32
  ![1, v762.toNat, 80]
def k0_off614 (k0_t4 : Fin k0_t4_loop.trips) : Fin 3 → Nat :=
  let c1_i32_258 : BitVec 32 := 1#32
  let v770 : Index := Scalar.indexCast c1_i32_258
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v771 : Index := Scalar.indexCast v713
  let c96_259 : Index := 96#32
  ![1, v771.toNat, 96]
def k0_off615 (k0_t4 : Fin k0_t4_loop.trips) : Fin 3 → Nat :=
  let c1_i32_261 : BitVec 32 := 1#32
  let v779 : Index := Scalar.indexCast c1_i32_261
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v780 : Index := Scalar.indexCast v713
  let c112_262 : Index := 112#32
  ![1, v780.toNat, 112]
def k0_off616 (k0_t4 : Fin k0_t4_loop.trips) : Fin 3 → Nat :=
  let c1_i32_264 : BitVec 32 := 1#32
  let v788 : Index := Scalar.indexCast c1_i32_264
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v789 : Index := Scalar.indexCast v713
  let c128_265 : Index := 128#32
  ![1, v789.toNat, 128]
def k0_off617 (k0_t4 : Fin k0_t4_loop.trips) : Fin 3 → Nat :=
  let c1_i32_267 : BitVec 32 := 1#32
  let v797 : Index := Scalar.indexCast c1_i32_267
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v798 : Index := Scalar.indexCast v713
  let c144_268 : Index := 144#32
  ![1, v798.toNat, 144]
def k0_off618 (k0_t4 : Fin k0_t4_loop.trips) : Fin 3 → Nat :=
  let c1_i32_270 : BitVec 32 := 1#32
  let v806 : Index := Scalar.indexCast c1_i32_270
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v807 : Index := Scalar.indexCast v713
  let c160_271 : Index := 160#32
  ![1, v807.toNat, 160]
def k0_off619 (k0_t4 : Fin k0_t4_loop.trips) : Fin 3 → Nat :=
  let c1_i32_273 : BitVec 32 := 1#32
  let v815 : Index := Scalar.indexCast c1_i32_273
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v816 : Index := Scalar.indexCast v713
  let c176_274 : Index := 176#32
  ![1, v816.toNat, 176]
def k0_off620 (k0_t4 : Fin k0_t4_loop.trips) : Fin 3 → Nat :=
  let c1_i32_276 : BitVec 32 := 1#32
  let v824 : Index := Scalar.indexCast c1_i32_276
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v825 : Index := Scalar.indexCast v713
  let c192_277 : Index := 192#32
  ![1, v825.toNat, 192]
def k0_off621 (k0_t4 : Fin k0_t4_loop.trips) : Fin 3 → Nat :=
  let c1_i32_279 : BitVec 32 := 1#32
  let v833 : Index := Scalar.indexCast c1_i32_279
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v834 : Index := Scalar.indexCast v713
  let c208_280 : Index := 208#32
  ![1, v834.toNat, 208]
def k0_off622 (k0_t4 : Fin k0_t4_loop.trips) : Fin 3 → Nat :=
  let c1_i32_282 : BitVec 32 := 1#32
  let v842 : Index := Scalar.indexCast c1_i32_282
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v843 : Index := Scalar.indexCast v713
  let c224_283 : Index := 224#32
  ![1, v843.toNat, 224]
def k0_off623 (k0_t4 : Fin k0_t4_loop.trips) : Fin 3 → Nat :=
  let c1_i32_285 : BitVec 32 := 1#32
  let v851 : Index := Scalar.indexCast c1_i32_285
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_238 : BitVec 32 := 16#32
  let v712 : BitVec 32 := Scalar.muli v46 c16_i32_238
  let c4_i32_239 : BitVec 32 := 4#32
  let v713 : BitVec 32 := Scalar.addi v712 c4_i32_239
  let v852 : Index := Scalar.indexCast v713
  let c240_286 : Index := 240#32
  ![1, v852.toNat, 240]
def k0_off624 (k0_t4 : Fin k0_t4_loop.trips) : Fin 3 → Nat :=
  let c1_i32_289 : BitVec 32 := 1#32
  let v864 : Index := Scalar.indexCast c1_i32_289
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v865 : Index := Scalar.indexCast v861
  let c0_290 : Index := 0#32
  ![1, v865.toNat, 0]
def k0_off625 (v863 : BitVec 32) (c0_i32_291 : BitVec 32) : Fin 1 → Nat :=
  let v869 : BitVec 32 := Scalar.addi v863 c0_i32_291
  let v870 : Index := Scalar.indexCast v869
  ![v870.toNat]

def k0_chk39 (v863 : BitVec 32) : Prop :=
  (∀ (r : Fin 16), ∀ a, (k0_off625 v863 (BitVec.ofNat 32 (16 * r.val))) a + S16.size a ≤ S17408.size a)
theorem k0_off625_inb : ∀ (v863 : BitVec 32) (k0_hw39 : k0_chk39 v863), ∀ (r : Fin 16), ∀ a, (k0_off625 v863 (BitVec.ofNat 32 (16 * r.val))) a + S16.size a ≤ S17408.size a := fun v863 k0_hw39 r => k0_hw39 r

def k0_off626 (k0_t4 : Fin k0_t4_loop.trips) : Fin 3 → Nat :=
  let c1_i32_292 : BitVec 32 := 1#32
  let v873 : Index := Scalar.indexCast c1_i32_292
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v874 : Index := Scalar.indexCast v861
  let c16_293 : Index := 16#32
  ![1, v874.toNat, 16]
def k0_off627 (k0_t4 : Fin k0_t4_loop.trips) : Fin 3 → Nat :=
  let c1_i32_295 : BitVec 32 := 1#32
  let v882 : Index := Scalar.indexCast c1_i32_295
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v883 : Index := Scalar.indexCast v861
  let c32_296 : Index := 32#32
  ![1, v883.toNat, 32]
def k0_off628 (k0_t4 : Fin k0_t4_loop.trips) : Fin 3 → Nat :=
  let c1_i32_298 : BitVec 32 := 1#32
  let v891 : Index := Scalar.indexCast c1_i32_298
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v892 : Index := Scalar.indexCast v861
  let c48_299 : Index := 48#32
  ![1, v892.toNat, 48]
def k0_off629 (k0_t4 : Fin k0_t4_loop.trips) : Fin 3 → Nat :=
  let c1_i32_301 : BitVec 32 := 1#32
  let v900 : Index := Scalar.indexCast c1_i32_301
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v901 : Index := Scalar.indexCast v861
  let c64_302 : Index := 64#32
  ![1, v901.toNat, 64]
def k0_off630 (k0_t4 : Fin k0_t4_loop.trips) : Fin 3 → Nat :=
  let c1_i32_304 : BitVec 32 := 1#32
  let v909 : Index := Scalar.indexCast c1_i32_304
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v910 : Index := Scalar.indexCast v861
  let c80_305 : Index := 80#32
  ![1, v910.toNat, 80]
def k0_off631 (k0_t4 : Fin k0_t4_loop.trips) : Fin 3 → Nat :=
  let c1_i32_307 : BitVec 32 := 1#32
  let v918 : Index := Scalar.indexCast c1_i32_307
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v919 : Index := Scalar.indexCast v861
  let c96_308 : Index := 96#32
  ![1, v919.toNat, 96]
def k0_off632 (k0_t4 : Fin k0_t4_loop.trips) : Fin 3 → Nat :=
  let c1_i32_310 : BitVec 32 := 1#32
  let v927 : Index := Scalar.indexCast c1_i32_310
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v928 : Index := Scalar.indexCast v861
  let c112_311 : Index := 112#32
  ![1, v928.toNat, 112]
def k0_off633 (k0_t4 : Fin k0_t4_loop.trips) : Fin 3 → Nat :=
  let c1_i32_313 : BitVec 32 := 1#32
  let v936 : Index := Scalar.indexCast c1_i32_313
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v937 : Index := Scalar.indexCast v861
  let c128_314 : Index := 128#32
  ![1, v937.toNat, 128]
def k0_off634 (k0_t4 : Fin k0_t4_loop.trips) : Fin 3 → Nat :=
  let c1_i32_316 : BitVec 32 := 1#32
  let v945 : Index := Scalar.indexCast c1_i32_316
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v946 : Index := Scalar.indexCast v861
  let c144_317 : Index := 144#32
  ![1, v946.toNat, 144]
def k0_off635 (k0_t4 : Fin k0_t4_loop.trips) : Fin 3 → Nat :=
  let c1_i32_319 : BitVec 32 := 1#32
  let v954 : Index := Scalar.indexCast c1_i32_319
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v955 : Index := Scalar.indexCast v861
  let c160_320 : Index := 160#32
  ![1, v955.toNat, 160]
def k0_off636 (k0_t4 : Fin k0_t4_loop.trips) : Fin 3 → Nat :=
  let c1_i32_322 : BitVec 32 := 1#32
  let v963 : Index := Scalar.indexCast c1_i32_322
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v964 : Index := Scalar.indexCast v861
  let c176_323 : Index := 176#32
  ![1, v964.toNat, 176]
def k0_off637 (k0_t4 : Fin k0_t4_loop.trips) : Fin 3 → Nat :=
  let c1_i32_325 : BitVec 32 := 1#32
  let v972 : Index := Scalar.indexCast c1_i32_325
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v973 : Index := Scalar.indexCast v861
  let c192_326 : Index := 192#32
  ![1, v973.toNat, 192]
def k0_off638 (k0_t4 : Fin k0_t4_loop.trips) : Fin 3 → Nat :=
  let c1_i32_328 : BitVec 32 := 1#32
  let v981 : Index := Scalar.indexCast c1_i32_328
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v982 : Index := Scalar.indexCast v861
  let c208_329 : Index := 208#32
  ![1, v982.toNat, 208]
def k0_off639 (k0_t4 : Fin k0_t4_loop.trips) : Fin 3 → Nat :=
  let c1_i32_331 : BitVec 32 := 1#32
  let v990 : Index := Scalar.indexCast c1_i32_331
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v991 : Index := Scalar.indexCast v861
  let c224_332 : Index := 224#32
  ![1, v991.toNat, 224]
def k0_off640 (k0_t4 : Fin k0_t4_loop.trips) : Fin 3 → Nat :=
  let c1_i32_334 : BitVec 32 := 1#32
  let v999 : Index := Scalar.indexCast c1_i32_334
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_288 : BitVec 32 := 16#32
  let v860 : BitVec 32 := Scalar.muli v46 c16_i32_288
  let c5_i32 : BitVec 32 := 5#32
  let v861 : BitVec 32 := Scalar.addi v860 c5_i32
  let v1000 : Index := Scalar.indexCast v861
  let c240_335 : Index := 240#32
  ![1, v1000.toNat, 240]
def k0_off641 (k0_t4 : Fin k0_t4_loop.trips) : Fin 3 → Nat :=
  let c1_i32_338 : BitVec 32 := 1#32
  let v1012 : Index := Scalar.indexCast c1_i32_338
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1013 : Index := Scalar.indexCast v1009
  let c0_339 : Index := 0#32
  ![1, v1013.toNat, 0]
def k0_off642 (v1011 : BitVec 32) (c0_i32_340 : BitVec 32) : Fin 1 → Nat :=
  let v1017 : BitVec 32 := Scalar.addi v1011 c0_i32_340
  let v1018 : Index := Scalar.indexCast v1017
  ![v1018.toNat]

def k0_chk40 (v1011 : BitVec 32) : Prop :=
  (∀ (r : Fin 16), ∀ a, (k0_off642 v1011 (BitVec.ofNat 32 (16 * r.val))) a + S16.size a ≤ S17408.size a)
theorem k0_off642_inb : ∀ (v1011 : BitVec 32) (k0_hw40 : k0_chk40 v1011), ∀ (r : Fin 16), ∀ a, (k0_off642 v1011 (BitVec.ofNat 32 (16 * r.val))) a + S16.size a ≤ S17408.size a := fun v1011 k0_hw40 r => k0_hw40 r

def k0_off643 (k0_t4 : Fin k0_t4_loop.trips) : Fin 3 → Nat :=
  let c1_i32_341 : BitVec 32 := 1#32
  let v1021 : Index := Scalar.indexCast c1_i32_341
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1022 : Index := Scalar.indexCast v1009
  let c16_342 : Index := 16#32
  ![1, v1022.toNat, 16]
def k0_off644 (k0_t4 : Fin k0_t4_loop.trips) : Fin 3 → Nat :=
  let c1_i32_344 : BitVec 32 := 1#32
  let v1030 : Index := Scalar.indexCast c1_i32_344
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1031 : Index := Scalar.indexCast v1009
  let c32_345 : Index := 32#32
  ![1, v1031.toNat, 32]
def k0_off645 (k0_t4 : Fin k0_t4_loop.trips) : Fin 3 → Nat :=
  let c1_i32_347 : BitVec 32 := 1#32
  let v1039 : Index := Scalar.indexCast c1_i32_347
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1040 : Index := Scalar.indexCast v1009
  let c48_348 : Index := 48#32
  ![1, v1040.toNat, 48]
def k0_off646 (k0_t4 : Fin k0_t4_loop.trips) : Fin 3 → Nat :=
  let c1_i32_350 : BitVec 32 := 1#32
  let v1048 : Index := Scalar.indexCast c1_i32_350
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1049 : Index := Scalar.indexCast v1009
  let c64_351 : Index := 64#32
  ![1, v1049.toNat, 64]
def k0_off647 (k0_t4 : Fin k0_t4_loop.trips) : Fin 3 → Nat :=
  let c1_i32_353 : BitVec 32 := 1#32
  let v1057 : Index := Scalar.indexCast c1_i32_353
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1058 : Index := Scalar.indexCast v1009
  let c80_354 : Index := 80#32
  ![1, v1058.toNat, 80]
def k0_off648 (k0_t4 : Fin k0_t4_loop.trips) : Fin 3 → Nat :=
  let c1_i32_356 : BitVec 32 := 1#32
  let v1066 : Index := Scalar.indexCast c1_i32_356
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1067 : Index := Scalar.indexCast v1009
  let c96_357 : Index := 96#32
  ![1, v1067.toNat, 96]
def k0_off649 (k0_t4 : Fin k0_t4_loop.trips) : Fin 3 → Nat :=
  let c1_i32_359 : BitVec 32 := 1#32
  let v1075 : Index := Scalar.indexCast c1_i32_359
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1076 : Index := Scalar.indexCast v1009
  let c112_360 : Index := 112#32
  ![1, v1076.toNat, 112]
def k0_off650 (k0_t4 : Fin k0_t4_loop.trips) : Fin 3 → Nat :=
  let c1_i32_362 : BitVec 32 := 1#32
  let v1084 : Index := Scalar.indexCast c1_i32_362
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1085 : Index := Scalar.indexCast v1009
  let c128_363 : Index := 128#32
  ![1, v1085.toNat, 128]
def k0_off651 (k0_t4 : Fin k0_t4_loop.trips) : Fin 3 → Nat :=
  let c1_i32_365 : BitVec 32 := 1#32
  let v1093 : Index := Scalar.indexCast c1_i32_365
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1094 : Index := Scalar.indexCast v1009
  let c144_366 : Index := 144#32
  ![1, v1094.toNat, 144]
def k0_off652 (k0_t4 : Fin k0_t4_loop.trips) : Fin 3 → Nat :=
  let c1_i32_368 : BitVec 32 := 1#32
  let v1102 : Index := Scalar.indexCast c1_i32_368
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1103 : Index := Scalar.indexCast v1009
  let c160_369 : Index := 160#32
  ![1, v1103.toNat, 160]
def k0_off653 (k0_t4 : Fin k0_t4_loop.trips) : Fin 3 → Nat :=
  let c1_i32_371 : BitVec 32 := 1#32
  let v1111 : Index := Scalar.indexCast c1_i32_371
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1112 : Index := Scalar.indexCast v1009
  let c176_372 : Index := 176#32
  ![1, v1112.toNat, 176]
def k0_off654 (k0_t4 : Fin k0_t4_loop.trips) : Fin 3 → Nat :=
  let c1_i32_374 : BitVec 32 := 1#32
  let v1120 : Index := Scalar.indexCast c1_i32_374
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1121 : Index := Scalar.indexCast v1009
  let c192_375 : Index := 192#32
  ![1, v1121.toNat, 192]
def k0_off655 (k0_t4 : Fin k0_t4_loop.trips) : Fin 3 → Nat :=
  let c1_i32_377 : BitVec 32 := 1#32
  let v1129 : Index := Scalar.indexCast c1_i32_377
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1130 : Index := Scalar.indexCast v1009
  let c208_378 : Index := 208#32
  ![1, v1130.toNat, 208]
def k0_off656 (k0_t4 : Fin k0_t4_loop.trips) : Fin 3 → Nat :=
  let c1_i32_380 : BitVec 32 := 1#32
  let v1138 : Index := Scalar.indexCast c1_i32_380
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1139 : Index := Scalar.indexCast v1009
  let c224_381 : Index := 224#32
  ![1, v1139.toNat, 224]
def k0_off657 (k0_t4 : Fin k0_t4_loop.trips) : Fin 3 → Nat :=
  let c1_i32_383 : BitVec 32 := 1#32
  let v1147 : Index := Scalar.indexCast c1_i32_383
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_337 : BitVec 32 := 16#32
  let v1008 : BitVec 32 := Scalar.muli v46 c16_i32_337
  let c6_i32 : BitVec 32 := 6#32
  let v1009 : BitVec 32 := Scalar.addi v1008 c6_i32
  let v1148 : Index := Scalar.indexCast v1009
  let c240_384 : Index := 240#32
  ![1, v1148.toNat, 240]
def k0_off658 (k0_t4 : Fin k0_t4_loop.trips) : Fin 3 → Nat :=
  let c1_i32_387 : BitVec 32 := 1#32
  let v1160 : Index := Scalar.indexCast c1_i32_387
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1161 : Index := Scalar.indexCast v1157
  let c0_388 : Index := 0#32
  ![1, v1161.toNat, 0]
def k0_off659 (v1159 : BitVec 32) (c0_i32_389 : BitVec 32) : Fin 1 → Nat :=
  let v1165 : BitVec 32 := Scalar.addi v1159 c0_i32_389
  let v1166 : Index := Scalar.indexCast v1165
  ![v1166.toNat]

def k0_chk41 (v1159 : BitVec 32) : Prop :=
  (∀ (r : Fin 16), ∀ a, (k0_off659 v1159 (BitVec.ofNat 32 (16 * r.val))) a + S16.size a ≤ S17408.size a)
theorem k0_off659_inb : ∀ (v1159 : BitVec 32) (k0_hw41 : k0_chk41 v1159), ∀ (r : Fin 16), ∀ a, (k0_off659 v1159 (BitVec.ofNat 32 (16 * r.val))) a + S16.size a ≤ S17408.size a := fun v1159 k0_hw41 r => k0_hw41 r

def k0_off660 (k0_t4 : Fin k0_t4_loop.trips) : Fin 3 → Nat :=
  let c1_i32_390 : BitVec 32 := 1#32
  let v1169 : Index := Scalar.indexCast c1_i32_390
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1170 : Index := Scalar.indexCast v1157
  let c16_391 : Index := 16#32
  ![1, v1170.toNat, 16]
def k0_off661 (k0_t4 : Fin k0_t4_loop.trips) : Fin 3 → Nat :=
  let c1_i32_393 : BitVec 32 := 1#32
  let v1178 : Index := Scalar.indexCast c1_i32_393
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1179 : Index := Scalar.indexCast v1157
  let c32_394 : Index := 32#32
  ![1, v1179.toNat, 32]
def k0_off662 (k0_t4 : Fin k0_t4_loop.trips) : Fin 3 → Nat :=
  let c1_i32_396 : BitVec 32 := 1#32
  let v1187 : Index := Scalar.indexCast c1_i32_396
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1188 : Index := Scalar.indexCast v1157
  let c48_397 : Index := 48#32
  ![1, v1188.toNat, 48]
def k0_off663 (k0_t4 : Fin k0_t4_loop.trips) : Fin 3 → Nat :=
  let c1_i32_399 : BitVec 32 := 1#32
  let v1196 : Index := Scalar.indexCast c1_i32_399
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1197 : Index := Scalar.indexCast v1157
  let c64_400 : Index := 64#32
  ![1, v1197.toNat, 64]
def k0_off664 (k0_t4 : Fin k0_t4_loop.trips) : Fin 3 → Nat :=
  let c1_i32_402 : BitVec 32 := 1#32
  let v1205 : Index := Scalar.indexCast c1_i32_402
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1206 : Index := Scalar.indexCast v1157
  let c80_403 : Index := 80#32
  ![1, v1206.toNat, 80]
def k0_off665 (k0_t4 : Fin k0_t4_loop.trips) : Fin 3 → Nat :=
  let c1_i32_405 : BitVec 32 := 1#32
  let v1214 : Index := Scalar.indexCast c1_i32_405
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1215 : Index := Scalar.indexCast v1157
  let c96_406 : Index := 96#32
  ![1, v1215.toNat, 96]
def k0_off666 (k0_t4 : Fin k0_t4_loop.trips) : Fin 3 → Nat :=
  let c1_i32_408 : BitVec 32 := 1#32
  let v1223 : Index := Scalar.indexCast c1_i32_408
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1224 : Index := Scalar.indexCast v1157
  let c112_409 : Index := 112#32
  ![1, v1224.toNat, 112]
def k0_off667 (k0_t4 : Fin k0_t4_loop.trips) : Fin 3 → Nat :=
  let c1_i32_411 : BitVec 32 := 1#32
  let v1232 : Index := Scalar.indexCast c1_i32_411
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1233 : Index := Scalar.indexCast v1157
  let c128_412 : Index := 128#32
  ![1, v1233.toNat, 128]
def k0_off668 (k0_t4 : Fin k0_t4_loop.trips) : Fin 3 → Nat :=
  let c1_i32_414 : BitVec 32 := 1#32
  let v1241 : Index := Scalar.indexCast c1_i32_414
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1242 : Index := Scalar.indexCast v1157
  let c144_415 : Index := 144#32
  ![1, v1242.toNat, 144]
def k0_off669 (k0_t4 : Fin k0_t4_loop.trips) : Fin 3 → Nat :=
  let c1_i32_417 : BitVec 32 := 1#32
  let v1250 : Index := Scalar.indexCast c1_i32_417
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1251 : Index := Scalar.indexCast v1157
  let c160_418 : Index := 160#32
  ![1, v1251.toNat, 160]
def k0_off670 (k0_t4 : Fin k0_t4_loop.trips) : Fin 3 → Nat :=
  let c1_i32_420 : BitVec 32 := 1#32
  let v1259 : Index := Scalar.indexCast c1_i32_420
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1260 : Index := Scalar.indexCast v1157
  let c176_421 : Index := 176#32
  ![1, v1260.toNat, 176]
def k0_off671 (k0_t4 : Fin k0_t4_loop.trips) : Fin 3 → Nat :=
  let c1_i32_423 : BitVec 32 := 1#32
  let v1268 : Index := Scalar.indexCast c1_i32_423
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1269 : Index := Scalar.indexCast v1157
  let c192_424 : Index := 192#32
  ![1, v1269.toNat, 192]
def k0_off672 (k0_t4 : Fin k0_t4_loop.trips) : Fin 3 → Nat :=
  let c1_i32_426 : BitVec 32 := 1#32
  let v1277 : Index := Scalar.indexCast c1_i32_426
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1278 : Index := Scalar.indexCast v1157
  let c208_427 : Index := 208#32
  ![1, v1278.toNat, 208]
def k0_off673 (k0_t4 : Fin k0_t4_loop.trips) : Fin 3 → Nat :=
  let c1_i32_429 : BitVec 32 := 1#32
  let v1286 : Index := Scalar.indexCast c1_i32_429
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1287 : Index := Scalar.indexCast v1157
  let c224_430 : Index := 224#32
  ![1, v1287.toNat, 224]
def k0_off674 (k0_t4 : Fin k0_t4_loop.trips) : Fin 3 → Nat :=
  let c1_i32_432 : BitVec 32 := 1#32
  let v1295 : Index := Scalar.indexCast c1_i32_432
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_386 : BitVec 32 := 16#32
  let v1156 : BitVec 32 := Scalar.muli v46 c16_i32_386
  let c7_i32 : BitVec 32 := 7#32
  let v1157 : BitVec 32 := Scalar.addi v1156 c7_i32
  let v1296 : Index := Scalar.indexCast v1157
  let c240_433 : Index := 240#32
  ![1, v1296.toNat, 240]
def k0_off675 (k0_t4 : Fin k0_t4_loop.trips) : Fin 3 → Nat :=
  let c1_i32_436 : BitVec 32 := 1#32
  let v1308 : Index := Scalar.indexCast c1_i32_436
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1309 : Index := Scalar.indexCast v1305
  let c0_437 : Index := 0#32
  ![1, v1309.toNat, 0]
def k0_off676 (v1307 : BitVec 32) (c0_i32_438 : BitVec 32) : Fin 1 → Nat :=
  let v1313 : BitVec 32 := Scalar.addi v1307 c0_i32_438
  let v1314 : Index := Scalar.indexCast v1313
  ![v1314.toNat]

def k0_chk42 (v1307 : BitVec 32) : Prop :=
  (∀ (r : Fin 16), ∀ a, (k0_off676 v1307 (BitVec.ofNat 32 (16 * r.val))) a + S16.size a ≤ S17408.size a)
theorem k0_off676_inb : ∀ (v1307 : BitVec 32) (k0_hw42 : k0_chk42 v1307), ∀ (r : Fin 16), ∀ a, (k0_off676 v1307 (BitVec.ofNat 32 (16 * r.val))) a + S16.size a ≤ S17408.size a := fun v1307 k0_hw42 r => k0_hw42 r

def k0_off677 (k0_t4 : Fin k0_t4_loop.trips) : Fin 3 → Nat :=
  let c1_i32_439 : BitVec 32 := 1#32
  let v1317 : Index := Scalar.indexCast c1_i32_439
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1318 : Index := Scalar.indexCast v1305
  let c16_440 : Index := 16#32
  ![1, v1318.toNat, 16]
def k0_off678 (k0_t4 : Fin k0_t4_loop.trips) : Fin 3 → Nat :=
  let c1_i32_442 : BitVec 32 := 1#32
  let v1326 : Index := Scalar.indexCast c1_i32_442
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1327 : Index := Scalar.indexCast v1305
  let c32_443 : Index := 32#32
  ![1, v1327.toNat, 32]
def k0_off679 (k0_t4 : Fin k0_t4_loop.trips) : Fin 3 → Nat :=
  let c1_i32_445 : BitVec 32 := 1#32
  let v1335 : Index := Scalar.indexCast c1_i32_445
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1336 : Index := Scalar.indexCast v1305
  let c48_446 : Index := 48#32
  ![1, v1336.toNat, 48]
def k0_off680 (k0_t4 : Fin k0_t4_loop.trips) : Fin 3 → Nat :=
  let c1_i32_448 : BitVec 32 := 1#32
  let v1344 : Index := Scalar.indexCast c1_i32_448
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1345 : Index := Scalar.indexCast v1305
  let c64_449 : Index := 64#32
  ![1, v1345.toNat, 64]
def k0_off681 (k0_t4 : Fin k0_t4_loop.trips) : Fin 3 → Nat :=
  let c1_i32_451 : BitVec 32 := 1#32
  let v1353 : Index := Scalar.indexCast c1_i32_451
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1354 : Index := Scalar.indexCast v1305
  let c80_452 : Index := 80#32
  ![1, v1354.toNat, 80]
def k0_off682 (k0_t4 : Fin k0_t4_loop.trips) : Fin 3 → Nat :=
  let c1_i32_454 : BitVec 32 := 1#32
  let v1362 : Index := Scalar.indexCast c1_i32_454
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1363 : Index := Scalar.indexCast v1305
  let c96_455 : Index := 96#32
  ![1, v1363.toNat, 96]
def k0_off683 (k0_t4 : Fin k0_t4_loop.trips) : Fin 3 → Nat :=
  let c1_i32_457 : BitVec 32 := 1#32
  let v1371 : Index := Scalar.indexCast c1_i32_457
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1372 : Index := Scalar.indexCast v1305
  let c112_458 : Index := 112#32
  ![1, v1372.toNat, 112]
def k0_off684 (k0_t4 : Fin k0_t4_loop.trips) : Fin 3 → Nat :=
  let c1_i32_460 : BitVec 32 := 1#32
  let v1380 : Index := Scalar.indexCast c1_i32_460
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1381 : Index := Scalar.indexCast v1305
  let c128_461 : Index := 128#32
  ![1, v1381.toNat, 128]
def k0_off685 (k0_t4 : Fin k0_t4_loop.trips) : Fin 3 → Nat :=
  let c1_i32_463 : BitVec 32 := 1#32
  let v1389 : Index := Scalar.indexCast c1_i32_463
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1390 : Index := Scalar.indexCast v1305
  let c144_464 : Index := 144#32
  ![1, v1390.toNat, 144]
def k0_off686 (k0_t4 : Fin k0_t4_loop.trips) : Fin 3 → Nat :=
  let c1_i32_466 : BitVec 32 := 1#32
  let v1398 : Index := Scalar.indexCast c1_i32_466
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1399 : Index := Scalar.indexCast v1305
  let c160_467 : Index := 160#32
  ![1, v1399.toNat, 160]
def k0_off687 (k0_t4 : Fin k0_t4_loop.trips) : Fin 3 → Nat :=
  let c1_i32_469 : BitVec 32 := 1#32
  let v1407 : Index := Scalar.indexCast c1_i32_469
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1408 : Index := Scalar.indexCast v1305
  let c176_470 : Index := 176#32
  ![1, v1408.toNat, 176]
def k0_off688 (k0_t4 : Fin k0_t4_loop.trips) : Fin 3 → Nat :=
  let c1_i32_472 : BitVec 32 := 1#32
  let v1416 : Index := Scalar.indexCast c1_i32_472
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1417 : Index := Scalar.indexCast v1305
  let c192_473 : Index := 192#32
  ![1, v1417.toNat, 192]
def k0_off689 (k0_t4 : Fin k0_t4_loop.trips) : Fin 3 → Nat :=
  let c1_i32_475 : BitVec 32 := 1#32
  let v1425 : Index := Scalar.indexCast c1_i32_475
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1426 : Index := Scalar.indexCast v1305
  let c208_476 : Index := 208#32
  ![1, v1426.toNat, 208]
def k0_off690 (k0_t4 : Fin k0_t4_loop.trips) : Fin 3 → Nat :=
  let c1_i32_478 : BitVec 32 := 1#32
  let v1434 : Index := Scalar.indexCast c1_i32_478
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1435 : Index := Scalar.indexCast v1305
  let c224_479 : Index := 224#32
  ![1, v1435.toNat, 224]
def k0_off691 (k0_t4 : Fin k0_t4_loop.trips) : Fin 3 → Nat :=
  let c1_i32_481 : BitVec 32 := 1#32
  let v1443 : Index := Scalar.indexCast c1_i32_481
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_435 : BitVec 32 := 16#32
  let v1304 : BitVec 32 := Scalar.muli v46 c16_i32_435
  let c8_i32 : BitVec 32 := 8#32
  let v1305 : BitVec 32 := Scalar.addi v1304 c8_i32
  let v1444 : Index := Scalar.indexCast v1305
  let c240_482 : Index := 240#32
  ![1, v1444.toNat, 240]
def k0_off692 (k0_t4 : Fin k0_t4_loop.trips) : Fin 3 → Nat :=
  let c1_i32_485 : BitVec 32 := 1#32
  let v1456 : Index := Scalar.indexCast c1_i32_485
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1457 : Index := Scalar.indexCast v1453
  let c0_486 : Index := 0#32
  ![1, v1457.toNat, 0]
def k0_off693 (v1455 : BitVec 32) (c0_i32_487 : BitVec 32) : Fin 1 → Nat :=
  let v1461 : BitVec 32 := Scalar.addi v1455 c0_i32_487
  let v1462 : Index := Scalar.indexCast v1461
  ![v1462.toNat]

def k0_chk43 (v1455 : BitVec 32) : Prop :=
  (∀ (r : Fin 16), ∀ a, (k0_off693 v1455 (BitVec.ofNat 32 (16 * r.val))) a + S16.size a ≤ S17408.size a)
theorem k0_off693_inb : ∀ (v1455 : BitVec 32) (k0_hw43 : k0_chk43 v1455), ∀ (r : Fin 16), ∀ a, (k0_off693 v1455 (BitVec.ofNat 32 (16 * r.val))) a + S16.size a ≤ S17408.size a := fun v1455 k0_hw43 r => k0_hw43 r

def k0_off694 (k0_t4 : Fin k0_t4_loop.trips) : Fin 3 → Nat :=
  let c1_i32_488 : BitVec 32 := 1#32
  let v1465 : Index := Scalar.indexCast c1_i32_488
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1466 : Index := Scalar.indexCast v1453
  let c16_489 : Index := 16#32
  ![1, v1466.toNat, 16]
def k0_off695 (k0_t4 : Fin k0_t4_loop.trips) : Fin 3 → Nat :=
  let c1_i32_491 : BitVec 32 := 1#32
  let v1474 : Index := Scalar.indexCast c1_i32_491
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1475 : Index := Scalar.indexCast v1453
  let c32_492 : Index := 32#32
  ![1, v1475.toNat, 32]
def k0_off696 (k0_t4 : Fin k0_t4_loop.trips) : Fin 3 → Nat :=
  let c1_i32_494 : BitVec 32 := 1#32
  let v1483 : Index := Scalar.indexCast c1_i32_494
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1484 : Index := Scalar.indexCast v1453
  let c48_495 : Index := 48#32
  ![1, v1484.toNat, 48]
def k0_off697 (k0_t4 : Fin k0_t4_loop.trips) : Fin 3 → Nat :=
  let c1_i32_497 : BitVec 32 := 1#32
  let v1492 : Index := Scalar.indexCast c1_i32_497
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1493 : Index := Scalar.indexCast v1453
  let c64_498 : Index := 64#32
  ![1, v1493.toNat, 64]
def k0_off698 (k0_t4 : Fin k0_t4_loop.trips) : Fin 3 → Nat :=
  let c1_i32_500 : BitVec 32 := 1#32
  let v1501 : Index := Scalar.indexCast c1_i32_500
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1502 : Index := Scalar.indexCast v1453
  let c80_501 : Index := 80#32
  ![1, v1502.toNat, 80]
def k0_off699 (k0_t4 : Fin k0_t4_loop.trips) : Fin 3 → Nat :=
  let c1_i32_503 : BitVec 32 := 1#32
  let v1510 : Index := Scalar.indexCast c1_i32_503
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1511 : Index := Scalar.indexCast v1453
  let c96_504 : Index := 96#32
  ![1, v1511.toNat, 96]
def k0_off700 (k0_t4 : Fin k0_t4_loop.trips) : Fin 3 → Nat :=
  let c1_i32_506 : BitVec 32 := 1#32
  let v1519 : Index := Scalar.indexCast c1_i32_506
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1520 : Index := Scalar.indexCast v1453
  let c112_507 : Index := 112#32
  ![1, v1520.toNat, 112]
def k0_off701 (k0_t4 : Fin k0_t4_loop.trips) : Fin 3 → Nat :=
  let c1_i32_509 : BitVec 32 := 1#32
  let v1528 : Index := Scalar.indexCast c1_i32_509
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1529 : Index := Scalar.indexCast v1453
  let c128_510 : Index := 128#32
  ![1, v1529.toNat, 128]
def k0_off702 (k0_t4 : Fin k0_t4_loop.trips) : Fin 3 → Nat :=
  let c1_i32_512 : BitVec 32 := 1#32
  let v1537 : Index := Scalar.indexCast c1_i32_512
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1538 : Index := Scalar.indexCast v1453
  let c144_513 : Index := 144#32
  ![1, v1538.toNat, 144]
def k0_off703 (k0_t4 : Fin k0_t4_loop.trips) : Fin 3 → Nat :=
  let c1_i32_515 : BitVec 32 := 1#32
  let v1546 : Index := Scalar.indexCast c1_i32_515
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1547 : Index := Scalar.indexCast v1453
  let c160_516 : Index := 160#32
  ![1, v1547.toNat, 160]
def k0_off704 (k0_t4 : Fin k0_t4_loop.trips) : Fin 3 → Nat :=
  let c1_i32_518 : BitVec 32 := 1#32
  let v1555 : Index := Scalar.indexCast c1_i32_518
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1556 : Index := Scalar.indexCast v1453
  let c176_519 : Index := 176#32
  ![1, v1556.toNat, 176]
def k0_off705 (k0_t4 : Fin k0_t4_loop.trips) : Fin 3 → Nat :=
  let c1_i32_521 : BitVec 32 := 1#32
  let v1564 : Index := Scalar.indexCast c1_i32_521
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1565 : Index := Scalar.indexCast v1453
  let c192_522 : Index := 192#32
  ![1, v1565.toNat, 192]
def k0_off706 (k0_t4 : Fin k0_t4_loop.trips) : Fin 3 → Nat :=
  let c1_i32_524 : BitVec 32 := 1#32
  let v1573 : Index := Scalar.indexCast c1_i32_524
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1574 : Index := Scalar.indexCast v1453
  let c208_525 : Index := 208#32
  ![1, v1574.toNat, 208]
def k0_off707 (k0_t4 : Fin k0_t4_loop.trips) : Fin 3 → Nat :=
  let c1_i32_527 : BitVec 32 := 1#32
  let v1582 : Index := Scalar.indexCast c1_i32_527
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1583 : Index := Scalar.indexCast v1453
  let c224_528 : Index := 224#32
  ![1, v1583.toNat, 224]
def k0_off708 (k0_t4 : Fin k0_t4_loop.trips) : Fin 3 → Nat :=
  let c1_i32_530 : BitVec 32 := 1#32
  let v1591 : Index := Scalar.indexCast c1_i32_530
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_484 : BitVec 32 := 16#32
  let v1452 : BitVec 32 := Scalar.muli v46 c16_i32_484
  let c9_i32 : BitVec 32 := 9#32
  let v1453 : BitVec 32 := Scalar.addi v1452 c9_i32
  let v1592 : Index := Scalar.indexCast v1453
  let c240_531 : Index := 240#32
  ![1, v1592.toNat, 240]
def k0_off709 (k0_t4 : Fin k0_t4_loop.trips) : Fin 3 → Nat :=
  let c1_i32_534 : BitVec 32 := 1#32
  let v1604 : Index := Scalar.indexCast c1_i32_534
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1605 : Index := Scalar.indexCast v1601
  let c0_535 : Index := 0#32
  ![1, v1605.toNat, 0]
def k0_off710 (v1603 : BitVec 32) (c0_i32_536 : BitVec 32) : Fin 1 → Nat :=
  let v1609 : BitVec 32 := Scalar.addi v1603 c0_i32_536
  let v1610 : Index := Scalar.indexCast v1609
  ![v1610.toNat]

def k0_chk44 (v1603 : BitVec 32) : Prop :=
  (∀ (r : Fin 16), ∀ a, (k0_off710 v1603 (BitVec.ofNat 32 (16 * r.val))) a + S16.size a ≤ S17408.size a)
theorem k0_off710_inb : ∀ (v1603 : BitVec 32) (k0_hw44 : k0_chk44 v1603), ∀ (r : Fin 16), ∀ a, (k0_off710 v1603 (BitVec.ofNat 32 (16 * r.val))) a + S16.size a ≤ S17408.size a := fun v1603 k0_hw44 r => k0_hw44 r

def k0_off711 (k0_t4 : Fin k0_t4_loop.trips) : Fin 3 → Nat :=
  let c1_i32_537 : BitVec 32 := 1#32
  let v1613 : Index := Scalar.indexCast c1_i32_537
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1614 : Index := Scalar.indexCast v1601
  let c16_538 : Index := 16#32
  ![1, v1614.toNat, 16]
def k0_off712 (k0_t4 : Fin k0_t4_loop.trips) : Fin 3 → Nat :=
  let c1_i32_540 : BitVec 32 := 1#32
  let v1622 : Index := Scalar.indexCast c1_i32_540
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1623 : Index := Scalar.indexCast v1601
  let c32_541 : Index := 32#32
  ![1, v1623.toNat, 32]
def k0_off713 (k0_t4 : Fin k0_t4_loop.trips) : Fin 3 → Nat :=
  let c1_i32_543 : BitVec 32 := 1#32
  let v1631 : Index := Scalar.indexCast c1_i32_543
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1632 : Index := Scalar.indexCast v1601
  let c48_544 : Index := 48#32
  ![1, v1632.toNat, 48]
def k0_off714 (k0_t4 : Fin k0_t4_loop.trips) : Fin 3 → Nat :=
  let c1_i32_546 : BitVec 32 := 1#32
  let v1640 : Index := Scalar.indexCast c1_i32_546
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1641 : Index := Scalar.indexCast v1601
  let c64_547 : Index := 64#32
  ![1, v1641.toNat, 64]
def k0_off715 (k0_t4 : Fin k0_t4_loop.trips) : Fin 3 → Nat :=
  let c1_i32_549 : BitVec 32 := 1#32
  let v1649 : Index := Scalar.indexCast c1_i32_549
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1650 : Index := Scalar.indexCast v1601
  let c80_550 : Index := 80#32
  ![1, v1650.toNat, 80]
def k0_off716 (k0_t4 : Fin k0_t4_loop.trips) : Fin 3 → Nat :=
  let c1_i32_552 : BitVec 32 := 1#32
  let v1658 : Index := Scalar.indexCast c1_i32_552
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1659 : Index := Scalar.indexCast v1601
  let c96_553 : Index := 96#32
  ![1, v1659.toNat, 96]
def k0_off717 (k0_t4 : Fin k0_t4_loop.trips) : Fin 3 → Nat :=
  let c1_i32_555 : BitVec 32 := 1#32
  let v1667 : Index := Scalar.indexCast c1_i32_555
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1668 : Index := Scalar.indexCast v1601
  let c112_556 : Index := 112#32
  ![1, v1668.toNat, 112]
def k0_off718 (k0_t4 : Fin k0_t4_loop.trips) : Fin 3 → Nat :=
  let c1_i32_558 : BitVec 32 := 1#32
  let v1676 : Index := Scalar.indexCast c1_i32_558
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1677 : Index := Scalar.indexCast v1601
  let c128_559 : Index := 128#32
  ![1, v1677.toNat, 128]
def k0_off719 (k0_t4 : Fin k0_t4_loop.trips) : Fin 3 → Nat :=
  let c1_i32_561 : BitVec 32 := 1#32
  let v1685 : Index := Scalar.indexCast c1_i32_561
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1686 : Index := Scalar.indexCast v1601
  let c144_562 : Index := 144#32
  ![1, v1686.toNat, 144]
def k0_off720 (k0_t4 : Fin k0_t4_loop.trips) : Fin 3 → Nat :=
  let c1_i32_564 : BitVec 32 := 1#32
  let v1694 : Index := Scalar.indexCast c1_i32_564
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1695 : Index := Scalar.indexCast v1601
  let c160_565 : Index := 160#32
  ![1, v1695.toNat, 160]
def k0_off721 (k0_t4 : Fin k0_t4_loop.trips) : Fin 3 → Nat :=
  let c1_i32_567 : BitVec 32 := 1#32
  let v1703 : Index := Scalar.indexCast c1_i32_567
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1704 : Index := Scalar.indexCast v1601
  let c176_568 : Index := 176#32
  ![1, v1704.toNat, 176]
def k0_off722 (k0_t4 : Fin k0_t4_loop.trips) : Fin 3 → Nat :=
  let c1_i32_570 : BitVec 32 := 1#32
  let v1712 : Index := Scalar.indexCast c1_i32_570
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1713 : Index := Scalar.indexCast v1601
  let c192_571 : Index := 192#32
  ![1, v1713.toNat, 192]
def k0_off723 (k0_t4 : Fin k0_t4_loop.trips) : Fin 3 → Nat :=
  let c1_i32_573 : BitVec 32 := 1#32
  let v1721 : Index := Scalar.indexCast c1_i32_573
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1722 : Index := Scalar.indexCast v1601
  let c208_574 : Index := 208#32
  ![1, v1722.toNat, 208]
def k0_off724 (k0_t4 : Fin k0_t4_loop.trips) : Fin 3 → Nat :=
  let c1_i32_576 : BitVec 32 := 1#32
  let v1730 : Index := Scalar.indexCast c1_i32_576
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1731 : Index := Scalar.indexCast v1601
  let c224_577 : Index := 224#32
  ![1, v1731.toNat, 224]
def k0_off725 (k0_t4 : Fin k0_t4_loop.trips) : Fin 3 → Nat :=
  let c1_i32_579 : BitVec 32 := 1#32
  let v1739 : Index := Scalar.indexCast c1_i32_579
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_533 : BitVec 32 := 16#32
  let v1600 : BitVec 32 := Scalar.muli v46 c16_i32_533
  let c10_i32 : BitVec 32 := 10#32
  let v1601 : BitVec 32 := Scalar.addi v1600 c10_i32
  let v1740 : Index := Scalar.indexCast v1601
  let c240_580 : Index := 240#32
  ![1, v1740.toNat, 240]
def k0_off726 (k0_t4 : Fin k0_t4_loop.trips) : Fin 3 → Nat :=
  let c1_i32_583 : BitVec 32 := 1#32
  let v1752 : Index := Scalar.indexCast c1_i32_583
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1753 : Index := Scalar.indexCast v1749
  let c0_584 : Index := 0#32
  ![1, v1753.toNat, 0]
def k0_off727 (v1751 : BitVec 32) (c0_i32_585 : BitVec 32) : Fin 1 → Nat :=
  let v1757 : BitVec 32 := Scalar.addi v1751 c0_i32_585
  let v1758 : Index := Scalar.indexCast v1757
  ![v1758.toNat]

def k0_chk45 (v1751 : BitVec 32) : Prop :=
  (∀ (r : Fin 16), ∀ a, (k0_off727 v1751 (BitVec.ofNat 32 (16 * r.val))) a + S16.size a ≤ S17408.size a)
theorem k0_off727_inb : ∀ (v1751 : BitVec 32) (k0_hw45 : k0_chk45 v1751), ∀ (r : Fin 16), ∀ a, (k0_off727 v1751 (BitVec.ofNat 32 (16 * r.val))) a + S16.size a ≤ S17408.size a := fun v1751 k0_hw45 r => k0_hw45 r

def k0_off728 (k0_t4 : Fin k0_t4_loop.trips) : Fin 3 → Nat :=
  let c1_i32_586 : BitVec 32 := 1#32
  let v1761 : Index := Scalar.indexCast c1_i32_586
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1762 : Index := Scalar.indexCast v1749
  let c16_587 : Index := 16#32
  ![1, v1762.toNat, 16]
def k0_off729 (k0_t4 : Fin k0_t4_loop.trips) : Fin 3 → Nat :=
  let c1_i32_589 : BitVec 32 := 1#32
  let v1770 : Index := Scalar.indexCast c1_i32_589
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1771 : Index := Scalar.indexCast v1749
  let c32_590 : Index := 32#32
  ![1, v1771.toNat, 32]
def k0_off730 (k0_t4 : Fin k0_t4_loop.trips) : Fin 3 → Nat :=
  let c1_i32_592 : BitVec 32 := 1#32
  let v1779 : Index := Scalar.indexCast c1_i32_592
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1780 : Index := Scalar.indexCast v1749
  let c48_593 : Index := 48#32
  ![1, v1780.toNat, 48]
def k0_off731 (k0_t4 : Fin k0_t4_loop.trips) : Fin 3 → Nat :=
  let c1_i32_595 : BitVec 32 := 1#32
  let v1788 : Index := Scalar.indexCast c1_i32_595
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1789 : Index := Scalar.indexCast v1749
  let c64_596 : Index := 64#32
  ![1, v1789.toNat, 64]
def k0_off732 (k0_t4 : Fin k0_t4_loop.trips) : Fin 3 → Nat :=
  let c1_i32_598 : BitVec 32 := 1#32
  let v1797 : Index := Scalar.indexCast c1_i32_598
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1798 : Index := Scalar.indexCast v1749
  let c80_599 : Index := 80#32
  ![1, v1798.toNat, 80]
def k0_off733 (k0_t4 : Fin k0_t4_loop.trips) : Fin 3 → Nat :=
  let c1_i32_601 : BitVec 32 := 1#32
  let v1806 : Index := Scalar.indexCast c1_i32_601
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1807 : Index := Scalar.indexCast v1749
  let c96_602 : Index := 96#32
  ![1, v1807.toNat, 96]
def k0_off734 (k0_t4 : Fin k0_t4_loop.trips) : Fin 3 → Nat :=
  let c1_i32_604 : BitVec 32 := 1#32
  let v1815 : Index := Scalar.indexCast c1_i32_604
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1816 : Index := Scalar.indexCast v1749
  let c112_605 : Index := 112#32
  ![1, v1816.toNat, 112]
def k0_off735 (k0_t4 : Fin k0_t4_loop.trips) : Fin 3 → Nat :=
  let c1_i32_607 : BitVec 32 := 1#32
  let v1824 : Index := Scalar.indexCast c1_i32_607
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1825 : Index := Scalar.indexCast v1749
  let c128_608 : Index := 128#32
  ![1, v1825.toNat, 128]
def k0_off736 (k0_t4 : Fin k0_t4_loop.trips) : Fin 3 → Nat :=
  let c1_i32_610 : BitVec 32 := 1#32
  let v1833 : Index := Scalar.indexCast c1_i32_610
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1834 : Index := Scalar.indexCast v1749
  let c144_611 : Index := 144#32
  ![1, v1834.toNat, 144]
def k0_off737 (k0_t4 : Fin k0_t4_loop.trips) : Fin 3 → Nat :=
  let c1_i32_613 : BitVec 32 := 1#32
  let v1842 : Index := Scalar.indexCast c1_i32_613
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1843 : Index := Scalar.indexCast v1749
  let c160_614 : Index := 160#32
  ![1, v1843.toNat, 160]
def k0_off738 (k0_t4 : Fin k0_t4_loop.trips) : Fin 3 → Nat :=
  let c1_i32_616 : BitVec 32 := 1#32
  let v1851 : Index := Scalar.indexCast c1_i32_616
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1852 : Index := Scalar.indexCast v1749
  let c176_617 : Index := 176#32
  ![1, v1852.toNat, 176]
def k0_off739 (k0_t4 : Fin k0_t4_loop.trips) : Fin 3 → Nat :=
  let c1_i32_619 : BitVec 32 := 1#32
  let v1860 : Index := Scalar.indexCast c1_i32_619
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1861 : Index := Scalar.indexCast v1749
  let c192_620 : Index := 192#32
  ![1, v1861.toNat, 192]
def k0_off740 (k0_t4 : Fin k0_t4_loop.trips) : Fin 3 → Nat :=
  let c1_i32_622 : BitVec 32 := 1#32
  let v1869 : Index := Scalar.indexCast c1_i32_622
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1870 : Index := Scalar.indexCast v1749
  let c208_623 : Index := 208#32
  ![1, v1870.toNat, 208]
def k0_off741 (k0_t4 : Fin k0_t4_loop.trips) : Fin 3 → Nat :=
  let c1_i32_625 : BitVec 32 := 1#32
  let v1878 : Index := Scalar.indexCast c1_i32_625
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1879 : Index := Scalar.indexCast v1749
  let c224_626 : Index := 224#32
  ![1, v1879.toNat, 224]
def k0_off742 (k0_t4 : Fin k0_t4_loop.trips) : Fin 3 → Nat :=
  let c1_i32_628 : BitVec 32 := 1#32
  let v1887 : Index := Scalar.indexCast c1_i32_628
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_582 : BitVec 32 := 16#32
  let v1748 : BitVec 32 := Scalar.muli v46 c16_i32_582
  let c11_i32 : BitVec 32 := 11#32
  let v1749 : BitVec 32 := Scalar.addi v1748 c11_i32
  let v1888 : Index := Scalar.indexCast v1749
  let c240_629 : Index := 240#32
  ![1, v1888.toNat, 240]
def k0_off743 (k0_t4 : Fin k0_t4_loop.trips) : Fin 3 → Nat :=
  let c1_i32_632 : BitVec 32 := 1#32
  let v1900 : Index := Scalar.indexCast c1_i32_632
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1901 : Index := Scalar.indexCast v1897
  let c0_633 : Index := 0#32
  ![1, v1901.toNat, 0]
def k0_off744 (v1899 : BitVec 32) (c0_i32_634 : BitVec 32) : Fin 1 → Nat :=
  let v1905 : BitVec 32 := Scalar.addi v1899 c0_i32_634
  let v1906 : Index := Scalar.indexCast v1905
  ![v1906.toNat]

def k0_chk46 (v1899 : BitVec 32) : Prop :=
  (∀ (r : Fin 16), ∀ a, (k0_off744 v1899 (BitVec.ofNat 32 (16 * r.val))) a + S16.size a ≤ S17408.size a)
theorem k0_off744_inb : ∀ (v1899 : BitVec 32) (k0_hw46 : k0_chk46 v1899), ∀ (r : Fin 16), ∀ a, (k0_off744 v1899 (BitVec.ofNat 32 (16 * r.val))) a + S16.size a ≤ S17408.size a := fun v1899 k0_hw46 r => k0_hw46 r

def k0_off745 (k0_t4 : Fin k0_t4_loop.trips) : Fin 3 → Nat :=
  let c1_i32_635 : BitVec 32 := 1#32
  let v1909 : Index := Scalar.indexCast c1_i32_635
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1910 : Index := Scalar.indexCast v1897
  let c16_636 : Index := 16#32
  ![1, v1910.toNat, 16]
def k0_off746 (k0_t4 : Fin k0_t4_loop.trips) : Fin 3 → Nat :=
  let c1_i32_638 : BitVec 32 := 1#32
  let v1918 : Index := Scalar.indexCast c1_i32_638
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1919 : Index := Scalar.indexCast v1897
  let c32_639 : Index := 32#32
  ![1, v1919.toNat, 32]
def k0_off747 (k0_t4 : Fin k0_t4_loop.trips) : Fin 3 → Nat :=
  let c1_i32_641 : BitVec 32 := 1#32
  let v1927 : Index := Scalar.indexCast c1_i32_641
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1928 : Index := Scalar.indexCast v1897
  let c48_642 : Index := 48#32
  ![1, v1928.toNat, 48]
def k0_off748 (k0_t4 : Fin k0_t4_loop.trips) : Fin 3 → Nat :=
  let c1_i32_644 : BitVec 32 := 1#32
  let v1936 : Index := Scalar.indexCast c1_i32_644
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1937 : Index := Scalar.indexCast v1897
  let c64_645 : Index := 64#32
  ![1, v1937.toNat, 64]
def k0_off749 (k0_t4 : Fin k0_t4_loop.trips) : Fin 3 → Nat :=
  let c1_i32_647 : BitVec 32 := 1#32
  let v1945 : Index := Scalar.indexCast c1_i32_647
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1946 : Index := Scalar.indexCast v1897
  let c80_648 : Index := 80#32
  ![1, v1946.toNat, 80]
def k0_off750 (k0_t4 : Fin k0_t4_loop.trips) : Fin 3 → Nat :=
  let c1_i32_650 : BitVec 32 := 1#32
  let v1954 : Index := Scalar.indexCast c1_i32_650
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1955 : Index := Scalar.indexCast v1897
  let c96_651 : Index := 96#32
  ![1, v1955.toNat, 96]
def k0_off751 (k0_t4 : Fin k0_t4_loop.trips) : Fin 3 → Nat :=
  let c1_i32_653 : BitVec 32 := 1#32
  let v1963 : Index := Scalar.indexCast c1_i32_653
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1964 : Index := Scalar.indexCast v1897
  let c112_654 : Index := 112#32
  ![1, v1964.toNat, 112]
def k0_off752 (k0_t4 : Fin k0_t4_loop.trips) : Fin 3 → Nat :=
  let c1_i32_656 : BitVec 32 := 1#32
  let v1972 : Index := Scalar.indexCast c1_i32_656
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1973 : Index := Scalar.indexCast v1897
  let c128_657 : Index := 128#32
  ![1, v1973.toNat, 128]
def k0_off753 (k0_t4 : Fin k0_t4_loop.trips) : Fin 3 → Nat :=
  let c1_i32_659 : BitVec 32 := 1#32
  let v1981 : Index := Scalar.indexCast c1_i32_659
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1982 : Index := Scalar.indexCast v1897
  let c144_660 : Index := 144#32
  ![1, v1982.toNat, 144]
def k0_off754 (k0_t4 : Fin k0_t4_loop.trips) : Fin 3 → Nat :=
  let c1_i32_662 : BitVec 32 := 1#32
  let v1990 : Index := Scalar.indexCast c1_i32_662
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v1991 : Index := Scalar.indexCast v1897
  let c160_663 : Index := 160#32
  ![1, v1991.toNat, 160]
def k0_off755 (k0_t4 : Fin k0_t4_loop.trips) : Fin 3 → Nat :=
  let c1_i32_665 : BitVec 32 := 1#32
  let v1999 : Index := Scalar.indexCast c1_i32_665
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2000 : Index := Scalar.indexCast v1897
  let c176_666 : Index := 176#32
  ![1, v2000.toNat, 176]
def k0_off756 (k0_t4 : Fin k0_t4_loop.trips) : Fin 3 → Nat :=
  let c1_i32_668 : BitVec 32 := 1#32
  let v2008 : Index := Scalar.indexCast c1_i32_668
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2009 : Index := Scalar.indexCast v1897
  let c192_669 : Index := 192#32
  ![1, v2009.toNat, 192]
def k0_off757 (k0_t4 : Fin k0_t4_loop.trips) : Fin 3 → Nat :=
  let c1_i32_671 : BitVec 32 := 1#32
  let v2017 : Index := Scalar.indexCast c1_i32_671
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2018 : Index := Scalar.indexCast v1897
  let c208_672 : Index := 208#32
  ![1, v2018.toNat, 208]
def k0_off758 (k0_t4 : Fin k0_t4_loop.trips) : Fin 3 → Nat :=
  let c1_i32_674 : BitVec 32 := 1#32
  let v2026 : Index := Scalar.indexCast c1_i32_674
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2027 : Index := Scalar.indexCast v1897
  let c224_675 : Index := 224#32
  ![1, v2027.toNat, 224]
def k0_off759 (k0_t4 : Fin k0_t4_loop.trips) : Fin 3 → Nat :=
  let c1_i32_677 : BitVec 32 := 1#32
  let v2035 : Index := Scalar.indexCast c1_i32_677
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_631 : BitVec 32 := 16#32
  let v1896 : BitVec 32 := Scalar.muli v46 c16_i32_631
  let c12_i32 : BitVec 32 := 12#32
  let v1897 : BitVec 32 := Scalar.addi v1896 c12_i32
  let v2036 : Index := Scalar.indexCast v1897
  let c240_678 : Index := 240#32
  ![1, v2036.toNat, 240]
def k0_off760 (k0_t4 : Fin k0_t4_loop.trips) : Fin 3 → Nat :=
  let c1_i32_681 : BitVec 32 := 1#32
  let v2048 : Index := Scalar.indexCast c1_i32_681
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2049 : Index := Scalar.indexCast v2045
  let c0_682 : Index := 0#32
  ![1, v2049.toNat, 0]
def k0_off761 (v2047 : BitVec 32) (c0_i32_683 : BitVec 32) : Fin 1 → Nat :=
  let v2053 : BitVec 32 := Scalar.addi v2047 c0_i32_683
  let v2054 : Index := Scalar.indexCast v2053
  ![v2054.toNat]

def k0_chk47 (v2047 : BitVec 32) : Prop :=
  (∀ (r : Fin 16), ∀ a, (k0_off761 v2047 (BitVec.ofNat 32 (16 * r.val))) a + S16.size a ≤ S17408.size a)
theorem k0_off761_inb : ∀ (v2047 : BitVec 32) (k0_hw47 : k0_chk47 v2047), ∀ (r : Fin 16), ∀ a, (k0_off761 v2047 (BitVec.ofNat 32 (16 * r.val))) a + S16.size a ≤ S17408.size a := fun v2047 k0_hw47 r => k0_hw47 r

def k0_off762 (k0_t4 : Fin k0_t4_loop.trips) : Fin 3 → Nat :=
  let c1_i32_684 : BitVec 32 := 1#32
  let v2057 : Index := Scalar.indexCast c1_i32_684
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2058 : Index := Scalar.indexCast v2045
  let c16_685 : Index := 16#32
  ![1, v2058.toNat, 16]
def k0_off763 (k0_t4 : Fin k0_t4_loop.trips) : Fin 3 → Nat :=
  let c1_i32_687 : BitVec 32 := 1#32
  let v2066 : Index := Scalar.indexCast c1_i32_687
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2067 : Index := Scalar.indexCast v2045
  let c32_688 : Index := 32#32
  ![1, v2067.toNat, 32]
def k0_off764 (k0_t4 : Fin k0_t4_loop.trips) : Fin 3 → Nat :=
  let c1_i32_690 : BitVec 32 := 1#32
  let v2075 : Index := Scalar.indexCast c1_i32_690
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2076 : Index := Scalar.indexCast v2045
  let c48_691 : Index := 48#32
  ![1, v2076.toNat, 48]
def k0_off765 (k0_t4 : Fin k0_t4_loop.trips) : Fin 3 → Nat :=
  let c1_i32_693 : BitVec 32 := 1#32
  let v2084 : Index := Scalar.indexCast c1_i32_693
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2085 : Index := Scalar.indexCast v2045
  let c64_694 : Index := 64#32
  ![1, v2085.toNat, 64]
def k0_off766 (k0_t4 : Fin k0_t4_loop.trips) : Fin 3 → Nat :=
  let c1_i32_696 : BitVec 32 := 1#32
  let v2093 : Index := Scalar.indexCast c1_i32_696
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2094 : Index := Scalar.indexCast v2045
  let c80_697 : Index := 80#32
  ![1, v2094.toNat, 80]
def k0_off767 (k0_t4 : Fin k0_t4_loop.trips) : Fin 3 → Nat :=
  let c1_i32_699 : BitVec 32 := 1#32
  let v2102 : Index := Scalar.indexCast c1_i32_699
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2103 : Index := Scalar.indexCast v2045
  let c96_700 : Index := 96#32
  ![1, v2103.toNat, 96]
def k0_off768 (k0_t4 : Fin k0_t4_loop.trips) : Fin 3 → Nat :=
  let c1_i32_702 : BitVec 32 := 1#32
  let v2111 : Index := Scalar.indexCast c1_i32_702
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2112 : Index := Scalar.indexCast v2045
  let c112_703 : Index := 112#32
  ![1, v2112.toNat, 112]
def k0_off769 (k0_t4 : Fin k0_t4_loop.trips) : Fin 3 → Nat :=
  let c1_i32_705 : BitVec 32 := 1#32
  let v2120 : Index := Scalar.indexCast c1_i32_705
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2121 : Index := Scalar.indexCast v2045
  let c128_706 : Index := 128#32
  ![1, v2121.toNat, 128]
def k0_off770 (k0_t4 : Fin k0_t4_loop.trips) : Fin 3 → Nat :=
  let c1_i32_708 : BitVec 32 := 1#32
  let v2129 : Index := Scalar.indexCast c1_i32_708
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2130 : Index := Scalar.indexCast v2045
  let c144_709 : Index := 144#32
  ![1, v2130.toNat, 144]
def k0_off771 (k0_t4 : Fin k0_t4_loop.trips) : Fin 3 → Nat :=
  let c1_i32_711 : BitVec 32 := 1#32
  let v2138 : Index := Scalar.indexCast c1_i32_711
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2139 : Index := Scalar.indexCast v2045
  let c160_712 : Index := 160#32
  ![1, v2139.toNat, 160]
def k0_off772 (k0_t4 : Fin k0_t4_loop.trips) : Fin 3 → Nat :=
  let c1_i32_714 : BitVec 32 := 1#32
  let v2147 : Index := Scalar.indexCast c1_i32_714
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2148 : Index := Scalar.indexCast v2045
  let c176_715 : Index := 176#32
  ![1, v2148.toNat, 176]
def k0_off773 (k0_t4 : Fin k0_t4_loop.trips) : Fin 3 → Nat :=
  let c1_i32_717 : BitVec 32 := 1#32
  let v2156 : Index := Scalar.indexCast c1_i32_717
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2157 : Index := Scalar.indexCast v2045
  let c192_718 : Index := 192#32
  ![1, v2157.toNat, 192]
def k0_off774 (k0_t4 : Fin k0_t4_loop.trips) : Fin 3 → Nat :=
  let c1_i32_720 : BitVec 32 := 1#32
  let v2165 : Index := Scalar.indexCast c1_i32_720
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2166 : Index := Scalar.indexCast v2045
  let c208_721 : Index := 208#32
  ![1, v2166.toNat, 208]
def k0_off775 (k0_t4 : Fin k0_t4_loop.trips) : Fin 3 → Nat :=
  let c1_i32_723 : BitVec 32 := 1#32
  let v2174 : Index := Scalar.indexCast c1_i32_723
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2175 : Index := Scalar.indexCast v2045
  let c224_724 : Index := 224#32
  ![1, v2175.toNat, 224]
def k0_off776 (k0_t4 : Fin k0_t4_loop.trips) : Fin 3 → Nat :=
  let c1_i32_726 : BitVec 32 := 1#32
  let v2183 : Index := Scalar.indexCast c1_i32_726
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_680 : BitVec 32 := 16#32
  let v2044 : BitVec 32 := Scalar.muli v46 c16_i32_680
  let c13_i32 : BitVec 32 := 13#32
  let v2045 : BitVec 32 := Scalar.addi v2044 c13_i32
  let v2184 : Index := Scalar.indexCast v2045
  let c240_727 : Index := 240#32
  ![1, v2184.toNat, 240]
def k0_off777 (k0_t4 : Fin k0_t4_loop.trips) : Fin 3 → Nat :=
  let c1_i32_730 : BitVec 32 := 1#32
  let v2196 : Index := Scalar.indexCast c1_i32_730
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2197 : Index := Scalar.indexCast v2193
  let c0_731 : Index := 0#32
  ![1, v2197.toNat, 0]
def k0_off778 (v2195 : BitVec 32) (c0_i32_732 : BitVec 32) : Fin 1 → Nat :=
  let v2201 : BitVec 32 := Scalar.addi v2195 c0_i32_732
  let v2202 : Index := Scalar.indexCast v2201
  ![v2202.toNat]

def k0_chk48 (v2195 : BitVec 32) : Prop :=
  (∀ (r : Fin 16), ∀ a, (k0_off778 v2195 (BitVec.ofNat 32 (16 * r.val))) a + S16.size a ≤ S17408.size a)
theorem k0_off778_inb : ∀ (v2195 : BitVec 32) (k0_hw48 : k0_chk48 v2195), ∀ (r : Fin 16), ∀ a, (k0_off778 v2195 (BitVec.ofNat 32 (16 * r.val))) a + S16.size a ≤ S17408.size a := fun v2195 k0_hw48 r => k0_hw48 r

def k0_off779 (k0_t4 : Fin k0_t4_loop.trips) : Fin 3 → Nat :=
  let c1_i32_733 : BitVec 32 := 1#32
  let v2205 : Index := Scalar.indexCast c1_i32_733
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2206 : Index := Scalar.indexCast v2193
  let c16_734 : Index := 16#32
  ![1, v2206.toNat, 16]
def k0_off780 (k0_t4 : Fin k0_t4_loop.trips) : Fin 3 → Nat :=
  let c1_i32_736 : BitVec 32 := 1#32
  let v2214 : Index := Scalar.indexCast c1_i32_736
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2215 : Index := Scalar.indexCast v2193
  let c32_737 : Index := 32#32
  ![1, v2215.toNat, 32]
def k0_off781 (k0_t4 : Fin k0_t4_loop.trips) : Fin 3 → Nat :=
  let c1_i32_739 : BitVec 32 := 1#32
  let v2223 : Index := Scalar.indexCast c1_i32_739
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2224 : Index := Scalar.indexCast v2193
  let c48_740 : Index := 48#32
  ![1, v2224.toNat, 48]
def k0_off782 (k0_t4 : Fin k0_t4_loop.trips) : Fin 3 → Nat :=
  let c1_i32_742 : BitVec 32 := 1#32
  let v2232 : Index := Scalar.indexCast c1_i32_742
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2233 : Index := Scalar.indexCast v2193
  let c64_743 : Index := 64#32
  ![1, v2233.toNat, 64]
def k0_off783 (k0_t4 : Fin k0_t4_loop.trips) : Fin 3 → Nat :=
  let c1_i32_745 : BitVec 32 := 1#32
  let v2241 : Index := Scalar.indexCast c1_i32_745
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2242 : Index := Scalar.indexCast v2193
  let c80_746 : Index := 80#32
  ![1, v2242.toNat, 80]
def k0_off784 (k0_t4 : Fin k0_t4_loop.trips) : Fin 3 → Nat :=
  let c1_i32_748 : BitVec 32 := 1#32
  let v2250 : Index := Scalar.indexCast c1_i32_748
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2251 : Index := Scalar.indexCast v2193
  let c96_749 : Index := 96#32
  ![1, v2251.toNat, 96]
def k0_off785 (k0_t4 : Fin k0_t4_loop.trips) : Fin 3 → Nat :=
  let c1_i32_751 : BitVec 32 := 1#32
  let v2259 : Index := Scalar.indexCast c1_i32_751
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2260 : Index := Scalar.indexCast v2193
  let c112_752 : Index := 112#32
  ![1, v2260.toNat, 112]
def k0_off786 (k0_t4 : Fin k0_t4_loop.trips) : Fin 3 → Nat :=
  let c1_i32_754 : BitVec 32 := 1#32
  let v2268 : Index := Scalar.indexCast c1_i32_754
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2269 : Index := Scalar.indexCast v2193
  let c128_755 : Index := 128#32
  ![1, v2269.toNat, 128]
def k0_off787 (k0_t4 : Fin k0_t4_loop.trips) : Fin 3 → Nat :=
  let c1_i32_757 : BitVec 32 := 1#32
  let v2277 : Index := Scalar.indexCast c1_i32_757
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2278 : Index := Scalar.indexCast v2193
  let c144_758 : Index := 144#32
  ![1, v2278.toNat, 144]
def k0_off788 (k0_t4 : Fin k0_t4_loop.trips) : Fin 3 → Nat :=
  let c1_i32_760 : BitVec 32 := 1#32
  let v2286 : Index := Scalar.indexCast c1_i32_760
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2287 : Index := Scalar.indexCast v2193
  let c160_761 : Index := 160#32
  ![1, v2287.toNat, 160]
def k0_off789 (k0_t4 : Fin k0_t4_loop.trips) : Fin 3 → Nat :=
  let c1_i32_763 : BitVec 32 := 1#32
  let v2295 : Index := Scalar.indexCast c1_i32_763
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2296 : Index := Scalar.indexCast v2193
  let c176_764 : Index := 176#32
  ![1, v2296.toNat, 176]
def k0_off790 (k0_t4 : Fin k0_t4_loop.trips) : Fin 3 → Nat :=
  let c1_i32_766 : BitVec 32 := 1#32
  let v2304 : Index := Scalar.indexCast c1_i32_766
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2305 : Index := Scalar.indexCast v2193
  let c192_767 : Index := 192#32
  ![1, v2305.toNat, 192]
def k0_off791 (k0_t4 : Fin k0_t4_loop.trips) : Fin 3 → Nat :=
  let c1_i32_769 : BitVec 32 := 1#32
  let v2313 : Index := Scalar.indexCast c1_i32_769
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2314 : Index := Scalar.indexCast v2193
  let c208_770 : Index := 208#32
  ![1, v2314.toNat, 208]
def k0_off792 (k0_t4 : Fin k0_t4_loop.trips) : Fin 3 → Nat :=
  let c1_i32_772 : BitVec 32 := 1#32
  let v2322 : Index := Scalar.indexCast c1_i32_772
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2323 : Index := Scalar.indexCast v2193
  let c224_773 : Index := 224#32
  ![1, v2323.toNat, 224]
def k0_off793 (k0_t4 : Fin k0_t4_loop.trips) : Fin 3 → Nat :=
  let c1_i32_775 : BitVec 32 := 1#32
  let v2331 : Index := Scalar.indexCast c1_i32_775
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_729 : BitVec 32 := 16#32
  let v2192 : BitVec 32 := Scalar.muli v46 c16_i32_729
  let c14_i32 : BitVec 32 := 14#32
  let v2193 : BitVec 32 := Scalar.addi v2192 c14_i32
  let v2332 : Index := Scalar.indexCast v2193
  let c240_776 : Index := 240#32
  ![1, v2332.toNat, 240]
def k0_off794 (k0_t2 : Fin k0_t2_loop.trips) (k0_t4 : Fin k0_t4_loop.trips) : Fin 2 → Nat :=
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let c1_i32_21 : BitVec 32 := 1#32
  let v20 : BitVec 32 := Scalar.addi v19 c1_i32_21
  let v2345 : Index := Scalar.indexCast v20
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_781 : BitVec 32 := 16#32
  let v2344 : BitVec 32 := Scalar.muli v2343 c16_i32_781
  let v2346 : Index := Scalar.indexCast v2344
  ![v2345.toNat, v2346.toNat]
def k0_off795 (k0_t4 : Fin k0_t4_loop.trips) : Fin 3 → Nat :=
  let c1_i32_783 : BitVec 32 := 1#32
  let v2353 : Index := Scalar.indexCast c1_i32_783
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2354 : Index := Scalar.indexCast v2341
  let c0_784 : Index := 0#32
  ![1, v2354.toNat, 0]
def k0_off796 (v2352 : BitVec 32) (c0_i32_785 : BitVec 32) : Fin 1 → Nat :=
  let v2358 : BitVec 32 := Scalar.addi v2352 c0_i32_785
  let v2359 : Index := Scalar.indexCast v2358
  ![v2359.toNat]

def k0_chk49 (v2352 : BitVec 32) : Prop :=
  (∀ (r : Fin 16), ∀ a, (k0_off796 v2352 (BitVec.ofNat 32 (16 * r.val))) a + S16.size a ≤ S17408.size a)
theorem k0_off796_inb : ∀ (v2352 : BitVec 32) (k0_hw49 : k0_chk49 v2352), ∀ (r : Fin 16), ∀ a, (k0_off796 v2352 (BitVec.ofNat 32 (16 * r.val))) a + S16.size a ≤ S17408.size a := fun v2352 k0_hw49 r => k0_hw49 r

def k0_off797 (k0_t4 : Fin k0_t4_loop.trips) : Fin 3 → Nat :=
  let c1_i32_786 : BitVec 32 := 1#32
  let v2362 : Index := Scalar.indexCast c1_i32_786
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2363 : Index := Scalar.indexCast v2341
  let c16_787 : Index := 16#32
  ![1, v2363.toNat, 16]
def k0_off798 (k0_t4 : Fin k0_t4_loop.trips) : Fin 3 → Nat :=
  let c1_i32_789 : BitVec 32 := 1#32
  let v2371 : Index := Scalar.indexCast c1_i32_789
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2372 : Index := Scalar.indexCast v2341
  let c32_790 : Index := 32#32
  ![1, v2372.toNat, 32]
def k0_off799 (k0_t4 : Fin k0_t4_loop.trips) : Fin 3 → Nat :=
  let c1_i32_792 : BitVec 32 := 1#32
  let v2380 : Index := Scalar.indexCast c1_i32_792
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2381 : Index := Scalar.indexCast v2341
  let c48_793 : Index := 48#32
  ![1, v2381.toNat, 48]
def k0_off800 (k0_t4 : Fin k0_t4_loop.trips) : Fin 3 → Nat :=
  let c1_i32_795 : BitVec 32 := 1#32
  let v2389 : Index := Scalar.indexCast c1_i32_795
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2390 : Index := Scalar.indexCast v2341
  let c64_796 : Index := 64#32
  ![1, v2390.toNat, 64]
def k0_off801 (k0_t4 : Fin k0_t4_loop.trips) : Fin 3 → Nat :=
  let c1_i32_798 : BitVec 32 := 1#32
  let v2398 : Index := Scalar.indexCast c1_i32_798
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2399 : Index := Scalar.indexCast v2341
  let c80_799 : Index := 80#32
  ![1, v2399.toNat, 80]
def k0_off802 (k0_t4 : Fin k0_t4_loop.trips) : Fin 3 → Nat :=
  let c1_i32_801 : BitVec 32 := 1#32
  let v2407 : Index := Scalar.indexCast c1_i32_801
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2408 : Index := Scalar.indexCast v2341
  let c96_802 : Index := 96#32
  ![1, v2408.toNat, 96]
def k0_off803 (k0_t4 : Fin k0_t4_loop.trips) : Fin 3 → Nat :=
  let c1_i32_804 : BitVec 32 := 1#32
  let v2416 : Index := Scalar.indexCast c1_i32_804
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2417 : Index := Scalar.indexCast v2341
  let c112_805 : Index := 112#32
  ![1, v2417.toNat, 112]
def k0_off804 (k0_t4 : Fin k0_t4_loop.trips) : Fin 3 → Nat :=
  let c1_i32_807 : BitVec 32 := 1#32
  let v2425 : Index := Scalar.indexCast c1_i32_807
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2426 : Index := Scalar.indexCast v2341
  let c128_808 : Index := 128#32
  ![1, v2426.toNat, 128]
def k0_off805 (k0_t4 : Fin k0_t4_loop.trips) : Fin 3 → Nat :=
  let c1_i32_810 : BitVec 32 := 1#32
  let v2434 : Index := Scalar.indexCast c1_i32_810
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2435 : Index := Scalar.indexCast v2341
  let c144_811 : Index := 144#32
  ![1, v2435.toNat, 144]
def k0_off806 (k0_t4 : Fin k0_t4_loop.trips) : Fin 3 → Nat :=
  let c1_i32_813 : BitVec 32 := 1#32
  let v2443 : Index := Scalar.indexCast c1_i32_813
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2444 : Index := Scalar.indexCast v2341
  let c160_814 : Index := 160#32
  ![1, v2444.toNat, 160]
def k0_off807 (k0_t4 : Fin k0_t4_loop.trips) : Fin 3 → Nat :=
  let c1_i32_816 : BitVec 32 := 1#32
  let v2452 : Index := Scalar.indexCast c1_i32_816
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2453 : Index := Scalar.indexCast v2341
  let c176_817 : Index := 176#32
  ![1, v2453.toNat, 176]
def k0_off808 (k0_t4 : Fin k0_t4_loop.trips) : Fin 3 → Nat :=
  let c1_i32_819 : BitVec 32 := 1#32
  let v2461 : Index := Scalar.indexCast c1_i32_819
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2462 : Index := Scalar.indexCast v2341
  let c192_820 : Index := 192#32
  ![1, v2462.toNat, 192]
def k0_off809 (k0_t4 : Fin k0_t4_loop.trips) : Fin 3 → Nat :=
  let c1_i32_822 : BitVec 32 := 1#32
  let v2470 : Index := Scalar.indexCast c1_i32_822
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2471 : Index := Scalar.indexCast v2341
  let c208_823 : Index := 208#32
  ![1, v2471.toNat, 208]
def k0_off810 (k0_t4 : Fin k0_t4_loop.trips) : Fin 3 → Nat :=
  let c1_i32_825 : BitVec 32 := 1#32
  let v2479 : Index := Scalar.indexCast c1_i32_825
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2480 : Index := Scalar.indexCast v2341
  let c224_826 : Index := 224#32
  ![1, v2480.toNat, 224]
def k0_off811 (k0_t4 : Fin k0_t4_loop.trips) : Fin 3 → Nat :=
  let c1_i32_828 : BitVec 32 := 1#32
  let v2488 : Index := Scalar.indexCast c1_i32_828
  let c0_i32_38 : BitVec 32 := 0#32
  let c1_i32_40 : BitVec 32 := 1#32
  let arg11 : BitVec 32 := Scf.iv c0_i32_38 c1_i32_40 k0_t4
  let c2_i32_50 : BitVec 32 := 2#32
  let v45 : BitVec 32 := Scalar.muli arg11 c2_i32_50
  let c0_i32_51 : BitVec 32 := 0#32
  let v46 : BitVec 32 := Scalar.addi v45 c0_i32_51
  let c16_i32_778 : BitVec 32 := 16#32
  let v2340 : BitVec 32 := Scalar.muli v46 c16_i32_778
  let c15_i32 : BitVec 32 := 15#32
  let v2341 : BitVec 32 := Scalar.addi v2340 c15_i32
  let v2489 : Index := Scalar.indexCast v2341
  let c240_829 : Index := 240#32
  ![1, v2489.toNat, 240]
def k0_off812 (k0_t4 : Fin k0_t4_loop.trips) : Fin 3 → Nat :=
  let c1_i32_833 : BitVec 32 := 1#32
  let v2501 : Index := Scalar.indexCast c1_i32_833
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2502 : Index := Scalar.indexCast v2498
  let c0_834 : Index := 0#32
  ![1, v2502.toNat, 0]
def k0_off813 (v2500 : BitVec 32) (c0_i32_835 : BitVec 32) : Fin 1 → Nat :=
  let v2506 : BitVec 32 := Scalar.addi v2500 c0_i32_835
  let v2507 : Index := Scalar.indexCast v2506
  ![v2507.toNat]

def k0_chk50 (v2500 : BitVec 32) : Prop :=
  (∀ (r : Fin 16), ∀ a, (k0_off813 v2500 (BitVec.ofNat 32 (16 * r.val))) a + S16.size a ≤ S17408.size a)
theorem k0_off813_inb : ∀ (v2500 : BitVec 32) (k0_hw50 : k0_chk50 v2500), ∀ (r : Fin 16), ∀ a, (k0_off813 v2500 (BitVec.ofNat 32 (16 * r.val))) a + S16.size a ≤ S17408.size a := fun v2500 k0_hw50 r => k0_hw50 r

def k0_off814 (k0_t4 : Fin k0_t4_loop.trips) : Fin 3 → Nat :=
  let c1_i32_836 : BitVec 32 := 1#32
  let v2510 : Index := Scalar.indexCast c1_i32_836
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2511 : Index := Scalar.indexCast v2498
  let c16_837 : Index := 16#32
  ![1, v2511.toNat, 16]
def k0_off815 (k0_t4 : Fin k0_t4_loop.trips) : Fin 3 → Nat :=
  let c1_i32_839 : BitVec 32 := 1#32
  let v2519 : Index := Scalar.indexCast c1_i32_839
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2520 : Index := Scalar.indexCast v2498
  let c32_840 : Index := 32#32
  ![1, v2520.toNat, 32]
def k0_off816 (k0_t4 : Fin k0_t4_loop.trips) : Fin 3 → Nat :=
  let c1_i32_842 : BitVec 32 := 1#32
  let v2528 : Index := Scalar.indexCast c1_i32_842
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2529 : Index := Scalar.indexCast v2498
  let c48_843 : Index := 48#32
  ![1, v2529.toNat, 48]
def k0_off817 (k0_t4 : Fin k0_t4_loop.trips) : Fin 3 → Nat :=
  let c1_i32_845 : BitVec 32 := 1#32
  let v2537 : Index := Scalar.indexCast c1_i32_845
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2538 : Index := Scalar.indexCast v2498
  let c64_846 : Index := 64#32
  ![1, v2538.toNat, 64]
def k0_off818 (k0_t4 : Fin k0_t4_loop.trips) : Fin 3 → Nat :=
  let c1_i32_848 : BitVec 32 := 1#32
  let v2546 : Index := Scalar.indexCast c1_i32_848
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2547 : Index := Scalar.indexCast v2498
  let c80_849 : Index := 80#32
  ![1, v2547.toNat, 80]
def k0_off819 (k0_t4 : Fin k0_t4_loop.trips) : Fin 3 → Nat :=
  let c1_i32_851 : BitVec 32 := 1#32
  let v2555 : Index := Scalar.indexCast c1_i32_851
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2556 : Index := Scalar.indexCast v2498
  let c96_852 : Index := 96#32
  ![1, v2556.toNat, 96]
def k0_off820 (k0_t4 : Fin k0_t4_loop.trips) : Fin 3 → Nat :=
  let c1_i32_854 : BitVec 32 := 1#32
  let v2564 : Index := Scalar.indexCast c1_i32_854
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2565 : Index := Scalar.indexCast v2498
  let c112_855 : Index := 112#32
  ![1, v2565.toNat, 112]
def k0_off821 (k0_t4 : Fin k0_t4_loop.trips) : Fin 3 → Nat :=
  let c1_i32_857 : BitVec 32 := 1#32
  let v2573 : Index := Scalar.indexCast c1_i32_857
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2574 : Index := Scalar.indexCast v2498
  let c128_858 : Index := 128#32
  ![1, v2574.toNat, 128]
def k0_off822 (k0_t4 : Fin k0_t4_loop.trips) : Fin 3 → Nat :=
  let c1_i32_860 : BitVec 32 := 1#32
  let v2582 : Index := Scalar.indexCast c1_i32_860
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2583 : Index := Scalar.indexCast v2498
  let c144_861 : Index := 144#32
  ![1, v2583.toNat, 144]
def k0_off823 (k0_t4 : Fin k0_t4_loop.trips) : Fin 3 → Nat :=
  let c1_i32_863 : BitVec 32 := 1#32
  let v2591 : Index := Scalar.indexCast c1_i32_863
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2592 : Index := Scalar.indexCast v2498
  let c160_864 : Index := 160#32
  ![1, v2592.toNat, 160]
def k0_off824 (k0_t4 : Fin k0_t4_loop.trips) : Fin 3 → Nat :=
  let c1_i32_866 : BitVec 32 := 1#32
  let v2600 : Index := Scalar.indexCast c1_i32_866
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2601 : Index := Scalar.indexCast v2498
  let c176_867 : Index := 176#32
  ![1, v2601.toNat, 176]
def k0_off825 (k0_t4 : Fin k0_t4_loop.trips) : Fin 3 → Nat :=
  let c1_i32_869 : BitVec 32 := 1#32
  let v2609 : Index := Scalar.indexCast c1_i32_869
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2610 : Index := Scalar.indexCast v2498
  let c192_870 : Index := 192#32
  ![1, v2610.toNat, 192]
def k0_off826 (k0_t4 : Fin k0_t4_loop.trips) : Fin 3 → Nat :=
  let c1_i32_872 : BitVec 32 := 1#32
  let v2618 : Index := Scalar.indexCast c1_i32_872
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2619 : Index := Scalar.indexCast v2498
  let c208_873 : Index := 208#32
  ![1, v2619.toNat, 208]
def k0_off827 (k0_t4 : Fin k0_t4_loop.trips) : Fin 3 → Nat :=
  let c1_i32_875 : BitVec 32 := 1#32
  let v2627 : Index := Scalar.indexCast c1_i32_875
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2628 : Index := Scalar.indexCast v2498
  let c224_876 : Index := 224#32
  ![1, v2628.toNat, 224]
def k0_off828 (k0_t4 : Fin k0_t4_loop.trips) : Fin 3 → Nat :=
  let c1_i32_878 : BitVec 32 := 1#32
  let v2636 : Index := Scalar.indexCast c1_i32_878
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_831 : BitVec 32 := 16#32
  let v2497 : BitVec 32 := Scalar.muli v2343 c16_i32_831
  let c0_i32_832 : BitVec 32 := 0#32
  let v2498 : BitVec 32 := Scalar.addi v2497 c0_i32_832
  let v2637 : Index := Scalar.indexCast v2498
  let c240_879 : Index := 240#32
  ![1, v2637.toNat, 240]
def k0_off829 (k0_t4 : Fin k0_t4_loop.trips) : Fin 3 → Nat :=
  let c1_i32_883 : BitVec 32 := 1#32
  let v2649 : Index := Scalar.indexCast c1_i32_883
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2650 : Index := Scalar.indexCast v2646
  let c0_884 : Index := 0#32
  ![1, v2650.toNat, 0]
def k0_off830 (v2648 : BitVec 32) (c0_i32_885 : BitVec 32) : Fin 1 → Nat :=
  let v2654 : BitVec 32 := Scalar.addi v2648 c0_i32_885
  let v2655 : Index := Scalar.indexCast v2654
  ![v2655.toNat]

def k0_chk51 (v2648 : BitVec 32) : Prop :=
  (∀ (r : Fin 16), ∀ a, (k0_off830 v2648 (BitVec.ofNat 32 (16 * r.val))) a + S16.size a ≤ S17408.size a)
theorem k0_off830_inb : ∀ (v2648 : BitVec 32) (k0_hw51 : k0_chk51 v2648), ∀ (r : Fin 16), ∀ a, (k0_off830 v2648 (BitVec.ofNat 32 (16 * r.val))) a + S16.size a ≤ S17408.size a := fun v2648 k0_hw51 r => k0_hw51 r

def k0_off831 (k0_t4 : Fin k0_t4_loop.trips) : Fin 3 → Nat :=
  let c1_i32_886 : BitVec 32 := 1#32
  let v2658 : Index := Scalar.indexCast c1_i32_886
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2659 : Index := Scalar.indexCast v2646
  let c16_887 : Index := 16#32
  ![1, v2659.toNat, 16]
def k0_off832 (k0_t4 : Fin k0_t4_loop.trips) : Fin 3 → Nat :=
  let c1_i32_889 : BitVec 32 := 1#32
  let v2667 : Index := Scalar.indexCast c1_i32_889
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2668 : Index := Scalar.indexCast v2646
  let c32_890 : Index := 32#32
  ![1, v2668.toNat, 32]
def k0_off833 (k0_t4 : Fin k0_t4_loop.trips) : Fin 3 → Nat :=
  let c1_i32_892 : BitVec 32 := 1#32
  let v2676 : Index := Scalar.indexCast c1_i32_892
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2677 : Index := Scalar.indexCast v2646
  let c48_893 : Index := 48#32
  ![1, v2677.toNat, 48]
def k0_off834 (k0_t4 : Fin k0_t4_loop.trips) : Fin 3 → Nat :=
  let c1_i32_895 : BitVec 32 := 1#32
  let v2685 : Index := Scalar.indexCast c1_i32_895
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2686 : Index := Scalar.indexCast v2646
  let c64_896 : Index := 64#32
  ![1, v2686.toNat, 64]
def k0_off835 (k0_t4 : Fin k0_t4_loop.trips) : Fin 3 → Nat :=
  let c1_i32_898 : BitVec 32 := 1#32
  let v2694 : Index := Scalar.indexCast c1_i32_898
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2695 : Index := Scalar.indexCast v2646
  let c80_899 : Index := 80#32
  ![1, v2695.toNat, 80]
def k0_off836 (k0_t4 : Fin k0_t4_loop.trips) : Fin 3 → Nat :=
  let c1_i32_901 : BitVec 32 := 1#32
  let v2703 : Index := Scalar.indexCast c1_i32_901
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2704 : Index := Scalar.indexCast v2646
  let c96_902 : Index := 96#32
  ![1, v2704.toNat, 96]
def k0_off837 (k0_t4 : Fin k0_t4_loop.trips) : Fin 3 → Nat :=
  let c1_i32_904 : BitVec 32 := 1#32
  let v2712 : Index := Scalar.indexCast c1_i32_904
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2713 : Index := Scalar.indexCast v2646
  let c112_905 : Index := 112#32
  ![1, v2713.toNat, 112]
def k0_off838 (k0_t4 : Fin k0_t4_loop.trips) : Fin 3 → Nat :=
  let c1_i32_907 : BitVec 32 := 1#32
  let v2721 : Index := Scalar.indexCast c1_i32_907
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2722 : Index := Scalar.indexCast v2646
  let c128_908 : Index := 128#32
  ![1, v2722.toNat, 128]
def k0_off839 (k0_t4 : Fin k0_t4_loop.trips) : Fin 3 → Nat :=
  let c1_i32_910 : BitVec 32 := 1#32
  let v2730 : Index := Scalar.indexCast c1_i32_910
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2731 : Index := Scalar.indexCast v2646
  let c144_911 : Index := 144#32
  ![1, v2731.toNat, 144]
def k0_off840 (k0_t4 : Fin k0_t4_loop.trips) : Fin 3 → Nat :=
  let c1_i32_913 : BitVec 32 := 1#32
  let v2739 : Index := Scalar.indexCast c1_i32_913
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2740 : Index := Scalar.indexCast v2646
  let c160_914 : Index := 160#32
  ![1, v2740.toNat, 160]
def k0_off841 (k0_t4 : Fin k0_t4_loop.trips) : Fin 3 → Nat :=
  let c1_i32_916 : BitVec 32 := 1#32
  let v2748 : Index := Scalar.indexCast c1_i32_916
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2749 : Index := Scalar.indexCast v2646
  let c176_917 : Index := 176#32
  ![1, v2749.toNat, 176]
def k0_off842 (k0_t4 : Fin k0_t4_loop.trips) : Fin 3 → Nat :=
  let c1_i32_919 : BitVec 32 := 1#32
  let v2757 : Index := Scalar.indexCast c1_i32_919
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2758 : Index := Scalar.indexCast v2646
  let c192_920 : Index := 192#32
  ![1, v2758.toNat, 192]
def k0_off843 (k0_t4 : Fin k0_t4_loop.trips) : Fin 3 → Nat :=
  let c1_i32_922 : BitVec 32 := 1#32
  let v2766 : Index := Scalar.indexCast c1_i32_922
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2767 : Index := Scalar.indexCast v2646
  let c208_923 : Index := 208#32
  ![1, v2767.toNat, 208]
def k0_off844 (k0_t4 : Fin k0_t4_loop.trips) : Fin 3 → Nat :=
  let c1_i32_925 : BitVec 32 := 1#32
  let v2775 : Index := Scalar.indexCast c1_i32_925
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2776 : Index := Scalar.indexCast v2646
  let c224_926 : Index := 224#32
  ![1, v2776.toNat, 224]
def k0_off845 (k0_t4 : Fin k0_t4_loop.trips) : Fin 3 → Nat :=
  let c1_i32_928 : BitVec 32 := 1#32
  let v2784 : Index := Scalar.indexCast c1_i32_928
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_881 : BitVec 32 := 16#32
  let v2645 : BitVec 32 := Scalar.muli v2343 c16_i32_881
  let c1_i32_882 : BitVec 32 := 1#32
  let v2646 : BitVec 32 := Scalar.addi v2645 c1_i32_882
  let v2785 : Index := Scalar.indexCast v2646
  let c240_929 : Index := 240#32
  ![1, v2785.toNat, 240]
def k0_off846 (k0_t4 : Fin k0_t4_loop.trips) : Fin 3 → Nat :=
  let c1_i32_933 : BitVec 32 := 1#32
  let v2797 : Index := Scalar.indexCast c1_i32_933
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2798 : Index := Scalar.indexCast v2794
  let c0_934 : Index := 0#32
  ![1, v2798.toNat, 0]
def k0_off847 (v2796 : BitVec 32) (c0_i32_935 : BitVec 32) : Fin 1 → Nat :=
  let v2802 : BitVec 32 := Scalar.addi v2796 c0_i32_935
  let v2803 : Index := Scalar.indexCast v2802
  ![v2803.toNat]

def k0_chk52 (v2796 : BitVec 32) : Prop :=
  (∀ (r : Fin 16), ∀ a, (k0_off847 v2796 (BitVec.ofNat 32 (16 * r.val))) a + S16.size a ≤ S17408.size a)
theorem k0_off847_inb : ∀ (v2796 : BitVec 32) (k0_hw52 : k0_chk52 v2796), ∀ (r : Fin 16), ∀ a, (k0_off847 v2796 (BitVec.ofNat 32 (16 * r.val))) a + S16.size a ≤ S17408.size a := fun v2796 k0_hw52 r => k0_hw52 r

def k0_off848 (k0_t4 : Fin k0_t4_loop.trips) : Fin 3 → Nat :=
  let c1_i32_936 : BitVec 32 := 1#32
  let v2806 : Index := Scalar.indexCast c1_i32_936
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2807 : Index := Scalar.indexCast v2794
  let c16_937 : Index := 16#32
  ![1, v2807.toNat, 16]
def k0_off849 (k0_t4 : Fin k0_t4_loop.trips) : Fin 3 → Nat :=
  let c1_i32_939 : BitVec 32 := 1#32
  let v2815 : Index := Scalar.indexCast c1_i32_939
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2816 : Index := Scalar.indexCast v2794
  let c32_940 : Index := 32#32
  ![1, v2816.toNat, 32]
def k0_off850 (k0_t4 : Fin k0_t4_loop.trips) : Fin 3 → Nat :=
  let c1_i32_942 : BitVec 32 := 1#32
  let v2824 : Index := Scalar.indexCast c1_i32_942
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2825 : Index := Scalar.indexCast v2794
  let c48_943 : Index := 48#32
  ![1, v2825.toNat, 48]
def k0_off851 (k0_t4 : Fin k0_t4_loop.trips) : Fin 3 → Nat :=
  let c1_i32_945 : BitVec 32 := 1#32
  let v2833 : Index := Scalar.indexCast c1_i32_945
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2834 : Index := Scalar.indexCast v2794
  let c64_946 : Index := 64#32
  ![1, v2834.toNat, 64]
def k0_off852 (k0_t4 : Fin k0_t4_loop.trips) : Fin 3 → Nat :=
  let c1_i32_948 : BitVec 32 := 1#32
  let v2842 : Index := Scalar.indexCast c1_i32_948
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2843 : Index := Scalar.indexCast v2794
  let c80_949 : Index := 80#32
  ![1, v2843.toNat, 80]
def k0_off853 (k0_t4 : Fin k0_t4_loop.trips) : Fin 3 → Nat :=
  let c1_i32_951 : BitVec 32 := 1#32
  let v2851 : Index := Scalar.indexCast c1_i32_951
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2852 : Index := Scalar.indexCast v2794
  let c96_952 : Index := 96#32
  ![1, v2852.toNat, 96]
def k0_off854 (k0_t4 : Fin k0_t4_loop.trips) : Fin 3 → Nat :=
  let c1_i32_954 : BitVec 32 := 1#32
  let v2860 : Index := Scalar.indexCast c1_i32_954
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2861 : Index := Scalar.indexCast v2794
  let c112_955 : Index := 112#32
  ![1, v2861.toNat, 112]
def k0_off855 (k0_t4 : Fin k0_t4_loop.trips) : Fin 3 → Nat :=
  let c1_i32_957 : BitVec 32 := 1#32
  let v2869 : Index := Scalar.indexCast c1_i32_957
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2870 : Index := Scalar.indexCast v2794
  let c128_958 : Index := 128#32
  ![1, v2870.toNat, 128]
def k0_off856 (k0_t4 : Fin k0_t4_loop.trips) : Fin 3 → Nat :=
  let c1_i32_960 : BitVec 32 := 1#32
  let v2878 : Index := Scalar.indexCast c1_i32_960
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2879 : Index := Scalar.indexCast v2794
  let c144_961 : Index := 144#32
  ![1, v2879.toNat, 144]
def k0_off857 (k0_t4 : Fin k0_t4_loop.trips) : Fin 3 → Nat :=
  let c1_i32_963 : BitVec 32 := 1#32
  let v2887 : Index := Scalar.indexCast c1_i32_963
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2888 : Index := Scalar.indexCast v2794
  let c160_964 : Index := 160#32
  ![1, v2888.toNat, 160]
def k0_off858 (k0_t4 : Fin k0_t4_loop.trips) : Fin 3 → Nat :=
  let c1_i32_966 : BitVec 32 := 1#32
  let v2896 : Index := Scalar.indexCast c1_i32_966
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2897 : Index := Scalar.indexCast v2794
  let c176_967 : Index := 176#32
  ![1, v2897.toNat, 176]
def k0_off859 (k0_t4 : Fin k0_t4_loop.trips) : Fin 3 → Nat :=
  let c1_i32_969 : BitVec 32 := 1#32
  let v2905 : Index := Scalar.indexCast c1_i32_969
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2906 : Index := Scalar.indexCast v2794
  let c192_970 : Index := 192#32
  ![1, v2906.toNat, 192]
def k0_off860 (k0_t4 : Fin k0_t4_loop.trips) : Fin 3 → Nat :=
  let c1_i32_972 : BitVec 32 := 1#32
  let v2914 : Index := Scalar.indexCast c1_i32_972
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2915 : Index := Scalar.indexCast v2794
  let c208_973 : Index := 208#32
  ![1, v2915.toNat, 208]
def k0_off861 (k0_t4 : Fin k0_t4_loop.trips) : Fin 3 → Nat :=
  let c1_i32_975 : BitVec 32 := 1#32
  let v2923 : Index := Scalar.indexCast c1_i32_975
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2924 : Index := Scalar.indexCast v2794
  let c224_976 : Index := 224#32
  ![1, v2924.toNat, 224]
def k0_off862 (k0_t4 : Fin k0_t4_loop.trips) : Fin 3 → Nat :=
  let c1_i32_978 : BitVec 32 := 1#32
  let v2932 : Index := Scalar.indexCast c1_i32_978
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_931 : BitVec 32 := 16#32
  let v2793 : BitVec 32 := Scalar.muli v2343 c16_i32_931
  let c2_i32_932 : BitVec 32 := 2#32
  let v2794 : BitVec 32 := Scalar.addi v2793 c2_i32_932
  let v2933 : Index := Scalar.indexCast v2794
  let c240_979 : Index := 240#32
  ![1, v2933.toNat, 240]
def k0_off863 (k0_t4 : Fin k0_t4_loop.trips) : Fin 3 → Nat :=
  let c1_i32_983 : BitVec 32 := 1#32
  let v2945 : Index := Scalar.indexCast c1_i32_983
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2946 : Index := Scalar.indexCast v2942
  let c0_984 : Index := 0#32
  ![1, v2946.toNat, 0]
def k0_off864 (v2944 : BitVec 32) (c0_i32_985 : BitVec 32) : Fin 1 → Nat :=
  let v2950 : BitVec 32 := Scalar.addi v2944 c0_i32_985
  let v2951 : Index := Scalar.indexCast v2950
  ![v2951.toNat]

def k0_chk53 (v2944 : BitVec 32) : Prop :=
  (∀ (r : Fin 16), ∀ a, (k0_off864 v2944 (BitVec.ofNat 32 (16 * r.val))) a + S16.size a ≤ S17408.size a)
theorem k0_off864_inb : ∀ (v2944 : BitVec 32) (k0_hw53 : k0_chk53 v2944), ∀ (r : Fin 16), ∀ a, (k0_off864 v2944 (BitVec.ofNat 32 (16 * r.val))) a + S16.size a ≤ S17408.size a := fun v2944 k0_hw53 r => k0_hw53 r

def k0_off865 (k0_t4 : Fin k0_t4_loop.trips) : Fin 3 → Nat :=
  let c1_i32_986 : BitVec 32 := 1#32
  let v2954 : Index := Scalar.indexCast c1_i32_986
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2955 : Index := Scalar.indexCast v2942
  let c16_987 : Index := 16#32
  ![1, v2955.toNat, 16]
def k0_off866 (k0_t4 : Fin k0_t4_loop.trips) : Fin 3 → Nat :=
  let c1_i32_989 : BitVec 32 := 1#32
  let v2963 : Index := Scalar.indexCast c1_i32_989
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2964 : Index := Scalar.indexCast v2942
  let c32_990 : Index := 32#32
  ![1, v2964.toNat, 32]
def k0_off867 (k0_t4 : Fin k0_t4_loop.trips) : Fin 3 → Nat :=
  let c1_i32_992 : BitVec 32 := 1#32
  let v2972 : Index := Scalar.indexCast c1_i32_992
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2973 : Index := Scalar.indexCast v2942
  let c48_993 : Index := 48#32
  ![1, v2973.toNat, 48]
def k0_off868 (k0_t4 : Fin k0_t4_loop.trips) : Fin 3 → Nat :=
  let c1_i32_995 : BitVec 32 := 1#32
  let v2981 : Index := Scalar.indexCast c1_i32_995
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2982 : Index := Scalar.indexCast v2942
  let c64_996 : Index := 64#32
  ![1, v2982.toNat, 64]
def k0_off869 (k0_t4 : Fin k0_t4_loop.trips) : Fin 3 → Nat :=
  let c1_i32_998 : BitVec 32 := 1#32
  let v2990 : Index := Scalar.indexCast c1_i32_998
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v2991 : Index := Scalar.indexCast v2942
  let c80_999 : Index := 80#32
  ![1, v2991.toNat, 80]
def k0_off870 (k0_t4 : Fin k0_t4_loop.trips) : Fin 3 → Nat :=
  let c1_i32_1001 : BitVec 32 := 1#32
  let v2999 : Index := Scalar.indexCast c1_i32_1001
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3000 : Index := Scalar.indexCast v2942
  let c96_1002 : Index := 96#32
  ![1, v3000.toNat, 96]
def k0_off871 (k0_t4 : Fin k0_t4_loop.trips) : Fin 3 → Nat :=
  let c1_i32_1004 : BitVec 32 := 1#32
  let v3008 : Index := Scalar.indexCast c1_i32_1004
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3009 : Index := Scalar.indexCast v2942
  let c112_1005 : Index := 112#32
  ![1, v3009.toNat, 112]
def k0_off872 (k0_t4 : Fin k0_t4_loop.trips) : Fin 3 → Nat :=
  let c1_i32_1007 : BitVec 32 := 1#32
  let v3017 : Index := Scalar.indexCast c1_i32_1007
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3018 : Index := Scalar.indexCast v2942
  let c128_1008 : Index := 128#32
  ![1, v3018.toNat, 128]
def k0_off873 (k0_t4 : Fin k0_t4_loop.trips) : Fin 3 → Nat :=
  let c1_i32_1010 : BitVec 32 := 1#32
  let v3026 : Index := Scalar.indexCast c1_i32_1010
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3027 : Index := Scalar.indexCast v2942
  let c144_1011 : Index := 144#32
  ![1, v3027.toNat, 144]
def k0_off874 (k0_t4 : Fin k0_t4_loop.trips) : Fin 3 → Nat :=
  let c1_i32_1013 : BitVec 32 := 1#32
  let v3035 : Index := Scalar.indexCast c1_i32_1013
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3036 : Index := Scalar.indexCast v2942
  let c160_1014 : Index := 160#32
  ![1, v3036.toNat, 160]
def k0_off875 (k0_t4 : Fin k0_t4_loop.trips) : Fin 3 → Nat :=
  let c1_i32_1016 : BitVec 32 := 1#32
  let v3044 : Index := Scalar.indexCast c1_i32_1016
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3045 : Index := Scalar.indexCast v2942
  let c176_1017 : Index := 176#32
  ![1, v3045.toNat, 176]
def k0_off876 (k0_t4 : Fin k0_t4_loop.trips) : Fin 3 → Nat :=
  let c1_i32_1019 : BitVec 32 := 1#32
  let v3053 : Index := Scalar.indexCast c1_i32_1019
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3054 : Index := Scalar.indexCast v2942
  let c192_1020 : Index := 192#32
  ![1, v3054.toNat, 192]
def k0_off877 (k0_t4 : Fin k0_t4_loop.trips) : Fin 3 → Nat :=
  let c1_i32_1022 : BitVec 32 := 1#32
  let v3062 : Index := Scalar.indexCast c1_i32_1022
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3063 : Index := Scalar.indexCast v2942
  let c208_1023 : Index := 208#32
  ![1, v3063.toNat, 208]
def k0_off878 (k0_t4 : Fin k0_t4_loop.trips) : Fin 3 → Nat :=
  let c1_i32_1025 : BitVec 32 := 1#32
  let v3071 : Index := Scalar.indexCast c1_i32_1025
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3072 : Index := Scalar.indexCast v2942
  let c224_1026 : Index := 224#32
  ![1, v3072.toNat, 224]
def k0_off879 (k0_t4 : Fin k0_t4_loop.trips) : Fin 3 → Nat :=
  let c1_i32_1028 : BitVec 32 := 1#32
  let v3080 : Index := Scalar.indexCast c1_i32_1028
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_981 : BitVec 32 := 16#32
  let v2941 : BitVec 32 := Scalar.muli v2343 c16_i32_981
  let c3_i32_982 : BitVec 32 := 3#32
  let v2942 : BitVec 32 := Scalar.addi v2941 c3_i32_982
  let v3081 : Index := Scalar.indexCast v2942
  let c240_1029 : Index := 240#32
  ![1, v3081.toNat, 240]
def k0_off880 (k0_t4 : Fin k0_t4_loop.trips) : Fin 3 → Nat :=
  let c1_i32_1033 : BitVec 32 := 1#32
  let v3093 : Index := Scalar.indexCast c1_i32_1033
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3094 : Index := Scalar.indexCast v3090
  let c0_1034 : Index := 0#32
  ![1, v3094.toNat, 0]
def k0_off881 (v3092 : BitVec 32) (c0_i32_1035 : BitVec 32) : Fin 1 → Nat :=
  let v3098 : BitVec 32 := Scalar.addi v3092 c0_i32_1035
  let v3099 : Index := Scalar.indexCast v3098
  ![v3099.toNat]

def k0_chk54 (v3092 : BitVec 32) : Prop :=
  (∀ (r : Fin 16), ∀ a, (k0_off881 v3092 (BitVec.ofNat 32 (16 * r.val))) a + S16.size a ≤ S17408.size a)
theorem k0_off881_inb : ∀ (v3092 : BitVec 32) (k0_hw54 : k0_chk54 v3092), ∀ (r : Fin 16), ∀ a, (k0_off881 v3092 (BitVec.ofNat 32 (16 * r.val))) a + S16.size a ≤ S17408.size a := fun v3092 k0_hw54 r => k0_hw54 r

def k0_off882 (k0_t4 : Fin k0_t4_loop.trips) : Fin 3 → Nat :=
  let c1_i32_1036 : BitVec 32 := 1#32
  let v3102 : Index := Scalar.indexCast c1_i32_1036
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3103 : Index := Scalar.indexCast v3090
  let c16_1037 : Index := 16#32
  ![1, v3103.toNat, 16]
def k0_off883 (k0_t4 : Fin k0_t4_loop.trips) : Fin 3 → Nat :=
  let c1_i32_1039 : BitVec 32 := 1#32
  let v3111 : Index := Scalar.indexCast c1_i32_1039
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3112 : Index := Scalar.indexCast v3090
  let c32_1040 : Index := 32#32
  ![1, v3112.toNat, 32]
def k0_off884 (k0_t4 : Fin k0_t4_loop.trips) : Fin 3 → Nat :=
  let c1_i32_1042 : BitVec 32 := 1#32
  let v3120 : Index := Scalar.indexCast c1_i32_1042
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3121 : Index := Scalar.indexCast v3090
  let c48_1043 : Index := 48#32
  ![1, v3121.toNat, 48]
def k0_off885 (k0_t4 : Fin k0_t4_loop.trips) : Fin 3 → Nat :=
  let c1_i32_1045 : BitVec 32 := 1#32
  let v3129 : Index := Scalar.indexCast c1_i32_1045
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3130 : Index := Scalar.indexCast v3090
  let c64_1046 : Index := 64#32
  ![1, v3130.toNat, 64]
def k0_off886 (k0_t4 : Fin k0_t4_loop.trips) : Fin 3 → Nat :=
  let c1_i32_1048 : BitVec 32 := 1#32
  let v3138 : Index := Scalar.indexCast c1_i32_1048
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3139 : Index := Scalar.indexCast v3090
  let c80_1049 : Index := 80#32
  ![1, v3139.toNat, 80]
def k0_off887 (k0_t4 : Fin k0_t4_loop.trips) : Fin 3 → Nat :=
  let c1_i32_1051 : BitVec 32 := 1#32
  let v3147 : Index := Scalar.indexCast c1_i32_1051
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3148 : Index := Scalar.indexCast v3090
  let c96_1052 : Index := 96#32
  ![1, v3148.toNat, 96]
def k0_off888 (k0_t4 : Fin k0_t4_loop.trips) : Fin 3 → Nat :=
  let c1_i32_1054 : BitVec 32 := 1#32
  let v3156 : Index := Scalar.indexCast c1_i32_1054
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3157 : Index := Scalar.indexCast v3090
  let c112_1055 : Index := 112#32
  ![1, v3157.toNat, 112]
def k0_off889 (k0_t4 : Fin k0_t4_loop.trips) : Fin 3 → Nat :=
  let c1_i32_1057 : BitVec 32 := 1#32
  let v3165 : Index := Scalar.indexCast c1_i32_1057
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3166 : Index := Scalar.indexCast v3090
  let c128_1058 : Index := 128#32
  ![1, v3166.toNat, 128]
def k0_off890 (k0_t4 : Fin k0_t4_loop.trips) : Fin 3 → Nat :=
  let c1_i32_1060 : BitVec 32 := 1#32
  let v3174 : Index := Scalar.indexCast c1_i32_1060
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3175 : Index := Scalar.indexCast v3090
  let c144_1061 : Index := 144#32
  ![1, v3175.toNat, 144]
def k0_off891 (k0_t4 : Fin k0_t4_loop.trips) : Fin 3 → Nat :=
  let c1_i32_1063 : BitVec 32 := 1#32
  let v3183 : Index := Scalar.indexCast c1_i32_1063
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3184 : Index := Scalar.indexCast v3090
  let c160_1064 : Index := 160#32
  ![1, v3184.toNat, 160]
def k0_off892 (k0_t4 : Fin k0_t4_loop.trips) : Fin 3 → Nat :=
  let c1_i32_1066 : BitVec 32 := 1#32
  let v3192 : Index := Scalar.indexCast c1_i32_1066
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3193 : Index := Scalar.indexCast v3090
  let c176_1067 : Index := 176#32
  ![1, v3193.toNat, 176]
def k0_off893 (k0_t4 : Fin k0_t4_loop.trips) : Fin 3 → Nat :=
  let c1_i32_1069 : BitVec 32 := 1#32
  let v3201 : Index := Scalar.indexCast c1_i32_1069
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3202 : Index := Scalar.indexCast v3090
  let c192_1070 : Index := 192#32
  ![1, v3202.toNat, 192]
def k0_off894 (k0_t4 : Fin k0_t4_loop.trips) : Fin 3 → Nat :=
  let c1_i32_1072 : BitVec 32 := 1#32
  let v3210 : Index := Scalar.indexCast c1_i32_1072
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3211 : Index := Scalar.indexCast v3090
  let c208_1073 : Index := 208#32
  ![1, v3211.toNat, 208]
def k0_off895 (k0_t4 : Fin k0_t4_loop.trips) : Fin 3 → Nat :=
  let c1_i32_1075 : BitVec 32 := 1#32
  let v3219 : Index := Scalar.indexCast c1_i32_1075
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3220 : Index := Scalar.indexCast v3090
  let c224_1076 : Index := 224#32
  ![1, v3220.toNat, 224]
def k0_off896 (k0_t4 : Fin k0_t4_loop.trips) : Fin 3 → Nat :=
  let c1_i32_1078 : BitVec 32 := 1#32
  let v3228 : Index := Scalar.indexCast c1_i32_1078
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1031 : BitVec 32 := 16#32
  let v3089 : BitVec 32 := Scalar.muli v2343 c16_i32_1031
  let c4_i32_1032 : BitVec 32 := 4#32
  let v3090 : BitVec 32 := Scalar.addi v3089 c4_i32_1032
  let v3229 : Index := Scalar.indexCast v3090
  let c240_1079 : Index := 240#32
  ![1, v3229.toNat, 240]
def k0_off897 (k0_t4 : Fin k0_t4_loop.trips) : Fin 3 → Nat :=
  let c1_i32_1083 : BitVec 32 := 1#32
  let v3241 : Index := Scalar.indexCast c1_i32_1083
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3242 : Index := Scalar.indexCast v3238
  let c0_1084 : Index := 0#32
  ![1, v3242.toNat, 0]
def k0_off898 (v3240 : BitVec 32) (c0_i32_1085 : BitVec 32) : Fin 1 → Nat :=
  let v3246 : BitVec 32 := Scalar.addi v3240 c0_i32_1085
  let v3247 : Index := Scalar.indexCast v3246
  ![v3247.toNat]

def k0_chk55 (v3240 : BitVec 32) : Prop :=
  (∀ (r : Fin 16), ∀ a, (k0_off898 v3240 (BitVec.ofNat 32 (16 * r.val))) a + S16.size a ≤ S17408.size a)
theorem k0_off898_inb : ∀ (v3240 : BitVec 32) (k0_hw55 : k0_chk55 v3240), ∀ (r : Fin 16), ∀ a, (k0_off898 v3240 (BitVec.ofNat 32 (16 * r.val))) a + S16.size a ≤ S17408.size a := fun v3240 k0_hw55 r => k0_hw55 r

def k0_off899 (k0_t4 : Fin k0_t4_loop.trips) : Fin 3 → Nat :=
  let c1_i32_1086 : BitVec 32 := 1#32
  let v3250 : Index := Scalar.indexCast c1_i32_1086
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3251 : Index := Scalar.indexCast v3238
  let c16_1087 : Index := 16#32
  ![1, v3251.toNat, 16]
def k0_off900 (k0_t4 : Fin k0_t4_loop.trips) : Fin 3 → Nat :=
  let c1_i32_1089 : BitVec 32 := 1#32
  let v3259 : Index := Scalar.indexCast c1_i32_1089
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3260 : Index := Scalar.indexCast v3238
  let c32_1090 : Index := 32#32
  ![1, v3260.toNat, 32]
def k0_off901 (k0_t4 : Fin k0_t4_loop.trips) : Fin 3 → Nat :=
  let c1_i32_1092 : BitVec 32 := 1#32
  let v3268 : Index := Scalar.indexCast c1_i32_1092
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3269 : Index := Scalar.indexCast v3238
  let c48_1093 : Index := 48#32
  ![1, v3269.toNat, 48]
def k0_off902 (k0_t4 : Fin k0_t4_loop.trips) : Fin 3 → Nat :=
  let c1_i32_1095 : BitVec 32 := 1#32
  let v3277 : Index := Scalar.indexCast c1_i32_1095
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3278 : Index := Scalar.indexCast v3238
  let c64_1096 : Index := 64#32
  ![1, v3278.toNat, 64]
def k0_off903 (k0_t4 : Fin k0_t4_loop.trips) : Fin 3 → Nat :=
  let c1_i32_1098 : BitVec 32 := 1#32
  let v3286 : Index := Scalar.indexCast c1_i32_1098
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3287 : Index := Scalar.indexCast v3238
  let c80_1099 : Index := 80#32
  ![1, v3287.toNat, 80]
def k0_off904 (k0_t4 : Fin k0_t4_loop.trips) : Fin 3 → Nat :=
  let c1_i32_1101 : BitVec 32 := 1#32
  let v3295 : Index := Scalar.indexCast c1_i32_1101
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3296 : Index := Scalar.indexCast v3238
  let c96_1102 : Index := 96#32
  ![1, v3296.toNat, 96]
def k0_off905 (k0_t4 : Fin k0_t4_loop.trips) : Fin 3 → Nat :=
  let c1_i32_1104 : BitVec 32 := 1#32
  let v3304 : Index := Scalar.indexCast c1_i32_1104
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3305 : Index := Scalar.indexCast v3238
  let c112_1105 : Index := 112#32
  ![1, v3305.toNat, 112]
def k0_off906 (k0_t4 : Fin k0_t4_loop.trips) : Fin 3 → Nat :=
  let c1_i32_1107 : BitVec 32 := 1#32
  let v3313 : Index := Scalar.indexCast c1_i32_1107
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3314 : Index := Scalar.indexCast v3238
  let c128_1108 : Index := 128#32
  ![1, v3314.toNat, 128]
def k0_off907 (k0_t4 : Fin k0_t4_loop.trips) : Fin 3 → Nat :=
  let c1_i32_1110 : BitVec 32 := 1#32
  let v3322 : Index := Scalar.indexCast c1_i32_1110
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3323 : Index := Scalar.indexCast v3238
  let c144_1111 : Index := 144#32
  ![1, v3323.toNat, 144]
def k0_off908 (k0_t4 : Fin k0_t4_loop.trips) : Fin 3 → Nat :=
  let c1_i32_1113 : BitVec 32 := 1#32
  let v3331 : Index := Scalar.indexCast c1_i32_1113
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3332 : Index := Scalar.indexCast v3238
  let c160_1114 : Index := 160#32
  ![1, v3332.toNat, 160]
def k0_off909 (k0_t4 : Fin k0_t4_loop.trips) : Fin 3 → Nat :=
  let c1_i32_1116 : BitVec 32 := 1#32
  let v3340 : Index := Scalar.indexCast c1_i32_1116
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3341 : Index := Scalar.indexCast v3238
  let c176_1117 : Index := 176#32
  ![1, v3341.toNat, 176]
def k0_off910 (k0_t4 : Fin k0_t4_loop.trips) : Fin 3 → Nat :=
  let c1_i32_1119 : BitVec 32 := 1#32
  let v3349 : Index := Scalar.indexCast c1_i32_1119
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3350 : Index := Scalar.indexCast v3238
  let c192_1120 : Index := 192#32
  ![1, v3350.toNat, 192]
def k0_off911 (k0_t4 : Fin k0_t4_loop.trips) : Fin 3 → Nat :=
  let c1_i32_1122 : BitVec 32 := 1#32
  let v3358 : Index := Scalar.indexCast c1_i32_1122
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3359 : Index := Scalar.indexCast v3238
  let c208_1123 : Index := 208#32
  ![1, v3359.toNat, 208]
def k0_off912 (k0_t4 : Fin k0_t4_loop.trips) : Fin 3 → Nat :=
  let c1_i32_1125 : BitVec 32 := 1#32
  let v3367 : Index := Scalar.indexCast c1_i32_1125
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3368 : Index := Scalar.indexCast v3238
  let c224_1126 : Index := 224#32
  ![1, v3368.toNat, 224]
def k0_off913 (k0_t4 : Fin k0_t4_loop.trips) : Fin 3 → Nat :=
  let c1_i32_1128 : BitVec 32 := 1#32
  let v3376 : Index := Scalar.indexCast c1_i32_1128
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1081 : BitVec 32 := 16#32
  let v3237 : BitVec 32 := Scalar.muli v2343 c16_i32_1081
  let c5_i32_1082 : BitVec 32 := 5#32
  let v3238 : BitVec 32 := Scalar.addi v3237 c5_i32_1082
  let v3377 : Index := Scalar.indexCast v3238
  let c240_1129 : Index := 240#32
  ![1, v3377.toNat, 240]
def k0_off914 (k0_t4 : Fin k0_t4_loop.trips) : Fin 3 → Nat :=
  let c1_i32_1133 : BitVec 32 := 1#32
  let v3389 : Index := Scalar.indexCast c1_i32_1133
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3390 : Index := Scalar.indexCast v3386
  let c0_1134 : Index := 0#32
  ![1, v3390.toNat, 0]
def k0_off915 (v3388 : BitVec 32) (c0_i32_1135 : BitVec 32) : Fin 1 → Nat :=
  let v3394 : BitVec 32 := Scalar.addi v3388 c0_i32_1135
  let v3395 : Index := Scalar.indexCast v3394
  ![v3395.toNat]

def k0_chk56 (v3388 : BitVec 32) : Prop :=
  (∀ (r : Fin 16), ∀ a, (k0_off915 v3388 (BitVec.ofNat 32 (16 * r.val))) a + S16.size a ≤ S17408.size a)
theorem k0_off915_inb : ∀ (v3388 : BitVec 32) (k0_hw56 : k0_chk56 v3388), ∀ (r : Fin 16), ∀ a, (k0_off915 v3388 (BitVec.ofNat 32 (16 * r.val))) a + S16.size a ≤ S17408.size a := fun v3388 k0_hw56 r => k0_hw56 r

def k0_off916 (k0_t4 : Fin k0_t4_loop.trips) : Fin 3 → Nat :=
  let c1_i32_1136 : BitVec 32 := 1#32
  let v3398 : Index := Scalar.indexCast c1_i32_1136
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3399 : Index := Scalar.indexCast v3386
  let c16_1137 : Index := 16#32
  ![1, v3399.toNat, 16]
def k0_off917 (k0_t4 : Fin k0_t4_loop.trips) : Fin 3 → Nat :=
  let c1_i32_1139 : BitVec 32 := 1#32
  let v3407 : Index := Scalar.indexCast c1_i32_1139
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3408 : Index := Scalar.indexCast v3386
  let c32_1140 : Index := 32#32
  ![1, v3408.toNat, 32]
def k0_off918 (k0_t4 : Fin k0_t4_loop.trips) : Fin 3 → Nat :=
  let c1_i32_1142 : BitVec 32 := 1#32
  let v3416 : Index := Scalar.indexCast c1_i32_1142
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3417 : Index := Scalar.indexCast v3386
  let c48_1143 : Index := 48#32
  ![1, v3417.toNat, 48]
def k0_off919 (k0_t4 : Fin k0_t4_loop.trips) : Fin 3 → Nat :=
  let c1_i32_1145 : BitVec 32 := 1#32
  let v3425 : Index := Scalar.indexCast c1_i32_1145
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3426 : Index := Scalar.indexCast v3386
  let c64_1146 : Index := 64#32
  ![1, v3426.toNat, 64]
def k0_off920 (k0_t4 : Fin k0_t4_loop.trips) : Fin 3 → Nat :=
  let c1_i32_1148 : BitVec 32 := 1#32
  let v3434 : Index := Scalar.indexCast c1_i32_1148
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3435 : Index := Scalar.indexCast v3386
  let c80_1149 : Index := 80#32
  ![1, v3435.toNat, 80]
def k0_off921 (k0_t4 : Fin k0_t4_loop.trips) : Fin 3 → Nat :=
  let c1_i32_1151 : BitVec 32 := 1#32
  let v3443 : Index := Scalar.indexCast c1_i32_1151
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3444 : Index := Scalar.indexCast v3386
  let c96_1152 : Index := 96#32
  ![1, v3444.toNat, 96]
def k0_off922 (k0_t4 : Fin k0_t4_loop.trips) : Fin 3 → Nat :=
  let c1_i32_1154 : BitVec 32 := 1#32
  let v3452 : Index := Scalar.indexCast c1_i32_1154
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3453 : Index := Scalar.indexCast v3386
  let c112_1155 : Index := 112#32
  ![1, v3453.toNat, 112]
def k0_off923 (k0_t4 : Fin k0_t4_loop.trips) : Fin 3 → Nat :=
  let c1_i32_1157 : BitVec 32 := 1#32
  let v3461 : Index := Scalar.indexCast c1_i32_1157
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3462 : Index := Scalar.indexCast v3386
  let c128_1158 : Index := 128#32
  ![1, v3462.toNat, 128]
def k0_off924 (k0_t4 : Fin k0_t4_loop.trips) : Fin 3 → Nat :=
  let c1_i32_1160 : BitVec 32 := 1#32
  let v3470 : Index := Scalar.indexCast c1_i32_1160
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3471 : Index := Scalar.indexCast v3386
  let c144_1161 : Index := 144#32
  ![1, v3471.toNat, 144]
def k0_off925 (k0_t4 : Fin k0_t4_loop.trips) : Fin 3 → Nat :=
  let c1_i32_1163 : BitVec 32 := 1#32
  let v3479 : Index := Scalar.indexCast c1_i32_1163
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3480 : Index := Scalar.indexCast v3386
  let c160_1164 : Index := 160#32
  ![1, v3480.toNat, 160]
def k0_off926 (k0_t4 : Fin k0_t4_loop.trips) : Fin 3 → Nat :=
  let c1_i32_1166 : BitVec 32 := 1#32
  let v3488 : Index := Scalar.indexCast c1_i32_1166
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3489 : Index := Scalar.indexCast v3386
  let c176_1167 : Index := 176#32
  ![1, v3489.toNat, 176]
def k0_off927 (k0_t4 : Fin k0_t4_loop.trips) : Fin 3 → Nat :=
  let c1_i32_1169 : BitVec 32 := 1#32
  let v3497 : Index := Scalar.indexCast c1_i32_1169
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3498 : Index := Scalar.indexCast v3386
  let c192_1170 : Index := 192#32
  ![1, v3498.toNat, 192]
def k0_off928 (k0_t4 : Fin k0_t4_loop.trips) : Fin 3 → Nat :=
  let c1_i32_1172 : BitVec 32 := 1#32
  let v3506 : Index := Scalar.indexCast c1_i32_1172
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3507 : Index := Scalar.indexCast v3386
  let c208_1173 : Index := 208#32
  ![1, v3507.toNat, 208]
def k0_off929 (k0_t4 : Fin k0_t4_loop.trips) : Fin 3 → Nat :=
  let c1_i32_1175 : BitVec 32 := 1#32
  let v3515 : Index := Scalar.indexCast c1_i32_1175
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3516 : Index := Scalar.indexCast v3386
  let c224_1176 : Index := 224#32
  ![1, v3516.toNat, 224]
def k0_off930 (k0_t4 : Fin k0_t4_loop.trips) : Fin 3 → Nat :=
  let c1_i32_1178 : BitVec 32 := 1#32
  let v3524 : Index := Scalar.indexCast c1_i32_1178
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1131 : BitVec 32 := 16#32
  let v3385 : BitVec 32 := Scalar.muli v2343 c16_i32_1131
  let c6_i32_1132 : BitVec 32 := 6#32
  let v3386 : BitVec 32 := Scalar.addi v3385 c6_i32_1132
  let v3525 : Index := Scalar.indexCast v3386
  let c240_1179 : Index := 240#32
  ![1, v3525.toNat, 240]
def k0_off931 (k0_t4 : Fin k0_t4_loop.trips) : Fin 3 → Nat :=
  let c1_i32_1183 : BitVec 32 := 1#32
  let v3537 : Index := Scalar.indexCast c1_i32_1183
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3538 : Index := Scalar.indexCast v3534
  let c0_1184 : Index := 0#32
  ![1, v3538.toNat, 0]
def k0_off932 (v3536 : BitVec 32) (c0_i32_1185 : BitVec 32) : Fin 1 → Nat :=
  let v3542 : BitVec 32 := Scalar.addi v3536 c0_i32_1185
  let v3543 : Index := Scalar.indexCast v3542
  ![v3543.toNat]

def k0_chk57 (v3536 : BitVec 32) : Prop :=
  (∀ (r : Fin 16), ∀ a, (k0_off932 v3536 (BitVec.ofNat 32 (16 * r.val))) a + S16.size a ≤ S17408.size a)
theorem k0_off932_inb : ∀ (v3536 : BitVec 32) (k0_hw57 : k0_chk57 v3536), ∀ (r : Fin 16), ∀ a, (k0_off932 v3536 (BitVec.ofNat 32 (16 * r.val))) a + S16.size a ≤ S17408.size a := fun v3536 k0_hw57 r => k0_hw57 r

def k0_off933 (k0_t4 : Fin k0_t4_loop.trips) : Fin 3 → Nat :=
  let c1_i32_1186 : BitVec 32 := 1#32
  let v3546 : Index := Scalar.indexCast c1_i32_1186
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3547 : Index := Scalar.indexCast v3534
  let c16_1187 : Index := 16#32
  ![1, v3547.toNat, 16]
def k0_off934 (k0_t4 : Fin k0_t4_loop.trips) : Fin 3 → Nat :=
  let c1_i32_1189 : BitVec 32 := 1#32
  let v3555 : Index := Scalar.indexCast c1_i32_1189
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3556 : Index := Scalar.indexCast v3534
  let c32_1190 : Index := 32#32
  ![1, v3556.toNat, 32]
def k0_off935 (k0_t4 : Fin k0_t4_loop.trips) : Fin 3 → Nat :=
  let c1_i32_1192 : BitVec 32 := 1#32
  let v3564 : Index := Scalar.indexCast c1_i32_1192
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3565 : Index := Scalar.indexCast v3534
  let c48_1193 : Index := 48#32
  ![1, v3565.toNat, 48]
def k0_off936 (k0_t4 : Fin k0_t4_loop.trips) : Fin 3 → Nat :=
  let c1_i32_1195 : BitVec 32 := 1#32
  let v3573 : Index := Scalar.indexCast c1_i32_1195
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3574 : Index := Scalar.indexCast v3534
  let c64_1196 : Index := 64#32
  ![1, v3574.toNat, 64]
def k0_off937 (k0_t4 : Fin k0_t4_loop.trips) : Fin 3 → Nat :=
  let c1_i32_1198 : BitVec 32 := 1#32
  let v3582 : Index := Scalar.indexCast c1_i32_1198
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3583 : Index := Scalar.indexCast v3534
  let c80_1199 : Index := 80#32
  ![1, v3583.toNat, 80]
def k0_off938 (k0_t4 : Fin k0_t4_loop.trips) : Fin 3 → Nat :=
  let c1_i32_1201 : BitVec 32 := 1#32
  let v3591 : Index := Scalar.indexCast c1_i32_1201
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3592 : Index := Scalar.indexCast v3534
  let c96_1202 : Index := 96#32
  ![1, v3592.toNat, 96]
def k0_off939 (k0_t4 : Fin k0_t4_loop.trips) : Fin 3 → Nat :=
  let c1_i32_1204 : BitVec 32 := 1#32
  let v3600 : Index := Scalar.indexCast c1_i32_1204
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3601 : Index := Scalar.indexCast v3534
  let c112_1205 : Index := 112#32
  ![1, v3601.toNat, 112]
def k0_off940 (k0_t4 : Fin k0_t4_loop.trips) : Fin 3 → Nat :=
  let c1_i32_1207 : BitVec 32 := 1#32
  let v3609 : Index := Scalar.indexCast c1_i32_1207
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3610 : Index := Scalar.indexCast v3534
  let c128_1208 : Index := 128#32
  ![1, v3610.toNat, 128]
def k0_off941 (k0_t4 : Fin k0_t4_loop.trips) : Fin 3 → Nat :=
  let c1_i32_1210 : BitVec 32 := 1#32
  let v3618 : Index := Scalar.indexCast c1_i32_1210
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3619 : Index := Scalar.indexCast v3534
  let c144_1211 : Index := 144#32
  ![1, v3619.toNat, 144]
def k0_off942 (k0_t4 : Fin k0_t4_loop.trips) : Fin 3 → Nat :=
  let c1_i32_1213 : BitVec 32 := 1#32
  let v3627 : Index := Scalar.indexCast c1_i32_1213
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3628 : Index := Scalar.indexCast v3534
  let c160_1214 : Index := 160#32
  ![1, v3628.toNat, 160]
def k0_off943 (k0_t4 : Fin k0_t4_loop.trips) : Fin 3 → Nat :=
  let c1_i32_1216 : BitVec 32 := 1#32
  let v3636 : Index := Scalar.indexCast c1_i32_1216
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3637 : Index := Scalar.indexCast v3534
  let c176_1217 : Index := 176#32
  ![1, v3637.toNat, 176]
def k0_off944 (k0_t4 : Fin k0_t4_loop.trips) : Fin 3 → Nat :=
  let c1_i32_1219 : BitVec 32 := 1#32
  let v3645 : Index := Scalar.indexCast c1_i32_1219
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3646 : Index := Scalar.indexCast v3534
  let c192_1220 : Index := 192#32
  ![1, v3646.toNat, 192]
def k0_off945 (k0_t4 : Fin k0_t4_loop.trips) : Fin 3 → Nat :=
  let c1_i32_1222 : BitVec 32 := 1#32
  let v3654 : Index := Scalar.indexCast c1_i32_1222
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3655 : Index := Scalar.indexCast v3534
  let c208_1223 : Index := 208#32
  ![1, v3655.toNat, 208]
def k0_off946 (k0_t4 : Fin k0_t4_loop.trips) : Fin 3 → Nat :=
  let c1_i32_1225 : BitVec 32 := 1#32
  let v3663 : Index := Scalar.indexCast c1_i32_1225
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3664 : Index := Scalar.indexCast v3534
  let c224_1226 : Index := 224#32
  ![1, v3664.toNat, 224]
def k0_off947 (k0_t4 : Fin k0_t4_loop.trips) : Fin 3 → Nat :=
  let c1_i32_1228 : BitVec 32 := 1#32
  let v3672 : Index := Scalar.indexCast c1_i32_1228
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1181 : BitVec 32 := 16#32
  let v3533 : BitVec 32 := Scalar.muli v2343 c16_i32_1181
  let c7_i32_1182 : BitVec 32 := 7#32
  let v3534 : BitVec 32 := Scalar.addi v3533 c7_i32_1182
  let v3673 : Index := Scalar.indexCast v3534
  let c240_1229 : Index := 240#32
  ![1, v3673.toNat, 240]
def k0_off948 (k0_t4 : Fin k0_t4_loop.trips) : Fin 3 → Nat :=
  let c1_i32_1233 : BitVec 32 := 1#32
  let v3685 : Index := Scalar.indexCast c1_i32_1233
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3686 : Index := Scalar.indexCast v3682
  let c0_1234 : Index := 0#32
  ![1, v3686.toNat, 0]
def k0_off949 (v3684 : BitVec 32) (c0_i32_1235 : BitVec 32) : Fin 1 → Nat :=
  let v3690 : BitVec 32 := Scalar.addi v3684 c0_i32_1235
  let v3691 : Index := Scalar.indexCast v3690
  ![v3691.toNat]

def k0_chk58 (v3684 : BitVec 32) : Prop :=
  (∀ (r : Fin 16), ∀ a, (k0_off949 v3684 (BitVec.ofNat 32 (16 * r.val))) a + S16.size a ≤ S17408.size a)
theorem k0_off949_inb : ∀ (v3684 : BitVec 32) (k0_hw58 : k0_chk58 v3684), ∀ (r : Fin 16), ∀ a, (k0_off949 v3684 (BitVec.ofNat 32 (16 * r.val))) a + S16.size a ≤ S17408.size a := fun v3684 k0_hw58 r => k0_hw58 r

def k0_off950 (k0_t4 : Fin k0_t4_loop.trips) : Fin 3 → Nat :=
  let c1_i32_1236 : BitVec 32 := 1#32
  let v3694 : Index := Scalar.indexCast c1_i32_1236
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3695 : Index := Scalar.indexCast v3682
  let c16_1237 : Index := 16#32
  ![1, v3695.toNat, 16]
def k0_off951 (k0_t4 : Fin k0_t4_loop.trips) : Fin 3 → Nat :=
  let c1_i32_1239 : BitVec 32 := 1#32
  let v3703 : Index := Scalar.indexCast c1_i32_1239
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3704 : Index := Scalar.indexCast v3682
  let c32_1240 : Index := 32#32
  ![1, v3704.toNat, 32]
def k0_off952 (k0_t4 : Fin k0_t4_loop.trips) : Fin 3 → Nat :=
  let c1_i32_1242 : BitVec 32 := 1#32
  let v3712 : Index := Scalar.indexCast c1_i32_1242
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3713 : Index := Scalar.indexCast v3682
  let c48_1243 : Index := 48#32
  ![1, v3713.toNat, 48]
def k0_off953 (k0_t4 : Fin k0_t4_loop.trips) : Fin 3 → Nat :=
  let c1_i32_1245 : BitVec 32 := 1#32
  let v3721 : Index := Scalar.indexCast c1_i32_1245
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3722 : Index := Scalar.indexCast v3682
  let c64_1246 : Index := 64#32
  ![1, v3722.toNat, 64]
def k0_off954 (k0_t4 : Fin k0_t4_loop.trips) : Fin 3 → Nat :=
  let c1_i32_1248 : BitVec 32 := 1#32
  let v3730 : Index := Scalar.indexCast c1_i32_1248
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3731 : Index := Scalar.indexCast v3682
  let c80_1249 : Index := 80#32
  ![1, v3731.toNat, 80]
def k0_off955 (k0_t4 : Fin k0_t4_loop.trips) : Fin 3 → Nat :=
  let c1_i32_1251 : BitVec 32 := 1#32
  let v3739 : Index := Scalar.indexCast c1_i32_1251
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3740 : Index := Scalar.indexCast v3682
  let c96_1252 : Index := 96#32
  ![1, v3740.toNat, 96]
def k0_off956 (k0_t4 : Fin k0_t4_loop.trips) : Fin 3 → Nat :=
  let c1_i32_1254 : BitVec 32 := 1#32
  let v3748 : Index := Scalar.indexCast c1_i32_1254
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3749 : Index := Scalar.indexCast v3682
  let c112_1255 : Index := 112#32
  ![1, v3749.toNat, 112]
def k0_off957 (k0_t4 : Fin k0_t4_loop.trips) : Fin 3 → Nat :=
  let c1_i32_1257 : BitVec 32 := 1#32
  let v3757 : Index := Scalar.indexCast c1_i32_1257
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3758 : Index := Scalar.indexCast v3682
  let c128_1258 : Index := 128#32
  ![1, v3758.toNat, 128]
def k0_off958 (k0_t4 : Fin k0_t4_loop.trips) : Fin 3 → Nat :=
  let c1_i32_1260 : BitVec 32 := 1#32
  let v3766 : Index := Scalar.indexCast c1_i32_1260
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3767 : Index := Scalar.indexCast v3682
  let c144_1261 : Index := 144#32
  ![1, v3767.toNat, 144]
def k0_off959 (k0_t4 : Fin k0_t4_loop.trips) : Fin 3 → Nat :=
  let c1_i32_1263 : BitVec 32 := 1#32
  let v3775 : Index := Scalar.indexCast c1_i32_1263
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3776 : Index := Scalar.indexCast v3682
  let c160_1264 : Index := 160#32
  ![1, v3776.toNat, 160]
def k0_off960 (k0_t4 : Fin k0_t4_loop.trips) : Fin 3 → Nat :=
  let c1_i32_1266 : BitVec 32 := 1#32
  let v3784 : Index := Scalar.indexCast c1_i32_1266
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3785 : Index := Scalar.indexCast v3682
  let c176_1267 : Index := 176#32
  ![1, v3785.toNat, 176]
def k0_off961 (k0_t4 : Fin k0_t4_loop.trips) : Fin 3 → Nat :=
  let c1_i32_1269 : BitVec 32 := 1#32
  let v3793 : Index := Scalar.indexCast c1_i32_1269
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3794 : Index := Scalar.indexCast v3682
  let c192_1270 : Index := 192#32
  ![1, v3794.toNat, 192]
def k0_off962 (k0_t4 : Fin k0_t4_loop.trips) : Fin 3 → Nat :=
  let c1_i32_1272 : BitVec 32 := 1#32
  let v3802 : Index := Scalar.indexCast c1_i32_1272
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3803 : Index := Scalar.indexCast v3682
  let c208_1273 : Index := 208#32
  ![1, v3803.toNat, 208]
def k0_off963 (k0_t4 : Fin k0_t4_loop.trips) : Fin 3 → Nat :=
  let c1_i32_1275 : BitVec 32 := 1#32
  let v3811 : Index := Scalar.indexCast c1_i32_1275
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3812 : Index := Scalar.indexCast v3682
  let c224_1276 : Index := 224#32
  ![1, v3812.toNat, 224]
def k0_off964 (k0_t4 : Fin k0_t4_loop.trips) : Fin 3 → Nat :=
  let c1_i32_1278 : BitVec 32 := 1#32
  let v3820 : Index := Scalar.indexCast c1_i32_1278
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1231 : BitVec 32 := 16#32
  let v3681 : BitVec 32 := Scalar.muli v2343 c16_i32_1231
  let c8_i32_1232 : BitVec 32 := 8#32
  let v3682 : BitVec 32 := Scalar.addi v3681 c8_i32_1232
  let v3821 : Index := Scalar.indexCast v3682
  let c240_1279 : Index := 240#32
  ![1, v3821.toNat, 240]
def k0_off965 (k0_t4 : Fin k0_t4_loop.trips) : Fin 3 → Nat :=
  let c1_i32_1283 : BitVec 32 := 1#32
  let v3833 : Index := Scalar.indexCast c1_i32_1283
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3834 : Index := Scalar.indexCast v3830
  let c0_1284 : Index := 0#32
  ![1, v3834.toNat, 0]
def k0_off966 (v3832 : BitVec 32) (c0_i32_1285 : BitVec 32) : Fin 1 → Nat :=
  let v3838 : BitVec 32 := Scalar.addi v3832 c0_i32_1285
  let v3839 : Index := Scalar.indexCast v3838
  ![v3839.toNat]

def k0_chk59 (v3832 : BitVec 32) : Prop :=
  (∀ (r : Fin 16), ∀ a, (k0_off966 v3832 (BitVec.ofNat 32 (16 * r.val))) a + S16.size a ≤ S17408.size a)
theorem k0_off966_inb : ∀ (v3832 : BitVec 32) (k0_hw59 : k0_chk59 v3832), ∀ (r : Fin 16), ∀ a, (k0_off966 v3832 (BitVec.ofNat 32 (16 * r.val))) a + S16.size a ≤ S17408.size a := fun v3832 k0_hw59 r => k0_hw59 r

def k0_off967 (k0_t4 : Fin k0_t4_loop.trips) : Fin 3 → Nat :=
  let c1_i32_1286 : BitVec 32 := 1#32
  let v3842 : Index := Scalar.indexCast c1_i32_1286
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3843 : Index := Scalar.indexCast v3830
  let c16_1287 : Index := 16#32
  ![1, v3843.toNat, 16]
def k0_off968 (k0_t4 : Fin k0_t4_loop.trips) : Fin 3 → Nat :=
  let c1_i32_1289 : BitVec 32 := 1#32
  let v3851 : Index := Scalar.indexCast c1_i32_1289
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3852 : Index := Scalar.indexCast v3830
  let c32_1290 : Index := 32#32
  ![1, v3852.toNat, 32]
def k0_off969 (k0_t4 : Fin k0_t4_loop.trips) : Fin 3 → Nat :=
  let c1_i32_1292 : BitVec 32 := 1#32
  let v3860 : Index := Scalar.indexCast c1_i32_1292
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3861 : Index := Scalar.indexCast v3830
  let c48_1293 : Index := 48#32
  ![1, v3861.toNat, 48]
def k0_off970 (k0_t4 : Fin k0_t4_loop.trips) : Fin 3 → Nat :=
  let c1_i32_1295 : BitVec 32 := 1#32
  let v3869 : Index := Scalar.indexCast c1_i32_1295
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3870 : Index := Scalar.indexCast v3830
  let c64_1296 : Index := 64#32
  ![1, v3870.toNat, 64]
def k0_off971 (k0_t4 : Fin k0_t4_loop.trips) : Fin 3 → Nat :=
  let c1_i32_1298 : BitVec 32 := 1#32
  let v3878 : Index := Scalar.indexCast c1_i32_1298
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3879 : Index := Scalar.indexCast v3830
  let c80_1299 : Index := 80#32
  ![1, v3879.toNat, 80]
def k0_off972 (k0_t4 : Fin k0_t4_loop.trips) : Fin 3 → Nat :=
  let c1_i32_1301 : BitVec 32 := 1#32
  let v3887 : Index := Scalar.indexCast c1_i32_1301
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3888 : Index := Scalar.indexCast v3830
  let c96_1302 : Index := 96#32
  ![1, v3888.toNat, 96]
def k0_off973 (k0_t4 : Fin k0_t4_loop.trips) : Fin 3 → Nat :=
  let c1_i32_1304 : BitVec 32 := 1#32
  let v3896 : Index := Scalar.indexCast c1_i32_1304
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3897 : Index := Scalar.indexCast v3830
  let c112_1305 : Index := 112#32
  ![1, v3897.toNat, 112]
def k0_off974 (k0_t4 : Fin k0_t4_loop.trips) : Fin 3 → Nat :=
  let c1_i32_1307 : BitVec 32 := 1#32
  let v3905 : Index := Scalar.indexCast c1_i32_1307
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3906 : Index := Scalar.indexCast v3830
  let c128_1308 : Index := 128#32
  ![1, v3906.toNat, 128]
def k0_off975 (k0_t4 : Fin k0_t4_loop.trips) : Fin 3 → Nat :=
  let c1_i32_1310 : BitVec 32 := 1#32
  let v3914 : Index := Scalar.indexCast c1_i32_1310
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3915 : Index := Scalar.indexCast v3830
  let c144_1311 : Index := 144#32
  ![1, v3915.toNat, 144]
def k0_off976 (k0_t4 : Fin k0_t4_loop.trips) : Fin 3 → Nat :=
  let c1_i32_1313 : BitVec 32 := 1#32
  let v3923 : Index := Scalar.indexCast c1_i32_1313
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3924 : Index := Scalar.indexCast v3830
  let c160_1314 : Index := 160#32
  ![1, v3924.toNat, 160]
def k0_off977 (k0_t4 : Fin k0_t4_loop.trips) : Fin 3 → Nat :=
  let c1_i32_1316 : BitVec 32 := 1#32
  let v3932 : Index := Scalar.indexCast c1_i32_1316
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3933 : Index := Scalar.indexCast v3830
  let c176_1317 : Index := 176#32
  ![1, v3933.toNat, 176]
def k0_off978 (k0_t4 : Fin k0_t4_loop.trips) : Fin 3 → Nat :=
  let c1_i32_1319 : BitVec 32 := 1#32
  let v3941 : Index := Scalar.indexCast c1_i32_1319
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3942 : Index := Scalar.indexCast v3830
  let c192_1320 : Index := 192#32
  ![1, v3942.toNat, 192]
def k0_off979 (k0_t4 : Fin k0_t4_loop.trips) : Fin 3 → Nat :=
  let c1_i32_1322 : BitVec 32 := 1#32
  let v3950 : Index := Scalar.indexCast c1_i32_1322
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3951 : Index := Scalar.indexCast v3830
  let c208_1323 : Index := 208#32
  ![1, v3951.toNat, 208]
def k0_off980 (k0_t4 : Fin k0_t4_loop.trips) : Fin 3 → Nat :=
  let c1_i32_1325 : BitVec 32 := 1#32
  let v3959 : Index := Scalar.indexCast c1_i32_1325
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3960 : Index := Scalar.indexCast v3830
  let c224_1326 : Index := 224#32
  ![1, v3960.toNat, 224]
def k0_off981 (k0_t4 : Fin k0_t4_loop.trips) : Fin 3 → Nat :=
  let c1_i32_1328 : BitVec 32 := 1#32
  let v3968 : Index := Scalar.indexCast c1_i32_1328
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1281 : BitVec 32 := 16#32
  let v3829 : BitVec 32 := Scalar.muli v2343 c16_i32_1281
  let c9_i32_1282 : BitVec 32 := 9#32
  let v3830 : BitVec 32 := Scalar.addi v3829 c9_i32_1282
  let v3969 : Index := Scalar.indexCast v3830
  let c240_1329 : Index := 240#32
  ![1, v3969.toNat, 240]
def k0_off982 (k0_t4 : Fin k0_t4_loop.trips) : Fin 3 → Nat :=
  let c1_i32_1333 : BitVec 32 := 1#32
  let v3981 : Index := Scalar.indexCast c1_i32_1333
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v3982 : Index := Scalar.indexCast v3978
  let c0_1334 : Index := 0#32
  ![1, v3982.toNat, 0]
def k0_off983 (v3980 : BitVec 32) (c0_i32_1335 : BitVec 32) : Fin 1 → Nat :=
  let v3986 : BitVec 32 := Scalar.addi v3980 c0_i32_1335
  let v3987 : Index := Scalar.indexCast v3986
  ![v3987.toNat]

def k0_chk60 (v3980 : BitVec 32) : Prop :=
  (∀ (r : Fin 16), ∀ a, (k0_off983 v3980 (BitVec.ofNat 32 (16 * r.val))) a + S16.size a ≤ S17408.size a)
theorem k0_off983_inb : ∀ (v3980 : BitVec 32) (k0_hw60 : k0_chk60 v3980), ∀ (r : Fin 16), ∀ a, (k0_off983 v3980 (BitVec.ofNat 32 (16 * r.val))) a + S16.size a ≤ S17408.size a := fun v3980 k0_hw60 r => k0_hw60 r

def k0_off984 (k0_t4 : Fin k0_t4_loop.trips) : Fin 3 → Nat :=
  let c1_i32_1336 : BitVec 32 := 1#32
  let v3990 : Index := Scalar.indexCast c1_i32_1336
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v3991 : Index := Scalar.indexCast v3978
  let c16_1337 : Index := 16#32
  ![1, v3991.toNat, 16]
def k0_off985 (k0_t4 : Fin k0_t4_loop.trips) : Fin 3 → Nat :=
  let c1_i32_1339 : BitVec 32 := 1#32
  let v3999 : Index := Scalar.indexCast c1_i32_1339
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4000 : Index := Scalar.indexCast v3978
  let c32_1340 : Index := 32#32
  ![1, v4000.toNat, 32]
def k0_off986 (k0_t4 : Fin k0_t4_loop.trips) : Fin 3 → Nat :=
  let c1_i32_1342 : BitVec 32 := 1#32
  let v4008 : Index := Scalar.indexCast c1_i32_1342
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4009 : Index := Scalar.indexCast v3978
  let c48_1343 : Index := 48#32
  ![1, v4009.toNat, 48]
def k0_off987 (k0_t4 : Fin k0_t4_loop.trips) : Fin 3 → Nat :=
  let c1_i32_1345 : BitVec 32 := 1#32
  let v4017 : Index := Scalar.indexCast c1_i32_1345
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4018 : Index := Scalar.indexCast v3978
  let c64_1346 : Index := 64#32
  ![1, v4018.toNat, 64]
def k0_off988 (k0_t4 : Fin k0_t4_loop.trips) : Fin 3 → Nat :=
  let c1_i32_1348 : BitVec 32 := 1#32
  let v4026 : Index := Scalar.indexCast c1_i32_1348
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4027 : Index := Scalar.indexCast v3978
  let c80_1349 : Index := 80#32
  ![1, v4027.toNat, 80]
def k0_off989 (k0_t4 : Fin k0_t4_loop.trips) : Fin 3 → Nat :=
  let c1_i32_1351 : BitVec 32 := 1#32
  let v4035 : Index := Scalar.indexCast c1_i32_1351
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4036 : Index := Scalar.indexCast v3978
  let c96_1352 : Index := 96#32
  ![1, v4036.toNat, 96]
def k0_off990 (k0_t4 : Fin k0_t4_loop.trips) : Fin 3 → Nat :=
  let c1_i32_1354 : BitVec 32 := 1#32
  let v4044 : Index := Scalar.indexCast c1_i32_1354
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4045 : Index := Scalar.indexCast v3978
  let c112_1355 : Index := 112#32
  ![1, v4045.toNat, 112]
def k0_off991 (k0_t4 : Fin k0_t4_loop.trips) : Fin 3 → Nat :=
  let c1_i32_1357 : BitVec 32 := 1#32
  let v4053 : Index := Scalar.indexCast c1_i32_1357
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4054 : Index := Scalar.indexCast v3978
  let c128_1358 : Index := 128#32
  ![1, v4054.toNat, 128]
def k0_off992 (k0_t4 : Fin k0_t4_loop.trips) : Fin 3 → Nat :=
  let c1_i32_1360 : BitVec 32 := 1#32
  let v4062 : Index := Scalar.indexCast c1_i32_1360
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4063 : Index := Scalar.indexCast v3978
  let c144_1361 : Index := 144#32
  ![1, v4063.toNat, 144]
def k0_off993 (k0_t4 : Fin k0_t4_loop.trips) : Fin 3 → Nat :=
  let c1_i32_1363 : BitVec 32 := 1#32
  let v4071 : Index := Scalar.indexCast c1_i32_1363
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4072 : Index := Scalar.indexCast v3978
  let c160_1364 : Index := 160#32
  ![1, v4072.toNat, 160]
def k0_off994 (k0_t4 : Fin k0_t4_loop.trips) : Fin 3 → Nat :=
  let c1_i32_1366 : BitVec 32 := 1#32
  let v4080 : Index := Scalar.indexCast c1_i32_1366
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4081 : Index := Scalar.indexCast v3978
  let c176_1367 : Index := 176#32
  ![1, v4081.toNat, 176]
def k0_off995 (k0_t4 : Fin k0_t4_loop.trips) : Fin 3 → Nat :=
  let c1_i32_1369 : BitVec 32 := 1#32
  let v4089 : Index := Scalar.indexCast c1_i32_1369
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4090 : Index := Scalar.indexCast v3978
  let c192_1370 : Index := 192#32
  ![1, v4090.toNat, 192]
def k0_off996 (k0_t4 : Fin k0_t4_loop.trips) : Fin 3 → Nat :=
  let c1_i32_1372 : BitVec 32 := 1#32
  let v4098 : Index := Scalar.indexCast c1_i32_1372
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4099 : Index := Scalar.indexCast v3978
  let c208_1373 : Index := 208#32
  ![1, v4099.toNat, 208]
def k0_off997 (k0_t4 : Fin k0_t4_loop.trips) : Fin 3 → Nat :=
  let c1_i32_1375 : BitVec 32 := 1#32
  let v4107 : Index := Scalar.indexCast c1_i32_1375
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4108 : Index := Scalar.indexCast v3978
  let c224_1376 : Index := 224#32
  ![1, v4108.toNat, 224]
def k0_off998 (k0_t4 : Fin k0_t4_loop.trips) : Fin 3 → Nat :=
  let c1_i32_1378 : BitVec 32 := 1#32
  let v4116 : Index := Scalar.indexCast c1_i32_1378
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1331 : BitVec 32 := 16#32
  let v3977 : BitVec 32 := Scalar.muli v2343 c16_i32_1331
  let c10_i32_1332 : BitVec 32 := 10#32
  let v3978 : BitVec 32 := Scalar.addi v3977 c10_i32_1332
  let v4117 : Index := Scalar.indexCast v3978
  let c240_1379 : Index := 240#32
  ![1, v4117.toNat, 240]
def k0_off999 (k0_t4 : Fin k0_t4_loop.trips) : Fin 3 → Nat :=
  let c1_i32_1383 : BitVec 32 := 1#32
  let v4129 : Index := Scalar.indexCast c1_i32_1383
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4130 : Index := Scalar.indexCast v4126
  let c0_1384 : Index := 0#32
  ![1, v4130.toNat, 0]
def k0_off1000 (v4128 : BitVec 32) (c0_i32_1385 : BitVec 32) : Fin 1 → Nat :=
  let v4134 : BitVec 32 := Scalar.addi v4128 c0_i32_1385
  let v4135 : Index := Scalar.indexCast v4134
  ![v4135.toNat]

def k0_chk61 (v4128 : BitVec 32) : Prop :=
  (∀ (r : Fin 16), ∀ a, (k0_off1000 v4128 (BitVec.ofNat 32 (16 * r.val))) a + S16.size a ≤ S17408.size a)
theorem k0_off1000_inb : ∀ (v4128 : BitVec 32) (k0_hw61 : k0_chk61 v4128), ∀ (r : Fin 16), ∀ a, (k0_off1000 v4128 (BitVec.ofNat 32 (16 * r.val))) a + S16.size a ≤ S17408.size a := fun v4128 k0_hw61 r => k0_hw61 r

def k0_off1001 (k0_t4 : Fin k0_t4_loop.trips) : Fin 3 → Nat :=
  let c1_i32_1386 : BitVec 32 := 1#32
  let v4138 : Index := Scalar.indexCast c1_i32_1386
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4139 : Index := Scalar.indexCast v4126
  let c16_1387 : Index := 16#32
  ![1, v4139.toNat, 16]
def k0_off1002 (k0_t4 : Fin k0_t4_loop.trips) : Fin 3 → Nat :=
  let c1_i32_1389 : BitVec 32 := 1#32
  let v4147 : Index := Scalar.indexCast c1_i32_1389
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4148 : Index := Scalar.indexCast v4126
  let c32_1390 : Index := 32#32
  ![1, v4148.toNat, 32]
def k0_off1003 (k0_t4 : Fin k0_t4_loop.trips) : Fin 3 → Nat :=
  let c1_i32_1392 : BitVec 32 := 1#32
  let v4156 : Index := Scalar.indexCast c1_i32_1392
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4157 : Index := Scalar.indexCast v4126
  let c48_1393 : Index := 48#32
  ![1, v4157.toNat, 48]
def k0_off1004 (k0_t4 : Fin k0_t4_loop.trips) : Fin 3 → Nat :=
  let c1_i32_1395 : BitVec 32 := 1#32
  let v4165 : Index := Scalar.indexCast c1_i32_1395
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4166 : Index := Scalar.indexCast v4126
  let c64_1396 : Index := 64#32
  ![1, v4166.toNat, 64]
def k0_off1005 (k0_t4 : Fin k0_t4_loop.trips) : Fin 3 → Nat :=
  let c1_i32_1398 : BitVec 32 := 1#32
  let v4174 : Index := Scalar.indexCast c1_i32_1398
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4175 : Index := Scalar.indexCast v4126
  let c80_1399 : Index := 80#32
  ![1, v4175.toNat, 80]
def k0_off1006 (k0_t4 : Fin k0_t4_loop.trips) : Fin 3 → Nat :=
  let c1_i32_1401 : BitVec 32 := 1#32
  let v4183 : Index := Scalar.indexCast c1_i32_1401
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4184 : Index := Scalar.indexCast v4126
  let c96_1402 : Index := 96#32
  ![1, v4184.toNat, 96]
def k0_off1007 (k0_t4 : Fin k0_t4_loop.trips) : Fin 3 → Nat :=
  let c1_i32_1404 : BitVec 32 := 1#32
  let v4192 : Index := Scalar.indexCast c1_i32_1404
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4193 : Index := Scalar.indexCast v4126
  let c112_1405 : Index := 112#32
  ![1, v4193.toNat, 112]
def k0_off1008 (k0_t4 : Fin k0_t4_loop.trips) : Fin 3 → Nat :=
  let c1_i32_1407 : BitVec 32 := 1#32
  let v4201 : Index := Scalar.indexCast c1_i32_1407
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4202 : Index := Scalar.indexCast v4126
  let c128_1408 : Index := 128#32
  ![1, v4202.toNat, 128]
def k0_off1009 (k0_t4 : Fin k0_t4_loop.trips) : Fin 3 → Nat :=
  let c1_i32_1410 : BitVec 32 := 1#32
  let v4210 : Index := Scalar.indexCast c1_i32_1410
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4211 : Index := Scalar.indexCast v4126
  let c144_1411 : Index := 144#32
  ![1, v4211.toNat, 144]
def k0_off1010 (k0_t4 : Fin k0_t4_loop.trips) : Fin 3 → Nat :=
  let c1_i32_1413 : BitVec 32 := 1#32
  let v4219 : Index := Scalar.indexCast c1_i32_1413
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4220 : Index := Scalar.indexCast v4126
  let c160_1414 : Index := 160#32
  ![1, v4220.toNat, 160]
def k0_off1011 (k0_t4 : Fin k0_t4_loop.trips) : Fin 3 → Nat :=
  let c1_i32_1416 : BitVec 32 := 1#32
  let v4228 : Index := Scalar.indexCast c1_i32_1416
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4229 : Index := Scalar.indexCast v4126
  let c176_1417 : Index := 176#32
  ![1, v4229.toNat, 176]
def k0_off1012 (k0_t4 : Fin k0_t4_loop.trips) : Fin 3 → Nat :=
  let c1_i32_1419 : BitVec 32 := 1#32
  let v4237 : Index := Scalar.indexCast c1_i32_1419
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4238 : Index := Scalar.indexCast v4126
  let c192_1420 : Index := 192#32
  ![1, v4238.toNat, 192]
def k0_off1013 (k0_t4 : Fin k0_t4_loop.trips) : Fin 3 → Nat :=
  let c1_i32_1422 : BitVec 32 := 1#32
  let v4246 : Index := Scalar.indexCast c1_i32_1422
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4247 : Index := Scalar.indexCast v4126
  let c208_1423 : Index := 208#32
  ![1, v4247.toNat, 208]
def k0_off1014 (k0_t4 : Fin k0_t4_loop.trips) : Fin 3 → Nat :=
  let c1_i32_1425 : BitVec 32 := 1#32
  let v4255 : Index := Scalar.indexCast c1_i32_1425
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4256 : Index := Scalar.indexCast v4126
  let c224_1426 : Index := 224#32
  ![1, v4256.toNat, 224]
def k0_off1015 (k0_t4 : Fin k0_t4_loop.trips) : Fin 3 → Nat :=
  let c1_i32_1428 : BitVec 32 := 1#32
  let v4264 : Index := Scalar.indexCast c1_i32_1428
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1381 : BitVec 32 := 16#32
  let v4125 : BitVec 32 := Scalar.muli v2343 c16_i32_1381
  let c11_i32_1382 : BitVec 32 := 11#32
  let v4126 : BitVec 32 := Scalar.addi v4125 c11_i32_1382
  let v4265 : Index := Scalar.indexCast v4126
  let c240_1429 : Index := 240#32
  ![1, v4265.toNat, 240]
def k0_off1016 (k0_t4 : Fin k0_t4_loop.trips) : Fin 3 → Nat :=
  let c1_i32_1433 : BitVec 32 := 1#32
  let v4277 : Index := Scalar.indexCast c1_i32_1433
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4278 : Index := Scalar.indexCast v4274
  let c0_1434 : Index := 0#32
  ![1, v4278.toNat, 0]
def k0_off1017 (v4276 : BitVec 32) (c0_i32_1435 : BitVec 32) : Fin 1 → Nat :=
  let v4282 : BitVec 32 := Scalar.addi v4276 c0_i32_1435
  let v4283 : Index := Scalar.indexCast v4282
  ![v4283.toNat]

def k0_chk62 (v4276 : BitVec 32) : Prop :=
  (∀ (r : Fin 16), ∀ a, (k0_off1017 v4276 (BitVec.ofNat 32 (16 * r.val))) a + S16.size a ≤ S17408.size a)
theorem k0_off1017_inb : ∀ (v4276 : BitVec 32) (k0_hw62 : k0_chk62 v4276), ∀ (r : Fin 16), ∀ a, (k0_off1017 v4276 (BitVec.ofNat 32 (16 * r.val))) a + S16.size a ≤ S17408.size a := fun v4276 k0_hw62 r => k0_hw62 r

def k0_off1018 (k0_t4 : Fin k0_t4_loop.trips) : Fin 3 → Nat :=
  let c1_i32_1436 : BitVec 32 := 1#32
  let v4286 : Index := Scalar.indexCast c1_i32_1436
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4287 : Index := Scalar.indexCast v4274
  let c16_1437 : Index := 16#32
  ![1, v4287.toNat, 16]
def k0_off1019 (k0_t4 : Fin k0_t4_loop.trips) : Fin 3 → Nat :=
  let c1_i32_1439 : BitVec 32 := 1#32
  let v4295 : Index := Scalar.indexCast c1_i32_1439
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4296 : Index := Scalar.indexCast v4274
  let c32_1440 : Index := 32#32
  ![1, v4296.toNat, 32]
def k0_off1020 (k0_t4 : Fin k0_t4_loop.trips) : Fin 3 → Nat :=
  let c1_i32_1442 : BitVec 32 := 1#32
  let v4304 : Index := Scalar.indexCast c1_i32_1442
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4305 : Index := Scalar.indexCast v4274
  let c48_1443 : Index := 48#32
  ![1, v4305.toNat, 48]
def k0_off1021 (k0_t4 : Fin k0_t4_loop.trips) : Fin 3 → Nat :=
  let c1_i32_1445 : BitVec 32 := 1#32
  let v4313 : Index := Scalar.indexCast c1_i32_1445
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4314 : Index := Scalar.indexCast v4274
  let c64_1446 : Index := 64#32
  ![1, v4314.toNat, 64]
def k0_off1022 (k0_t4 : Fin k0_t4_loop.trips) : Fin 3 → Nat :=
  let c1_i32_1448 : BitVec 32 := 1#32
  let v4322 : Index := Scalar.indexCast c1_i32_1448
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4323 : Index := Scalar.indexCast v4274
  let c80_1449 : Index := 80#32
  ![1, v4323.toNat, 80]
def k0_off1023 (k0_t4 : Fin k0_t4_loop.trips) : Fin 3 → Nat :=
  let c1_i32_1451 : BitVec 32 := 1#32
  let v4331 : Index := Scalar.indexCast c1_i32_1451
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4332 : Index := Scalar.indexCast v4274
  let c96_1452 : Index := 96#32
  ![1, v4332.toNat, 96]
def k0_off1024 (k0_t4 : Fin k0_t4_loop.trips) : Fin 3 → Nat :=
  let c1_i32_1454 : BitVec 32 := 1#32
  let v4340 : Index := Scalar.indexCast c1_i32_1454
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4341 : Index := Scalar.indexCast v4274
  let c112_1455 : Index := 112#32
  ![1, v4341.toNat, 112]
def k0_off1025 (k0_t4 : Fin k0_t4_loop.trips) : Fin 3 → Nat :=
  let c1_i32_1457 : BitVec 32 := 1#32
  let v4349 : Index := Scalar.indexCast c1_i32_1457
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4350 : Index := Scalar.indexCast v4274
  let c128_1458 : Index := 128#32
  ![1, v4350.toNat, 128]
def k0_off1026 (k0_t4 : Fin k0_t4_loop.trips) : Fin 3 → Nat :=
  let c1_i32_1460 : BitVec 32 := 1#32
  let v4358 : Index := Scalar.indexCast c1_i32_1460
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4359 : Index := Scalar.indexCast v4274
  let c144_1461 : Index := 144#32
  ![1, v4359.toNat, 144]
def k0_off1027 (k0_t4 : Fin k0_t4_loop.trips) : Fin 3 → Nat :=
  let c1_i32_1463 : BitVec 32 := 1#32
  let v4367 : Index := Scalar.indexCast c1_i32_1463
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4368 : Index := Scalar.indexCast v4274
  let c160_1464 : Index := 160#32
  ![1, v4368.toNat, 160]
def k0_off1028 (k0_t4 : Fin k0_t4_loop.trips) : Fin 3 → Nat :=
  let c1_i32_1466 : BitVec 32 := 1#32
  let v4376 : Index := Scalar.indexCast c1_i32_1466
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4377 : Index := Scalar.indexCast v4274
  let c176_1467 : Index := 176#32
  ![1, v4377.toNat, 176]
def k0_off1029 (k0_t4 : Fin k0_t4_loop.trips) : Fin 3 → Nat :=
  let c1_i32_1469 : BitVec 32 := 1#32
  let v4385 : Index := Scalar.indexCast c1_i32_1469
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4386 : Index := Scalar.indexCast v4274
  let c192_1470 : Index := 192#32
  ![1, v4386.toNat, 192]
def k0_off1030 (k0_t4 : Fin k0_t4_loop.trips) : Fin 3 → Nat :=
  let c1_i32_1472 : BitVec 32 := 1#32
  let v4394 : Index := Scalar.indexCast c1_i32_1472
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4395 : Index := Scalar.indexCast v4274
  let c208_1473 : Index := 208#32
  ![1, v4395.toNat, 208]
def k0_off1031 (k0_t4 : Fin k0_t4_loop.trips) : Fin 3 → Nat :=
  let c1_i32_1475 : BitVec 32 := 1#32
  let v4403 : Index := Scalar.indexCast c1_i32_1475
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4404 : Index := Scalar.indexCast v4274
  let c224_1476 : Index := 224#32
  ![1, v4404.toNat, 224]
def k0_off1032 (k0_t4 : Fin k0_t4_loop.trips) : Fin 3 → Nat :=
  let c1_i32_1478 : BitVec 32 := 1#32
  let v4412 : Index := Scalar.indexCast c1_i32_1478
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1431 : BitVec 32 := 16#32
  let v4273 : BitVec 32 := Scalar.muli v2343 c16_i32_1431
  let c12_i32_1432 : BitVec 32 := 12#32
  let v4274 : BitVec 32 := Scalar.addi v4273 c12_i32_1432
  let v4413 : Index := Scalar.indexCast v4274
  let c240_1479 : Index := 240#32
  ![1, v4413.toNat, 240]
def k0_off1033 (k0_t4 : Fin k0_t4_loop.trips) : Fin 3 → Nat :=
  let c1_i32_1483 : BitVec 32 := 1#32
  let v4425 : Index := Scalar.indexCast c1_i32_1483
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4426 : Index := Scalar.indexCast v4422
  let c0_1484 : Index := 0#32
  ![1, v4426.toNat, 0]
def k0_off1034 (v4424 : BitVec 32) (c0_i32_1485 : BitVec 32) : Fin 1 → Nat :=
  let v4430 : BitVec 32 := Scalar.addi v4424 c0_i32_1485
  let v4431 : Index := Scalar.indexCast v4430
  ![v4431.toNat]

def k0_chk63 (v4424 : BitVec 32) : Prop :=
  (∀ (r : Fin 16), ∀ a, (k0_off1034 v4424 (BitVec.ofNat 32 (16 * r.val))) a + S16.size a ≤ S17408.size a)
theorem k0_off1034_inb : ∀ (v4424 : BitVec 32) (k0_hw63 : k0_chk63 v4424), ∀ (r : Fin 16), ∀ a, (k0_off1034 v4424 (BitVec.ofNat 32 (16 * r.val))) a + S16.size a ≤ S17408.size a := fun v4424 k0_hw63 r => k0_hw63 r

def k0_off1035 (k0_t4 : Fin k0_t4_loop.trips) : Fin 3 → Nat :=
  let c1_i32_1486 : BitVec 32 := 1#32
  let v4434 : Index := Scalar.indexCast c1_i32_1486
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4435 : Index := Scalar.indexCast v4422
  let c16_1487 : Index := 16#32
  ![1, v4435.toNat, 16]
def k0_off1036 (k0_t4 : Fin k0_t4_loop.trips) : Fin 3 → Nat :=
  let c1_i32_1489 : BitVec 32 := 1#32
  let v4443 : Index := Scalar.indexCast c1_i32_1489
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4444 : Index := Scalar.indexCast v4422
  let c32_1490 : Index := 32#32
  ![1, v4444.toNat, 32]
def k0_off1037 (k0_t4 : Fin k0_t4_loop.trips) : Fin 3 → Nat :=
  let c1_i32_1492 : BitVec 32 := 1#32
  let v4452 : Index := Scalar.indexCast c1_i32_1492
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4453 : Index := Scalar.indexCast v4422
  let c48_1493 : Index := 48#32
  ![1, v4453.toNat, 48]
def k0_off1038 (k0_t4 : Fin k0_t4_loop.trips) : Fin 3 → Nat :=
  let c1_i32_1495 : BitVec 32 := 1#32
  let v4461 : Index := Scalar.indexCast c1_i32_1495
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4462 : Index := Scalar.indexCast v4422
  let c64_1496 : Index := 64#32
  ![1, v4462.toNat, 64]
def k0_off1039 (k0_t4 : Fin k0_t4_loop.trips) : Fin 3 → Nat :=
  let c1_i32_1498 : BitVec 32 := 1#32
  let v4470 : Index := Scalar.indexCast c1_i32_1498
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4471 : Index := Scalar.indexCast v4422
  let c80_1499 : Index := 80#32
  ![1, v4471.toNat, 80]
def k0_off1040 (k0_t4 : Fin k0_t4_loop.trips) : Fin 3 → Nat :=
  let c1_i32_1501 : BitVec 32 := 1#32
  let v4479 : Index := Scalar.indexCast c1_i32_1501
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4480 : Index := Scalar.indexCast v4422
  let c96_1502 : Index := 96#32
  ![1, v4480.toNat, 96]
def k0_off1041 (k0_t4 : Fin k0_t4_loop.trips) : Fin 3 → Nat :=
  let c1_i32_1504 : BitVec 32 := 1#32
  let v4488 : Index := Scalar.indexCast c1_i32_1504
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4489 : Index := Scalar.indexCast v4422
  let c112_1505 : Index := 112#32
  ![1, v4489.toNat, 112]
def k0_off1042 (k0_t4 : Fin k0_t4_loop.trips) : Fin 3 → Nat :=
  let c1_i32_1507 : BitVec 32 := 1#32
  let v4497 : Index := Scalar.indexCast c1_i32_1507
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4498 : Index := Scalar.indexCast v4422
  let c128_1508 : Index := 128#32
  ![1, v4498.toNat, 128]
def k0_off1043 (k0_t4 : Fin k0_t4_loop.trips) : Fin 3 → Nat :=
  let c1_i32_1510 : BitVec 32 := 1#32
  let v4506 : Index := Scalar.indexCast c1_i32_1510
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4507 : Index := Scalar.indexCast v4422
  let c144_1511 : Index := 144#32
  ![1, v4507.toNat, 144]
def k0_off1044 (k0_t4 : Fin k0_t4_loop.trips) : Fin 3 → Nat :=
  let c1_i32_1513 : BitVec 32 := 1#32
  let v4515 : Index := Scalar.indexCast c1_i32_1513
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4516 : Index := Scalar.indexCast v4422
  let c160_1514 : Index := 160#32
  ![1, v4516.toNat, 160]
def k0_off1045 (k0_t4 : Fin k0_t4_loop.trips) : Fin 3 → Nat :=
  let c1_i32_1516 : BitVec 32 := 1#32
  let v4524 : Index := Scalar.indexCast c1_i32_1516
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4525 : Index := Scalar.indexCast v4422
  let c176_1517 : Index := 176#32
  ![1, v4525.toNat, 176]
def k0_off1046 (k0_t4 : Fin k0_t4_loop.trips) : Fin 3 → Nat :=
  let c1_i32_1519 : BitVec 32 := 1#32
  let v4533 : Index := Scalar.indexCast c1_i32_1519
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4534 : Index := Scalar.indexCast v4422
  let c192_1520 : Index := 192#32
  ![1, v4534.toNat, 192]
def k0_off1047 (k0_t4 : Fin k0_t4_loop.trips) : Fin 3 → Nat :=
  let c1_i32_1522 : BitVec 32 := 1#32
  let v4542 : Index := Scalar.indexCast c1_i32_1522
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4543 : Index := Scalar.indexCast v4422
  let c208_1523 : Index := 208#32
  ![1, v4543.toNat, 208]
def k0_off1048 (k0_t4 : Fin k0_t4_loop.trips) : Fin 3 → Nat :=
  let c1_i32_1525 : BitVec 32 := 1#32
  let v4551 : Index := Scalar.indexCast c1_i32_1525
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4552 : Index := Scalar.indexCast v4422
  let c224_1526 : Index := 224#32
  ![1, v4552.toNat, 224]
def k0_off1049 (k0_t4 : Fin k0_t4_loop.trips) : Fin 3 → Nat :=
  let c1_i32_1528 : BitVec 32 := 1#32
  let v4560 : Index := Scalar.indexCast c1_i32_1528
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1481 : BitVec 32 := 16#32
  let v4421 : BitVec 32 := Scalar.muli v2343 c16_i32_1481
  let c13_i32_1482 : BitVec 32 := 13#32
  let v4422 : BitVec 32 := Scalar.addi v4421 c13_i32_1482
  let v4561 : Index := Scalar.indexCast v4422
  let c240_1529 : Index := 240#32
  ![1, v4561.toNat, 240]
def k0_off1050 (k0_t4 : Fin k0_t4_loop.trips) : Fin 3 → Nat :=
  let c1_i32_1533 : BitVec 32 := 1#32
  let v4573 : Index := Scalar.indexCast c1_i32_1533
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let c14_i32_1532 : BitVec 32 := 14#32
  let v4570 : BitVec 32 := Scalar.addi v4569 c14_i32_1532
  let v4574 : Index := Scalar.indexCast v4570
  let c0_1534 : Index := 0#32
  ![1, v4574.toNat, 0]
def k0_off1051 (v4572 : BitVec 32) (c0_i32_1535 : BitVec 32) : Fin 1 → Nat :=
  let v4578 : BitVec 32 := Scalar.addi v4572 c0_i32_1535
  let v4579 : Index := Scalar.indexCast v4578
  ![v4579.toNat]

def k0_chk64 (v4572 : BitVec 32) : Prop :=
  (∀ (r : Fin 16), ∀ a, (k0_off1051 v4572 (BitVec.ofNat 32 (16 * r.val))) a + S16.size a ≤ S17408.size a)
theorem k0_off1051_inb : ∀ (v4572 : BitVec 32) (k0_hw64 : k0_chk64 v4572), ∀ (r : Fin 16), ∀ a, (k0_off1051 v4572 (BitVec.ofNat 32 (16 * r.val))) a + S16.size a ≤ S17408.size a := fun v4572 k0_hw64 r => k0_hw64 r

def k0_off1052 (k0_t4 : Fin k0_t4_loop.trips) (c14_i32_1532 : BitVec 32) : Fin 3 → Nat :=
  let c1_i32_1536 : BitVec 32 := 1#32
  let v4582 : Index := Scalar.indexCast c1_i32_1536
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4583 : Index := Scalar.indexCast v4570
  let c16_1537 : Index := 16#32
  ![1, v4583.toNat, 16]
def k0_off1053 (k0_t4 : Fin k0_t4_loop.trips) (c14_i32_1532 : BitVec 32) : Fin 3 → Nat :=
  let c1_i32_1539 : BitVec 32 := 1#32
  let v4591 : Index := Scalar.indexCast c1_i32_1539
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4592 : Index := Scalar.indexCast v4570
  let c32_1540 : Index := 32#32
  ![1, v4592.toNat, 32]
def k0_off1054 (k0_t4 : Fin k0_t4_loop.trips) (c14_i32_1532 : BitVec 32) : Fin 3 → Nat :=
  let c1_i32_1542 : BitVec 32 := 1#32
  let v4600 : Index := Scalar.indexCast c1_i32_1542
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4601 : Index := Scalar.indexCast v4570
  let c48_1543 : Index := 48#32
  ![1, v4601.toNat, 48]
def k0_off1055 (k0_t4 : Fin k0_t4_loop.trips) (c14_i32_1532 : BitVec 32) : Fin 3 → Nat :=
  let c1_i32_1545 : BitVec 32 := 1#32
  let v4609 : Index := Scalar.indexCast c1_i32_1545
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4610 : Index := Scalar.indexCast v4570
  let c64_1546 : Index := 64#32
  ![1, v4610.toNat, 64]
def k0_off1056 (k0_t4 : Fin k0_t4_loop.trips) (c14_i32_1532 : BitVec 32) : Fin 3 → Nat :=
  let c1_i32_1548 : BitVec 32 := 1#32
  let v4618 : Index := Scalar.indexCast c1_i32_1548
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4619 : Index := Scalar.indexCast v4570
  let c80_1549 : Index := 80#32
  ![1, v4619.toNat, 80]
def k0_off1057 (k0_t4 : Fin k0_t4_loop.trips) (c14_i32_1532 : BitVec 32) : Fin 3 → Nat :=
  let c1_i32_1551 : BitVec 32 := 1#32
  let v4627 : Index := Scalar.indexCast c1_i32_1551
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4628 : Index := Scalar.indexCast v4570
  let c96_1552 : Index := 96#32
  ![1, v4628.toNat, 96]
def k0_off1058 (k0_t4 : Fin k0_t4_loop.trips) (c14_i32_1532 : BitVec 32) : Fin 3 → Nat :=
  let c1_i32_1554 : BitVec 32 := 1#32
  let v4636 : Index := Scalar.indexCast c1_i32_1554
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4637 : Index := Scalar.indexCast v4570
  let c112_1555 : Index := 112#32
  ![1, v4637.toNat, 112]
def k0_off1059 (k0_t4 : Fin k0_t4_loop.trips) (c14_i32_1532 : BitVec 32) : Fin 3 → Nat :=
  let c1_i32_1557 : BitVec 32 := 1#32
  let v4645 : Index := Scalar.indexCast c1_i32_1557
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4646 : Index := Scalar.indexCast v4570
  let c128_1558 : Index := 128#32
  ![1, v4646.toNat, 128]
def k0_off1060 (k0_t4 : Fin k0_t4_loop.trips) (c14_i32_1532 : BitVec 32) : Fin 3 → Nat :=
  let c1_i32_1560 : BitVec 32 := 1#32
  let v4654 : Index := Scalar.indexCast c1_i32_1560
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4655 : Index := Scalar.indexCast v4570
  let c144_1561 : Index := 144#32
  ![1, v4655.toNat, 144]
def k0_off1061 (k0_t4 : Fin k0_t4_loop.trips) (c14_i32_1532 : BitVec 32) : Fin 3 → Nat :=
  let c1_i32_1563 : BitVec 32 := 1#32
  let v4663 : Index := Scalar.indexCast c1_i32_1563
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4664 : Index := Scalar.indexCast v4570
  let c160_1564 : Index := 160#32
  ![1, v4664.toNat, 160]
def k0_off1062 (k0_t4 : Fin k0_t4_loop.trips) (c14_i32_1532 : BitVec 32) : Fin 3 → Nat :=
  let c1_i32_1566 : BitVec 32 := 1#32
  let v4672 : Index := Scalar.indexCast c1_i32_1566
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4673 : Index := Scalar.indexCast v4570
  let c176_1567 : Index := 176#32
  ![1, v4673.toNat, 176]
def k0_off1063 (k0_t4 : Fin k0_t4_loop.trips) (c14_i32_1532 : BitVec 32) : Fin 3 → Nat :=
  let c1_i32_1569 : BitVec 32 := 1#32
  let v4681 : Index := Scalar.indexCast c1_i32_1569
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4682 : Index := Scalar.indexCast v4570
  let c192_1570 : Index := 192#32
  ![1, v4682.toNat, 192]
def k0_off1064 (k0_t4 : Fin k0_t4_loop.trips) (c14_i32_1532 : BitVec 32) : Fin 3 → Nat :=
  let c1_i32_1572 : BitVec 32 := 1#32
  let v4690 : Index := Scalar.indexCast c1_i32_1572
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4691 : Index := Scalar.indexCast v4570
  let c208_1573 : Index := 208#32
  ![1, v4691.toNat, 208]
def k0_off1065 (k0_t4 : Fin k0_t4_loop.trips) (c14_i32_1532 : BitVec 32) : Fin 3 → Nat :=
  let c1_i32_1575 : BitVec 32 := 1#32
  let v4699 : Index := Scalar.indexCast c1_i32_1575
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4700 : Index := Scalar.indexCast v4570
  let c224_1576 : Index := 224#32
  ![1, v4700.toNat, 224]
def k0_off1066 (k0_t4 : Fin k0_t4_loop.trips) (c14_i32_1532 : BitVec 32) : Fin 3 → Nat :=
  let c1_i32_1578 : BitVec 32 := 1#32
  let v4708 : Index := Scalar.indexCast c1_i32_1578
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1531 : BitVec 32 := 16#32
  let v4569 : BitVec 32 := Scalar.muli v2343 c16_i32_1531
  let v4570 : BitVec 32 := Scalar.addi v4569 c14_i32_1532
  let v4709 : Index := Scalar.indexCast v4570
  let c240_1579 : Index := 240#32
  ![1, v4709.toNat, 240]
def k0_off1067 (k0_t4 : Fin k0_t4_loop.trips) : Fin 3 → Nat :=
  let c1_i32_1583 : BitVec 32 := 1#32
  let v4719 : Index := Scalar.indexCast c1_i32_1583
  let c0_i32_38 : BitVec 32 := 0#32
  let c1_i32_40 : BitVec 32 := 1#32
  let arg11 : BitVec 32 := Scf.iv c0_i32_38 c1_i32_40 k0_t4
  let c2_i32_779 : BitVec 32 := 2#32
  let v2342 : BitVec 32 := Scalar.muli arg11 c2_i32_779
  let c1_i32_780 : BitVec 32 := 1#32
  let v2343 : BitVec 32 := Scalar.addi v2342 c1_i32_780
  let c16_i32_1581 : BitVec 32 := 16#32
  let v4717 : BitVec 32 := Scalar.muli v2343 c16_i32_1581
  let c15_i32_1582 : BitVec 32 := 15#32
  let v4718 : BitVec 32 := Scalar.addi v4717 c15_i32_1582
  let v4720 : Index := Scalar.indexCast v4718
  let c0_1584 : Index := 0#32
  ![1, v4720.toNat, 0]
def k0_off1068 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32_4 : BitVec 32 := 1#32
  let arg10 : BitVec 32 := Scf.iv c0_i32_3 c1_i32_4 k0_t2
  let c2_i32_20 : BitVec 32 := 2#32
  let v19 : BitVec 32 := Scalar.muli arg10 c2_i32_20
  let c1_i32_21 : BitVec 32 := 1#32
  let v20 : BitVec 32 := Scalar.addi v19 c1_i32_21
  let c128_i32_42 : BitVec 32 := 128#32
  let v37 : BitVec 32 := Scalar.muli v20 c128_i32_42
  let v38 : BitVec 32 := Scalar.addi v2 v37
  let c0_i32_46 : BitVec 32 := 0#32
  ![v38.toNat, 0]
def k0_off1069 (i : grid0.Coords) (c25344_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v5 : BitVec 32 := Scalar.addi v2 c25344_i32
  let c0_i32_9 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S68x256 : Shape := ⟨2, ![68, 256]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x256 : Shape := ⟨3, ![4096, 200, 256]⟩

abbrev nBuf : Space → Nat
  | .hbm => 28
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S68x256, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x256, .f32⟩
  | .hbm, ⟨21, _⟩ => ⟨S4096x200x256, .i1⟩
  | .hbm, ⟨22, _⟩ => ⟨S_, .f32⟩
  | .hbm, ⟨23, _⟩ => ⟨S4096x200x256, .f32⟩
  | .hbm, ⟨24, _⟩ => ⟨S4096x200x256, .f32⟩
  | .hbm, ⟨25, _⟩ => ⟨S_, .f32⟩
  | .hbm, ⟨26, _⟩ => ⟨S4096x200x256, .f32⟩
  | .hbm, ⟨27, _⟩ => ⟨S4096x200x256, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Steps.lean ====
/-
  The steps of one task's row assembly. A task holds the scaled table (17408 words) and its own index block (200 rows of
  128) in vector memory and fills one half of a two-row-buffer scratch with the 128 table rows its index row names, sixteen
  lanes at a time: 2048 chunks in order, 512 of them per trip of the assembly loop.

  `Filled` says which prefix of the chunks is in place. `Asm p prog` says that `prog`, started with the trip's first `p`
  chunks in place, ends with all 512 of them in place. One lemma per kind of operation the body performs (table load, index
  load, load of the scratch, range check, store, end) moves `Asm` across that operation.
-/
module

public import proofs.«01_k».proof.Defs
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pointwise

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The handshakes' rounds library beside the transfers' counters. -/
abbrev UH : Type := URounds (GSem nD τ sig) ℕ
abbrev UU : Type := UH × Counters

local notation "𝕄" => MT nD τ sig (HIx 1) (Elt F) ℕ UU ℕ

abbrev 𝒱₀ : Variants := Variants.none

section

variable [FloatOps F] (d : Dev nD) (i : grid0.Coords)

/-- The task's thread. -/
abbrev thr : Thread nD τ := SparseCore.V d ((i 0).castLE hcore0) ((i 1).castLE hsub0)

variable (arg5 : Memref sig .scVector .vmem S17408 .f32) (arg6 : Memref sig .scVector .vmem S200x128 .i32)
  (arg7 : Memref sig .scVector .vmem S2x128x256 .f32)
  (tb : S17408.Idx → Elt F .f32) (ib : S200x128.Idx → BitVec 32) (b j : ℕ)

/-- Of half `b` of the scratch, the first `n` sixteen-lane chunks (row by row) hold the table rows that row `j` of the
    index block names. -/
def Filled (n : ℕ) (x : S2x128x256.Idx → Elt F .f32) : Prop :=
  ∀ (y : S2x128x256.Idx) (z : S200x128.Idx) (k : S17408.Idx), (y 0).val = b → (z 0).val = j → (z 1).val = (y 1).val →
    (k 0).val = (ib z).toNat * 256 + (y 2).val → 16 * (y 1).val + (y 2).val / 16 < n → x y = tb k

/-- A chunk's payload, at an index of the chunk: the word of the table at the chunk's offset plus the lane. -/
theorem chunk_apply {offT : Fin 1 → ℕ} {hT : ∀ a, offT a + S16.size a ≤ S17408.size a} {h1 : S16.ShapeCasts S16}
    {h2 : S16.ShapeCasts S1x1x16} (tv : S17408.Idx → Elt F .f32) (x : S1x1x16.Idx) (k : S17408.Idx)
    (hk : (k 0).val = offT 0 + (x 2).val) :
    shapeCast S1x1x16 (shapeCast S16 (fun y => tv ((Rect.unit (s := S17408) offT S16.size hT).toLoadRect.idx y)) h1) h2 x = tv k := by
  rw [shapeCast_comp, Pointwise.shapeCast_apply]
  congr 1
  funext a
  have ha : a = 0 := Subsingleton.elim _ _
  subst ha
  apply Fin.ext
  have hx : (Shape.reshapeEquiv (s := S16) (h2.trans h1) x : S16.Idx) = ix1 (n0 := 16) (x 2) := by
    refine Shape.reshapeEquiv_eq_of_vals _ _ _ (x 2).val (x 2).val ?_ ?_ rfl
    · exact rowMajor_val1 (d := ![16]) (ix1 (n0 := 16) (x 2))
    · have e := rowMajor_val3 (d := ![1, 1, 16]) x 16 16 rfl rfl
      have h0 : (x 0).val = 0 := by have := (x 0).isLt; change _ < 1 at this; omega
      have h1' : (x 1).val = 0 := by have := (x 1).isLt; change _ < 1 at this; omega
      rw [h0, h1'] at e
      simpa using e
  rw [hx]
  show offT 0 + 1 * (x 2).val = (k 0).val
  omega

/-- An index chunk's lane `l` times 256 is the word of the index block under that lane, times 256. -/
theorem lane_toNat {offI : Fin 2 → ℕ} {hI : ∀ a, offI a + S1x16.size a ≤ S200x128.size a} {h3 : S1x16.ShapeCasts S16} {l : ℕ}
    {h4 : S16.Slices ![l] S1} {h5 : ∀ a, (![0] : Fin 1 → ℕ) a < S1.size a} (iv : S200x128.Idx → BitVec 32) (z : S200x128.Idx)
    (hz0 : (z 0).val = offI 0) (hz1 : (z 1).val = offI 1 + l) (hz : (iv z).toNat < 68) :
    (extractAt ![0] (extractStridedSlice S1 ![l] (muli (shapeCast S16 (fun y => iv ((Rect.unit (s := S200x128) offI S1x16.size hI).toLoadRect.idx y)) h3)
      (broadcast S16 256#32)) h4) h5 : BitVec 32).toNat = (iv z).toNat * 256 := by
  have hl : l < 16 := by have := h4.2 0; change l + 1 ≤ 16 at this; omega
  have hidx : (Shape.reshapeEquiv (s := S1x16) h3 (ix1 (⟨l, hl⟩ : Fin 16) : S16.Idx)) = (ix2 (0 : Fin 1) (⟨l, hl⟩ : Fin 16) : S1x16.Idx) := by
    refine Shape.reshapeEquiv_eq_of_vals _ _ _ l l ?_ ?_ rfl
    · refine (rowMajor_val2 (d := ![1, 16]) _ 16 rfl).trans ?_
      show 0 * 16 + l = l
      omega
    · exact rowMajor_val1 (d := ![16]) _
  have e : (extractAt ![0] (extractStridedSlice S1 ![l] (muli (shapeCast S16 (fun y => iv ((Rect.unit (s := S200x128) offI S1x16.size hI).toLoadRect.idx y)) h3)
      (broadcast S16 256#32)) h4) h5 : BitVec 32) = iv z * 256#32 := by
    have hi : (fun a => ⟨![l] a + ((fun a => ⟨![0] a, h5 a⟩ : S1.Idx) (a.cast h4.1.symm)).val, by
        fin_cases a; exact hl⟩ : S16.Idx) = ix1 (⟨l, hl⟩ : Fin 16) := by
      funext a; fin_cases a; rfl
    refine (congrArg (fun q : S16.Idx => iv ((Rect.unit (s := S200x128) offI S1x16.size hI).toLoadRect.idx (Shape.reshapeEquiv h3 q)) * 256#32) hi).trans ?_
    show iv _ * _ = _
    rw [hidx]
    congr 2
    funext a
    apply Fin.ext
    fin_cases a
    · show offI 0 + 1 * 0 = (z 0).val
      omega
    · show offI 1 + 1 * l = (z 1).val
      omega
  rw [e, BitVec.toNat_mul]
  show (iv z).toNat * 256 % 2 ^ 32 = _
  omega

variable {b j}

/-- A store of chunk `n` at its place extends the filled prefix by one. -/
theorem Filled.store {n : ℕ} {tv : S17408.Idx → Elt F .f32} {iv : S200x128.Idx → BitVec 32} {off : Fin 3 → ℕ}
    {inb : ∀ a, off a + S1x1x16.size a ≤ S2x128x256.size a} (hoff : off = ![b, n / 16, 16 * (n % 16)])
    {v : View sig .scVector .vmem S2x128x256 .f32} (f : v.ty.Contents (Elt F)) (hf : Filled tv iv b j n (v.read (Elt F) f))
    (w : S1x1x16.Idx → Elt F .f32)
    (hw : ∀ (x : S1x1x16.Idx) (z : S200x128.Idx) (k : S17408.Idx), (z 0).val = j → (z 1).val = n / 16 →
      (k 0).val = (iv z).toNat * 256 + 16 * (n % 16) + (x 2).val → w x = tv k) :
    Filled tv iv b j (n + 1) (v.read (Elt F) ((v.slice (Rect.unit (s := S2x128x256) off S1x1x16.size inb)).write (Elt F) f w Finset.univ)) := by
  subst hoff
  intro y z k hy hz hz1 hk hn
  by_cases hin : 16 * (y 1).val + (y 2).val / 16 = n
  · have hx : y = (Rect.unit (s := S2x128x256) ![b, n / 16, 16 * (n % 16)] S1x1x16.size inb).emb
        (fun a => ⟨![0, 0, (y 2).val % 16] a, by fin_cases a <;> simp <;> omega⟩ : S1x1x16.Idx) := by
      funext a
      apply Fin.ext
      fin_cases a
      · show (y 0).val = b + 1 * 0
        omega
      · show (y 1).val = n / 16 + 1 * 0
        have := (y 2).isLt; change _ < 256 at this; omega
      · show (y 2).val = 16 * (n % 16) + 1 * ((y 2).val % 16)
        have := (y 2).isLt; change _ < 256 at this; omega
    have hk' : (k 0).val = (iv z).toNat * 256 + 16 * (n % 16) + (y 2).val % 16 := by
      have := (y 2).isLt; change _ < 256 at this; omega
    rw [hx, View.read_slice_write_emb _ _ _ (Finset.mem_univ _)]
    exact hw _ z k hz (by have := (y 2).isLt; change _ < 256 at this; omega) hk'
  · rw [View.read_slice_write_of_not_mem]
    · exact hf y z k hy hz hz1 hk (by omega)
    · rw [Rect.map_emb_univ]
      intro hm
      have hm' := (LoadRect.mem_set _).mp hm
      obtain ⟨c1, hc1, e1⟩ := hm' 1
      obtain ⟨c2, hc2, e2⟩ := hm' 2
      change c1 < 1 at hc1; change c2 < 16 at hc2
      change (y 1).val = n / 16 + 1 * c1 at e1
      change (y 2).val = 16 * (n % 16) + 1 * c2 at e2
      omega

/-- A chunk's rectangle in half `b` lies in any element set holding the half. -/
theorem slot_subset {b : ℕ} {arg7 : Memref sig .scVector .vmem S2x128x256 .f32} {S : Finset arg7.view.ty.Idx} {off : Fin 3 → ℕ}
    {inb : ∀ a, off a + S1x1x16.size a ≤ S2x128x256.size a} (hS : ∀ y : S2x128x256.Idx, (y 0).val = b → arg7.view.emb y ∈ S) (hb : off 0 = b) :
    (arg7.access (Rect.unit (s := S2x128x256) off S1x1x16.size inb)).set ⊆ S := by
  intro x hx
  obtain ⟨z, -, rfl⟩ := Finset.mem_map.mp hx
  refine hS ((Rect.unit (s := S2x128x256) off S1x1x16.size inb).emb z) ?_
  have h0 : (z 0).val < 1 := (z 0).isLt
  show off 0 + 1 * (z 0).val = b
  omega

/-- The same of the elements a load of the chunk reads. -/
theorem load_slot_subset {b : ℕ} {arg7 : Memref sig .scVector .vmem S2x128x256 .f32} {S : Finset arg7.view.ty.Idx} {off : Fin 3 → ℕ}
    {inb : ∀ a, off a + S1x1x16.size a ≤ S2x128x256.size a} (hS : ∀ y : S2x128x256.Idx, (y 0).val = b → arg7.view.emb y ∈ S) (hb : off 0 = b) :
    arg7.view.setOn (Rect.unit (s := S2x128x256) off S1x1x16.size inb).toLoadRect.set ⊆ S := by
  intro x hx
  obtain ⟨y, hy, rfl⟩ := Finset.mem_map.mp hx
  refine hS y ?_
  obtain ⟨z, hz, h⟩ := (LoadRect.mem_set _).mp hy 0
  have h0 : z < 1 := hz
  rw [h, ← hb]
  show off 0 + 1 * z = off 0
  omega

/-! ## The assembly's resources, and the steps over them -/

variable (b j) (S : Finset (Idx (arg7.view.loc (thr d i)))) (tf : Buf (Elt F) (arg5.view.loc (thr d i)))
  (jf : Buf (Elt F) (arg6.view.loc (thr d i)))

/-- The table and the index block whole, and half `b` of the scratch (its elements `S`) with its first `n` chunks in place. -/
def AsmRes (n : ℕ) : sProp 𝕄 :=
  iprop((arg5.view.loc (thr d i) ↦{fullShare} tf) ∗ (arg6.view.loc (thr d i) ↦{fullShare} jf)
    ∗ ∃ f, ⌜Filled (arg5.view.read (Elt F) tf) (arg6.view.read (Elt F) jf) b j n (arg7.view.read (Elt F) f)⌝
      ∗ arg7.view.loc (thr d i) ↦[S]{fullShare} f)

variable (t : ℕ)

/-- `prog`, from the chunks of the trips before `t` and this trip's first `p`, ends with trip `t`'s 512 in place. -/
structure Asm (p : ℕ) (prog : Prog (TpuEff nD τ sig (Elt F) Λ₀ (thr d i).2) PUnit) : Prop where
  run : AsmRes d i arg5 arg6 arg7 b j S tf jf (512 * t + p)
    ⊢ wp frame (wpE (defs₀ (F := F)) 𝒱₀ (thr d i) none) Set.univ prog fun _ => AsmRes d i arg5 arg6 arg7 b j S tf jf (512 * (t + 1))

variable {d i arg5 arg6 arg7 b j S tf jf t}

/-- The end of a trip. -/
theorem Asm.ret : Asm d i arg5 arg6 arg7 b j S tf jf t 512 (.ret ⟨⟩) := by
  refine ⟨?_⟩
  rw [wp_ret, show 512 * t + 512 = 512 * (t + 1) by omega]
  iintro H; imodintro; iexact H

/-- A load of the table. -/
theorem Asm.loadT {p : ℕ} {r : LoadRect S17408} {hl : arg5.view.LoadsAt r} {k : (r.shape.Idx → Elt F .f32) → Prog (TpuEff nD τ sig (Elt F) Λ₀ (thr d i).2) PUnit}
    (h : Asm d i arg5 arg6 arg7 b j S tf jf t p (k (arg5.view.readAt (Elt F) r tf))) :
    Asm d i arg5 arg6 arg7 b j S tf jf t p (.op (.load arg5 r hl) k) := by
  refine ⟨?_⟩
  replace h := h.run
  unfold AsmRes at h ⊢
  iintro ⟨HT, HI, HR⟩
  iapply (wp_load 𝒱₀ (thr d i) none Set.univ (m := arg5) (S := Finset.univ) (Finset.subset_univ _)) $$ HT
  iintro HT
  iapply h
  isplitl [HT]; · iexact HT
  isplitl [HI]; · iexact HI
  iexact HR

/-- A load of the index block. -/
theorem Asm.loadI {p : ℕ} {r : LoadRect S200x128} {hl : arg6.view.LoadsAt r} {k : (r.shape.Idx → BitVec 32) → Prog (TpuEff nD τ sig (Elt F) Λ₀ (thr d i).2) PUnit}
    (h : Asm d i arg5 arg6 arg7 b j S tf jf t p (k (arg6.view.readAt (Elt F) r jf))) :
    Asm d i arg5 arg6 arg7 b j S tf jf t p (.op (.load arg6 r hl) k) := by
  refine ⟨?_⟩
  replace h := h.run
  unfold AsmRes at h ⊢
  iintro ⟨HT, HI, HR⟩
  iapply (wp_load 𝒱₀ (thr d i) none Set.univ (m := arg6) (S := Finset.univ) (Finset.subset_univ _)) $$ HI
  iintro HI
  iapply h
  isplitl [HT]; · iexact HT
  isplitl [HI]; · iexact HI
  iexact HR

/-- A load of the scratch's half, whose value nothing reads. -/
theorem Asm.loadR {p : ℕ} {off : Fin 3 → ℕ} {inb : ∀ a, off a + S1x1x16.size a ≤ S2x128x256.size a}
    {hl : arg7.view.LoadsAt (Rect.unit (s := S2x128x256) off S1x1x16.size inb).toLoadRect}
    {k : ((Rect.unit (s := S2x128x256) off S1x1x16.size inb).shape.Idx → Elt F .f32) → Prog (TpuEff nD τ sig (Elt F) Λ₀ (thr d i).2) PUnit}
    (hS : ∀ y : S2x128x256.Idx, (y 0).val = b → arg7.view.emb y ∈ S)
    (hb : off 0 = b)
    (h : ∀ v, Asm d i arg5 arg6 arg7 b j S tf jf t p (k v)) :
    Asm d i arg5 arg6 arg7 b j S tf jf t p (.op (.load arg7 (Rect.unit (s := S2x128x256) off S1x1x16.size inb).toLoadRect hl) k) := by
  refine ⟨?_⟩
  replace h := fun v => (h v).run
  unfold AsmRes at h ⊢
  iintro ⟨HT, HI, %f, %hf, HR⟩
  iapply (wp_load 𝒱₀ (thr d i) none Set.univ (m := arg7) (r := (Rect.unit (s := S2x128x256) off S1x1x16.size inb).toLoadRect) (S := S) (load_slot_subset hS hb)) $$ HR
  iintro HR
  iapply h
  isplitl [HT]; · iexact HT
  isplitl [HI]; · iexact HI
  iexists f
  isplitr; · ipureintro; exact hf
  iexact HR

/-- A range check that holds. -/
theorem Asm.assume {p : ℕ} {P : Prop} {dec : Decidable P} {k : PLift P → Prog (TpuEff nD τ sig (Elt F) Λ₀ (thr d i).2) PUnit}
    (hP : P) (h : ∀ hw : P, Asm d i arg5 arg6 arg7 b j S tf jf t p (k ⟨hw⟩)) :
    Asm d i arg5 arg6 arg7 b j S tf jf t p (.op (.assume P dec) k) := by
  exact ⟨(h hP).run.trans (wp_assume 𝒱₀ (thr d i) none Set.univ hP)⟩

/-- The range check of a row's sixteen table loads, the row named by a lane of an index chunk: a row index is under 68. -/
theorem lane_chk {off : Fin 2 → ℕ} {hI : ∀ a, off a + S1x16.size a ≤ S200x128.size a} {h3 : S1x16.ShapeCasts S16} {l : ℕ} (hl : l < 16)
    {h4 : S16.Slices ![l] S1} {h5 : ∀ a, (![0] : Fin 1 → ℕ) a < S1.size a}
    (hin : ∀ z, ((arg6.view.read (Elt F) jf : S200x128.Idx → BitVec 32) z).toNat < 68) (r : Fin 16) (a : Fin 1) :
    (![(Scalar.indexCast (Scalar.addi (extractAt ![0] (extractStridedSlice S1 ![l] (muli (shapeCast S16
      (arg6.view.readAt (Elt F) (Rect.unit (s := S200x128) off S1x16.size hI).toLoadRect jf) h3) (broadcast S16 256#32)) h4) h5)
      (BitVec.ofNat 32 (16 * r.val)))).toNat] : Fin 1 → ℕ) a + S16.size a ≤ S17408.size a := by
  have h0 := hI 0
  have h1 := hI 1
  have e0 : off 0 + 1 ≤ 200 := h0
  have e1 : off 1 + 16 ≤ 128 := h1
  let z : S200x128.Idx := ix2 (n0 := 200) (n1 := 128) ⟨off 0, by omega⟩ ⟨off 1 + l, by omega⟩
  have hlane := lane_toNat (h3 := h3) (h4 := h4) (h5 := h5) (hI := hI) (arg6.view.read (Elt F) jf) z rfl rfl (hin z)
  have hz := hin z
  obtain rfl : a = 0 := Subsingleton.elim _ _
  show (BitVec.add _ _ : BitVec 32).toNat + 16 ≤ 17408
  rw [BitVec.add_eq, BitVec.toNat_add]
  erw [hlane]
  rw [BitVec.toNat_ofNat]
  have := r.isLt
  omega

/-- The store of chunk `p` of the trip: its place and its payload as the program computes them, the payload's table
    row named by the lane `p / 16 % 16` of an index chunk of row `j`. -/
theorem Asm.store {p : ℕ} {off : Fin 3 → ℕ} {inb : ∀ a, off a + S1x1x16.size a ≤ S2x128x256.size a}
    {w : (Rect.unit (s := S2x128x256) off S1x1x16.size inb).shape.Idx → Elt F .f32}
    {hx : (arg7.access (Rect.unit (s := S2x128x256) off S1x1x16.size inb)).Stores Finset.univ}
    {hm : Finset.univ = Finset.univ ∨ ∀ a, (Rect.unit (s := S2x128x256) off S1x1x16.size inb).stride a = 1}
    {k : PUnit → Prog (TpuEff nD τ sig (Elt F) Λ₀ (thr d i).2) PUnit}
    {offT : Fin 1 → ℕ} {hT : ∀ a, offT a + S16.size a ≤ S17408.size a} {h1 : S16.ShapeCasts S16} {h2 : S16.ShapeCasts S1x1x16}
    {v : BitVec 32} {offI : Fin 2 → ℕ} {hI : ∀ a, offI a + S1x16.size a ≤ S200x128.size a} {h3 : S1x16.ShapeCasts S16}
    {h4 : S16.Slices ![p / 16 % 16] S1} {h5 : ∀ a, (![0] : Fin 1 → ℕ) a < S1.size a}
    (hS : ∀ y : S2x128x256.Idx, (y 0).val = b → arg7.view.emb y ∈ S)
    (hin : ∀ z, ((arg6.view.read (Elt F) jf : S200x128.Idx → BitVec 32) z).toNat < 68)
    (co : ClosedOff off) (hoff : co.form = ![b, 32 * t + p / 16, 16 * (p % 16)])
    (hw : w = shapeCast S1x1x16 (shapeCast S16 (arg5.view.readAt (Elt F) (Rect.unit (s := S17408) offT S16.size hT).toLoadRect tf) h1) h2)
    (hoT : offT = ![(Scalar.indexCast (Scalar.addi v (BitVec.ofNat 32 (16 * (p % 16))))).toNat])
    (hv : v = extractAt ![0] (extractStridedSlice S1 ![p / 16 % 16] (muli (shapeCast S16
      (arg6.view.readAt (Elt F) (Rect.unit (s := S200x128) offI S1x16.size hI).toLoadRect jf) h3) (broadcast S16 256#32)) h4) h5)
    (coI : ClosedOff offI) (hoI : coI.form = ![j, 32 * t + 16 * (p / 256)])
    (h : Asm d i arg5 arg6 arg7 b j S tf jf t (p + 1) (k ⟨⟩)) :
    Asm d i arg5 arg6 arg7 b j S tf jf t p (.op (.store arg7 (Rect.unit (s := S2x128x256) off S1x1x16.size inb) w Finset.univ hx hm) k) := by
  have hpt : 512 * t + (p + 1) = 512 * t + p + 1 := by omega
  refine ⟨?_⟩
  replace h := h.run
  unfold AsmRes at h ⊢
  rw [hpt] at h
  have hoff' := co.eq.trans hoff
  have hoI' := coI.eq.trans hoI
  have hb : off 0 = b := by rw [hoff']; rfl
  iintro ⟨HT, HI, %f, %hf, HR⟩
  iapply (wp_store 𝒱₀ (thr d i) none Set.univ (m := arg7) (r := Rect.unit (s := S2x128x256) off S1x1x16.size inb) (S := S) (slot_subset hS hb)) $$ HR
  iintro HR
  iapply h
  isplitl [HT]; · iexact HT
  isplitl [HI]; · iexact HI
  iexists _
  isplitr; swap; · iexact HR
  ipureintro
  refine Filled.store (v := arg7.view) ?_ f hf w ?_
  · rw [hoff', show (512 * t + p) / 16 = 32 * t + p / 16 by omega, show (512 * t + p) % 16 = p % 16 by omega]
  · intro x z k hz0 hz1 hk
    subst hw
    refine chunk_apply (arg5.view.read (Elt F) tf) x k ?_
    have hlane := lane_toNat (h3 := h3) (h4 := h4) (h5 := h5) (hI := hI) (arg6.view.read (Elt F) jf) z
      (by rw [hz0, hoI']; rfl) (by rw [hz1, hoI']; show _ = 32 * t + 16 * (p / 256) + _; omega) (hin z)
    have hv' : v.toNat = _ := (congrArg BitVec.toNat hv).trans hlane
    rw [hk, hoT]
    show _ = (v + BitVec.ofNat 32 (16 * (p % 16))).toNat + _
    rw [BitVec.toNat_add, hv', BitVec.toNat_ofNat]
    have := hin z
    omega

end

end Cert.Proof.Lookup

end
-- ==== Proof.Scale.lean ====
module

public import proofs.«01_k».proof.Proof.Steps
public import proofs.«01_k».proof.Proof.Gen.KernelIdeal.Skeleton

/-! # Scaling the table

A subcore multiplies its table by sixteen in place, a row of sixteen chunks per trip: the trip loads the row's chunks, then
stores each chunk's product. `Scl` is the table with its first chunks scaled; `Mul p prog` says that `prog`, run with the
first `p` chunks of the trip's row stored, ends with the whole row stored. -/

@[expose] public section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A table element times sixteen. -/
abbrev x16 (a : Elt F .f32) : Elt F .f32 := FloatOps.mulf a (Scalar.ofBits .f32 0x41800000#32 : F .f32)

/-- `g` is `t0` with its first `n` chunks scaled. -/
def Scl (n : ℕ) (t0 g : S17408.Idx → Elt F .f32) : Prop := ∀ x, g x = if (x 0).val / 16 < n then x16 (t0 x) else t0 x

variable (d : Dev nD) (i : grid0.Coords) (arg5 : Memref sig .scVector .vmem S17408 .f32) (tf : Buf (Elt F) (arg5.view.loc (thr d i))) (t : ℕ)

/-- The table whole, its first `n` chunks scaled. -/
noncomputable def MulRes (n : ℕ) : sProp 𝕄 :=
  iprop(∃ f, ⌜Scl n (arg5.view.read (Elt F) tf) (arg5.view.read (Elt F) f)⌝ ∗ arg5.view.loc (thr d i) ↦{fullShare} f)

/-- `prog`, from the rows of the trips before `t` and this row's first `p` chunks, ends with row `t` scaled. -/
structure Mul (p : ℕ) (prog : Prog (TpuEff nD τ sig (Elt F) Λ₀ (thr d i).2) PUnit) : Prop where
  run : MulRes d i arg5 tf (16 * t + p)
    ⊢ wp frame (wpE (defs₀ (F := F)) 𝒱₀ (thr d i) none) Set.univ prog fun _ => MulRes d i arg5 tf (16 * (t + 1))

variable {d i arg5 tf t}

/-- The end of a trip. -/
theorem Mul.ret : Mul d i arg5 tf t 16 (.ret ⟨⟩) := by
  refine ⟨?_⟩
  rw [wp_ret, show 16 * t + 16 = 16 * (t + 1) by omega]
  iintro H; imodintro; iexact H

/-- A load of a chunk not stored yet reads the unscaled table. -/
theorem Mul.load {p q : ℕ} {off : Fin 1 → ℕ} {inb : ∀ a, off a + S16.size a ≤ S17408.size a}
    {hl : arg5.view.LoadsAt (Rect.unit (s := S17408) off S16.size inb).toLoadRect}
    {k : ((Rect.unit (s := S17408) off S16.size inb).shape.Idx → Elt F .f32) → Prog (TpuEff nD τ sig (Elt F) Λ₀ (thr d i).2) PUnit}
    (co : ClosedOff off) (hoff : co.form = ![256 * t + 16 * q]) (hq : p ≤ q)
    (h : Mul d i arg5 tf t p (k (arg5.view.readAt (Elt F) (Rect.unit (s := S17408) off S16.size inb).toLoadRect tf))) :
    Mul d i arg5 tf t p (.op (.load arg5 (Rect.unit (s := S17408) off S16.size inb).toLoadRect hl) k) := by
  refine ⟨?_⟩
  replace h := h.run
  have hoff' := co.eq.trans hoff
  unfold MulRes at h ⊢
  iintro ⟨%f, %hf, HT⟩
  iapply (wp_load 𝒱₀ (thr d i) none Set.univ (m := arg5) (S := Finset.univ) (Finset.subset_univ _)) $$ HT
  iintro HT
  have hv : arg5.view.readAt (Elt F) (Rect.unit (s := S17408) off S16.size inb).toLoadRect f
      = arg5.view.readAt (Elt F) (Rect.unit (s := S17408) off S16.size inb).toLoadRect tf := by
    funext y
    have hy : (y 0).val < 16 := (y 0).isLt
    refine (hf _).trans (if_neg ?_)
    have e0 : off 0 = 256 * t + 16 * q := congrFun hoff' 0
    show ¬ (off 0 + 1 * (y 0).val) / 16 < _
    omega
  rw [hv]
  iapply h
  iexists f
  isplitr; · ipureintro; exact hf
  iexact HT

/-- The store of chunk `p`: the loaded chunk times sixteen. -/
theorem Mul.store {p : ℕ} {off : Fin 1 → ℕ} {inb : ∀ a, off a + S16.size a ≤ S17408.size a}
    {w : (Rect.unit (s := S17408) off S16.size inb).shape.Idx → Elt F .f32}
    {hx : (arg5.access (Rect.unit (s := S17408) off S16.size inb)).Stores Finset.univ}
    {hm : Finset.univ = Finset.univ ∨ ∀ a, (Rect.unit (s := S17408) off S16.size inb).stride a = 1}
    {k : PUnit → Prog (TpuEff nD τ sig (Elt F) Λ₀ (thr d i).2) PUnit} {h1 h2 : S16.ShapeCasts S16}
    (co : ClosedOff off) (hoff : co.form = ![256 * t + 16 * p])
    (hw : w = shapeCast S16 (mulf (shapeCast S16 (arg5.view.readAt (Elt F) (Rect.unit (s := S17408) off S16.size inb).toLoadRect tf) h1)
      (broadcast S16 (Scalar.ofBits .f32 0x41800000#32 : F .f32)) : FVec F S16 .f32) h2)
    (h : Mul d i arg5 tf t (p + 1) (k ⟨⟩)) :
    Mul d i arg5 tf t p (.op (.store arg5 (Rect.unit (s := S17408) off S16.size inb) w Finset.univ hx hm) k) := by
  refine ⟨?_⟩
  replace h := h.run
  have hoff' := co.eq.trans hoff
  unfold MulRes at h ⊢
  iintro ⟨%f, %hf, HT⟩
  iapply (wp_store 𝒱₀ (thr d i) none Set.univ (m := arg5) (r := Rect.unit (s := S17408) off S16.size inb) (S := Finset.univ) (Finset.subset_univ _)) $$ HT
  iintro HT
  iapply h
  iexists _
  isplitr; swap; · iexact HT
  ipureintro
  intro x
  have hx0 : (x 0).val < 17408 := (x 0).isLt
  by_cases hc : (x 0).val / 16 = 16 * t + p
  · have he : x = (Rect.unit (s := S17408) off S16.size inb).emb (ix1 (n0 := 16) ⟨(x 0).val % 16, by omega⟩) := by
      funext a
      obtain rfl : a = 0 := Subsingleton.elim _ _
      apply Fin.ext
      show (x 0).val = off 0 + 1 * ((x 0).val % 16)
      rw [hoff']
      show (x 0).val = 256 * t + 16 * p + 1 * ((x 0).val % 16)
      omega
    rw [if_pos (by omega)]
    generalize ix1 (n0 := 16) ⟨(x 0).val % 16, by omega⟩ = y at he
    rw [he, View.read_slice_write_emb _ _ _ (Finset.mem_univ _), hw, shapeCast_id]
    show FloatOps.mulf (shapeCast S16 (arg5.view.readAt (Elt F) (Rect.unit (s := S17408) off S16.size inb).toLoadRect tf) h1 y) _ = _
    exact congrArg (fun a => FloatOps.mulf a _) (congrFun (shapeCast_id (s := S16) (arg5.view.readAt (Elt F) (Rect.unit (s := S17408) off S16.size inb).toLoadRect tf) h1) y)
  · rw [View.read_slice_write_of_not_mem]
    · rw [hf x]
      have : (x 0).val / 16 < 16 * t + p ↔ (x 0).val / 16 < 16 * t + (p + 1) := by omega
      simp only [this]
    · rw [Rect.map_emb_univ]
      intro hm
      obtain ⟨c1, hc1, e1⟩ := (LoadRect.mem_set _).mp hm 0
      change c1 < 16 at hc1
      change (x 0).val = off 0 + 1 * c1 at e1
      rw [hoff'] at e1
      change (x 0).val = 256 * t + 16 * p + 1 * c1 at e1
      omega

set_option maxRecDepth 100000 in
set_option maxHeartbeats 4000000 in
/-- A trip of the scaling loop scales one row of the table. -/
theorem mul_trip (d : Dev nD) (i : grid0.Coords) (arg2 : Memref sig .scVector .hbm S17408 .f32) (harg2 : arg2.IsWhole)
    (arg3 : Memref sig .scVector .hbm S32x200x128 .i32) (harg3 : arg3.IsWhole) (arg4 : Memref sig .scVector .hbm S819200x256 .f32) (harg4 : arg4.IsWhole)
    (arg5 : Memref sig .scVector .vmem S17408 .f32) (harg5 : arg5.IsWhole) (arg6 : Memref sig .scVector .vmem S200x128 .i32) (harg6 : arg6.IsWhole)
    (arg7 : Memref sig .scVector .vmem S2x128x256 .f32) (harg7 : arg7.IsWhole) (arg8 arg9 v19_r0 v19_r1 : DmaSems sig S_)
    (tf : Buf (Elt F) (arg5.view.loc (thr d i))) (t : Fin k0_t1_loop.trips) :
    Mul d i arg5 tf t.val 0 (k0_t1_body i arg2 harg2 arg3 harg3 arg4 harg4 arg5 harg5 arg6 harg6 arg7 harg7 arg8 arg9 v19_r0 v19_r1 t ⟨⟩) := by
  conv => arg 7; whnf
  iterate 48
    first
    | refine Mul.load inferInstance rfl (by decide) ?_
      conv => arg 7; whnf
    | refine Mul.store inferInstance rfl rfl ?_
      conv => arg 6; whnf
      conv => arg 7; whnf
  exact Mul.ret

end Cert.Proof.Lookup
-- ==== Proof.Trips.lean ====
module

public import proofs.«01_k».proof.Proof.Steps
public import proofs.«01_k».proof.Proof.Gen.KernelIdeal.Skeleton

/-! # The assembly's trips

Each trip of an assembly loop (`k0_t3`, of half 0, and `k0_t4`, of half 1) is one straight line of loads, range checks and
stores: two chunks of sixteen indices, thirty-two rows of the table, 512 stores in order. `asm_trips` walks either line with
the steps of `Asm`. -/

@[expose] public section

namespace Cert.Proof.Lookup

open Cert.KernelIdeal Cert.KernelIdeal.Gen
open Idealize Idealize.ShloMosaic

variable {F : FTy → Type} [FloatOps F]

set_option maxRecDepth 100000 in
set_option maxHeartbeats 8000000 in
/-- A trip of either assembly loop puts 32 more rows of the chunk in place: of chunk `2 k0_t2` in half 0 and of chunk
    `2 k0_t2 + 1` in half 1, when every index is under 68. -/
theorem asm_trips (d : Dev nD) (i : grid0.Coords) (arg2 : Memref sig .scVector .hbm S17408 .f32) (harg2 : arg2.IsWhole)
    (arg3 : Memref sig .scVector .hbm S32x200x128 .i32) (harg3 : arg3.IsWhole) (arg4 : Memref sig .scVector .hbm S819200x256 .f32) (harg4 : arg4.IsWhole)
    (arg5 : Memref sig .scVector .vmem S17408 .f32) (harg5 : arg5.IsWhole) (arg6 : Memref sig .scVector .vmem S200x128 .i32) (harg6 : arg6.IsWhole)
    (arg7 : Memref sig .scVector .vmem S2x128x256 .f32) (harg7 : arg7.IsWhole) (arg8 arg9 v19_r0 v19_r1 : DmaSems sig S_)
    (v2 c0_i32_3 c1_i32_4 v19 : BitVec 32) (k0_t2 : Fin k0_t2_loop.trips)
    (S : Finset (Idx (arg7.view.loc (thr d i)))) (tf : Buf (Elt F) (arg5.view.loc (thr d i))) (jf : Buf (Elt F) (arg6.view.loc (thr d i)))
    (hin : ∀ z, ((arg6.view.read (Elt F) jf : S200x128.Idx → BitVec 32) z).toNat < 68) :
    (∀ k0_t3 : Fin k0_t3_loop.trips, (∀ y : S2x128x256.Idx, (y 0).val = 0 → arg7.view.emb y ∈ S) →
      Asm d i arg5 arg6 arg7 0 (2 * k0_t2.val) S tf jf k0_t3.val 0
        (k0_t3_body i arg2 harg2 arg3 harg3 arg4 harg4 arg5 harg5 arg6 harg6 arg7 harg7 arg8 arg9 v19_r0 v19_r1 v2 c0_i32_3 c1_i32_4 k0_t2 v19 k0_t3 ⟨⟩))
    ∧ (∀ k0_t4 : Fin k0_t4_loop.trips, (∀ y : S2x128x256.Idx, (y 0).val = 1 → arg7.view.emb y ∈ S) →
      Asm d i arg5 arg6 arg7 1 (2 * k0_t2.val + 1) S tf jf k0_t4.val 0
        (k0_t4_body i arg2 harg2 arg3 harg3 arg4 harg4 arg5 harg5 arg6 harg6 arg7 harg7 arg8 arg9 v19_r0 v19_r1 v2 c0_i32_3 c1_i32_4 k0_t2 v19 k0_t4 ⟨⟩)) := by
  constructor <;>
  · intro t hS
    conv => arg 13; whnf
    iterate 1570
      first
      | refine Asm.loadT ?_
        conv => arg 13; whnf
      | refine Asm.loadR hS rfl fun v => ?_
        conv => arg 13; whnf
        clear v
      | refine Asm.assume (lane_chk (by decide) hin) fun hw => ?_
        conv => arg 13; whnf
      | refine Asm.store hS hin inferInstance rfl rfl rfl rfl inferInstance rfl ?_
        conv => arg 12; whnf
        conv => arg 13; whnf
      | refine Asm.loadI ?_
        conv => arg 13; whnf
    exact Asm.ret

end Cert.Proof.Lookup
-- ==== Proof.Tile.lean ====
module

public import proofs.«01_k».proof.Proof.Scale
public import proofs.«01_k».proof.Proof.Trips

/-! # One subcore's task: its pieces

The arrays and scratches as a subcore's task names them, the windows of the output a task writes, and the three moves the
task's outer loop is made of: sending a half of the scratch to a window of the output, waiting for it, and assembling a
half. -/

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Names -/

abbrev ΛP : Labels := Pipeline.Sig Λ₀ (Fin 0) fun p => (pcfgs (F := F) p).Adm
abbrev K : SparseCore.Cfg τ sig (ΛP (F := F)) 1 := sc (F := F)

/-- The transfers' counters. -/
abbrev EC : UEmb Counters (MT nD τ sig (HIx 1) (Elt F) ℕ UU ℕ) := countersEmb (U := UU)

/-- The flat table, the indices and the output, as locations of device `d`. -/
abbrev tLoc (d : Dev nD) : Loc nD τ sig := (SparseCore.T d).loc main_v1
abbrev xLoc (d : Dev nD) : Loc nD τ sig := (SparseCore.T d).loc main_v0
abbrev oLoc (d : Dev nD) : Loc nD τ sig := (SparseCore.T d).loc main_v2

abbrev tabV : Memref sig .scVector .hbm S17408 .f32 := Memref.whole main_v1_scv
abbrev idxV : Memref sig .scVector .hbm S32x200x128 .i32 := Memref.whole main_v0_scv
abbrev outV : Memref sig .scVector .hbm S819200x256 .f32 := Memref.whole main_v2_scv
/-- A task's scratch: the table, its indices, the two halves of assembled rows. -/
abbrev sT : Memref sig .scVector .vmem S17408 .f32 := Memref.whole cc0_scratch0
abbrev sJ : Memref sig .scVector .vmem S200x128 .i32 := Memref.whole cc0_scratch1
abbrev sR : Memref sig .scVector .vmem S2x128x256 .f32 := Memref.whole cc0_scratch2

/-- The output's rows from `lo` to `hi`. -/
def rng (lo hi : ℕ) : Finset S819200x256.Idx := Finset.univ.filter fun x => lo ≤ (x 0).val ∧ (x 0).val < hi
/-- Half `b` of the row scratch. -/
def slot (b : ℕ) : Finset S2x128x256.Idx := Finset.univ.filter fun y => (y 0).val = b

theorem mem_rng {lo hi : ℕ} {x : S819200x256.Idx} : x ∈ rng lo hi ↔ lo ≤ (x 0).val ∧ (x 0).val < hi := by simp [rng]
theorem mem_slot {b : ℕ} {y : S2x128x256.Idx} : y ∈ slot b ↔ (y 0).val = b := by simp [slot]

theorem rng_union {a b c : ℕ} (h : a ≤ b) (h' : b ≤ c) : rng a b ∪ rng b c = rng a c := by
  ext x; simp only [Finset.mem_union, mem_rng]; omega
theorem rng_disjoint {a b c : ℕ} : Disjoint (rng a b) (rng b c) :=
  Finset.disjoint_left.mpr fun x h h' => by rw [mem_rng] at h h'; omega
theorem slot_union : slot 0 ∪ slot 1 = Finset.univ := by
  ext y; simp only [Finset.mem_union, mem_slot, Finset.mem_univ, iff_true]
  have : (y 0).val < 2 := (y 0).isLt
  omega
theorem slot_disjoint : Disjoint (slot 0) (slot 1) :=
  Finset.disjoint_left.mpr fun y h h' => by rw [mem_slot] at h h'; omega

/-- A window of 128 rows of the output, and half `b` of the scratch as one 128-row array. -/
abbrev win (off : Fin 2 → ℕ) (inb : ∀ a, off a + S128x256.size a ≤ S819200x256.size a) : Memref sig .scVector .hbm S128x256 .f32 :=
  outV.slice (Rect.unit (s := S819200x256) off S128x256.size inb) (fun _ => rfl)
abbrev half (b : ℕ) (inb : ∀ a, (![b, 0, 0] : Fin 3 → ℕ) a + S1x128x256.size a ≤ S2x128x256.size a) : Memref sig .scVector .vmem S128x256 .f32 :=
  (sR.slice (Rect.unit (s := S2x128x256) ![b, 0, 0] S1x128x256.size inb) (fun _ => rfl)).squeeze S128x256 squeezes_S1x128x256_S128x256

theorem win_set {off : Fin 2 → ℕ} {inb : ∀ a, off a + S128x256.size a ≤ S819200x256.size a} (h1 : off 1 = 0) :
    (win off inb).view.set = rng (off 0) (off 0 + 128) := by
  have e : (win off inb).view.set = (Rect.unit (s := S819200x256) off S128x256.size inb).set := View.set_slice_whole _ _
  rw [e]
  ext x
  rw [mem_rng]
  have hx1 : (x 1).val < 256 := (x 1).isLt
  constructor
  · intro h
    obtain ⟨c, hc, e⟩ := (LoadRect.mem_set _).mp h 0
    change c < 128 at hc
    change (x 0).val = off 0 + 1 * c at e
    omega
  · rintro ⟨h, h'⟩
    refine (LoadRect.mem_set _).mpr fun a => ?_
    fin_cases a
    · exact ⟨(x 0).val - off 0, by show (x 0).val - off 0 < 128; omega, by show (x 0).val = off 0 + 1 * ((x 0).val - off 0); omega⟩
    · exact ⟨(x 1).val, hx1, by show (x 1).val = off 1 + 1 * (x 1).val; omega⟩

theorem half_set {b : ℕ} {inb : ∀ a, (![b, 0, 0] : Fin 3 → ℕ) a + S1x128x256.size a ≤ S2x128x256.size a} :
    (half b inb).view.set = slot b := by
  have e : (half b inb).view.set = (Rect.unit (s := S2x128x256) ![b, 0, 0] S1x128x256.size inb).set := by
    show ((sR.view.slice (Rect.unit (s := S2x128x256) ![b, 0, 0] S1x128x256.size inb)).reshape S128x256 squeezes_S1x128x256_S128x256.numel_eq).set = _
    rw [View.set_reshape]
    exact View.set_slice_whole _ _
  rw [e]
  ext y
  rw [mem_slot]
  have h1 : (y 1).val < 128 := (y 1).isLt
  have h2 : (y 2).val < 256 := (y 2).isLt
  constructor
  · intro h
    obtain ⟨c, hc, e⟩ := (LoadRect.mem_set _).mp h 0
    change c < 1 at hc
    change (y 0).val = b + 1 * c at e
    omega
  · rintro h
    refine (LoadRect.mem_set _).mpr fun a => ?_
    fin_cases a
    · exact ⟨0, by show 0 < 1; omega, by show (y 0).val = b + 1 * 0; omega⟩
    · exact ⟨(y 1).val, h1, by show (y 1).val = 0 + 1 * (y 1).val; omega⟩
    · exact ⟨(y 2).val, h2, by show (y 2).val = 0 + 1 * (y 2).val; omega⟩

/-- Where element `(r, c)` of a half lies. -/
theorem half_emb {b : ℕ} {inb : ∀ a, (![b, 0, 0] : Fin 3 → ℕ) a + S1x128x256.size a ≤ S2x128x256.size a} (x : S128x256.Idx) :
    (((half b inb).view.emb x : S2x128x256.Idx) 0).val = b ∧ (((half b inb).view.emb x : S2x128x256.Idx) 1).val = (x 0).val
      ∧ (((half b inb).view.emb x : S2x128x256.Idx) 2).val = (x 1).val := by
  have e : Shape.reshapeEquiv squeezes_S1x128x256_S128x256.numel_eq x = (ix3 (n0 := 1) (n1 := 128) (n2 := 256) ⟨0, by decide⟩ (x 0) (x 1) : S1x128x256.Idx) := by
    refine Shape.reshapeEquiv_eq_of_vals _ _ _ _ _ (rowMajor_val3 _ 32768 256 rfl rfl) (rowMajor_val2 _ 256 rfl) ?_
    show 0 * 32768 + (x 0).val * 256 + (x 1).val = (x 0).val * 256 + (x 1).val
    omega
  have e' : (half b inb).view.emb x = (Rect.unit (s := S2x128x256) ![b, 0, 0] S1x128x256.size inb).emb
      (Shape.reshapeEquiv squeezes_S1x128x256_S128x256.numel_eq x) := rfl
  rw [e', e]
  refine ⟨?_, ?_, ?_⟩
  · show b + 1 * 0 = b; omega
  · show 0 + 1 * (x 0).val = _; omega
  · show 0 + 1 * (x 1).val = _; omega

/-! ## The moves -/

section Moves

variable [FloatOps F] (d : Dev nD) (i : grid0.Coords)

abbrev NO : ℕ := sig.dmaCredit .scVector (Kind.scVector.table .hbm) (main_v2_scv : Ref sig .scVector).idx S128x256 .f32
theorem NO_pos : 0 < NO := sig.dmaCredit_pos _ _ _ _ _ (by decide)

abbrev oPts (lo hi : ℕ) (g : Buf (Elt F) (oLoc d)) : sProp 𝕄 := oLoc d ↦[rng lo hi]{fullShare} g
abbrev rPts (b : ℕ) (f : Buf (Elt F) ((thr d i).loc cc0_scratch2)) : sProp 𝕄 := (thr d i).loc cc0_scratch2 ↦[slot b]{fullShare} f

/-- What the subcore owes, its waits recorded so far being its own. -/
def Owe (O : CellTallies nD τ sig (HIx 1)) (W : Waits sig (HIx 1)) : sProp 𝕄 :=
  iprop(∃ W', ⌜∀ p ∈ W', p ∈ W ∨ p.2 = none⌝ ∗ owes (thr d i) O W')

/-- Half `b` at rest: its elements and its semaphore at zero. -/
def Idle (b : ℕ) (sem : DmaSems sig S_) : sProp 𝕄 := iprop((∃ f, rPts d i b f) ∗ semVal (thr d i, .dma sem.sem) 0)
/-- Half `b` on its way to the window from `lo`: the wait will deliver the window at `g`, and the half. -/
def Sent (b : ℕ) (sem : DmaSems sig S_) (lo : ℕ) (g : Buf (Elt F) (oLoc d)) : sProp 𝕄 :=
  Transfers.Flight EC (thr d i) (.dma sem.sem) none NO iprop(oPts d lo (lo + 128) g ∗ ∃ f, rPts d i b f)

variable {d i}

/-- A wait on a transfer of the subcore's own. -/
theorem wait_own {O : CellTallies nD τ sig (HIx 1)} {W : Waits sig (HIx 1)} (hO : ∀ g, O g none = 0) {sp sp' : Space} {s s' : Shape} {e e' : EltTy}
    {κ' : Kind} {sem : DmaSems sig S_} {src : Memref sig .scVector sp' s' e'} {dst : Memref sig κ' sp s e} {h1 : src.view.WordExact} {h2 : dst.view.WordExact}
    {k : PUnit → Prog (TpuEff nD τ sig (Elt F) Λ₀ (thr d i).2) PUnit} {Q : PUnit → sProp 𝕄} {N : ℕ} (hN : dst.view.dmaCredit = N) {D : sProp 𝕄} :
    iprop(levAts (K (F := F)).L (K (F := F)).lev ∗ Transfers.Flight EC (thr d i) (.dma sem.sem) none N D ∗ Owe d i O W)
      ⊢ iprop((iprop(D ∗ semVal (thr d i, .dma sem.sem) 0 ∗ Owe d i O W) -∗ wp frame (wpE (defs₀ (F := F)) 𝒱₀ (thr d i) none) Set.univ (k ⟨⟩) Q)
        -∗ wp frame (wpE (defs₀ (F := F)) 𝒱₀ (thr d i) none) Set.univ (.op (.waitDma2 sem.sem src dst h1 h2) k) Q) := by
  unfold Owe
  iintro ⟨#Hlv, HF, %W', %hW', HO⟩ Hk
  iapply (Transfers.wp_waitLocalO EC 𝒱₀ (thr d i) none none hN) $$ [HF HO]
  · isplitl [HF]; · iexact HF
    isplitl [HO]; · iexact HO
    iapply ((K (F := F)).mayWait_none (SemLoc.dma sem.sem) hO); iexact Hlv
  iintro ⟨HD, Hv, HO⟩
  iapply Hk
  isplitl [HD]; · iexact HD
  isplitl [Hv]; · iexact Hv
  iexists _
  isplitr; swap; · iexact HO
  ipureintro
  intro p hp
  rcases Finset.mem_insert.mp hp with rfl | hp
  · exact .inr rfl
  · exact hW' p hp

/-- Sending half `b` to the window from `lo`, when its rows are the window's rows of `g`. -/
theorem send {b : ℕ} {inb : ∀ a, (![b, 0, 0] : Fin 3 → ℕ) a + S1x128x256.size a ≤ S2x128x256.size a} {off : Fin 2 → ℕ}
    {inbo : ∀ a, off a + S128x256.size a ≤ S819200x256.size a} {sem : DmaSems sig S_} {lo : ℕ} (h0 : off 0 = lo) (h1 : off 1 = 0)
    {hs : (half b inb).view.WordExact} {hd : (win off inbo).view.WordExact}
    {ht : DmaTarget.Typed (nD := nD) (p := (thr d i).2) .vmem (.dma sem.sem) (.here (win off inbo))}
    {k : PUnit → Prog (TpuEff nD τ sig (Elt F) Λ₀ (thr d i).2) PUnit} {Q : PUnit → sProp 𝕄} {f : Buf (Elt F) ((thr d i).loc cc0_scratch2)}
    {f₀ g : Buf (Elt F) (oLoc d)}
    (hfg : ∀ (y : S2x128x256.Idx) (x : S819200x256.Idx), (y 0).val = b → (x 0).val = lo + (y 1).val → (x 1).val = (y 2).val → f y = g x) :
    iprop(rPts d i b f ∗ oPts d lo (lo + 128) f₀ ∗ semVal (thr d i, .dma sem.sem) 0)
      ⊢ iprop((Sent d i b sem lo g -∗ wp frame (wpE (defs₀ (F := F)) 𝒱₀ (thr d i) none) Set.univ (k ⟨⟩) Q)
        -∗ wp frame (wpE (defs₀ (F := F)) 𝒱₀ (thr d i) none) Set.univ
          (.op (.enqueueDma (half b inb) (.here (win off inbo)) (.dma sem.sem) hs hd ht) k) Q) := by
  subst h0
  have es := half_set (b := b) (inb := inb)
  have ed := win_set (off := off) (inb := inbo) h1
  have ew : ∀ x ∈ rng (off 0) (off 0 + 128), ((win off inbo).view.write (Elt F) f₀ ((half b inb).view.read (Elt F) f) Finset.univ :
      Buf (Elt F) (oLoc d)) x = g x := by
    intro x hx
    rw [← ed] at hx
    obtain ⟨z, -, rfl⟩ := Finset.mem_map.mp hx
    refine ((win off inbo).view.write_emb_of_mem (Val := Elt F) f₀ _ (Finset.mem_univ z)).trans ?_
    obtain ⟨e0, e1, e2⟩ := half_emb (b := b) (inb := inb) z
    refine hfg _ _ e0 ?_ ?_
    · rw [e1]; show off 0 + 1 * (z 0).val = _; omega
    · rw [e2]; show off 1 + 1 * (z 1).val = _; omega
  iintro ⟨Hr, Ho, Hv⟩ Hk
  iapply (Transfers.wp_dmaLocal EC 𝒱₀ (thr d i) none (src := half b inb) (dst := win off inbo) (sm := .dma sem.sem) (q := fullShare)
    (fs := f) (fd := f₀) (Sd := rng (off 0) (off 0 + 128)) none NO rfl NO_pos (by rw [ed])) $$ [Hr Ho Hv]
  · rw [es]
    isplitl [Hr]; · iexact Hr
    isplitl [Ho]; · iexact Ho
    iexact Hv
  iintro HF
  iapply Hk
  unfold Sent
  iapply (Transfers.Flight_mono EC (thr d i) ?_) $$ HF
  rw [es]
  iintro ⟨Ho, Hr⟩
  isplitl [Ho]
  · iapply (Entails.of_eq (pointsTo_congr ew)); iexact Ho
  · iexists _; iexact Hr

/-- What half `b` holds once the tile's words before the send are those of `g`: the assembly's outcome is the window's rows. -/
def Rows (base : ℕ) (tf : S17408.Idx → F .f32) (jf : S200x128.Idx → BitVec 32) (g : Buf (Elt F) (oLoc d)) : Prop :=
  ∀ (x : S819200x256.Idx) (z : S200x128.Idx) (k : S17408.Idx), (x 0).val = base + 128 * (z 0).val + (z 1).val →
    (k 0).val = (jf z).toNat * 256 + (x 1).val → g x = tf k

/-- A loop of four trips of assembly fills the half. -/
theorem asm_loop {arg5 : Memref sig .scVector .vmem S17408 .f32} {arg6 : Memref sig .scVector .vmem S200x128 .i32}
    {arg7 : Memref sig .scVector .vmem S2x128x256 .f32} {b j : ℕ} {S : Finset (Idx (arg7.view.loc (thr d i)))}
    {tf : Buf (Elt F) (arg5.view.loc (thr d i))} {jf : Buf (Elt F) (arg6.view.loc (thr d i))} {lp : Scf.Loop 32} (hok : lp.OK) (htr : lp.trips = 4)
    {body : Fin lp.trips → PUnit → Prog (TpuEff nD τ sig (Elt F) Λ₀ (thr d i).2) PUnit}
    (h : ∀ k : Fin lp.trips, Asm d i arg5 arg6 arg7 b j S tf jf k.val 0 (body k ⟨⟩)) {Q : PUnit → sProp 𝕄} :
    AsmRes d i arg5 arg6 arg7 b j S tf jf 0
      ⊢ iprop((AsmRes d i arg5 arg6 arg7 b j S tf jf 2048 -∗ Q ⟨⟩)
        -∗ wp frame (wpE (defs₀ (F := F)) 𝒱₀ (thr d i) none) Set.univ (Scf.Loop.for lp hok ⟨⟩ body) Q) := by
  iintro H Hk
  iapply (Scf.wp_for frame (wpE (defs₀ (F := F)) 𝒱₀ (thr d i) none) Set.univ lp.lb lp.ub lp.st hok ⟨⟩ body
    (fun k _ => AsmRes d i arg5 arg6 arg7 b j S tf jf (512 * k)) (fun k _ => (h k).run))
  isplitl [H]; · iexact H
  iintro %acc H
  iapply Hk
  have e : 512 * Scf.trips lp.lb lp.ub lp.st = 2048 := by rw [show Scf.trips lp.lb lp.ub lp.st = 4 from htr]
  rw [e]
  iexact H

/-- The scaling loop scales the whole table. -/
theorem mul_loop {arg5 : Memref sig .scVector .vmem S17408 .f32} {tf : Buf (Elt F) (arg5.view.loc (thr d i))} {lp : Scf.Loop 32} (hok : lp.OK)
    (htr : lp.trips = 68) {body : Fin lp.trips → PUnit → Prog (TpuEff nD τ sig (Elt F) Λ₀ (thr d i).2) PUnit}
    (h : ∀ k : Fin lp.trips, Mul d i arg5 tf k.val 0 (body k ⟨⟩)) {Q : PUnit → sProp 𝕄} :
    MulRes d i arg5 tf 0
      ⊢ iprop((MulRes d i arg5 tf 1088 -∗ Q ⟨⟩)
        -∗ wp frame (wpE (defs₀ (F := F)) 𝒱₀ (thr d i) none) Set.univ (Scf.Loop.for lp hok ⟨⟩ body) Q) := by
  iintro H Hk
  iapply (Scf.wp_for frame (wpE (defs₀ (F := F)) 𝒱₀ (thr d i) none) Set.univ lp.lb lp.ub lp.st hok ⟨⟩ body
    (fun k _ => MulRes d i arg5 tf (16 * k)) (fun k _ => (h k).run))
  isplitl [H]; · iexact H
  iintro %acc H
  iapply Hk
  have e : 16 * Scf.trips lp.lb lp.ub lp.st = 1088 := by rw [show Scf.trips lp.lb lp.ub lp.st = 68 from htr]
  rw [e]
  iexact H

variable (d i)

/-- Half `b` before trip `k`: at rest before the first, then on its way to trip `k - 1`'s window. -/
def Half (base k b : ℕ) (sem : DmaSems sig S_) (g : Buf (Elt F) (oLoc d)) : sProp 𝕄 :=
  if k = 0 then Idle d i b sem else Sent d i b sem (base + 256 * (k - 1) + 128 * b) g
/-- What trip `k`'s wait for half `b` delivers of the output: trip `k - 1`'s window. -/
def Got (base k b : ℕ) (g : Buf (Elt F) (oLoc d)) : sProp 𝕄 :=
  if k = 0 then iprop(emp) else oPts d (base + 256 * (k - 1) + 128 * b) (base + 256 * (k - 1) + 128 * b + 128) g

abbrev tPts (tf : Buf (Elt F) ((thr d i).loc cc0_scratch0)) : sProp 𝕄 := (thr d i).loc cc0_scratch0 ↦{fullShare} tf
abbrev jPts (jf : Buf (Elt F) ((thr d i).loc cc0_scratch1)) : sProp 𝕄 := (thr d i).loc cc0_scratch1 ↦{fullShare} jf

variable {d i}

variable (d i) in
/-- Half `b` with row block `j` assembled in it, at rest. -/
def Ready (b j : ℕ) (sem : DmaSems sig S_) (tf : Buf (Elt F) ((thr d i).loc cc0_scratch0)) (jf : Buf (Elt F) ((thr d i).loc cc0_scratch1)) : sProp 𝕄 :=
  iprop((∃ f, ⌜Filled (sT.view.read (Elt F) tf) (sJ.view.read (Elt F) jf) b j 2048 (sR.view.read (Elt F) f)⌝ ∗ rPts d i b f)
    ∗ semVal (thr d i, .dma sem.sem) 0)

/-- Sending an assembled half to its window. -/
theorem send_ready {base k b : ℕ} {sem : DmaSems sig S_}
    {inb : ∀ a, (![b, 0, 0] : Fin 3 → ℕ) a + S1x128x256.size a ≤ S2x128x256.size a} {off : Fin 2 → ℕ}
    {inbo : ∀ a, off a + S128x256.size a ≤ S819200x256.size a} (h0 : off 0 = base + 256 * k + 128 * b) (h1 : off 1 = 0)
    {hs : (half b inb).view.WordExact} {hd : (win off inbo).view.WordExact}
    {ht : DmaTarget.Typed (nD := nD) (p := (thr d i).2) .vmem (.dma sem.sem) (.here (win off inbo))}
    {tf : Buf (Elt F) ((thr d i).loc cc0_scratch0)} {jf : Buf (Elt F) ((thr d i).loc cc0_scratch1)} {f₀ g : Buf (Elt F) (oLoc d)}
    (hg : Rows (d := d) base tf jf g) (hj : ∀ z : S200x128.Idx, (jf z : BitVec 32).toNat < 68) (hk : 2 * k + b < 200)
    {K₁ : PUnit → Prog (TpuEff nD τ sig (Elt F) Λ₀ (thr d i).2) PUnit} {Q : PUnit → sProp 𝕄} :
    iprop(Ready d i b (2 * k + b) sem tf jf ∗ oPts d (base + 256 * k + 128 * b) (base + 256 * k + 128 * b + 128) f₀)
      ⊢ iprop((Half d i base (k + 1) b sem g -∗ wp frame (wpE (defs₀ (F := F)) 𝒱₀ (thr d i) none) Set.univ (K₁ ⟨⟩) Q)
        -∗ wp frame (wpE (defs₀ (F := F)) 𝒱₀ (thr d i) none) Set.univ
          (.op (.enqueueDma (half b inb) (.here (win off inbo)) (.dma sem.sem) hs hd ht) K₁) Q) := by
  unfold Ready
  iintro ⟨⟨⟨%f', %hf, Hr⟩, Hv⟩, Ho⟩ Hk
  iapply (send (g := g) (f := f') h0 h1 ?_) $$ [Hr Ho Hv]
  · intro y x hy hx hx1
    have hy1 : (y 1).val < 128 := (y 1).isLt
    have hy2 : (y 2).val < 256 := (y 2).isLt
    have hz := hj (ix2 (n0 := 200) (n1 := 128) ⟨2 * k + b, hk⟩ ⟨(y 1).val, hy1⟩)
    refine (hf y (ix2 (n0 := 200) (n1 := 128) ⟨2 * k + b, hk⟩ ⟨(y 1).val, hy1⟩) (ix1 (n0 := 17408) ⟨(jf (ix2 (n0 := 200) (n1 := 128) ⟨2 * k + b, hk⟩ ⟨(y 1).val, hy1⟩) : BitVec 32).toNat * 256 + (y 2).val, by omega⟩)
      hy rfl rfl rfl (by omega)).trans ?_
    refine (hg x (ix2 (n0 := 200) (n1 := 128) ⟨2 * k + b, hk⟩ ⟨(y 1).val, hy1⟩) _ ?_ ?_).symm
    · show (x 0).val = base + 128 * (2 * k + b) + (y 1).val
      omega
    · show _ = _ * 256 + (x 1).val
      rw [hx1]
      rfl
  · isplitl [Hr]; · iexact Hr
    isplitl [Ho]; · iexact Ho
    iexact Hv
  iintro Hs
  iapply Hk
  unfold Half
  rw [if_neg (Nat.succ_ne_zero k)]
  iexact Hs

/-- Half a trip up to its send: wait for the half's previous send (there is none on the first trip), assemble the half's
    128 rows. -/
theorem half_trip {O : CellTallies nD τ sig (HIx 1)} {W : Waits sig (HIx 1)} (hO : ∀ g, O g none = 0) {base k b : ℕ} {sem : DmaSems sig S_}
    {c : BitVec 1} (hc : c = 1#1 ↔ 0 < k) {s' : Shape} {e' : EltTy} {sp' : Space}
    {src : c = 1#1 → Memref sig .scVector sp' s' e'} {dst : c = 1#1 → Memref sig .scVector .hbm S128x256 .f32}
    {p1 : ∀ h, (src h).view.WordExact} {p2 : ∀ h, (dst h).view.WordExact} (hN : ∀ h, (dst h).view.dmaCredit = NO)
    {tf : Buf (Elt F) ((thr d i).loc cc0_scratch0)} {jf : Buf (Elt F) ((thr d i).loc cc0_scratch1)} {g : Buf (Elt F) (oLoc d)}
    {lp : Scf.Loop 32} (hok : lp.OK) (htr : lp.trips = 4)
    {body : Fin lp.trips → PUnit → Prog (TpuEff nD τ sig (Elt F) Λ₀ (thr d i).2) PUnit}
    (hbody : ∀ t : Fin lp.trips, Asm d i sT sJ sR b (2 * k + b) (slot b) tf jf t.val 0 (body t ⟨⟩))
    {K₁ : PUnit → Prog (TpuEff nD τ sig (Elt F) Λ₀ (thr d i).2) PUnit} {Q : PUnit → sProp 𝕄} :
    iprop(levAts (K (F := F)).L (K (F := F)).lev ∗ tPts d i tf ∗ jPts d i jf ∗ Half d i base k b sem g ∗ Owe d i O W)
      ⊢ iprop((iprop(tPts d i tf ∗ jPts d i jf ∗ Ready d i b (2 * k + b) sem tf jf ∗ Got d base k b g ∗ Owe d i O W)
          -∗ wp frame (wpE (defs₀ (F := F)) 𝒱₀ (thr d i) none) Set.univ (K₁ ⟨⟩) Q)
        -∗ wp frame (wpE (defs₀ (F := F)) 𝒱₀ (thr d i) none) Set.univ
          (if h : c = 1#1 then
            .op (.waitDma2 sem.sem (src h) (dst h) (p1 h) (p2 h)) fun _ => Scf.Loop.for lp hok ⟨⟩ body >>= K₁
          else Scf.Loop.for lp hok ⟨⟩ body >>= K₁) Q) := by
  have rest : iprop(tPts d i tf ∗ jPts d i jf ∗ Idle d i b sem ∗ Got d base k b g ∗ Owe d i O W)
      ⊢ iprop((iprop(tPts d i tf ∗ jPts d i jf ∗ Ready d i b (2 * k + b) sem tf jf ∗ Got d base k b g ∗ Owe d i O W)
          -∗ wp frame (wpE (defs₀ (F := F)) 𝒱₀ (thr d i) none) Set.univ (K₁ ⟨⟩) Q)
        -∗ wp frame (wpE (defs₀ (F := F)) 𝒱₀ (thr d i) none) Set.univ (Scf.Loop.for lp hok ⟨⟩ body >>= K₁) Q) := by
    rw [wp_bind]
    unfold Idle
    iintro ⟨HT, HJ, ⟨⟨%f, Hr⟩, Hv⟩, Hg, HO⟩ Hk
    iapply (asm_loop (arg5 := sT) (arg6 := sJ) (arg7 := sR) (b := b) (j := 2 * k + b) (S := slot b) (tf := tf) (jf := jf) hok htr hbody) $$ [HT HJ Hr]
    · unfold AsmRes
      isplitl [HT]; · iexact HT
      isplitl [HJ]; · iexact HJ
      iexists f
      isplitr; swap; · iexact Hr
      ipureintro
      intro y z k _ _ _ _ hn
      exact absurd hn (by omega)
    unfold AsmRes
    iintro ⟨HT, HJ, Hr⟩
    iapply Hk
    isplitl [HT]; · iexact HT
    isplitl [HJ]; · iexact HJ
    isplitl [Hr Hv]
    · unfold Ready
      isplitl [Hr]; · iexact Hr
      iexact Hv
    isplitl [Hg]; · iexact Hg
    iexact HO
  by_cases h : c = 1#1
  · have hk0 : k ≠ 0 := by have := hc.mp h; omega
    rw [dif_pos h, show Half d i base k b sem g = Sent d i b sem (base + 256 * (k - 1) + 128 * b) g from if_neg hk0]
    have eg : Got d base k b g = oPts d (base + 256 * (k - 1) + 128 * b) (base + 256 * (k - 1) + 128 * b + 128) g := if_neg hk0
    rw [eg] at rest ⊢
    unfold Sent
    iintro ⟨#Hlv, HT, HJ, Hh, HO⟩ Hk
    iapply (wait_own hO (hN h)) $$ [Hh HO]
    · isplitr; · iexact Hlv
      isplitl [Hh]; · iexact Hh
      iexact HO
    iintro ⟨⟨Hg, Hr⟩, Hv, HO⟩
    iapply rest $$ [HT HJ Hr Hv Hg HO]
    · isplitl [HT]; · iexact HT
      isplitl [HJ]; · iexact HJ
      isplitl [Hr Hv]
      · unfold Idle
        isplitl [Hr]; · iexact Hr
        iexact Hv
      isplitl [Hg]; · iexact Hg
      iexact HO
    iexact Hk
  · have hk0 : k = 0 := by by_contra hne; exact h (hc.mpr (by omega))
    rw [dif_neg h, show Half d i base k b sem g = Idle d i b sem from if_pos hk0]
    have eg : Got d base k b g = iprop(emp) := if_pos hk0
    rw [eg] at rest ⊢
    iintro ⟨#Hlv, HT, HJ, Hh, HO⟩ Hk
    iapply rest $$ [HT HJ Hh HO]
    · isplitl [HT]; · iexact HT
      isplitl [HJ]; · iexact HJ
      isplitl [Hh]; · iexact Hh
      isplitr; · iempintro
      iexact HO
    iexact Hk

end Moves

end Cert.Proof.Lookup
-- ==== Proof.Body.lean ====
module

public import proofs.«01_k».proof.Proof.Tile

/-! # One subcore's task: its body

A trip of the outer loop at its invariant, and the whole task: from a read share of the table and of the indices and the
task's rows of the output, it ends with the same and those rows at the looked-up rows of the table, scaled. -/

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The output's rows, cut and joined -/

section Rows

variable (d : Dev nD) (g : Buf (Elt F) (oLoc d))

theorem oPts_split {a b c : ℕ} (h : a ≤ b) (h' : b ≤ c) : (oPts d a c g : sProp 𝕄) ⊣⊢ iprop(oPts d a b g ∗ oPts d b c g) := by
  unfold oPts
  rw [← rng_union h h']
  exact pointsTo_union rng_disjoint

theorem oPts_empty (a : ℕ) : (iprop(emp) : sProp 𝕄) ⊢ oPts d a a g := by
  have e : rng a a = ∅ := by ext x; simp [mem_rng]
  unfold oPts
  rw [e]
  exact Entails.of_eq pointsTo_empty.symm

/-- The windows trip `k`'s waits deliver extend the finished rows by trip `k - 1`'s. -/
theorem got_join (base k : ℕ) : iprop(oPts d base (base + 256 * (k - 1)) g ∗ Got d base k 0 g ∗ Got d base k 1 g) ⊢ (oPts d base (base + 256 * k) g : sProp 𝕄) := by
  cases k with
  | zero => exact sep_elim_left
  | succ k =>
    have e0 : (Got d base (k + 1) 0 g : sProp 𝕄) = oPts d (base + 256 * k) (base + 256 * k + 128) g := rfl
    have e1 : (Got d base (k + 1) 1 g : sProp 𝕄) = oPts d (base + 256 * k + 128) (base + 256 * (k + 1)) g := rfl
    rw [e0, e1]
    show iprop(oPts d base (base + 256 * k) g ∗ _) ⊢ _
    iintro ⟨Ha, Hb, Hc⟩
    iapply (oPts_split d g (a := base) (b := base + 256 * k) (by omega) (by omega)).2
    isplitl [Ha]; · iexact Ha
    iapply (oPts_split d g (b := base + 256 * k + 128) (by omega) (by omega)).2
    isplitl [Hb]; · iexact Hb
    iexact Hc

end Rows

/-! ## A trip of the outer loop -/

theorem trips2 : k0_t2_loop.trips = 100 := by decide +kernel
theorem trips3 : k0_t3_loop.trips = 4 := by decide +kernel
theorem trips4 : k0_t4_loop.trips = 4 := by decide +kernel
theorem trips1 : k0_t1_loop.trips = 68 := by decide +kernel
theorem cond1 : ∀ k : Fin k0_t2_loop.trips, k0_cond1 k = 1#1 ↔ 0 < k.val := by decide +kernel
theorem cond2 : ∀ k : Fin k0_t2_loop.trips, k0_cond2 k = 1#1 ↔ 0 < k.val := by decide +kernel

section Trip

variable (d : Dev nD) (i : grid0.Coords)

/-- The first row of the task's share of the output. -/
abbrev base : ℕ := 51200 * (i 1).val + 25600 * (i 0).val

variable (O : CellTallies nD τ sig (HIx 1)) (W : Waits sig (HIx 1))
variable (tf : Buf (Elt F) ((thr d i).loc cc0_scratch0)) (jf : Buf (Elt F) ((thr d i).loc cc0_scratch1)) (f₀ g : Buf (Elt F) (oLoc d))

/-- Before trip `k`: the scaled table and the indices, the two halves as their last sends left them, the rows whose
    windows have been waited for at `g`, the rows not yet sent as they were. -/
def Inv (k : ℕ) : sProp 𝕄 :=
  iprop(levAts (K (F := F)).L (K (F := F)).lev ∗ tPts d i tf ∗ jPts d i jf ∗ Half d i (base i) k 0 cc0_scratch3 g ∗ Half d i (base i) k 1 cc0_scratch4 g
    ∗ oPts d (base i) (base i + 256 * (k - 1)) g ∗ oPts d (base i + 256 * k) (base i + 25600) f₀ ∗ Owe d i O W)

theorem trip (hO : ∀ g, O g none = 0) (hg : Rows (d := d) (base i) tf jf g) (hj : ∀ z : S200x128.Idx, (jf z : BitVec 32).toNat < 68) (v2 : BitVec 32)
    (k : Fin k0_t2_loop.trips) :
    Inv d i O W tf jf f₀ g k.val ⊢ wp frame (wpE (defs₀ (F := F)) 𝒱₀ (thr d i) none) Set.univ
      (k0_t2_body i tabV (Memref.isWhole_whole _) idxV (Memref.isWhole_whole _) outV (Memref.isWhole_whole _) sT (Memref.isWhole_whole _) sJ (Memref.isWhole_whole _)
        sR (Memref.isWhole_whole _) cc0_scratch3 cc0_scratch4 cc0_scoped0 cc0_scoped1 v2 k ⟨⟩)
      fun _ => Inv d i O W tf jf f₀ g (k.val + 1) := by
  have hk : k.val < 100 := trips2 ▸ k.isLt
  unfold k0_t2_body
  simp only [k0_part239_eq_skeleton]
  unfold k0_part239_skel
  simp only [Prog.lift, Prog.bind_op, Prog.bind_ret, Prog.pure_eq_ret]
  unfold Inv
  iintro ⟨#Hlv, HT, HJ, H0, H1, Hd, Ho, HO⟩
  ihave Ho' := (oPts_split d f₀ (b := base i + 256 * k.val + 128) (by omega) (by omega)).1 $$ Ho
  icases Ho' with ⟨Hw0, Ho⟩
  ihave Ho' := (oPts_split d f₀ (b := base i + 256 * (k.val + 1)) (by omega) (by omega)).1 $$ Ho
  icases Ho' with ⟨Hw1, Ho⟩
  rw [wp_bind]
  iapply (half_trip (b := 0) (base := base i) (k := k.val) (g := g) hO (cond1 k) (fun _ => rfl) k0_t3_ok trips3
    (fun t => (asm_trips d i tabV (Memref.isWhole_whole _) idxV (Memref.isWhole_whole _) outV (Memref.isWhole_whole _) sT (Memref.isWhole_whole _) sJ
      (Memref.isWhole_whole _) sR (Memref.isWhole_whole _) cc0_scratch3 cc0_scratch4 cc0_scoped0 cc0_scoped1 v2 _ _ _ k (slot 0) tf jf hj).1 t
      fun y hy => mem_slot.mpr hy)) $$ [HT HJ H0 HO]
  · isplitr; · iexact Hlv
    isplitl [HT]; · iexact HT
    isplitl [HJ]; · iexact HJ
    isplitl [H0]; · iexact H0
    iexact HO
  iintro ⟨HT, HJ, H0, Hg0, HO⟩
  iapply (send_ready (b := 0) (base := base i) (k := k.val) (g := g) (by rw [k0_off535_eq]; rfl) (by rw [k0_off535_eq]; rfl) hg hj (by omega)) $$ [H0 Hw0]
  · isplitl [H0]; · iexact H0
    iexact Hw0
  iintro H0
  iapply (half_trip (b := 1) (base := base i) (k := k.val) (g := g) hO (cond2 k) (fun _ => rfl) k0_t4_ok trips4
    (fun t => (asm_trips d i tabV (Memref.isWhole_whole _) idxV (Memref.isWhole_whole _) outV (Memref.isWhole_whole _) sT (Memref.isWhole_whole _) sJ
      (Memref.isWhole_whole _) sR (Memref.isWhole_whole _) cc0_scratch3 cc0_scratch4 cc0_scoped0 cc0_scoped1 v2 _ _ _ k (slot 1) tf jf hj).2 t
      fun y hy => mem_slot.mpr hy)) $$ [HT HJ H1 HO]
  · isplitr; · iexact Hlv
    isplitl [HT]; · iexact HT
    isplitl [HJ]; · iexact HJ
    isplitl [H1]; · iexact H1
    iexact HO
  iintro ⟨HT, HJ, H1, Hg1, HO⟩
  rw [wp_ret]
  imodintro
  iapply (send_ready (b := 1) (base := base i) (k := k.val) (g := g) (by rw [k0_off1068_eq]; rfl) (by rw [k0_off1068_eq]; rfl) hg hj (by omega)) $$ [H1 Hw1]
  · isplitl [H1]; · iexact H1
    iexact Hw1
  iintro H1
  rw [wp_ret]
  imodintro
  isplitr; · iexact Hlv
  isplitl [HT]; · iexact HT
  isplitl [HJ]; · iexact HJ
  isplitl [H0]; · iexact H0
  isplitl [H1]; · iexact H1
  isplitl [Hd Hg0 Hg1]
  · iapply (got_join d g (base i) k.val)
    isplitl [Hd]; · iexact Hd
    isplitl [Hg0]; · iexact Hg0
    iexact Hg1
  isplitl [Ho]; · iexact Ho
  iexact HO

end Trip

/-! ## The whole task -/

/-- What the output holds at `(r, c)`: element `c` of the table row named by `r`'s index, scaled. -/
def res (tab : S17408.Idx → F .f32) (jx : S32x200x128.Idx → BitVec 32) : S819200x256.Idx → F .f32 := fun x =>
  x16 (tab (ix1 (n0 := 17408) ⟨((jx (ix3 (n0 := 32) (n1 := 200) (n2 := 128) ⟨(x 0).val / 25600, by have := (x 0).isLt; change _ < 819200 at this; omega⟩
    ⟨(x 0).val % 25600 / 128, by omega⟩ ⟨(x 0).val % 128, by omega⟩)).toNat * 256 + (x 1).val) % 17408, Nat.mod_lt _ (by decide)⟩))

section Task

variable (d : Dev nD) (i : grid0.Coords)

/-- The task's block of the indices, as a task's transfer names it. -/
abbrev blkV : Memref sig .scVector .hbm S200x128 .i32 :=
  (idxV.slice (Rect.unit (s := S32x200x128) (k0_off1 i) S1x200x128.size (k0_off1_inb i)) (fun _ => rfl)).squeeze S200x128 squeezes_S1x200x128_S200x128

/-- Where element `(j, r)` of the block lies. -/
theorem blk_read (jx : Buf (Elt F) (xLoc d)) (z : S200x128.Idx) :
    ((blkV i).view.read (Elt F) jx z : BitVec 32) = jx (ix3 (n0 := 32) (n1 := 200) (n2 := 128) ⟨2 * (i 1).val + (i 0).val, by
      have h0 : (i 0).val < 2 := (i 0).isLt; have h1 : (i 1).val < 16 := (i 1).isLt; omega⟩ (z 0) (z 1)) := by
  have e : Shape.reshapeEquiv squeezes_S1x200x128_S200x128.numel_eq z = (ix3 (n0 := 1) (n1 := 200) (n2 := 128) ⟨0, by decide⟩ (z 0) (z 1) : S1x200x128.Idx) := by
    refine Shape.reshapeEquiv_eq_of_vals _ _ _ _ _ (rowMajor_val3 _ 25600 128 rfl rfl) (rowMajor_val2 _ 128 rfl) ?_
    show 0 * 25600 + (z 0).val * 128 + (z 1).val = (z 0).val * 128 + (z 1).val
    omega
  have e' : ((blkV i).view.read (Elt F) jx z : BitVec 32) = jx ((Rect.unit (s := S32x200x128) (k0_off1 i) S1x200x128.size (k0_off1_inb i)).emb
      (Shape.reshapeEquiv squeezes_S1x200x128_S200x128.numel_eq z)) := rfl
  rw [e', e]
  congr 1
  funext a
  apply Fin.ext
  have ho := congrFun (k0_off1_eq i) a
  fin_cases a
  · show k0_off1 i 0 + 1 * 0 = 2 * (i 1).val + (i 0).val
    change k0_off1 i 0 = 2 * (i 1).val + (i 0).val at ho
    omega
  · show k0_off1 i 1 + 1 * (z 0).val = (z 0).val
    change k0_off1 i 1 = 0 at ho
    omega
  · show k0_off1 i 2 + 1 * (z 1).val = (z 1).val
    change k0_off1 i 2 = 0 at ho
    omega

/-- The assembled rows are those of `res`. -/
theorem rows_res (tab : Buf (Elt F) (tLoc d)) (jx : Buf (Elt F) (xLoc d)) (hx : ∀ z : S32x200x128.Idx, (jx z : BitVec 32).toNat < 68)
    {tf : Buf (Elt F) ((thr d i).loc cc0_scratch0)} (htf : Scl 1088 tab tf) :
    Rows (d := d) (base i) tf ((blkV i).view.read (Elt F) jx) (res tab jx) := by
  intro x z k hx0 hk
  rw [blk_read d] at hk
  have h0 : (i 0).val < 2 := (i 0).isLt
  have h1 : (i 1).val < 16 := (i 1).isLt
  have hz0 : (z 0).val < 200 := (z 0).isLt
  have hz1 : (z 1).val < 128 := (z 1).isLt
  have hx1 : (x 1).val < 256 := (x 1).isLt
  have hk' : (k 0).val < 17408 := (k 0).isLt
  rw [htf k, if_pos (by omega)]
  unfold res
  have eq : (ix3 (n0 := 32) (n1 := 200) (n2 := 128) ⟨(x 0).val / 25600, by have := (x 0).isLt; change _ < 819200 at this; omega⟩
      ⟨(x 0).val % 25600 / 128, by omega⟩ ⟨(x 0).val % 128, by omega⟩ : S32x200x128.Idx)
      = ix3 (n0 := 32) (n1 := 200) (n2 := 128) ⟨2 * (i 1).val + (i 0).val, by omega⟩ (z 0) (z 1) := by
    unfold base at hx0
    congr 1 <;> apply Fin.ext
    · show (x 0).val / 25600 = 2 * (i 1).val + (i 0).val
      omega
    · show (x 0).val % 25600 / 128 = (z 0).val
      omega
    · show (x 0).val % 128 = (z 1).val
      omega
  congr 2
  funext a
  fin_cases a
  apply Fin.ext
  show ((jx (ix3 _ _ _) : BitVec 32).toNat * 256 + (x 1).val) % 17408 = (k 0).val
  rw [eq]
  omega

variable (tab : Buf (Elt F) (tLoc d)) (jx : Buf (Elt F) (xLoc d)) (f₀ : Buf (Elt F) (oLoc d)) (q q' : PosShare TreeShare)

/-- A semaphore of the task at zero. -/
abbrev sem0 (s : DmaSems sig S_) : sProp 𝕄 := semVal (thr d i, .dma s.sem) 0

theorem task {O : CellTallies nD τ sig (HIx 1)} {W : Waits sig (HIx 1)} (hO : ∀ g, O g none = 0)
    (hx : ∀ z : S32x200x128.Idx, (jx z : BitVec 32).toNat < 68) :
    iprop(levAts (K (F := F)).L (K (F := F)).lev ∗ (∃ f, tPts d i f) ∗ (∃ f, jPts d i f) ∗ (∃ f, (thr d i).loc cc0_scratch2 ↦{fullShare} f)
        ∗ sem0 d i cc0_scratch3 ∗ sem0 d i cc0_scratch4 ∗ sem0 d i cc0_scoped0 ∗ sem0 d i cc0_scoped1
        ∗ (tLoc d ↦{q} tab) ∗ (xLoc d ↦{q'} jx) ∗ oPts d (base i) (base i + 25600) f₀ ∗ owes (thr d i) O W)
      ⊢ wp frame (wpE (defs₀ (F := F)) 𝒱₀ (thr d i) none) Set.univ
        (cc0_lookup_kernel i tabV (Memref.isWhole_whole _) idxV (Memref.isWhole_whole _) outV (Memref.isWhole_whole _) sT (Memref.isWhole_whole _) sJ (Memref.isWhole_whole _)
          sR (Memref.isWhole_whole _) cc0_scratch3 cc0_scratch4 cc0_scoped0 cc0_scoped1)
        fun _ => iprop((∃ f, tPts d i f) ∗ (∃ f, jPts d i f) ∗ (∃ f, (thr d i).loc cc0_scratch2 ↦{fullShare} f)
          ∗ sem0 d i cc0_scratch3 ∗ sem0 d i cc0_scratch4 ∗ sem0 d i cc0_scoped0 ∗ sem0 d i cc0_scoped1
          ∗ (tLoc d ↦{q} tab) ∗ (xLoc d ↦{q'} jx) ∗ oPts d (base i) (base i + 25600) (res tab jx) ∗ Owe d i O W) := by
  simp only [cc0_lookup_kernel_eq_skeleton]
  unfold cc0_lookup_kernel_skel
  simp only [k0_part240_eq_skeleton]
  unfold k0_part240_skel
  simp only [Prog.lift, Prog.bind_op, Prog.bind_ret, Prog.pure_eq_ret]
  iintro ⟨#Hlv, ⟨%f5, HT⟩, ⟨%f6, HJ⟩, ⟨%f7, HR⟩, Hs3, Hs4, Hr0, Hr1, Ht, Hx, Ho, HO⟩
  have hset : ((tabV.view.loc (thr d i) ↦[tabV.view.set]{q} tab : sProp 𝕄)) = (tLoc d ↦{q} tab : sProp 𝕄) := by
    simp only [Memref.view_whole, View.set_whole]
  iapply (Transfers.wp_dmaLocal EC 𝒱₀ (thr d i) none (src := tabV) (dst := sT) (sm := .dma cc0_scoped0.sem) (q := q)
    (fs := tab) (fd := f5) (Sd := Finset.univ) none sT.view.dmaCredit rfl (View.dmaCredit_pos _ (by decide)) (Finset.subset_univ _)) $$ [HT Ht Hr0]
  · isplitl [Ht]; · iapply (Entails.of_eq hset.symm); iexact Ht
    isplitl [HT]; · iexact HT
    iexact Hr0
  iintro HF
  iapply (wait_own (W := W) hO rfl) $$ [HF HO]
  · isplitr; · iexact Hlv
    isplitl [HF]; · iexact HF
    unfold Owe
    iexists W
    isplitr; · ipureintro; exact fun p hp => .inl hp
    iexact HO
  iintro ⟨⟨HT, Ht⟩, Hr0, HO⟩
  have hsp : (xLoc d ↦{q'} jx : sProp 𝕄) ⊣⊢ iprop((xLoc d ↦[(blkV i).view.set]{q'} jx) ∗ xLoc d ↦[Finset.univ \ (blkV i).view.set]{q'} jx) :=
    pointsTo_split_subset (Finset.subset_univ _)
  ihave Hx' := hsp.1 $$ Hx
  icases Hx' with ⟨Hx, Hxr⟩
  iapply (Transfers.wp_dmaLocal EC 𝒱₀ (thr d i) none (src := blkV i) (dst := sJ) (sm := .dma cc0_scoped1.sem) (q := q')
    (fs := jx) (fd := f6) (Sd := Finset.univ) none sJ.view.dmaCredit rfl (View.dmaCredit_pos _ (by decide)) (Finset.subset_univ _)) $$ [HJ Hx Hr1]
  · isplitl [Hx]; · iexact Hx
    isplitl [HJ]; · iexact HJ
    iexact Hr1
  iintro HF
  iapply (wait_own (W := W) hO rfl) $$ [HF HO]
  · isplitr; · iexact Hlv
    isplitl [HF]; · iexact HF
    iexact HO
  iintro ⟨⟨HJ, Hx⟩, Hr1, HO⟩
  ihave Hx := hsp.2 $$ [Hx Hxr]
  · isplitl [Hx]; · iexact Hx
    iexact Hxr
  have eT : (sT.view.write (Elt F) f5 (tabV.view.read (Elt F) tab) Finset.univ : Buf (Elt F) ((thr d i).loc cc0_scratch0)) = tab :=
    View.write_whole_univ _ _ _
  have eJ : (sJ.view.write (Elt F) f6 ((blkV i).view.read (Elt F) jx) Finset.univ : Buf (Elt F) ((thr d i).loc cc0_scratch1)) = (blkV i).view.read (Elt F) jx :=
    View.write_whole_univ _ _ _
  ihave HT := (Entails.of_eq (congrArg (fun f => tPts d i f) eT)) $$ HT
  ihave HJ := (Entails.of_eq (congrArg (fun f => jPts d i f) eJ)) $$ HJ
  rw [wp_bind, wp_bind]
  iapply (mul_loop (arg5 := sT) (tf := tab) k0_t1_ok trips1 (fun t => mul_trip d i tabV (Memref.isWhole_whole _) idxV (Memref.isWhole_whole _) outV (Memref.isWhole_whole _)
    sT (Memref.isWhole_whole _) sJ (Memref.isWhole_whole _) sR (Memref.isWhole_whole _) cc0_scratch3 cc0_scratch4 cc0_scoped0 cc0_scoped1 tab t)) $$ [HT]
  · unfold MulRes
    iexists tab
    isplitr; · ipureintro; intro x; rw [if_neg (by omega)]
    iexact HT
  unfold MulRes
  iintro ⟨%tf, %htf, HT⟩
  rw [wp_bind]
  have hg := rows_res d i tab jx hx (tf := tf) htf
  have hj : ∀ z : S200x128.Idx, ((blkV i).view.read (Elt F) jx z : BitVec 32).toNat < 68 := fun z => by rw [blk_read d]; exact hx _
  -- the outer loop
  ihave HR' := (Entails.of_eq (congrArg (fun I => ((thr d i).loc cc0_scratch2 ↦[I]{fullShare} f7 : sProp 𝕄)) slot_union.symm)) $$ HR
  ihave HR' := (pointsTo_union slot_disjoint).1 $$ HR'
  icases HR' with ⟨HR0, HR1⟩
  iapply (Scf.wp_for frame (wpE (defs₀ (F := F)) 𝒱₀ (thr d i) none) Set.univ k0_t2_loop.lb k0_t2_loop.ub k0_t2_loop.st k0_t2_ok ⟨⟩ _
    (fun k _ => Inv d i O W tf ((blkV i).view.read (Elt F) jx) f₀ (res tab jx) k)
    (fun k _ => trip d i O W tf ((blkV i).view.read (Elt F) jx) f₀ (res tab jx) hO hg hj _ k))
  isplitl [HT HJ HR0 HR1 Hs3 Hs4 Ho HO]
  · unfold Inv
    isplitr; · iexact Hlv
    isplitl [HT]; · iexact HT
    isplitl [HJ]; · iexact HJ
    isplitl [HR0 Hs3]
    · unfold Half Idle
      rw [if_pos rfl]
      isplitl [HR0]; · iexists f7; iexact HR0
      iexact Hs3
    isplitl [HR1 Hs4]
    · unfold Half Idle
      rw [if_pos rfl]
      isplitl [HR1]; · iexists f7; iexact HR1
      iexact Hs4
    isplitr; · iapply (oPts_empty d (res tab jx) (base i)); iempintro
    isplitl [Ho]; · iexact Ho
    iexact HO
  iintro %acc HI
  rw [show Scf.trips k0_t2_loop.lb k0_t2_loop.ub k0_t2_loop.st = 100 from trips2]
  unfold Inv Half
  rw [if_neg (by decide), if_neg (by decide)]
  unfold Sent
  icases HI with ⟨-, HT, HJ, H0, H1, Hd, -, HO⟩
  -- the last two windows
  iapply (wait_own hO rfl) $$ [H0 HO]
  · isplitr; · iexact Hlv
    isplitl [H0]; · iexact H0
    iexact HO
  iintro ⟨⟨Hg0, HR0⟩, Hs3, HO⟩
  rw [wp_ret]
  imodintro
  iapply (wait_own hO rfl) $$ [H1 HO]
  · isplitr; · iexact Hlv
    isplitl [H1]; · iexact H1
    iexact HO
  iintro ⟨⟨Hg1, HR1⟩, Hs4, HO⟩
  rw [wp_ret]
  imodintro
  icases HR0 with ⟨%g0, HR0⟩
  icases HR1 with ⟨%g1, HR1⟩
  isplitl [HT]; · iexists tf; iexact HT
  isplitl [HJ]; · iexists _; iexact HJ
  isplitl [HR0 HR1]
  · iapply (Entails.of_eq (congrArg (fun I => iprop(∃ f, (thr d i).loc cc0_scratch2 ↦[I]{fullShare} f : sProp 𝕄)) slot_union))
    iexists ((slot 1).piecewise g1 g0)
    iapply (pointsTo_join (ℓ := (thr d i).loc cc0_scratch2) (I := slot 0) (J := slot 1) slot_disjoint)
    isplitl [HR0]; · iexact HR0
    iexact HR1
  isplitl [Hs3]; · iexact Hs3
  isplitl [Hs4]; · iexact Hs4
  isplitl [Hr0]; · iexact Hr0
  isplitl [Hr1]; · iexact Hr1
  isplitl [Ht]; · iapply (Entails.of_eq hset); iexact Ht
  isplitl [Hx]; · iexact Hx
  isplitr [HO]; swap; · iexact HO
  iapply (got_join d (res tab jx) (base i) 100)
  unfold Got
  rw [if_neg (by decide), if_neg (by decide)]
  isplitl [Hd]; · iexact Hd
  isplitl [Hg0]; · iexact Hg0
  iexact Hg1

end Task

end Cert.Proof.Lookup
-- ==== Proof.Launch.lean ====
module

public import proofs.«01_k».proof.Proof.Body
public import Idealize.ShloMosaic.Lib.SparseCore.Quiescent
public import Idealize.ShloMosaic.Lib.StableHlo.Run

/-! # The whole program's run

What the call hands each subcore — a read share of the table and of the indices, and the subcore's rows of the output —,
the launch's obligations, and the program's run from any launch memory whose indices name rows of the table: the
arguments end unchanged, the result holds the looked-up rows scaled, and every semaphore is back at zero. -/

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.Transfers (shareTokN shareDrop pointsTo_toks_split)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

abbrev aLoc (d : Dev nD) : Loc nD τ sig := (SparseCore.T d).loc main_arg0
abbrev bLoc (d : Dev nD) : Loc nD τ sig := (SparseCore.T d).loc main_arg1
abbrev yLoc (d : Dev nD) : Loc nD τ sig := (SparseCore.T d).loc main_v3

variable [FloatOps F] (m : (ℓ : Loc nD τ sig) → Buf (Elt F) ℓ) (ρ : Dev nD → PrngReg)

/-- Every index names a row of the table. -/
def PreOK : Prop := ∀ (d : Dev nD) (z : S4096x200.Idx), (m (aLoc d) z : BitVec 32).toNat < 68

/-- The flat table, the indices in the kernel's order, and the result. -/
def jxOf (d : Dev nD) : Buf (Elt F) (xLoc d) := (shapeCast S32x200x128 (m (aLoc d)) shapeCasts_S4096x200_S32x200x128 : IVec S32x200x128 32)
def tabOf (d : Dev nD) : Buf (Elt F) (tLoc d) := (shapeCast S17408 (m (bLoc d)) shapeCasts_S68x256_S17408 : FVec F S17408 .f32)
def outOf (d : Dev nD) : Buf (Elt F) (yLoc d) :=
  (shapeCast S4096x200x256 (res (tabOf m d) (jxOf m d) : FVec F S819200x256 .f32) shapeCasts_S819200x256_S4096x200x256 : FVec F S4096x200x256 .f32)

/-! ## What the handshakes carry -/

/-- The first row of subcore `s` of SparseCore `c`, and the share of the inputs it reads at. -/
abbrev row0 (c s : ℕ) : ℕ := 51200 * s + 25600 * c
abbrev shr (c s : ℕ) : PosShare TreeShare := shareTokN (shareTokN fullShare c) s

/-- A subcore's part of the call, on the way there and on the way back. -/
abbrev given (d : Dev nD) (c s : ℕ) : sProp 𝕄 :=
  iprop((tLoc d ↦{shr c s} tabOf m d) ∗ (xLoc d ↦{shr c s} jxOf m d) ∗ oPts d (row0 c s) (row0 c s + 25600) (m (oLoc d)))
abbrev made (d : Dev nD) (c s : ℕ) : sProp 𝕄 := oPts d (row0 c s) (row0 c s + 25600) (res (tabOf m d) (jxOf m d))

def P : (K (F := F)).Pay (nD := nD) (Val := Elt F) (Name := ℕ) (U := UU) where
  st := fun _ d c => bigSep Finset.univ fun s : Fin 16 => given m d c.val s.val
  dn := fun _ d c => bigSep Finset.univ fun s : Fin 16 => made m d c.val s.val
  go := fun _ d c s => given m d c.val s.val
  td := fun _ d c s => made m d c.val s.val
  x := fun _ _ => iprop(emp)

instance P_storable : (P (F := F) m).IsStorable where
  st _ d c := (inferInstance : BI.Storable (upEmb : UEmb _ 𝕄) (bigSep Finset.univ fun s : Fin 16 => given m d c.val s.val))
  dn _ d c := (inferInstance : BI.Storable (upEmb : UEmb _ 𝕄) (bigSep Finset.univ fun s : Fin 16 => made m d c.val s.val))
  go _ d c s := (inferInstance : BI.Storable (upEmb : UEmb _ 𝕄) (given m d c.val s.val))
  td _ d c s := (inferInstance : BI.Storable (upEmb : UEmb _ 𝕄) (made m d c.val s.val))

/-! ## The output's rows, dealt -/

/-- The rows of SparseCore `c`'s subcores. -/
def coreRows (c : ℕ) : Finset S819200x256.Idx := (Finset.univ : Finset (Fin 16)).biUnion fun s => rng (row0 c s.val) (row0 c s.val + 25600)

theorem mem_coreRows {c : ℕ} {x : S819200x256.Idx} : x ∈ coreRows c ↔ ∃ s : Fin 16, row0 c s.val ≤ (x 0).val ∧ (x 0).val < row0 c s.val + 25600 := by
  simp [coreRows, mem_rng]

theorem tiles_disjoint (c : ℕ) : ∀ s ∈ (Finset.univ : Finset (Fin 16)), ∀ s' ∈ (Finset.univ : Finset (Fin 16)), s ≠ s' →
    Disjoint (rng (row0 c s.val) (row0 c s.val + 25600)) (rng (row0 c s'.val) (row0 c s'.val + 25600)) := fun s _ s' _ h =>
  Finset.disjoint_left.mpr fun x h1 h2 => by
    rw [mem_rng] at h1 h2
    have hne : s.val ≠ s'.val := fun e => h (Fin.ext e)
    unfold row0 at h1 h2
    omega

theorem cores_disjoint : ∀ c ∈ (Finset.univ : Finset (Fin 2)), ∀ c' ∈ (Finset.univ : Finset (Fin 2)), c ≠ c' → Disjoint (coreRows c.val) (coreRows c'.val) :=
  fun c _ c' _ h => Finset.disjoint_left.mpr fun x h1 h2 => by
    obtain ⟨s, h1, h1'⟩ := mem_coreRows.mp h1
    obtain ⟨s', h2, h2'⟩ := mem_coreRows.mp h2
    have hne : c.val ≠ c'.val := fun e => h (Fin.ext e)
    have := c.isLt
    have := c'.isLt
    unfold row0 at h1 h1' h2 h2'
    omega

theorem cores_cover : (Finset.univ : Finset (Fin 2)).biUnion (fun c => coreRows c.val) = Finset.univ := by
  ext x
  have hx : (x 0).val < 819200 := (x 0).isLt
  simp only [Finset.mem_biUnion, Finset.mem_univ, true_and, iff_true]
  refine ⟨⟨(x 0).val / 25600 % 2, by omega⟩, mem_coreRows.mpr ⟨⟨(x 0).val / 51200, by omega⟩, ?_, ?_⟩⟩
  · show 51200 * ((x 0).val / 51200) + 25600 * ((x 0).val / 25600 % 2) ≤ (x 0).val
    omega
  · show (x 0).val < 51200 * ((x 0).val / 51200) + 25600 * ((x 0).val / 25600 % 2) + 25600
    omega

theorem rows_dealt (d : Dev nD) (f : Buf (Elt F) (oLoc d)) :
    (oLoc d ↦{fullShare} f : sProp 𝕄)
      = bigSep Finset.univ fun c : Fin 2 => bigSep Finset.univ fun s : Fin 16 => oPts d (row0 c.val s.val) (row0 c.val s.val + 25600) f := by
  have h1 : ∀ c : Fin 2, (bigSep Finset.univ fun s : Fin 16 => (oPts d (row0 c.val s.val) (row0 c.val s.val + 25600) f : sProp 𝕄))
      = (oLoc d ↦[coreRows c.val]{fullShare} f) := fun c =>
    (pointsTo_biUnion (ℓ := oLoc d) Finset.univ (fun s : Fin 16 => rng (row0 c.val s.val) (row0 c.val s.val + 25600)) (tiles_disjoint c.val)).symm
  rw [bigSep_congr fun c _ => h1 c, ← pointsTo_biUnion (ℓ := oLoc d) Finset.univ (fun c : Fin 2 => coreRows c.val) cores_disjoint, cores_cover]
  try rfl

/-- An input whole, dealt one read share per subcore. -/
theorem shares_dealt {ℓ : Loc nD τ sig} (f : Buf (Elt F) ℓ) :
    (ℓ ↦{fullShare} f : sProp 𝕄) ⊢ bigSep Finset.univ fun c : Fin 2 => bigSep Finset.univ fun s : Fin 16 => ℓ ↦{shr c.val s.val} f :=
  (pointsTo_toks_split fullShare 2).trans (sep_elim_right.trans (bigSep_mono fun c _ => (pointsTo_toks_split _ 16).trans sep_elim_right))

/-- The call's operands, dealt. -/
theorem st0 (d : Dev nD) :
    iprop((tLoc d ↦{fullShare} tabOf m d) ∗ (xLoc d ↦{fullShare} jxOf m d) ∗ (oLoc d ↦{fullShare} m (oLoc d)))
      ⊢ bigSep Finset.univ fun c : Fin ((K (F := F)).nCore 0) => (P m).st 0 d c := by
  show _ ⊢ bigSep (Finset.univ : Finset (Fin 2)) fun c => bigSep Finset.univ fun s : Fin 16 => given m d c.val s.val
  rw [bigSep_congr (fun (c : Fin 2) _ => bigSep_sep' (Finset.univ : Finset (Fin 16)) _ _), bigSep_sep',
    bigSep_congr (fun (c : Fin 2) _ => bigSep_sep' (Finset.univ : Finset (Fin 16)) _ _), bigSep_sep', rows_dealt]
  iintro ⟨Ht, Hx, Ho⟩
  isplitl [Ht]; · iapply (shares_dealt (F := F) _); iexact Ht
  isplitl [Hx]; · iapply (shares_dealt (F := F) _); iexact Hx
  iexact Ho

/-- What it hands back: the output whole. -/
theorem dn0 (d : Dev nD) :
    (bigSep Finset.univ fun c : Fin ((K (F := F)).nCore 0) => (P m).dn 0 d c) = (oLoc d ↦{fullShare} res (tabOf m d) (jxOf m d) : sProp 𝕄) :=
  (rows_dealt d _).symm

theorem vecSplit : (K (F := F)).VecSplit' (P m) 0 := by
  intro d c
  show (bigSep Finset.univ fun s : Fin 16 => given m d c.val s.val) ⊢ |={Set.univ}=> iprop((bigSep Finset.univ fun s : Fin 16 => given m d c.val s.val)
    ∗ ((bigSep Finset.univ fun s : Fin 16 => made m d c.val s.val) -∗ (bigSep Finset.univ fun s : Fin 16 => made m d c.val s.val)))
  iintro H; imodintro
  isplitl [H]; · iexact H
  iintro H; iexact H

/-! ## The task -/

section Tile

variable (d : Dev nD) (i : grid0.Coords)

abbrev cV (i : grid0.Coords) : Fin τ.nSC := (i 0).castLE hcore0
abbrev jV (i : grid0.Coords) : Fin τ.nSub := (i 1).castLE hsub0

abbrev cell (s : DmaSems sig S_) : GSem nD τ sig := (thr d i, .dma s.sem)

omit [FloatOps F] in
theorem mem_cell {s : DmaSems sig S_} (h : (SemLoc.dma s.sem : SemLoc sig).isScoped .scVector = true) : cell d i s ∈ ownCells (V d (cV i) (jV i)) :=
  (mem_ownCells (g := cell d i s)).mpr ⟨rfl, h⟩
omit [FloatOps F] in
theorem cell_ne {s s' : DmaSems sig S_} (h : (SemLoc.dma s.sem : SemLoc sig) ≠ .dma s'.sem) : cell d i s ≠ cell d i s' :=
  fun e => h (Prod.mk.inj e).2

omit [FloatOps F] in
theorem ownSems0_V :
    (ownSems0 (V d (cV i) (jV i)) : sProp 𝕄)
      = iprop(sem0 d i cc0_scratch3 ∗ sem0 d i cc0_scratch4 ∗ sem0 d i cc0_scoped0 ∗ sem0 d i cc0_scoped1
          ∗ bigSep (((((ownCells (V d (cV i) (jV i))).erase (cell d i cc0_scratch3)).erase (cell d i cc0_scratch4)).erase (cell d i cc0_scoped0)).erase
              (cell d i cc0_scoped1)) fun g => semVal g 0) := by
  unfold SparseCore.Cfg.ownSems0
  rw [SparseCore.bigSep_erase' (mem_cell d i (s := cc0_scratch3) (by decide)),
    SparseCore.bigSep_erase' (i := cell d i cc0_scratch4) (Finset.mem_erase.mpr ⟨cell_ne d i (by decide), mem_cell d i (by decide)⟩),
    SparseCore.bigSep_erase' (i := cell d i cc0_scoped0) (Finset.mem_erase.mpr ⟨cell_ne d i (by decide), Finset.mem_erase.mpr ⟨cell_ne d i (by decide), mem_cell d i (by decide)⟩⟩),
    SparseCore.bigSep_erase' (i := cell d i cc0_scoped1) (Finset.mem_erase.mpr ⟨cell_ne d i (by decide), Finset.mem_erase.mpr ⟨cell_ne d i (by decide),
      Finset.mem_erase.mpr ⟨cell_ne d i (by decide), mem_cell d i (by decide)⟩⟩⟩)]

abbrev sref (b : Ref sig .scVector) : DevRef τ sig := (Proc.scVector (cV i) (jV i)).devRef b

omit [FloatOps F] in
theorem sref_ne {b b' : Ref sig .scVector} (h : b ≠ b') : sref i b ≠ sref i b' := fun e => h (Proc.devRef_injective _ e)

omit [FloatOps F] in
theorem ownBufs_V :
    (ownBufs (V d (cV i) (jV i)) : sProp 𝕄)
      = iprop((∃ f, tPts d i f) ∗ (∃ f, jPts d i f) ∗ (∃ f, (thr d i).loc cc0_scratch2 ↦{fullShare} f)
          ∗ bigSep ((((ownRefs (τ := τ) (.scVector (cV i) (jV i))).erase (sref i cc0_scratch0)).erase (sref i cc0_scratch1)).erase (sref i cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i)) (b := sref i cc0_scratch0) rfl)).trans ?_
  rw [SparseCore.bigSep_erase' (i := sref i cc0_scratch1) (Finset.mem_erase.mpr ⟨sref_ne i (by decide),
      SparseCore.Cfg.mem_ownRefs_of_owner (p := Proc.scVector (cV i) (jV i)) (b := sref i cc0_scratch1) rfl⟩),
    SparseCore.bigSep_erase' (i := sref i cc0_scratch2) (Finset.mem_erase.mpr ⟨sref_ne i (by decide), Finset.mem_erase.mpr ⟨sref_ne i (by decide),
      SparseCore.Cfg.mem_ownRefs_of_owner (p := Proc.scVector (cV i) (jV i)) (b := sref i cc0_scratch2) rfl⟩⟩)]

theorem jx_lt (hpre : PreOK m) (z : S32x200x128.Idx) : (jxOf m d z : BitVec 32).toNat < 68 := hpre d _

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ given m d (i 0).val (i 1).val
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_lookup_kernel i tabV (Memref.isWhole_whole _) idxV (Memref.isWhole_whole _) outV (Memref.isWhole_whole _) sT (Memref.isWhole_whole _)
            sJ (Memref.isWhole_whole _) sR (Memref.isWhole_whole _) cc0_scratch3 cc0_scratch4 cc0_scoped0 cc0_scoped1)
          fun _ => iprop(made m d (i 0).val (i 1).val ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i), ownSems0_V, ownBufs_V]
  iintro ⟨#Hlv, -, ⟨Ht, Hx, Ho⟩, ⟨HT, HJ, HR, Hbufs⟩, ⟨H3, H4, H0, H1, Hsems⟩, HO⟩
  ihave Hrun := (task d i (tabOf m d) (jxOf m d) (m (oLoc d)) (shr (i 0).val (i 1).val) (shr (i 0).val (i 1).val) (O := O) (W := W) hO (jx_lt m d hpre))
    $$ [Ht Hx Ho HT HJ HR H3 H4 H0 H1 HO]
  · isplitr; · iexact Hlv
    isplitl [HT]; · iexact HT
    isplitl [HJ]; · iexact HJ
    isplitl [HR]; · iexact HR
    isplitl [H3]; · iexact H3
    isplitl [H4]; · iexact H4
    isplitl [H0]; · iexact H0
    isplitl [H1]; · iexact H1
    isplitl [Ht]; · iexact Ht
    isplitl [Hx]; · iexact Hx
    isplitl [Ho]; · iexact Ho
    iexact HO
  iapply (wp_wand frame (wpE (defs₀ (F := F)) 𝒱₀ (V d (cV i) (jV i)) none)) $$ Hrun
  unfold Owe
  iintro %a ⟨HT, HJ, HR, H3, H4, H0, H1, -, -, Ho, HO⟩
  isplitl [Ho]; · iexact Ho
  isplitl [HT HJ HR Hbufs]
  · isplitl [HT]; · iexact HT
    isplitl [HJ]; · iexact HJ
    isplitl [HR]; · iexact HR
    iexact Hbufs
  isplitr [HO]
  · isplitl [H3]; · iexact H3
    isplitl [H4]; · iexact H4
    isplitl [H0]; · iexact H0
    isplitl [H1]; · iexact H1
    iexact Hsems
  iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_lookup_kernel (coordsV c s)
          tabV (Memref.isWhole_whole _) idxV (Memref.isWhole_whole _) outV (Memref.isWhole_whole _)
          sT (Memref.isWhole_whole _) sJ (Memref.isWhole_whole _) sR (Memref.isWhole_whole _) cc0_scratch3 cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## The launch element of the kernel's ghost state -/

def u₀ : UU := (initOf (K (F := F)).hsCells (K (F := F)).hsToks, 1)

omit [FloatOps F] in
theorem ownU_left (a : UH) : (ownU ((a, 1) : UU) : sProp 𝕄) ⊢ BI.own (EH a) := by
  iintro Hu
  ihave H := (ownU_pair _ _) $$ Hu
  icases H with ⟨HH, -⟩
  iexact HH

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave HH := (ownU_left (F := F) _) $$ Hu
  imodintro
  isplitl [HH]; · iexact HH
  isplitr; · rw [emps]; iempintro
  show _ ⊢ bigSep Finset.univ fun _ : Thread nD τ => bigSep Finset.univ fun _ : Fin 1 => (iprop(emp) : sProp 𝕄)
  rw [bigSep_congr fun _ _ => emps _, emps]

/-! ## @main on the TensorCore -/

include m in
/-- A reshape of `@main`: the source kept, the result the source's elements in row-major order. -/
theorem wp_shape (d : Dev nD) {x y : Ref sig .tc} {he : x.ty.elt = y.ty.elt} {hn : x.ty.shape.ShapeCasts y.ty.shape}
    {hx : x.space ≠ .host ∧ (Proc.devRef (τ := τ) .tc x).isScoped = false} {hy : y.space ≠ .host ∧ (Proc.devRef (τ := τ) .tc y).isScoped = false}
    {hp : ((SparseCore.T d : Thread nD τ)).2.kind.runsHlo = true} (hxy : Proc.devRef (τ := τ) .tc x ≠ Proc.devRef .tc y)
    (f : Buf (Elt F) ((SparseCore.T d : Thread nD τ).loc x)) (g : Buf (Elt F) ((SparseCore.T d : Thread nD τ).loc y)) {Q : PUnit → sProp 𝕄} :
    iprop(boundary (SparseCore.T d) ∗ ((SparseCore.T d : Thread nD τ).loc x ↦{fullShare} f) ∗ ((SparseCore.T d : Thread nD τ).loc y ↦{fullShare} g)
        ∗ ((boundary (SparseCore.T d) ∗ ((SparseCore.T d : Thread nD τ).loc x ↦{fullShare} f)
            ∗ ((SparseCore.T d : Thread nD τ).loc y ↦{fullShare} (fun i => he ▸ shapeCast y.ty.shape f hn i))) -∗ Q ⟨⟩))
      ⊢ wp frame (wpE ((K (F := F)).defs (D (F := F))) 𝒱 (SparseCore.T d) none) Set.univ
          (hlo hp (StableHlo.reshape x y he hn hx hy) fun _ => .ret ⟨⟩) Q := by
  have hh : ∀ W : Valuation τ sig (Elt F), (held (SparseCore.T d) {Proc.devRef .tc x, Proc.devRef .tc y} W : sProp 𝕄)
      = iprop(((SparseCore.T d : Thread nD τ).loc x ↦{fullShare} W (Proc.devRef .tc x)) ∗ ((SparseCore.T d : Thread nD τ).loc y ↦{fullShare} W (Proc.devRef .tc y))) := by
    intro W
    unfold held
    rw [SparseCore.bigSep_insert' (by simpa using hxy), bigSep_singleton]
  let W : Valuation τ sig (Elt F) := Function.update (Function.update (fun b => m (d, b)) (Proc.devRef .tc x) f) (Proc.devRef .tc y) g
  have hWx : W (Proc.devRef .tc x) = f := (Function.update_of_ne hxy _ _).trans (Function.update_self _ _ _)
  have hWy : W (Proc.devRef .tc y) = g := Function.update_self _ _ _
  have hRx : (StableHlo.reshape x y he hn hx hy : HloOp τ sig (Elt F)).result W (Proc.devRef .tc x) = f :=
    ((StableHlo.reshape x y he hn hx hy : HloOp τ sig (Elt F)).result_of_not_mem W (b := Proc.devRef .tc x)
      (fun h => hxy (Finset.mem_singleton.mp h))).trans hWx
  have hRy : (StableHlo.reshape x y he hn hx hy : HloOp τ sig (Elt F)).result W (Proc.devRef .tc y) = fun i => he ▸ shapeCast y.ty.shape f hn i :=
    (StableHlo.reshape_result x y he hn hx hy W).trans (by rw [hWx])
  iintro ⟨Hb, Hx, Hy, Hk⟩
  iapply (wp_hlo_within 𝒱 (SparseCore.T d) none Set.univ (op := StableHlo.reshape x y he hn hx hy) (S := {Proc.devRef .tc x, Proc.devRef .tc y})
    (Finset.Subset.refl _) (V := W) (hf := rfl)) $$ [Hb Hx Hy]
  · isplitl [Hb]; · iexact Hb
    rw [hh, hWx, hWy]
    isplitl [Hx]; · iexact Hx
    iexact Hy
  rw [hh, hRx, hRy]
  iintro ⟨Hb, Hx, Hy⟩
  rw [wp_ret]; imodintro
  iapply Hk
  isplitl [Hb]; · iexact Hb
  isplitl [Hx]; · iexact Hx
  iexact Hy

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (xLoc d ↦{fullShare} W main_v0)
      ∗ (tLoc d ↦{fullShare} W main_v1) ∗ (oLoc d ↦{fullShare} W main_v2) ∗ (yLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- What @main leaves the claim: the arguments at their launch contents, and the result. -/
abbrev FIN (d : Dev nD) : sProp 𝕄 := iprop((aLoc d ↦{fullShare} m (aLoc d)) ∗ (bLoc d ↦{fullShare} m (bLoc d)) ∗ (yLoc d ↦{fullShare} outOf m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hbb, Hx, Ht, Ho, Hy⟩, Hts, -⟩, -⟩
  iapply (wp_shape m d (x := main_arg0) (y := main_v0) (by decide) (m (aLoc d)) (m (xLoc d)))
  isplitl [Hb]; · iexact Hb
  isplitl [Ha]; · iexact Ha
  isplitl [Hx]; · iexact Hx
  iintro ⟨Hb, Ha, Hx⟩
  iapply (wp_shape m d (x := main_arg1) (y := main_v1) (by decide) (m (bLoc d)) (m (tLoc d)))
  isplitl [Hb]; · iexact Hb
  isplitl [Hbb]; · iexact Hbb
  isplitl [Ht]; · iexact Ht
  iintro ⟨Hb, Hbb, Ht⟩
  iapply ((K (F := F)).wp_run (D (F := F)) 𝒱 (EH := EH) (P := P m) κ d 0)
  isplitr; · iexact Hctx
  isplitl [Hst]; · iexact Hst
  isplitl [Ht Hx Ho]
  · iapply (st0 m d)
    isplitl [Ht]; · iexact Ht
    isplitl [Hx]; · iexact Hx
    iexact Ho
  iintro ⟨Hst, Hdn⟩
  ihave Ho := (Entails.of_eq (dn0 m d)) $$ Hdn
  iapply (wp_shape m d (x := main_v2) (y := main_v3) (by decide) (res (tabOf m d) (jxOf m d)) (m (yLoc d)))
  isplitl [Hb]; · iexact Hb
  isplitl [Ho]; · iexact Ho
  isplitl [Hy]; · iexact Hy
  iintro ⟨Hb, -, Hy⟩
  imodintro
  isplitl [Hst]; · iexact Hst
  isplitr [Hb Hts]
  · isplitl [Ha]; · iexact Ha
    isplitl [Hbb]; · iexact Hbb
    iexact Hy
  isplitl [Hb] <;> iassumption

/-! ## The program's run -/

def fq (d : Dev nD) (s' : Phys nD τ sig (Elt F)) : Prop :=
  s'.mem.mem (aLoc d) = m (aLoc d) ∧ s'.mem.mem (bLoc d) = m (bLoc d) ∧ s'.mem.mem (yLoc d) = outOf m d

theorem hfin (d : Dev nD) (s' : Phys nD τ sig (Elt F)) : iprop(FIN m d ∗ SI s') ⊢ (⌜fq m d s'⌝ : sProp 𝕄) := by
  iintro ⟨⟨Ha, Hb, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := yLoc d) (I := Finset.univ) (q := fullShare) (f := outOf m d)) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (aLoc c) = m (aLoc c) ∧ r.2.mem (bLoc c) = m (bLoc c) ∧ r.2.mem (yLoc c) = outOf m c) ∧ r.2.sem = fun _ => 0

/-- From any launch memory whose indices name rows of the table, the program runs: the arguments end unchanged, the
    result holds the looked-up rows scaled, every semaphore is back at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
module

public import proofs.«01_k».proof.Proof.Launch
public import proofs.«01_k».proof.Proof.Gen.ReferenceIdeal.Run
public import proofs.«01_k».proof.Proof.Gen.Pre_in_range
public import Idealize.ShloMosaic.Lib.ReduceAll
public import Idealize.ShloMosaic.Lib.ValueIdxCore

/-! # The value

What the precondition says of each index, and the reference's value: at indices that name rows of the table both programs
end with the named rows, times sixteen. -/

@[expose] public section

noncomputable section

namespace Cert.Proof.Value

open Cert.ReferenceIdeal Cert.ReferenceIdeal.Gen
open Idealize.ShloMosaic

variable {F : FTy → Type} [FloatOps F]

/-! ## The precondition -/

/-- A bit pair read back as the comparisons it came from. -/
theorem both {v : BitVec 32} (e : IntOp.andi (IntOp.cmpi .sge v 0#32) (IntOp.cmpi .slt v 68#32) = 1#1) : v.toNat < 68 := by
  have h : (0#32).sle v = true ∧ v.slt 68#32 = true := by
    have e' : BitVec.ofBool ((0#32).sle v) &&& BitVec.ofBool (v.slt 68#32) = 1#1 := e
    revert e'
    cases (0#32).sle v <;> cases v.slt 68#32 <;> decide
  rw [BitVec.sle_eq_decide, BitVec.slt_eq_decide, decide_eq_true_eq, decide_eq_true_eq] at h
  simp only [BitVec.toInt_eq_toNat_cond, BitVec.toNat_ofNat, Nat.reducePow, Nat.reduceMod] at h
  omega

/-- Every index names a row of the table. -/
theorem in_range (idx : IVec S4096x200 32) (tab : FVec F S68x256 .f32) (h : Cert.Pre_in_range.fn (F := F) idx tab = fun _ => 1#1)
    (z : S4096x200.Idx) : (idx z).toNat < 68 := by
  have e := congrFun h (fun a => a.elim0)
  haveI : Subsingleton Cert.Pre_in_range.S_.Idx := ⟨fun a b => funext fun x => x.elim0⟩
  exact both (Host.reduce_andi_all _ _ _ _ _ e z)

/-! ## The reference's value -/

/-- The indices as the reference gathers at them: a negative one counted from the table's end. -/
abbrev refIdx (idx : IVec S4096x200 32) : IVec S4096x200x1 32 :=
  broadcastInDim S4096x200x1 ![0, 1] bcast_S4096x200_S4096x200x1_0_1
    (select (cmpi .slt idx (broadcastInDim S4096x200 ![] bcast_S_S4096x200 (constantI S_ 32 0#32))) (addi idx (broadcastInDim S4096x200 ![] bcast_S_S4096x200 (constantI S_ 32 68#32))) idx)

/-- The reference's result. -/
abbrev refOut (idx : IVec S4096x200 32) (tab : FVec F S68x256 .f32) : FVec F S4096x200x256 .f32 :=
  mulf (select (broadcastInDim S4096x200x256 ![0, 1] bcast_S4096x200_S4096x200x256_0_1 (Host.reduce IntOp.andi (andi (cmpi .sge (refIdx idx) (broadcastInDim S4096x200x1 ![] bcast_S_S4096x200x1 (constantI S_ 32 0#32))) (cmpi .sle (refIdx idx) (broadcastInDim S4096x200x1 ![0, 1, 2] bcast_S1x1x1_S4096x200x1_0_1_2 (broadcastInDim S1x1x1 ![2] bcast_S1_S1x1x1_2 (constantI S1 32 67#32))))) (constantI S_ 1 1#1) reducesTo_S4096x200x1_S4096x200_d2 h_S_)) (Host.gather gather_S68x256_S4096x200x1_S4096x200x256_2_0_n_n_0_2_1256 tab (refIdx idx)) (broadcastInDim S4096x200x256 ![] bcast_S_S4096x200x256 (constant S_ .f32 0x7FC00000#32))) (broadcastInDim S4096x200x256 ![] bcast_S_S4096x200x256 (constant S_ .f32 0x41800000#32))

/-- An index that names a row is gathered at as it stands. -/
theorem refIdx_apply (idx : IVec S4096x200 32) (h : ∀ z, (idx z).toNat < 68) (w : S4096x200x1.Idx) :
    refIdx idx w = idx (ix2 (n0 := 4096) (n1 := 200) (w 0) (w 1)) := by
  have e : ∀ v : BitVec 32, v.toNat < 68 → Scalar.select (IntOp.cmpi .slt v 0#32) (IntOp.addi v 68#32) v = v := by
    intro v hv
    have : IntOp.cmpi .slt v 0#32 = 0#1 := by
      unfold IntOp.cmpi
      have : v.slt 0#32 = false := by
        rw [BitVec.slt_eq_decide, decide_eq_false_iff_not]
        simp only [BitVec.toInt_eq_toNat_cond, BitVec.toNat_ofNat, Nat.reducePow, Nat.reduceMod]
        omega
      show BitVec.ofBool (v.slt 0#32) = 0#1
      rw [this]; rfl
    rw [this]; rfl
  have hz : ∀ z : S4096x200.Idx, (select (cmpi .slt idx (broadcastInDim S4096x200 ![] bcast_S_S4096x200 (constantI S_ 32 0#32)))
      (addi idx (broadcastInDim S4096x200 ![] bcast_S_S4096x200 (constantI S_ 32 68#32))) idx : IVec S4096x200 32) z = idx z := fun z => e _ (h z)
  refine (hz _).trans (congrArg idx ?_)
  funext a
  fin_cases a <;> rfl

/-- The gather reads, for each index, the row of the table it names. -/
theorem gather_rows {α : Type} (x : S68x256.Idx → α) (idx : IVec S4096x200x1 32) (y : S4096x200x256.Idx)
    (h : (idx (ix3 (n0 := 4096) (n1 := 200) (n2 := 1) (y 0) (y 1) 0)).toNat < 68) :
    Host.gather gather_S68x256_S4096x200x1_S4096x200x256_2_0_n_n_0_2_1256 x idx y
      = x (ix2 (n0 := 68) (n1 := 256) ⟨(idx (ix3 (n0 := 4096) (n1 := 200) (n2 := 1) (y 0) (y 1) 0)).toNat, h⟩ (y 2)) := by
  unfold Host.gather
  refine congrArg x (funext fun a => Fin.ext ?_)
  show GatherDims.start _ y idx a + GatherDims.batchCoord _ y a + GatherDims.offCoord _ y a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S68x256_S4096x200x1_S4096x200x256_2_0_n_n_0_2_1256.startIndexMap from List.mem_singleton.mpr rfl)]
    have hsi : gather_S68x256_S4096x200x1_S4096x200x256_2_0_n_n_0_2_1256.siIdx y
        ⟨List.idxOf (0 : Fin 2) gather_S68x256_S4096x200x1_S4096x200x256_2_0_n_n_0_2_1256.startIndexMap,
          List.idxOf_lt_length_iff.2 (List.mem_singleton.mpr rfl)⟩ = ix3 (n0 := 4096) (n1 := 200) (n2 := 1) (y 0) (y 1) 0 := by
      funext b
      refine Fin.ext ?_
      match b with
      | ⟨0, _⟩ => rfl
      | ⟨1, _⟩ => rfl
      | ⟨2, _⟩ => rfl
    rw [hsi]
    show min (idx _).toInt.toNat 67 = (idx _).toNat
    rw [BitVec.toInt_eq_toNat_cond, if_pos (by omega)]
    show min (idx _).toNat 67 = _
    omega
  · unfold GatherDims.start
    rw [dif_neg (show (1 : Fin 2) ∉ gather_S68x256_S4096x200x1_S4096x200x256_2_0_n_n_0_2_1256.startIndexMap from by
      show (1 : Fin 2) ∉ [(0 : Fin 2)]; decide), Nat.zero_add]
    rfl

/-- Every index passes the reference's range check. -/
theorem refMask (idx : IVec S4096x200 32) (h : ∀ z, (idx z).toNat < 68) (w : S4096x200x1.Idx) :
    (andi (cmpi .sge (refIdx idx) (broadcastInDim S4096x200x1 ![] bcast_S_S4096x200x1 (constantI S_ 32 0#32)))
      (cmpi .sle (refIdx idx) (broadcastInDim S4096x200x1 ![0, 1, 2] bcast_S1x1x1_S4096x200x1_0_1_2 (broadcastInDim S1x1x1 ![2] bcast_S1_S1x1x1_2 (constantI S1 32 67#32))))
      : IVec S4096x200x1 1) w = 1#1 := by
  show IntOp.andi (IntOp.cmpi .sge (refIdx idx w) 0#32) (IntOp.cmpi .sle (refIdx idx w) 67#32) = 1#1
  rw [refIdx_apply idx h]
  have hv := h (ix2 (n0 := 4096) (n1 := 200) (w 0) (w 1))
  generalize idx (ix2 (n0 := 4096) (n1 := 200) (w 0) (w 1)) = v at hv
  unfold IntOp.cmpi
  have h1 : (0#32).sle v = true := by
    rw [BitVec.sle_eq_decide, decide_eq_true_eq]
    simp only [BitVec.toInt_eq_toNat_cond, BitVec.toNat_ofNat, Nat.reducePow, Nat.reduceMod]
    omega
  have h2 : v.sle 67#32 = true := by
    rw [BitVec.sle_eq_decide, decide_eq_true_eq]
    simp only [BitVec.toInt_eq_toNat_cond, BitVec.toNat_ofNat, Nat.reducePow, Nat.reduceMod]
    omega
  show IntOp.andi (BitVec.ofBool ((0#32).sle v)) (BitVec.ofBool (v.sle 67#32)) = 1#1
  rw [h1, h2]; rfl

/-- The reference's result, read at an index. -/
theorem refOut_apply (idx : IVec S4096x200 32) (tab : FVec F S68x256 .f32) (h : ∀ z, (idx z).toNat < 68) (y : S4096x200x256.Idx) :
    refOut idx tab y = Lookup.x16 (tab (ix2 (n0 := 68) (n1 := 256) ⟨(idx (ix2 (n0 := 4096) (n1 := 200) (y 0) (y 1))).toNat, h _⟩ (y 2))) := by
  have hm : ∀ j : S4096x200.Idx, (Host.reduce IntOp.andi (andi (cmpi .sge (refIdx idx) (broadcastInDim S4096x200x1 ![] bcast_S_S4096x200x1 (constantI S_ 32 0#32)))
      (cmpi .sle (refIdx idx) (broadcastInDim S4096x200x1 ![0, 1, 2] bcast_S1x1x1_S4096x200x1_0_1_2 (broadcastInDim S1x1x1 ![2] bcast_S1_S1x1x1_2 (constantI S1 32 67#32)))))
      (constantI S_ 1 1#1) reducesTo_S4096x200x1_S4096x200_d2 h_S_ : IVec S4096x200 1) j = 1#1 := fun j =>
    Host.reduce_andi_one _ _ _ _ _ rfl (refMask idx h)
  have hi : refIdx idx (ix3 (n0 := 4096) (n1 := 200) (n2 := 1) (y 0) (y 1) 0) = idx (ix2 (n0 := 4096) (n1 := 200) (y 0) (y 1)) := refIdx_apply idx h _
  show FloatOps.mulf (Scalar.select (Host.reduce IntOp.andi _ _ _ _ _) (Host.gather _ tab (refIdx idx) y) _) _ = _
  have hn : (refIdx idx (ix3 (n0 := 4096) (n1 := 200) (n2 := 1) (y 0) (y 1) 0)).toNat = (idx (ix2 (n0 := 4096) (n1 := 200) (y 0) (y 1))).toNat := by rw [hi]
  rw [hm, gather_rows tab (refIdx idx) y (by rw [hi]; exact h _)]
  show FloatOps.mulf (tab _) _ = FloatOps.mulf (tab _) _
  refine congrArg (fun z => FloatOps.mulf (tab z) (Scalar.ofBits .f32 0x41800000#32)) (funext fun a => Fin.ext ?_)
  match a with
  | ⟨0, _⟩ => exact hn
  | ⟨1, _⟩ => rfl

/-! ## The kernel's value -/

/-- The kernel's result from the arguments. -/
abbrev kerOut (idx : IVec S4096x200 32) (tab : FVec F S68x256 .f32) : FVec F S4096x200x256 .f32 :=
  shapeCast S4096x200x256 (Lookup.res (shapeCast Cert.KernelIdeal.S17408 tab Cert.KernelIdeal.Gen.shapeCasts_S68x256_S17408)
    (shapeCast Cert.KernelIdeal.S32x200x128 idx Cert.KernelIdeal.Gen.shapeCasts_S4096x200_S32x200x128) : FVec F Cert.KernelIdeal.S819200x256 .f32)
    Cert.KernelIdeal.Gen.shapeCasts_S819200x256_S4096x200x256

theorem kerOut_apply (idx : IVec S4096x200 32) (tab : FVec F S68x256 .f32) (h : ∀ z, (idx z).toNat < 68) (y : S4096x200x256.Idx) :
    kerOut idx tab y = Lookup.x16 (tab (ix2 (n0 := 68) (n1 := 256) ⟨(idx (ix2 (n0 := 4096) (n1 := 200) (y 0) (y 1))).toNat, h _⟩ (y 2))) := by
  have h0 : (y 0).val < 4096 := (y 0).isLt
  have h1 : (y 1).val < 200 := (y 1).isLt
  have h2 : (y 2).val < 256 := (y 2).isLt
  -- the row of the flat output
  have er : Shape.reshapeEquiv Cert.KernelIdeal.Gen.shapeCasts_S819200x256_S4096x200x256 y
      = (ix2 (n0 := 819200) (n1 := 256) ⟨200 * (y 0).val + (y 1).val, by omega⟩ (y 2) : Cert.KernelIdeal.S819200x256.Idx) := by
    refine Shape.reshapeEquiv_eq_of_vals _ _ _ _ _ (rowMajor_val2 _ 256 rfl) (rowMajor_val3 _ 51200 256 rfl rfl) ?_
    show (200 * (y 0).val + (y 1).val) * 256 + (y 2).val = (y 0).val * 51200 + (y 1).val * 256 + (y 2).val
    omega
  -- the index it reads
  have ei : ∀ (n : ℕ) (h0' : n / 25600 < 32) (h1' : n % 25600 / 128 < 200) (h2' : n % 128 < 128), n = 200 * (y 0).val + (y 1).val →
      (shapeCast Cert.KernelIdeal.S32x200x128 idx Cert.KernelIdeal.Gen.shapeCasts_S4096x200_S32x200x128
        (ix3 (n0 := 32) (n1 := 200) (n2 := 128) ⟨n / 25600, h0'⟩ ⟨n % 25600 / 128, h1'⟩ ⟨n % 128, h2'⟩) : BitVec 32) = idx (ix2 (n0 := 4096) (n1 := 200) (y 0) (y 1)) := by
    intro n h0' h1' h2' hn
    refine congrArg idx (Shape.reshapeEquiv_eq_of_vals _ _ _ _ _ (rowMajor_val2 _ 200 rfl) (rowMajor_val3 _ 25600 128 rfl rfl) ?_)
    show (y 0).val * 200 + (y 1).val = n / 25600 * 25600 + n % 25600 / 128 * 128 + n % 128
    omega
  -- the word of the table it reads there
  have et : ∀ (n : ℕ) (hn' : n < 17408) (v : ℕ) (hv : v < 68), n = v * 256 + (y 2).val →
      (shapeCast Cert.KernelIdeal.S17408 tab Cert.KernelIdeal.Gen.shapeCasts_S68x256_S17408 (ix1 (n0 := 17408) ⟨n, hn'⟩) : F .f32)
        = tab (ix2 (n0 := 68) (n1 := 256) ⟨v, hv⟩ (y 2)) := by
    intro n hn' v hv hn
    refine congrArg tab (Shape.reshapeEquiv_eq_of_vals _ _ _ _ _ (rowMajor_val2 _ 256 rfl) (rowMajor_val1 _) ?_)
    show v * 256 + (y 2).val = n
    omega
  show Lookup.res _ _ (Shape.reshapeEquiv _ y) = _
  rw [er]
  unfold Lookup.res
  refine congrArg Lookup.x16 ?_
  refine et _ _ _ (h _) ?_
  have hv := h (ix2 (n0 := 4096) (n1 := 200) (y 0) (y 1))
  have e := congrArg BitVec.toNat (ei (200 * (y 0).val + (y 1).val) (by omega) (by omega) (by omega) rfl)
  refine (congrArg (fun k : ℕ => (k * 256 + (y 2).val) % 17408) e).trans ?_
  show ((idx (ix2 (n0 := 4096) (n1 := 200) (y 0) (y 1))).toNat * 256 + (y 2).val) % 17408 = _
  omega

/-- Both programs end with the same array. -/
theorem refOut_eq (idx : IVec S4096x200 32) (tab : FVec F S68x256 .f32) (h : ∀ z, (idx z).toNat < 68) : refOut idx tab = kerOut idx tab :=
  funext fun y => (refOut_apply idx tab h y).trans (kerOut_apply idx tab h y).symm

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Value

@[expose] public section

noncomputable section

namespace Cert.Proof

open Idealize.ShloMosaic Idealize.SL.Sem

set_option maxHeartbeats 0 in
/-- The kernel on machine floats: it runs, leaves its arguments and every semaphore as they were. -/
theorem frame_kernel : Cert.quiescent_Kernel := fun m ρ hp =>
  (θ_run (Cert.KernelIdeal.defs (F := Bits)) (Cert.KernelIdeal.threads (F := Bits)) _).mono
    (fun _ h => ⟨fun c => ⟨(h.1 c).1, (h.1 c).2.1⟩, h.2⟩)
    (Lookup.run_main (F := Bits) m ρ (fun d z => Value.in_range (F := Bits) _ _ (hp d) z))

/-- The same over the extended reals. -/
theorem frame_kernelIdeal : Cert.quiescent_KernelIdeal := fun m ρ hp =>
  (θ_run (Cert.KernelIdeal.defs (F := Ideal)) (Cert.KernelIdeal.threads (F := Ideal)) _).mono
    (fun _ h => ⟨fun c => ⟨(h.1 c).1, (h.1 c).2.1⟩, h.2⟩)
    (Lookup.run_main (F := Ideal) m ρ (fun d z => Value.in_range (F := Ideal) _ _ (hp d) z))

/-- The reference runs and leaves its arguments as they were; it declares no semaphore. -/
theorem frame_reference : Cert.quiescent_ReferenceIdeal := fun m ρ _ =>
  (θ_run (Cert.ReferenceIdeal.defs (F := Ideal)) (onTc (τ := Cert.ReferenceIdeal.τ) (Cert.ReferenceIdeal.main (F := Ideal))) _).mono
    (fun r h => ⟨fun c => (h c).2, sem_eq_zero_of_no_sems (by decide) r.2⟩)
    (Cert.ReferenceIdeal.Value.run (F := Ideal) m ρ)

/-- The same under the precondition, which it doesn't need. -/
theorem frame_reference_in_range : Cert.quiescent_ReferenceIdeal_pre_in_range := fun m ρ _ => frame_reference m ρ trivial

/-- Over the extended reals the kernel and the reference end with the same array. -/
theorem equal_results : Cert.algebraic_KernelIdeal_ReferenceIdeal := fun m ρ m' ρ' hp hm =>
  ⟨fun c => Lookup.outOf m c,
    (θ_run (Cert.KernelIdeal.defs (F := Ideal)) (Cert.KernelIdeal.threads (F := Ideal)) _).mono
      (fun _ h c => ⟨(h.1 c).2.2, (h.1 c).1, (h.1 c).2.1⟩)
      (Lookup.run_main (F := Ideal) m ρ (fun d z => Value.in_range (F := Ideal) _ _ (hp d) z)),
    (θ_run (Cert.ReferenceIdeal.defs (F := Ideal)) (onTc (τ := Cert.ReferenceIdeal.τ) (Cert.ReferenceIdeal.main (F := Ideal))) _).mono
      (fun r h c => by
        refine ⟨(h c).1.trans ?_, (h c).2⟩
        have e0 := (hm c).1
        have e1 := (hm c).2
        have ev := Value.refOut_eq (F := Ideal) _ (m ((c.tc : Thread Cert.KernelIdeal.nD Cert.KernelIdeal.τ).loc Cert.KernelIdeal.main_arg1))
          (fun z => Value.in_range (F := Ideal) _ _ (hp c) z)
        rw [e0, e1]
        exact ev)
      (Cert.ReferenceIdeal.Value.run (F := Ideal) m' ρ')⟩

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, equal_results⟩

end Cert.Proof

end
